-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_v72) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v92_1)) (v1 : (c : Dev Cert.Kernel2Ideal.nD) → Buf (Elt Ideal) ((c.tc : Thread Cert.Kernel2Ideal.nD Cert.Kernel2Ideal.τ).loc Cert.Kernel2Ideal.main_v94_0)) (v2 : (c : Dev Cert.Kernel2Ideal.nD) → Buf (Elt Ideal) ((c.tc : Thread Cert.Kernel2Ideal.nD Cert.Kernel2Ideal.τ).loc Cert.Kernel2Ideal.main_v94_1)) (v3 : (c : Dev Cert.Kernel2Ideal.nD) → Buf (Elt Ideal) ((c.tc : Thread Cert.Kernel2Ideal.nD Cert.Kernel2Ideal.τ).loc Cert.Kernel2Ideal.main_v94_2)) (v4 : (c : Dev Cert.Kernel2Ideal.nD) → Buf (Elt Ideal) ((c.tc : Thread Cert.Kernel2Ideal.nD Cert.Kernel2Ideal.τ).loc Cert.Kernel2Ideal.main_v94_3)) (v5 : (c : Dev Cert.Kernel2Ideal.nD) → Buf (Elt Ideal) ((c.tc : Thread Cert.Kernel2Ideal.nD Cert.Kernel2Ideal.τ).loc Cert.Kernel2Ideal.main_v94_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v92_1) = v0 c
          ∧ r.2.mem ((c.tc : Thread Cert.Kernel2Ideal.nD Cert.Kernel2Ideal.τ).loc Cert.Kernel2Ideal.main_v94_0) = v1 c
          ∧ r.2.mem ((c.tc : Thread Cert.Kernel2Ideal.nD Cert.Kernel2Ideal.τ).loc Cert.Kernel2Ideal.main_v94_1) = v2 c
          ∧ r.2.mem ((c.tc : Thread Cert.Kernel2Ideal.nD Cert.Kernel2Ideal.τ).loc Cert.Kernel2Ideal.main_v94_2) = v3 c
          ∧ r.2.mem ((c.tc : Thread Cert.Kernel2Ideal.nD Cert.Kernel2Ideal.τ).loc Cert.Kernel2Ideal.main_v94_3) = v4 c
          ∧ r.2.mem ((c.tc : Thread Cert.Kernel2Ideal.nD Cert.Kernel2Ideal.τ).loc Cert.Kernel2Ideal.main_v94_4) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v589) = v0 c
          ∧ r.2.mem ((c.tc : Thread Cert.Reference2Ideal.nD Cert.Reference2Ideal.τ).loc Cert.Reference2Ideal.main_v592) = v1 c
          ∧ r.2.mem ((c.tc : Thread Cert.Reference2Ideal.nD Cert.Reference2Ideal.τ).loc Cert.Reference2Ideal.main_v595) = v2 c
          ∧ r.2.mem ((c.tc : Thread Cert.Reference2Ideal.nD Cert.Reference2Ideal.τ).loc Cert.Reference2Ideal.main_v598) = v3 c
          ∧ r.2.mem ((c.tc : Thread Cert.Reference2Ideal.nD Cert.Reference2Ideal.τ).loc Cert.Reference2Ideal.main_v601) = v4 c
          ∧ r.2.mem ((c.tc : Thread Cert.Reference2Ideal.nD Cert.Reference2Ideal.τ).loc Cert.Reference2Ideal.main_v378) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)) (v2 : (c : Dev Cert.Kernel3Ideal.nD) → Buf (Elt Ideal) ((c.tc : Thread Cert.Kernel3Ideal.nD Cert.Kernel3Ideal.τ).loc Cert.Kernel3Ideal.main_v58_2)) (v3 : (c : Dev Cert.Kernel3Ideal.nD) → Buf (Elt Ideal) ((c.tc : Thread Cert.Kernel3Ideal.nD Cert.Kernel3Ideal.τ).loc Cert.Kernel3Ideal.main_v58_3)) (v4 : (c : Dev Cert.Kernel3Ideal.nD) → Buf (Elt Ideal) ((c.tc : Thread Cert.Kernel3Ideal.nD Cert.Kernel3Ideal.τ).loc Cert.Kernel3Ideal.main_v58_4)) (v5 : (c : Dev Cert.Kernel3Ideal.nD) → Buf (Elt Ideal) ((c.tc : Thread Cert.Kernel3Ideal.nD Cert.Kernel3Ideal.τ).loc Cert.Kernel3Ideal.main_v58_5)) (v6 : (c : Dev Cert.Kernel3Ideal.nD) → Buf (Elt Ideal) ((c.tc : Thread Cert.Kernel3Ideal.nD Cert.Kernel3Ideal.τ).loc Cert.Kernel3Ideal.main_v58_6)) (v7 : (c : Dev Cert.Kernel3Ideal.nD) → Buf (Elt Ideal) ((c.tc : Thread Cert.Kernel3Ideal.nD Cert.Kernel3Ideal.τ).loc Cert.Kernel3Ideal.main_v58_7)) (v8 : (c : Dev Cert.Kernel3Ideal.nD) → Buf (Elt Ideal) ((c.tc : Thread Cert.Kernel3Ideal.nD Cert.Kernel3Ideal.τ).loc Cert.Kernel3Ideal.main_v58_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_v58_2) = v2 c
          ∧ r.2.mem ((c.tc : Thread Cert.Kernel3Ideal.nD Cert.Kernel3Ideal.τ).loc Cert.Kernel3Ideal.main_v58_3) = v3 c
          ∧ r.2.mem ((c.tc : Thread Cert.Kernel3Ideal.nD Cert.Kernel3Ideal.τ).loc Cert.Kernel3Ideal.main_v58_4) = v4 c
          ∧ r.2.mem ((c.tc : Thread Cert.Kernel3Ideal.nD Cert.Kernel3Ideal.τ).loc Cert.Kernel3Ideal.main_v58_5) = v5 c
          ∧ r.2.mem ((c.tc : Thread Cert.Kernel3Ideal.nD Cert.Kernel3Ideal.τ).loc Cert.Kernel3Ideal.main_v58_6) = v6 c
          ∧ r.2.mem ((c.tc : Thread Cert.Kernel3Ideal.nD Cert.Kernel3Ideal.τ).loc Cert.Kernel3Ideal.main_v58_7) = v7 c
          ∧ r.2.mem ((c.tc : Thread Cert.Kernel3Ideal.nD Cert.Kernel3Ideal.τ).loc Cert.Kernel3Ideal.main_v58_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v127) = v0 c
          ∧ r.2.mem ((c.tc : Thread Cert.Reference3Ideal.nD Cert.Reference3Ideal.τ).loc Cert.Reference3Ideal.main_v129) = v1 c
          ∧ r.2.mem ((c.tc : Thread Cert.Reference3Ideal.nD Cert.Reference3Ideal.τ).loc Cert.Reference3Ideal.main_v131) = v2 c
          ∧ r.2.mem ((c.tc : Thread Cert.Reference3Ideal.nD Cert.Reference3Ideal.τ).loc Cert.Reference3Ideal.main_v134) = v3 c
          ∧ r.2.mem ((c.tc : Thread Cert.Reference3Ideal.nD Cert.Reference3Ideal.τ).loc Cert.Reference3Ideal.main_v137) = v4 c
          ∧ r.2.mem ((c.tc : Thread Cert.Reference3Ideal.nD Cert.Reference3Ideal.τ).loc Cert.Reference3Ideal.main_v139) = v5 c
          ∧ r.2.mem ((c.tc : Thread Cert.Reference3Ideal.nD Cert.Reference3Ideal.τ).loc Cert.Reference3Ideal.main_v141) = v6 c
          ∧ r.2.mem ((c.tc : Thread Cert.Reference3Ideal.nD Cert.Reference3Ideal.τ).loc Cert.Reference3Ideal.main_v144) = v7 c
          ∧ r.2.mem ((c.tc : Thread Cert.Reference3Ideal.nD Cert.Reference3Ideal.τ).loc Cert.Reference3Ideal.main_v146) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
-- ==== Pre_finite.lean ====
abbrev S1x4112x1024 : Shape := ⟨3, ![1, 4112, 1024]⟩
abbrev S1x2048x1024 : Shape := ⟨3, ![1, 2048, 1024]⟩
abbrev S1024 : Shape := ⟨1, ![1024]⟩
abbrev S1x4096x1024 : Shape := ⟨3, ![1, 4096, 1024]⟩
abbrev S_ : Shape := ⟨0, ![]⟩

class Facts : Prop where
  bcast_S_S1x4112x1024 : S_.BroadcastsInDim S1x4112x1024 (![] : Fin 0 → Fin S1x4112x1024.rank)
  reducesTo_S1x4112x1024_S_d0_1_2 : S1x4112x1024.ReducesTo [0, 1, 2] S_
  h_S_ : 0 < S_.numel
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1024 : S_.BroadcastsInDim S1024 (![] : Fin 0 → Fin S1024.rank)
  reducesTo_S1024_S_d0 : S1024.ReducesTo [0] S_
  bcast_S_S1x4096x1024 : S_.BroadcastsInDim S1x4096x1024 (![] : Fin 0 → Fin S1x4096x1024.rank)
  reducesTo_S1x4096x1024_S_d0_1_2 : S1x4096x1024.ReducesTo [0, 1, 2] S_

variable [Facts]

def fn_part1 {F : FTy → Type} [FloatOps F] (main_arg4 : FVec F S1024 .f32) (main_arg5 : FVec F S1x4096x1024 .f32) (main_v13 : IVec S_ 1) (main_v16 : IVec S1x2048x1024 1) : IVec S_ 1 :=
  let main_c_5 : IVec S_ 1 := constantI S_ 1 1#1
  let main_v17 : IVec S_ 1 := (fun x v => Host.reduce IntOp.andi x v reducesTo_S1x2048x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x4096x1024 .f32 := Host.absf main_arg5
  let main_cst_8 : FVec F S_ .f32 := constant S_ .f32 0x7F800000#32
  let main_v25 : FVec F S1x4096x1024 .f32 := broadcastInDim S1x4096x1024 ![] bcast_S_S1x4096x1024 main_cst_8
  let main_v26 : IVec S1x4096x1024 1 := cmpf .olt main_v24 main_v25
  let main_c_9 : IVec S_ 1 := constantI S_ 1 1#1
  let main_v27 : IVec S_ 1 := (fun x v => Host.reduce IntOp.andi x v reducesTo_S1x4096x1024_S_d0_1_2 h_S_) main_v26 main_c_9
  let main_v28 : IVec S_ 1 := andi main_v23 main_v27
  main_v28

def fn {F : FTy → Type} [FloatOps F] (main_arg0 : FVec F S1x4112x1024 .f32) (main_arg1 : FVec F S1x4112x1024 .f32) (main_arg2 : FVec F S1x4112x1024 .f32) (main_arg3 : FVec F S1x2048x1024 .f32) (main_arg4 : FVec F S1024 .f32) (main_arg5 : FVec F S1x4096x1024 .f32) : IVec S_ 1 :=
  let main_v0 : FVec F S1x4112x1024 .f32 := Host.absf main_arg0
  let main_cst : FVec F S_ .f32 := constant S_ .f32 0x7F800000#32
  let main_v1 : FVec F S1x4112x1024 .f32 := broadcastInDim S1x4112x1024 ![] bcast_S_S1x4112x1024 main_cst
  let main_v2 : IVec S1x4112x1024 1 := cmpf .olt main_v0 main_v1
  let main_c : IVec S_ 1 := constantI S_ 1 1#1
  let main_v3 : IVec S_ 1 := (fun x v => Host.reduce IntOp.andi x v reducesTo_S1x4112x1024_S_d0_1_2 h_S_) main_v2 main_c
  let main_v4 : FVec F S1x4112x1024 .f32 := Host.absf main_arg1
  let main_cst_0 : FVec F S_ .f32 := constant S_ .f32 0x7F800000#32
  let main_v5 : FVec F S1x4112x1024 .f32 := broadcastInDim S1x4112x1024 ![] bcast_S_S1x4112x1024 main_cst_0
  let main_v6 : IVec S1x4112x1024 1 := cmpf .olt main_v4 main_v5
  let main_c_1 : IVec S_ 1 := constantI S_ 1 1#1
  let main_v7 : IVec S_ 1 := (fun x v => Host.reduce IntOp.andi x v reducesTo_S1x4112x1024_S_d0_1_2 h_S_) main_v6 main_c_1
  let main_v8 : IVec S_ 1 := andi main_v3 main_v7
  let main_v9 : FVec F S1x4112x1024 .f32 := Host.absf main_arg2
  let main_cst_2 : FVec F S_ .f32 := constant S_ .f32 0x7F800000#32
  let main_v10 : FVec F S1x4112x1024 .f32 := broadcastInDim S1x4112x1024 ![] bcast_S_S1x4112x1024 main_cst_2
  let main_v11 : IVec S1x4112x1024 1 := cmpf .olt main_v9 main_v10
  let main_c_3 : IVec S_ 1 := constantI S_ 1 1#1
  let main_v12 : IVec S_ 1 := (fun x v => Host.reduce IntOp.andi x v reducesTo_S1x4112x1024_S_d0_1_2 h_S_) main_v11 main_c_3
  let main_v13 : IVec S_ 1 := andi main_v8 main_v12
  let main_v14 : FVec F S1x2048x1024 .f32 := Host.absf main_arg3
  let main_cst_4 : FVec F S_ .f32 := constant S_ .f32 0x7F800000#32
  let main_v15 : FVec F S1x2048x1024 .f32 := broadcastInDim S1x2048x1024 ![] bcast_S_S1x2048x1024 main_cst_4
  let main_v16 : IVec S1x2048x1024 1 := cmpf .olt main_v14 main_v15
  fn_part1 (F := F) main_arg4 main_arg5 main_v13 main_v16
-- ==== Pre_finite2.lean ====
abbrev S1x4112x512 : Shape := ⟨3, ![1, 4112, 512]⟩
abbrev S1x4112x1024 : Shape := ⟨3, ![1, 4112, 1024]⟩
abbrev S1x1024 : Shape := ⟨2, ![1, 1024]⟩
abbrev S_ : Shape := ⟨0, ![]⟩

class Facts : Prop where
  bcast_S_S1x4112x512 : S_.BroadcastsInDim S1x4112x512 (![] : Fin 0 → Fin S1x4112x512.rank)
  reducesTo_S1x4112x512_S_d0_1_2 : S1x4112x512.ReducesTo [0, 1, 2] S_
  h_S_ : 0 < S_.numel
  bcast_S_S1x4112x1024 : S_.BroadcastsInDim S1x4112x1024 (![] : Fin 0 → Fin S1x4112x1024.rank)
  reducesTo_S1x4112x1024_S_d0_1_2 : S1x4112x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x4112x1024 .f32) (main_v13 : IVec S_ 1) (main_v16 : IVec S1x4112x1024 1) : IVec S_ 1 :=
  let main_c_5 : IVec S_ 1 := constantI S_ 1 1#1
  let main_v17 : IVec S_ 1 := (fun x v => Host.reduce IntOp.andi x v reducesTo_S1x4112x1024_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x4112x1024 .f32 := Host.absf main_arg5
  let main_cst_8 : FVec F S_ .f32 := constant S_ .f32 0x7F800000#32
  let main_v25 : FVec F S1x4112x1024 .f32 := broadcastInDim S1x4112x1024 ![] bcast_S_S1x4112x1024 main_cst_8
  let main_v26 : IVec S1x4112x1024 1 := cmpf .olt main_v24 main_v25
  let main_c_9 : IVec S_ 1 := constantI S_ 1 1#1
  let main_v27 : IVec S_ 1 := (fun x v => Host.reduce IntOp.andi x v reducesTo_S1x4112x1024_S_d0_1_2 h_S_) main_v26 main_c_9
  let main_v28 : IVec S_ 1 := andi main_v23 main_v27
  main_v28

def fn {F : FTy → Type} [FloatOps F] (main_arg0 : FVec F S1x4112x512 .f32) (main_arg1 : FVec F S1x4112x512 .f32) (main_arg2 : FVec F S1x4112x1024 .f32) (main_arg3 : FVec F S1x4112x1024 .f32) (main_arg4 : FVec F S1x1024 .f32) (main_arg5 : FVec F S1x4112x1024 .f32) : IVec S_ 1 :=
  let main_v0 : FVec F S1x4112x512 .f32 := Host.absf main_arg0
  let main_cst : FVec F S_ .f32 := constant S_ .f32 0x7F800000#32
  let main_v1 : FVec F S1x4112x512 .f32 := broadcastInDim S1x4112x512 ![] bcast_S_S1x4112x512 main_cst
  let main_v2 : IVec S1x4112x512 1 := cmpf .olt main_v0 main_v1
  let main_c : IVec S_ 1 := constantI S_ 1 1#1
  let main_v3 : IVec S_ 1 := (fun x v => Host.reduce IntOp.andi x v reducesTo_S1x4112x512_S_d0_1_2 h_S_) main_v2 main_c
  let main_v4 : FVec F S1x4112x512 .f32 := Host.absf main_arg1
  let main_cst_0 : FVec F S_ .f32 := constant S_ .f32 0x7F800000#32
  let main_v5 : FVec F S1x4112x512 .f32 := broadcastInDim S1x4112x512 ![] bcast_S_S1x4112x512 main_cst_0
  let main_v6 : IVec S1x4112x512 1 := cmpf .olt main_v4 main_v5
  let main_c_1 : IVec S_ 1 := constantI S_ 1 1#1
  let main_v7 : IVec S_ 1 := (fun x v => Host.reduce IntOp.andi x v reducesTo_S1x4112x512_S_d0_1_2 h_S_) main_v6 main_c_1
  let main_v8 : IVec S_ 1 := andi main_v3 main_v7
  let main_v9 : FVec F S1x4112x1024 .f32 := Host.absf main_arg2
  let main_cst_2 : FVec F S_ .f32 := constant S_ .f32 0x7F800000#32
  let main_v10 : FVec F S1x4112x1024 .f32 := broadcastInDim S1x4112x1024 ![] bcast_S_S1x4112x1024 main_cst_2
  let main_v11 : IVec S1x4112x1024 1 := cmpf .olt main_v9 main_v10
  let main_c_3 : IVec S_ 1 := constantI S_ 1 1#1
  let main_v12 : IVec S_ 1 := (fun x v => Host.reduce IntOp.andi x v reducesTo_S1x4112x1024_S_d0_1_2 h_S_) main_v11 main_c_3
  let main_v13 : IVec S_ 1 := andi main_v8 main_v12
  let main_v14 : FVec F S1x4112x1024 .f32 := Host.absf main_arg3
  let main_cst_4 : FVec F S_ .f32 := constant S_ .f32 0x7F800000#32
  let main_v15 : FVec F S1x4112x1024 .f32 := broadcastInDim S1x4112x1024 ![] bcast_S_S1x4112x1024 main_cst_4
  let main_v16 : IVec S1x4112x1024 1 := cmpf .olt main_v14 main_v15
  fn_part1 (F := F) main_arg4 main_arg5 main_v13 main_v16
-- ==== Kernel.lean ====
abbrev S1x4112x1024 : Shape := ⟨3, ![1, 4112, 1024]⟩
abbrev S1x2048x1024 : Shape := ⟨3, ![1, 2048, 1024]⟩
abbrev S1024 : Shape := ⟨1, ![1024]⟩
abbrev S1x4096x1024 : Shape := ⟨3, ![1, 4096, 1024]⟩
abbrev S4112x1024 : Shape := ⟨2, ![4112, 1024]⟩
abbrev S_ : Shape := ⟨0, ![]⟩
abbrev S4224x1024 : Shape := ⟨2, ![4224, 1024]⟩
abbrev S4096x1024 : Shape := ⟨2, ![4096, 1024]⟩
abbrev S2048x1024 : Shape := ⟨2, ![2048, 1024]⟩
abbrev S1x1024 : Shape := ⟨2, ![1, 1024]⟩
abbrev S8x128 : Shape := ⟨2, ![8, 128]⟩
abbrev S384x1024 : Shape := ⟨2, ![384, 1024]⟩
abbrev S128x1024 : Shape := ⟨2, ![128, 1024]⟩
abbrev S1024x1024 : Shape := ⟨2, ![1024, 1024]⟩
abbrev S384 : Shape := ⟨1, ![384]⟩
abbrev S384x1 : Shape := ⟨2, ![384, 1]⟩
abbrev S1x384x1 : Shape := ⟨3, ![1, 384, 1]⟩
abbrev S1 : Shape := ⟨1, ![1]⟩
abbrev S1x1x1 : Shape := ⟨3, ![1, 1, 1]⟩

abbrev nBuf : Space → Nat
  | .hbm => 30
  | .vmem => 23
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S1x4112x1024, .f32⟩
  | .hbm, ⟨3, _⟩ => ⟨S1x2048x1024, .f32⟩
  | .hbm, ⟨4, _⟩ => ⟨S1024, .f32⟩
  | .hbm, ⟨5, _⟩ => ⟨S1x4096x1024, .f32⟩
  | .hbm, ⟨6, _⟩ => ⟨S4112x1024, .f32⟩
  | .hbm, ⟨7, _⟩ => ⟨S_, .i32⟩
  | .hbm, ⟨8, _⟩ => ⟨S_, .f32⟩
  | .hbm, ⟨9, _⟩ => ⟨S4224x1024, .f32⟩
  | .hbm, ⟨10, _⟩ => ⟨S4224x1024, .bf16⟩
  | .hbm, ⟨11, _⟩ => ⟨S4112x1024, .f32⟩
  | .hbm, ⟨12, _⟩ => ⟨S_, .i32⟩
  | .hbm, ⟨13, _⟩ => ⟨S_, .f32⟩
  | .hbm, ⟨14, _⟩ => ⟨S4224x1024, .f32⟩
  | .hbm, ⟨15, _⟩ => ⟨S4224x1024, .bf16⟩
  | .hbm, ⟨16, _⟩ => ⟨S4112x1024, .f32⟩
  | .hbm, ⟨17, _⟩ => ⟨S_, .i32⟩
  | .hbm, ⟨18, _⟩ => ⟨S_, .f32⟩
  | .hbm, ⟨19, _⟩ => ⟨S4224x1024, .f32⟩
  | .hbm, ⟨20, _⟩ => ⟨S4096x1024, .f32⟩
  | .hbm, ⟨21, _⟩ => ⟨S2048x1024, .f32⟩
  | .hbm, ⟨22, _⟩ => ⟨S2048x1024, .bf16⟩
  | .hbm, ⟨23, _⟩ => ⟨S1x1024, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S2048x1024, .f32⟩
  | .hbm, ⟨28, _⟩ => ⟨S1x1024, .f32⟩
  | .hbm, ⟨29, _⟩ => ⟨S8x128, .f32⟩
  | .local _ .vmem, ⟨0, _⟩ => ⟨S384x1024, .bf16⟩
  | .local _ .vmem, ⟨1, _⟩ => ⟨S384x1024, .bf16⟩
  | .local _ .vmem, ⟨2, _⟩ => ⟨S384x1024, .bf16⟩
  | .local _ .vmem, ⟨3, _⟩ => ⟨S384x1024, .bf16⟩
  | .local _ .vmem, ⟨4, _⟩ => ⟨S384x1024, .f32⟩
  | .local _ .vmem, ⟨5, _⟩ => ⟨S384x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S2048x1024, .bf16⟩
  | .local _ .vmem, ⟨13, _⟩ => ⟨S1x1024, .f32⟩
  | .local _ .vmem, ⟨14, _⟩ => ⟨S384x1024, .f32⟩
  | .local _ .vmem, ⟨15, _⟩ => ⟨S384x1024, .f32⟩
  | .local _ .vmem, ⟨16, _⟩ => ⟨S384x1024, .f32⟩
  | .local _ .vmem, ⟨17, _⟩ => ⟨S384x1024, .f32⟩
  | .local _ .vmem, ⟨18, _⟩ => ⟨S384x1024, .f32⟩
  | .local _ .vmem, ⟨19, _⟩ => ⟨S384x1024, .f32⟩
  | .local _ .vmem, ⟨20, _⟩ => ⟨S2048x1024, .f32⟩
  | .local _ .vmem, ⟨21, _⟩ => ⟨S1x1024, .f32⟩
  | .local _ .vmem, ⟨22, _⟩ => ⟨S8x128, .f32⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x4112x1024 : Shape := ⟨3, ![1, 4112, 1024]⟩
abbrev S1x2048x1024 : Shape := ⟨3, ![1, 2048, 1024]⟩
abbrev S1024 : Shape := ⟨1, ![1024]⟩
abbrev S1x4096x1024 : Shape := ⟨3, ![1, 4096, 1024]⟩
abbrev S1x4112x2048 : Shape := ⟨3, ![1, 4112, 2048]⟩
abbrev S2048x1024 : Shape := ⟨2, ![2048, 1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1x4096 : Shape := ⟨2, ![1, 4096]⟩
abbrev S1x1024 : Shape := ⟨2, ![1, 1024]⟩
abbrev S4112 : Shape := ⟨1, ![4112]⟩
abbrev S1024x2048 : Shape := ⟨2, ![1024, 2048]⟩
abbrev S4112x1024 : Shape := ⟨2, ![4112, 1024]⟩
abbrev S4224x1024 : Shape := ⟨2, ![4224, 1024]⟩
abbrev S8x128 : Shape := ⟨2, ![8, 128]⟩

abbrev nBuf : Space → Nat
  | .hbm => 103
  | .vmem => 0
  | .smem => 0
  | _ => 0

abbrev bufTy : (tb : Table) → Fin (tcTables nBuf tb) → BufTy
  | .hbm, ⟨0, _⟩ => ⟨S1x4112x1024, .f32⟩
  | .hbm, ⟨1, _⟩ => ⟨S1x4112x1024, .f32⟩
  | .hbm, ⟨2, _⟩ => ⟨S1x4112x1024, .f32⟩
  | .hbm, ⟨3, _⟩ => ⟨S1x2048x1024, .f32⟩
  | .hbm, ⟨4, _⟩ => ⟨S1024, .f32⟩
  | .hbm, ⟨5, _⟩ => ⟨S1x4096x1024, .f32⟩
  | .hbm, ⟨6, _⟩ => ⟨S1x4112x2048, .f32⟩
  | .hbm, ⟨7, _⟩ => ⟨S2048x1024, .f32⟩
  | .hbm, ⟨8, _⟩ => ⟨S1x4112x1024, .f32⟩
  | .hbm, ⟨9, _⟩ => ⟨S1x4112x1024, .f32⟩
  | .hbm, ⟨10, _⟩ => ⟨S1x4112x1024, .f32⟩
  | .hbm, ⟨11, _⟩ => ⟨S_, .f32⟩
  | .hbm, ⟨12, _⟩ => ⟨S1x4112, .f32⟩
  | .hbm, ⟨13, _⟩ => ⟨S1x4112x1, .f32⟩
  | .hbm, ⟨14, _⟩ => ⟨S_, .f32⟩
  | .hbm, ⟨15, _⟩ => ⟨S1x4112x1, .f32⟩
  | .hbm, ⟨16, _⟩ => ⟨S1x4112x1, .f32⟩
  | .hbm, ⟨17, _⟩ => ⟨S_, .f32⟩
  | .hbm, ⟨18, _⟩ => ⟨S1x4112x1, .f32⟩
  | .hbm, ⟨19, _⟩ => ⟨S1x4112x1, .f32⟩
  | .hbm, ⟨20, _⟩ => ⟨S1x4112x1, .f32⟩
  | .hbm, ⟨21, _⟩ => ⟨S1x4112x1, .f32⟩
  | .hbm, ⟨22, _⟩ => ⟨S_, .f32⟩
  | .hbm, ⟨23, _⟩ => ⟨S1x4112x1, .f32⟩
  | .hbm, ⟨24, _⟩ => ⟨S1x4112x1, .f32⟩
  | .hbm, ⟨25, _⟩ => ⟨S1x4112x1024, .f32⟩
  | .hbm, ⟨26, _⟩ => ⟨S1x4112x1024, .f32⟩
  | .hbm, ⟨27, _⟩ => ⟨S1x1x1024, .f32⟩
  | .hbm, ⟨28, _⟩ => ⟨S1x4112x1024, .f32⟩
  | .hbm, ⟨29, _⟩ => ⟨S1x4112x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x4096x1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S_, .f32⟩
  | .hbm, ⟨39, _⟩ => ⟨S1x4096, .f32⟩
  | .hbm, ⟨40, _⟩ => ⟨S1x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x4096, .f32⟩
  | .hbm, ⟨49, _⟩ => ⟨S_, .f32⟩
  | .hbm, ⟨50, _⟩ => ⟨S1x4096, .f32⟩
  | .hbm, ⟨51, _⟩ => ⟨S1x4096, .f32⟩
  | .hbm, ⟨52, _⟩ => ⟨S1x4096x1024, .f32⟩
  | .hbm, ⟨53, _⟩ => ⟨S1x4096x1024, .f32⟩
  | .hbm, ⟨54, _⟩ => ⟨S_, .f32⟩
  | .hbm, ⟨55, _⟩ => ⟨S1x4112x1024, .f32⟩
  | .hbm, ⟨56, _⟩ => ⟨S1x4112x1024, .f32⟩
  | .hbm, ⟨57, _⟩ => ⟨S_, .f32⟩
  | .hbm, ⟨58, _⟩ => ⟨S1x1024, .f32⟩
  | .hbm, ⟨59, _⟩ => ⟨S1x1x1024, .f32⟩
  | .hbm, ⟨60, _⟩ => ⟨S1x4112x1024, .f32⟩
  | .hbm, ⟨61, _⟩ => ⟨S1x4112x1024, .f32⟩
  | .hbm, ⟨62, _⟩ => ⟨S_, .f32⟩
  | .hbm, ⟨63, _⟩ => ⟨S1024, .f32⟩
  | .hbm, ⟨64, _⟩ => ⟨S1x4112x1024, .f32⟩
  | .hbm, ⟨65, _⟩ => ⟨S_, .f32⟩
  | .hbm, ⟨66, _⟩ => ⟨S1x4112, .f32⟩
  | .hbm, ⟨67, _⟩ => ⟨S1x4112x1, .f32⟩
  | .hbm, ⟨68, _⟩ => ⟨S1x4112x1024, .f32⟩
  | .hbm, ⟨69, _⟩ => ⟨S1x4112x1024, .f32⟩
  | .hbm, ⟨70, _⟩ => ⟨S1x4112x1, .f32⟩
  | .hbm, ⟨71, _⟩ => ⟨S_, .f32⟩
  | .hbm, ⟨72, _⟩ => ⟨S1x4112x1, .f32⟩
  | .hbm, ⟨73, _⟩ => ⟨S1x4112x1, .f32⟩
  | .hbm, ⟨74, _⟩ => ⟨S_, .f32⟩
  | .hbm, ⟨75, _⟩ => ⟨S4112, .f32⟩
  | .hbm, ⟨76, _⟩ => ⟨S1x4112, .f32⟩
  | .hbm, ⟨77, _⟩ => ⟨S1x4112x1024, .f32⟩
  | .hbm, ⟨78, _⟩ => ⟨S1x4112x1024, .f32⟩
  | .hbm, ⟨79, _⟩ => ⟨S1x4112x1024, .f32⟩
  | .hbm, ⟨80, _⟩ => ⟨S1x4112x1024, .f32⟩
  | .hbm, ⟨81, _⟩ => ⟨S1x4112x1024, .f32⟩
  | .hbm, ⟨82, _⟩ => ⟨S1024x2048, .f32⟩
  | .hbm, ⟨83, _⟩ => ⟨S2048x1024, .f32⟩
  | .hbm, ⟨84, _⟩ => ⟨S1x4112x2048, .f32⟩
  | .hbm, ⟨85, _⟩ => ⟨S1x2048x1024, .f32⟩
  | .hbm, ⟨86, _⟩ => ⟨S1x4112x1024, .f32⟩
  | .hbm, ⟨87, _⟩ => ⟨S1x4112x1024, .f32⟩
  | .hbm, ⟨88, _⟩ => ⟨S4112x1024, .f32⟩
  | .hbm, ⟨89, _⟩ => ⟨S_, .i32⟩
  | .hbm, ⟨90, _⟩ => ⟨S_, .f32⟩
  | .hbm, ⟨91, _⟩ => ⟨S4224x1024, .f32⟩
  | .hbm, ⟨92, _⟩ => ⟨S4112x1024, .f32⟩
  | .hbm, ⟨93, _⟩ => ⟨S_, .i32⟩
  | .hbm, ⟨94, _⟩ => ⟨S_, .f32⟩
  | .hbm, ⟨95, _⟩ => ⟨S4224x1024, .f32⟩
  | .hbm, ⟨96, _⟩ => ⟨S4112x1024, .f32⟩
  | .hbm, ⟨97, _⟩ => ⟨S_, .i32⟩
  | .hbm, ⟨98, _⟩ => ⟨S_, .f32⟩
  | .hbm, ⟨99, _⟩ => ⟨S4224x1024, .f32⟩
  | .hbm, ⟨100, _⟩ => ⟨S2048x1024, .f32⟩
  | .hbm, ⟨101, _⟩ => ⟨S1x1024, .f32⟩
  | .hbm, ⟨102, _⟩ => ⟨S8x128, .f32⟩
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_v37 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_15 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c : Ref sig .tc := ⟨.hbm, 89, rfl⟩
abbrev main_call0_v0 : Ref sig .tc := ⟨.hbm, 90, rfl⟩
abbrev main_v65 : Ref sig .tc := ⟨.hbm, 91, rfl⟩
abbrev main_v66 : Ref sig .tc := ⟨.hbm, 92, rfl⟩
abbrev main_c_17 : Ref sig .tc := ⟨.hbm, 93, rfl⟩
abbrev main_call1_v0 : Ref sig .tc := ⟨.hbm, 94, rfl⟩
abbrev main_v67 : Ref sig .tc := ⟨.hbm, 95, rfl⟩
abbrev main_v68 : Ref sig .tc := ⟨.hbm, 96, rfl⟩
abbrev main_c_18 : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== Kernel2.lean ====
abbrev S1x4112x512 : Shape := ⟨3, ![1, 4112, 512]⟩
abbrev S1x4112x1024 : Shape := ⟨3, ![1, 4112, 1024]⟩
abbrev S1x1024 : Shape := ⟨2, ![1, 1024]⟩
abbrev S4224x32 : Shape := ⟨2, ![4224, 32]⟩
abbrev S8x128x128 : Shape := ⟨3, ![8, 128, 128]⟩
abbrev S128x512 : Shape := ⟨2, ![128, 512]⟩
abbrev S8 : Shape := ⟨1, ![8]⟩
abbrev S1x4112x4096 : Shape := ⟨3, ![1, 4112, 4096]⟩
abbrev S_ : Shape := ⟨0, ![]⟩
abbrev S1x4224x4096 : Shape := ⟨3, ![1, 4224, 4096]⟩
abbrev S4224x4096 : Shape := ⟨2, ![4224, 4096]⟩
abbrev S4224x1024 : Shape := ⟨2, ![4224, 1024]⟩
abbrev S32 : Shape := ⟨1, ![32]⟩
abbrev S1x32 : Shape := ⟨2, ![1, 32]⟩
abbrev S4224x128 : Shape := ⟨2, ![4224, 128]⟩
abbrev S4224x16x64 : Shape := ⟨3, ![4224, 16, 64]⟩
abbrev S4224x16x32 : Shape := ⟨3, ![4224, 16, 32]⟩
abbrev S4224x512 : Shape := ⟨2, ![4224, 512]⟩
abbrev S8x64 : Shape := ⟨2, ![8, 64]⟩
abbrev S512 : Shape := ⟨1, ![512]⟩
abbrev S8x64x256 : Shape := ⟨3, ![8, 64, 256]⟩
abbrev S4x128x256 : Shape := ⟨3, ![4, 128, 256]⟩
abbrev S2x2 : Shape := ⟨2, ![2, 2]⟩
abbrev S2x64x2x128 : Shape := ⟨4, ![2, 64, 2, 128]⟩
abbrev S128x256 : Shape := ⟨2, ![128, 256]⟩
abbrev S33x128x512 : Shape := ⟨3, ![33, 128, 512]⟩
abbrev S1x128x512 : Shape := ⟨3, ![1, 128, 512]⟩
abbrev S33x4x128x256 : Shape := ⟨4, ![33, 4, 128, 256]⟩
abbrev S384x512 : Shape := ⟨2, ![384, 512]⟩
abbrev S384x1024 : Shape := ⟨2, ![384, 1024]⟩
abbrev S3x4x128x256 : Shape := ⟨4, ![3, 4, 128, 256]⟩
abbrev S128x128 : Shape := ⟨2, ![128, 128]⟩
abbrev S1x128x256 : Shape := ⟨3, ![1, 128, 256]⟩
abbrev S1x1x128x256 : Shape := ⟨4, ![1, 1, 128, 256]⟩
abbrev S1x128x128 : Shape := ⟨3, ![1, 128, 128]⟩
abbrev S128 : Shape := ⟨1, ![128]⟩
abbrev S128x1 : Shape := ⟨2, ![128, 1]⟩
abbrev S1x128 : Shape := ⟨2, ![1, 128]⟩
abbrev S384x128 : Shape := ⟨2, ![384, 128]⟩

abbrev nBuf : Space → Nat
  | .hbm => 120
  | .vmem => 62
  | .smem => 0
  | _ => 0

abbrev bufTy : (tb : Table) → Fin (tcTables nBuf tb) → BufTy
  | .hbm, ⟨0, _⟩ => ⟨S1x4112x512, .f32⟩
  | .hbm, ⟨1, _⟩ => ⟨S1x4112x512, .f32⟩
  | .hbm, ⟨2, _⟩ => ⟨S1x4112x1024, .f32⟩
  | .hbm, ⟨3, _⟩ => ⟨S1x4112x1024, .f32⟩
  | .hbm, ⟨4, _⟩ => ⟨S1x1024, .f32⟩
  | .hbm, ⟨5, _⟩ => ⟨S1x4112x1024, .f32⟩
  | .hbm, ⟨6, _⟩ => ⟨S4224x32, .f32⟩
  | .hbm, ⟨7, _⟩ => ⟨S8x128x128, .f32⟩
  | .hbm, ⟨8, _⟩ => ⟨S128x512, .f32⟩
  | .hbm, ⟨9, _⟩ => ⟨S128x512, .f32⟩
  | .hbm, ⟨10, _⟩ => ⟨S8, .f32⟩
  | .hbm, ⟨11, _⟩ => ⟨S1x4112x4096, .f32⟩
  | .hbm, ⟨12, _⟩ => ⟨S_, .f32⟩
  | .hbm, ⟨13, _⟩ => ⟨S1x4224x4096, .f32⟩
  | .hbm, ⟨14, _⟩ => ⟨S4224x4096, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S4224x32, .f32⟩
  | .hbm, ⟨28, _⟩ => ⟨S4224x32, .f32⟩
  | .hbm, ⟨29, _⟩ => ⟨S1x32, .f32⟩
  | .hbm, ⟨30, _⟩ => ⟨S4224x32, .f32⟩
  | .hbm, ⟨31, _⟩ => ⟨S4224x32, .f32⟩
  | .hbm, ⟨32, _⟩ => ⟨S4224x32, .f32⟩
  | .hbm, ⟨33, _⟩ => ⟨S4224x32, .f32⟩
  | .hbm, ⟨34, _⟩ => ⟨S4224x128, .f32⟩
  | .hbm, ⟨35, _⟩ => ⟨S4224x32, .f32⟩
  | .hbm, ⟨36, _⟩ => ⟨S4224x128, .f32⟩
  | .hbm, ⟨37, _⟩ => ⟨S4224x16x64, .f32⟩
  | .hbm, ⟨38, _⟩ => ⟨S4224x16x32, .f32⟩
  | .hbm, ⟨39, _⟩ => ⟨S4224x16x32, .f32⟩
  | .hbm, ⟨40, _⟩ => ⟨S4224x16x32, .f32⟩
  | .hbm, ⟨41, _⟩ => ⟨S4224x16x32, .f32⟩
  | .hbm, ⟨42, _⟩ => ⟨S4224x16x32, .f32⟩
  | .hbm, ⟨43, _⟩ => ⟨S4224x16x32, .f32⟩
  | .hbm, ⟨44, _⟩ => ⟨S4224x16x32, .f32⟩
  | .hbm, ⟨45, _⟩ => ⟨S4224x16x32, .f32⟩
  | .hbm, ⟨46, _⟩ => ⟨S4224x16x32, .f32⟩
  | .hbm, ⟨47, _⟩ => ⟨S4224x16x32, .f32⟩
  | .hbm, ⟨48, _⟩ => ⟨S4224x16x64, .f32⟩
  | .hbm, ⟨49, _⟩ => ⟨S4224x1024, .f32⟩
  | .hbm, ⟨50, _⟩ => ⟨S4224x512, .f32⟩
  | .hbm, ⟨51, _⟩ => ⟨S4224x512, .f32⟩
  | .hbm, ⟨52, _⟩ => ⟨S_, .f32⟩
  | .hbm, ⟨53, _⟩ => ⟨S4224x512, .f32⟩
  | .hbm, ⟨54, _⟩ => ⟨S4224x512, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S8, .f32⟩
  | .hbm, ⟨65, _⟩ => ⟨S8x128x128, .f32⟩
  | .hbm, ⟨66, _⟩ => ⟨S8x128x128, .f32⟩
  | .hbm, ⟨67, _⟩ => ⟨S8x128x128, .f32⟩
  | .hbm, ⟨68, _⟩ => ⟨S8x128x128, .i1⟩
  | .hbm, ⟨69, _⟩ => ⟨S8x128x128, .f32⟩
  | .hbm, ⟨70, _⟩ => ⟨S8x128x128, .f32⟩
  | .hbm, ⟨71, _⟩ => ⟨S8x128x128, .f32⟩
  | .hbm, ⟨72, _⟩ => ⟨S8x128x128, .f32⟩
  | .hbm, ⟨73, _⟩ => ⟨S8x128x128, .f32⟩
  | .hbm, ⟨74, _⟩ => ⟨S8x64, .f32⟩
  | .hbm, ⟨75, _⟩ => ⟨S512, .f32⟩
  | .hbm, ⟨76, _⟩ => ⟨S128x512, .f32⟩
  | .hbm, ⟨77, _⟩ => ⟨S128x512, .f32⟩
  | .hbm, ⟨78, _⟩ => ⟨S128x512, .f32⟩
  | .hbm, ⟨79, _⟩ => ⟨S128x512, .f32⟩
  | .hbm, ⟨80, _⟩ => ⟨S128x512, .f32⟩
  | .hbm, ⟨81, _⟩ => ⟨S128x512, .f32⟩
  | .hbm, ⟨82, _⟩ => ⟨S128x512, .f32⟩
  | .hbm, ⟨83, _⟩ => ⟨S128x512, .f32⟩
  | .hbm, ⟨84, _⟩ => ⟨S8, .f32⟩
  | .hbm, ⟨85, _⟩ => ⟨S8, .f32⟩
  | .hbm, ⟨86, _⟩ => ⟨S8x64x256, .f32⟩
  | .hbm, ⟨87, _⟩ => ⟨S4x128x256, .f32⟩
  | .hbm, ⟨88, _⟩ => ⟨S2x2, .i32⟩
  | .hbm, ⟨89, _⟩ => ⟨S2x2, .i32⟩
  | .hbm, ⟨90, _⟩ => ⟨S2x2, .i1⟩
  | .hbm, ⟨91, _⟩ => ⟨S2x2, .f32⟩
  | .hbm, ⟨92, _⟩ => ⟨S2x64x2x128, .f32⟩
  | .hbm, ⟨93, _⟩ => ⟨S128x256, .f32⟩
  | .hbm, ⟨94, _⟩ => ⟨S4224x512, .bf16⟩
  | .hbm, ⟨95, _⟩ => ⟨S4224x512, .bf16⟩
  | .hbm, ⟨96, _⟩ => ⟨S33x128x512, .f32⟩
  | .hbm, ⟨97, _⟩ => ⟨S1x128x512, .f32⟩
  | .hbm, ⟨98, _⟩ => ⟨S33x128x512, .f32⟩
  | .hbm, ⟨99, _⟩ => ⟨S33x128x512, .f32⟩
  | .hbm, ⟨100, _⟩ => ⟨S4224x512, .f32⟩
  | .hbm, ⟨101, _⟩ => ⟨S4224x512, .bf16⟩
  | .hbm, ⟨102, _⟩ => ⟨S33x128x512, .f32⟩
  | .hbm, ⟨103, _⟩ => ⟨S1x128x512, .f32⟩
  | .hbm, ⟨104, _⟩ => ⟨S33x128x512, .f32⟩
  | .hbm, ⟨105, _⟩ => ⟨S33x128x512, .f32⟩
  | .hbm, ⟨106, _⟩ => ⟨S4224x512, .f32⟩
  | .hbm, ⟨107, _⟩ => ⟨S4224x512, .bf16⟩
  | .hbm, ⟨108, _⟩ => ⟨S4224x1024, .bf16⟩
  | .hbm, ⟨109, _⟩ => ⟨S4224x1024, .f32⟩
  | .hbm, ⟨110, _⟩ => ⟨S4224x1024, .bf16⟩
  | .hbm, ⟨111, _⟩ => ⟨S33x4x128x256, .bf16⟩
  | .hbm, ⟨112, _⟩ => ⟨S4x128x256, .f32⟩
  | .hbm, ⟨113, _⟩ => ⟨S8x128x128, .f32⟩
  | .hbm, ⟨114, _⟩ => ⟨S4224x512, .bf16⟩
  | .hbm, ⟨115, _⟩ => ⟨S4224x512, .bf16⟩
  | .hbm, ⟨116, _⟩ => ⟨S4224x1024, .bf16⟩
  | .hbm, ⟨117, _⟩ => ⟨S4224x1024, .bf16⟩
  | .hbm, ⟨118, _⟩ => ⟨S1x1024, .f32⟩
  | .hbm, ⟨119, _⟩ => ⟨S4x128x256, .f32⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S384x512, .bf16⟩
  | .local _ .vmem, ⟨5, _⟩ => ⟨S384x512, .bf16⟩
  | .local _ .vmem, ⟨6, _⟩ => ⟨S384x512, .bf16⟩
  | .local _ .vmem, ⟨7, _⟩ => ⟨S384x512, .bf16⟩
  | .local _ .vmem, ⟨8, _⟩ => ⟨S384x1024, .bf16⟩
  | .local _ .vmem, ⟨9, _⟩ => ⟨S384x1024, .bf16⟩
  | .local _ .vmem, ⟨10, _⟩ => ⟨S384x1024, .f32⟩
  | .local _ .vmem, ⟨11, _⟩ => ⟨S384x1024, .f32⟩
  | .local _ .vmem, ⟨12, _⟩ => ⟨S1x1024, .f32⟩
  | .local _ .vmem, ⟨13, _⟩ => ⟨S8x128x128, .f32⟩
  | .local _ .vmem, ⟨14, _⟩ => ⟨S4x128x256, .f32⟩
  | .local _ .vmem, ⟨15, _⟩ => ⟨S128x256, .f32⟩
  | .local _ .vmem, ⟨16, _⟩ => ⟨S384x1024, .f32⟩
  | .local _ .vmem, ⟨17, _⟩ => ⟨S384x1024, .f32⟩
  | .local _ .vmem, ⟨18, _⟩ => ⟨S384x1024, .bf16⟩
  | .local _ .vmem, ⟨19, _⟩ => ⟨S384x1024, .bf16⟩
  | .local _ .vmem, ⟨20, _⟩ => ⟨S3x4x128x256, .bf16⟩
  | .local _ .vmem, ⟨21, _⟩ => ⟨S3x4x128x256, .bf16⟩
  | .local _ .vmem, ⟨22, _⟩ => ⟨S4x128x256, .f32⟩
  | .local _ .vmem, ⟨23, _⟩ => ⟨S384x512, .bf16⟩
  | .local _ .vmem, ⟨24, _⟩ => ⟨S384x512, .bf16⟩
  | .local _ .vmem, ⟨25, _⟩ => ⟨S384x512, .bf16⟩
  | .local _ .vmem, ⟨26, _⟩ => ⟨S384x512, .bf16⟩
  | .local _ .vmem, ⟨27, _⟩ => ⟨S384x512, .bf16⟩
  | .local _ .vmem, ⟨28, _⟩ => ⟨S384x512, .bf16⟩
  | .local _ .vmem, ⟨29, _⟩ => ⟨S384x512, .bf16⟩
  | .local _ .vmem, ⟨30, _⟩ => ⟨S384x512, .bf16⟩
  | .local _ .vmem, ⟨31, _⟩ => ⟨S384x1024, .bf16⟩
  | .local _ .vmem, ⟨32, _⟩ => ⟨S384x1024, .bf16⟩
  | .local _ .vmem, ⟨33, _⟩ => ⟨S384x1024, .f32⟩
  | .local _ .vmem, ⟨34, _⟩ => ⟨S384x1024, .f32⟩
  | .local _ .vmem, ⟨35, _⟩ => ⟨S384x1024, .f32⟩
  | .local _ .vmem, ⟨36, _⟩ => ⟨S384x1024, .f32⟩
  | .local _ .vmem, ⟨37, _⟩ => ⟨S3x4x128x256, .bf16⟩
  | .local _ .vmem, ⟨38, _⟩ => ⟨S3x4x128x256, .bf16⟩
  | .local _ .vmem, ⟨39, _⟩ => ⟨S384x1024, .f32⟩
  | .local _ .vmem, ⟨40, _⟩ => ⟨S384x1024, .f32⟩
  | .local _ .vmem, ⟨41, _⟩ => ⟨S1x1024, .f32⟩
  | .local _ .vmem, ⟨42, _⟩ => ⟨S384x128, .f32⟩
  | .local _ .vmem, ⟨43, _⟩ => ⟨S384x128, .f32⟩
  | .local _ .vmem, ⟨44, _⟩ => ⟨S384x128, .f32⟩
  | .local _ .vmem, ⟨45, _⟩ => ⟨S384x128, .f32⟩
  | .local _ .vmem, ⟨46, _⟩ => ⟨S8x128x128, .f32⟩
  | .local _ .vmem, ⟨47, _⟩ => ⟨S8x128x128, .f32⟩
  | .local _ .vmem, ⟨48, _⟩ => ⟨S128x512, .f32⟩
  | .local _ .vmem, ⟨49, _⟩ => ⟨S128x512, .f32⟩
  | .local _ .vmem, ⟨50, _⟩ => ⟨S4x128x256, .f32⟩
  | .local _ .vmem, ⟨51, _⟩ => ⟨S128x256, .f32⟩
  | .local _ .vmem, ⟨52, _⟩ => ⟨S384x512, .bf16⟩
  | .local _ .vmem, ⟨53, _⟩ => ⟨S384x512, .bf16⟩
  | .local _ .vmem, ⟨54, _⟩ => ⟨S384x512, .bf16⟩
  | .local _ .vmem, ⟨55, _⟩ => ⟨S384x512, .bf16⟩
  | .local _ .vmem, ⟨56, _⟩ => ⟨S384x1024, .bf16⟩
  | .local _ .vmem, ⟨57, _⟩ => ⟨S384x1024, .bf16⟩
  | .local _ .vmem, ⟨58, _⟩ => ⟨S384x1024, .bf16⟩
  | .local _ .vmem, ⟨59, _⟩ => ⟨S384x1024, .bf16⟩
  | .local _ .vmem, ⟨60, _⟩ => ⟨S1x1024, .f32⟩
  | .local _ .vmem, ⟨61, _⟩ => ⟨S4x128x256, .f32⟩
  | _, _ => ⟨S1x4112x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_v0 : Ref sig .tc := ⟨.hbm, 11, rfl⟩
abbrev main_cst_4 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92_0 : Ref sig .tc := ⟨.hbm, 109, rfl⟩
abbrev main_v92_1 : Ref sig .tc := ⟨.hbm, 110, rfl⟩
abbrev main_v92_2 : Ref sig .tc := ⟨.hbm, 111, rfl⟩
abbrev main_v92_3 : Ref sig .tc := ⟨.hbm, 112, rfl⟩
abbrev main_v93 : Ref sig .tc := ⟨.hbm, 113, rfl⟩
abbrev main_v94_0 : Ref sig .tc := ⟨.hbm, 114, rfl⟩
abbrev main_v94_1 : Ref sig .tc := ⟨.hbm, 115, rfl⟩
abbrev main_v94_2 : Ref sig .tc := ⟨.hbm, 116, rfl⟩
abbrev main_v94_3 : Ref sig .tc := ⟨.hbm, 117, rfl⟩
abbrev main_v94_4 : Ref sig .tc := ⟨.hbm, 118, rfl⟩
abbrev main_v94_5 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg7_1 : Ref sig .tc := ⟨.vmem, 38, rfl⟩
abbrev cc1_stg8_0 : Ref sig .tc := ⟨.vmem, 39, rfl⟩
abbrev cc1_stg8_1 : Ref sig .tc := ⟨.vmem, 40, rfl⟩
abbrev cc1_stg9_0 : Ref sig .tc := ⟨.vmem, 41, rfl⟩
abbrev cc1_stg10_0 : Ref sig .tc := ⟨.vmem, 42, rfl⟩
abbrev cc1_stg10_1 : Ref sig .tc := ⟨.vmem, 43, rfl⟩
abbrev cc1_stg11_0 : Ref sig .tc := ⟨.vmem, 44, rfl⟩
abbrev cc1_stg11_1 : Ref sig .tc := ⟨.vmem, 45, rfl⟩
abbrev cc1_stg12_0 : Ref sig .tc := ⟨.vmem, 46, rfl⟩
abbrev cc1_stg13_0 : Ref sig .tc := ⟨.vmem, 47, rfl⟩
abbrev cc1_stg14_0 : Ref sig .tc := ⟨.vmem, 48, rfl⟩
abbrev cc1_stg15_0 : Ref sig .tc := ⟨.vmem, 49, rfl⟩
abbrev cc1_stg16_0 : Ref sig .tc := ⟨.vmem, 50, rfl⟩
abbrev cc1_stg17_0 : Ref sig .tc := ⟨.vmem, 51, rfl⟩
abbrev cc1_stg18_0 : Ref sig .tc := ⟨.vmem, 52, rfl⟩
abbrev cc1_stg18_1 : Ref sig .tc := ⟨.vmem, 53, rfl⟩
abbrev cc1_stg19_0 : Ref sig .tc := ⟨.vmem, 54, rfl⟩
abbrev cc1_stg19_1 : Ref sig .tc := ⟨.vmem, 55, rfl⟩
abbrev cc1_stg20_0 : Ref sig .tc := ⟨.vmem, 56, rfl⟩
abbrev cc1_stg20_1 : Ref sig .tc := ⟨.vmem, 57, rfl⟩
abbrev cc1_stg21_0 : Ref sig .tc := ⟨.vmem, 58, rfl⟩
abbrev cc1_stg21_1 : Ref sig .tc := ⟨.vmem, 59, rfl⟩
abbrev cc1_stg22_0 : Ref sig .tc := ⟨.vmem, 60, rfl⟩
abbrev cc1_stg23_0 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem6_1 : DmaSem sig := 36
abbrev cc1_sem7_0 : DmaSem sig := 37
abbrev cc1_sem7_1 : DmaSem sig := 38
abbrev cc1_sem8_0 : DmaSem sig := 39
abbrev cc1_sem8_1 : DmaSem sig := 40
abbrev cc1_sem9_0 : DmaSem sig := 41
abbrev cc1_sem10_0 : DmaSem sig := 42
abbrev cc1_sem10_1 : DmaSem sig := 43
abbrev cc1_sem11_0 : DmaSem sig := 44
abbrev cc1_sem11_1 : DmaSem sig := 45
abbrev cc1_sem12_0 : DmaSem sig := 46
abbrev cc1_sem13_0 : DmaSem sig := 47
abbrev cc1_sem14_0 : DmaSem sig := 48
abbrev cc1_sem15_0 : DmaSem sig := 49
abbrev cc1_sem16_0 : DmaSem sig := 50
abbrev cc1_sem17_0 : DmaSem sig := 51
abbrev cc1_sem18_0 : DmaSem sig := 52
abbrev cc1_sem18_1 : DmaSem sig := 53
abbrev cc1_sem19_0 : DmaSem sig := 54
abbrev cc1_sem19_1 : DmaSem sig := 55
abbrev cc1_sem20_0 : DmaSem sig := 56
abbrev cc1_sem20_1 : DmaSem sig := 57
abbrev cc1_sem21_0 : DmaSem sig := 58
abbrev cc1_sem21_1 : DmaSem sig := 59
abbrev cc1_sem22_0 : DmaSem sig := 60
abbrev cc1_sem23_0 : DmaSem sig := 61

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x4x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev grid1 : Pipeline.Grid := ⟨1, ![11], ![false]⟩

def cc1_transform_0 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_7 (i : grid1.Coords) : Fin 4 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_8 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_19 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_20 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_21 (i : grid1.Coords) : Fin 2 → Nat :=
  let arg0 : BitVec 32 := BitVec.ofNat 32 (i 0).val
  let c10_i32 : BitVec 32 := 10#32
  let v0 : BitVec 32 := Scalar.subi c10_i32 arg0
  let c0_i32 : BitVec 32 := 0#32
  let c0_i32_0 : BitVec 32 := 0#32
  ![v0.toNat, c0_i32.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S384x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S384x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S384x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S384x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S384x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S384x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S384x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S3x4x128x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S384x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S384x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S384x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S8x128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S8x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x512 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S4x128x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S128x256 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S384x512 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S384x512 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S384x1024 .bf16 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S384x1024 .bf16 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev stage1_22 : Fin 1 → Memref sig .tc .vmem S1x1024 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S4x128x256 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]
-- ==== Reference2Ideal.lean ====
abbrev S1x4112x512 : Shape := ⟨3, ![1, 4112, 512]⟩
abbrev S1x4112x1024 : Shape := ⟨3, ![1, 4112, 1024]⟩
abbrev S1x1024 : Shape := ⟨2, ![1, 1024]⟩
abbrev S4112 : Shape := ⟨1, ![4112]⟩
abbrev S1x4112x8x64 : Shape := ⟨4, ![1, 4112, 8, 64]⟩
abbrev S32 : Shape := ⟨1, ![32]⟩
abbrev S_ : Shape := ⟨0, ![]⟩
abbrev S4112x1 : Shape := ⟨2, ![4112, 1]⟩
abbrev S1x32 : Shape := ⟨2, ![1, 32]⟩
abbrev S4112x32 : Shape := ⟨2, ![4112, 32]⟩
abbrev S1x4112x1x32 : Shape := ⟨4, ![1, 4112, 1, 32]⟩
abbrev S1x4112x8x32 : Shape := ⟨4, ![1, 4112, 8, 32]⟩
abbrev S1x4112x8x128 : Shape := ⟨4, ![1, 4112, 8, 128]⟩
abbrev S1x112x8x64 : Shape := ⟨4, ![1, 112, 8, 64]⟩
abbrev S1x4224x8x64 : Shape := ⟨4, ![1, 4224, 8, 64]⟩
abbrev S1x112x8x128 : Shape := ⟨4, ![1, 112, 8, 128]⟩
abbrev S1x4224x8x128 : Shape := ⟨4, ![1, 4224, 8, 128]⟩
abbrev S1x33x128x8x64 : Shape := ⟨5, ![1, 33, 128, 8, 64]⟩
abbrev S1x33x128x8x128 : Shape := ⟨5, ![1, 33, 128, 8, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x33x8x128x128 : Shape := ⟨5, ![1, 33, 8, 128, 128]⟩
abbrev S1x1x8x128x128 : Shape := ⟨5, ![1, 1, 8, 128, 128]⟩
abbrev S1x8 : Shape := ⟨2, ![1, 8]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x33x8x64x128 : Shape := ⟨5, ![1, 33, 8, 64, 128]⟩
abbrev S1x8x1x1 : Shape := ⟨4, ![1, 8, 1, 1]⟩
abbrev S1x1x8x64x128 : Shape := ⟨5, ![1, 1, 8, 64, 128]⟩
abbrev S1x11x8x64x128 : Shape := ⟨5, ![1, 11, 8, 64, 128]⟩
abbrev S1x1x8x1x1 : Shape := ⟨5, ![1, 1, 8, 1, 1]⟩
abbrev S1024 : Shape := ⟨1, ![1024]⟩
abbrev S1x4112x8 : Shape := ⟨3, ![1, 4112, 8]⟩
abbrev S1x4112x8x1 : Shape := ⟨4, ![1, 4112, 8, 1]⟩
abbrev S8x128 : Shape := ⟨2, ![8, 128]⟩
abbrev S1x1x8x128 : Shape := ⟨4, ![1, 1, 8, 128]⟩
abbrev S1x8x128 : Shape := ⟨3, ![1, 8, 128]⟩
abbrev S4112x8 : Shape := ⟨2, ![4112, 8]⟩
abbrev S1x33x8x128x64 : Shape := ⟨5, ![1, 33, 8, 128, 64]⟩
abbrev S4112x1024 : Shape := ⟨2, ![4112, 1024]⟩
abbrev S4224x1024 : Shape := ⟨2, ![4224, 1024]⟩
abbrev S4112x512 : Shape := ⟨2, ![4112, 512]⟩
abbrev S4224x512 : Shape := ⟨2, ![4224, 512]⟩

abbrev nBuf : Space → Nat
  | .hbm => 678
  | .vmem => 0
  | .smem => 0
  | _ => 0

abbrev hbmTy0_0 (i : Nat) : BufTy := match i % 128 with
  | 0 => ⟨S1x4112x512, .f32⟩
  | 1 => ⟨S1x4112x512, .f32⟩
  | 2 => ⟨S1x4112x1024, .f32⟩
  | 3 => ⟨S1x4112x1024, .f32⟩
  | 4 => ⟨S1x1024, .f32⟩
  | 5 => ⟨S1x4112x1024, .f32⟩
  | 6 => ⟨S4112, .i32⟩
  | 7 => ⟨S1x4112x8x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4112, .f32⟩
  | 17 => ⟨S4112x1, .f32⟩
  | 18 => ⟨S1x32, .f32⟩
  | 19 => ⟨S4112x32, .f32⟩
  | 20 => ⟨S4112x32, .f32⟩
  | 21 => ⟨S4112x32, .f32⟩
  | 22 => ⟨S4112x32, .f32⟩
  | 23 => ⟨S1x4112x1x32, .f32⟩
  | 24 => ⟨S4112x32, .f32⟩
  | 25 => ⟨S1x4112x1x32, .f32⟩
  | 26 => ⟨S1x4112x8x32, .f32⟩
  | 27 => ⟨S1x4112x8x32, .f32⟩
  | 28 => ⟨S1x4112x8x32, .f32⟩
  | 29 => ⟨S1x4112x8x32, .f32⟩
  | 30 => ⟨S1x4112x8x32, .f32⟩
  | 31 => ⟨S1x4112x8x32, .f32⟩
  | 32 => ⟨S1x4112x8x32, .f32⟩
  | 33 => ⟨S1x4112x8x32, .f32⟩
  | 34 => ⟨S1x4112x8x32, .f32⟩
  | 35 => ⟨S1x4112x8x32, .f32⟩
  | 36 => ⟨S1x4112x8x32, .f32⟩
  | 37 => ⟨S1x4112x8x32, .f32⟩
  | 38 => ⟨S1x4112x8x64, .f32⟩
  | 39 => ⟨S1x4112x8x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S4112, .f32⟩
  | 49 => ⟨S4112x1, .f32⟩
  | 50 => ⟨S1x32, .f32⟩
  | 51 => ⟨S4112x32, .f32⟩
  | 52 => ⟨S4112x32, .f32⟩
  | 53 => ⟨S4112x32, .f32⟩
  | 54 => ⟨S4112x32, .f32⟩
  | 55 => ⟨S1x4112x1x32, .f32⟩
  | 56 => ⟨S4112x32, .f32⟩
  | 57 => ⟨S1x4112x1x32, .f32⟩
  | 58 => ⟨S1x4112x8x32, .f32⟩
  | 59 => ⟨S1x4112x8x32, .f32⟩
  | 60 => ⟨S1x4112x8x32, .f32⟩
  | 61 => ⟨S1x4112x8x32, .f32⟩
  | 62 => ⟨S1x4112x8x32, .f32⟩
  | 63 => ⟨S1x4112x8x32, .f32⟩
  | 64 => ⟨S1x4112x8x32, .f32⟩
  | 65 => ⟨S1x4112x8x32, .f32⟩
  | 66 => ⟨S1x4112x8x32, .f32⟩
  | 67 => ⟨S1x4112x8x32, .f32⟩
  | 68 => ⟨S1x4112x8x32, .f32⟩
  | 69 => ⟨S1x4112x8x32, .f32⟩
  | 70 => ⟨S1x4112x8x64, .f32⟩
  | 71 => ⟨S_, .f32⟩
  | 72 => ⟨S1x4112x8x64, .f32⟩
  | 73 => ⟨S1x4112x8x64, .f32⟩
  | 74 => ⟨S1x4112x8x128, .f32⟩
  | 75 => ⟨S_, .f32⟩
  | 76 => ⟨S1x112x8x64, .f32⟩
  | 77 => ⟨S1x4224x8x64, .f32⟩
  | 78 => ⟨S_, .f32⟩
  | 79 => ⟨S1x112x8x64, .f32⟩
  | 80 => ⟨S_, .f32⟩
  | 81 => ⟨S1x112x8x64, .f32⟩
  | 82 => ⟨S1x4224x8x64, .f32⟩
  | 83 => ⟨S_, .f32⟩
  | 84 => ⟨S1x112x8x64, .f32⟩
  | 85 => ⟨S_, .f32⟩
  | 86 => ⟨S1x112x8x128, .f32⟩
  | 87 => ⟨S1x4224x8x128, .f32⟩
  | 88 => ⟨S_, .f32⟩
  | 89 => ⟨S1x112x8x128, .f32⟩
  | 90 => ⟨S1x33x128x8x64, .f32⟩
  | 91 => ⟨S1x33x128x8x64, .f32⟩
  | 92 => ⟨S1x33x128x8x128, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S8, .f32⟩
  | 101 => ⟨S8, .f32⟩
  | 102 => ⟨S8, .f32⟩
  | 103 => ⟨S128, .f32⟩
  | 104 => ⟨S128x1, .f32⟩
  | 105 => ⟨S1x128, .f32⟩
  | 106 => ⟨S128x128, .f32⟩
  | 107 => ⟨S128x128, .f32⟩
  | 108 => ⟨S128x128, .f32⟩
  | 109 => ⟨S1x128x128, .f32⟩
  | 110 => ⟨S_, .f32⟩
  | 111 => ⟨S1x128x128, .f32⟩
  | 112 => ⟨S1x128x128, .i1⟩
  | 113 => ⟨S_, .f32⟩
  | 114 => ⟨S128x128, .f32⟩
  | 115 => ⟨S128x128, .f32⟩
  | 116 => ⟨S1x128x128, .f32⟩
  | 117 => ⟨S8x1x1, .f32⟩
  | 118 => ⟨S8x128x128, .f32⟩
  | 119 => ⟨S8x128x128, .f32⟩
  | 120 => ⟨S8x128x128, .f32⟩
  | 121 => ⟨S8x128x128, .f32⟩
  | 122 => ⟨S_, .f32⟩
  | 123 => ⟨S_, .f32⟩
  | 124 => ⟨S8x128x128, .i1⟩
  | 125 => ⟨S8x128x128, .f32⟩
  | 126 => ⟨S8x128x128, .f32⟩
  | 127 => ⟨S1x33x8x128x128, .f32⟩
  | _ => ⟨S1x4112x512, .f32⟩

abbrev hbmTy0_1 (i : Nat) : BufTy := match i % 128 with
  | 0 => ⟨S1x1x8x128x128, .f32⟩
  | 1 => ⟨S1x33x8x128x128, .f32⟩
  | 2 => ⟨S1x33x8x128x128, .f32⟩
  | 3 => ⟨S1x33x8x128x128, .f32⟩
  | 4 => ⟨S1x33x128x8x128, .f32⟩
  | 5 => ⟨S_, .f32⟩
  | 6 => ⟨S128, .f32⟩
  | 7 => ⟨S128, .f32⟩
  | 8 => ⟨S128x1, .f32⟩
  | 9 => ⟨S1x8, .f32⟩
  | 10 => ⟨S128x8, .f32⟩
  | 11 => ⟨S128x8, .f32⟩
  | 12 => ⟨S128x8, .f32⟩
  | 13 => ⟨S128x8, .f32⟩
  | 14 => ⟨S128x8x1, .f32⟩
  | 15 => ⟨S1x1x128x8x1, .f32⟩
  | 16 => ⟨S1x33x128x8x64, .f32⟩
  | 17 => ⟨S1x33x128x8x64, .f32⟩
  | 18 => ⟨S1x33x8x64x128, .f32⟩
  | 19 => ⟨S_, .f32⟩
  | 20 => ⟨S8, .f32⟩
  | 21 => ⟨S8, .f32⟩
  | 22 => ⟨S8, .f32⟩
  | 23 => ⟨S1x8x1x1, .f32⟩
  | 24 => ⟨S_, .f32⟩
  | 25 => ⟨S1x1x8x64x128, .f32⟩
  | 26 => ⟨S1x11x8x64x128, .f32⟩
  | 27 => ⟨S1x11x8x64x128, .f32⟩
  | 28 => ⟨S1x11x8x64x128, .f32⟩
  | 29 => ⟨S1x1x8x64x128, .f32⟩
  | 30 => ⟨S1x1x8x64x128, .f32⟩
  | 31 => ⟨S1x1x8x64x128, .f32⟩
  | 32 => ⟨S1x1x8x64x128, .f32⟩
  | 33 => ⟨S1x1x8x64x128, .f32⟩
  | 34 => ⟨S1x1x8x64x128, .f32⟩
  | 35 => ⟨S1x1x8x64x128, .f32⟩
  | 36 => ⟨S1x1x8x64x128, .f32⟩
  | 37 => ⟨S1x1x8x64x128, .f32⟩
  | 38 => ⟨S1x1x8x64x128, .f32⟩
  | 39 => ⟨S1x1x8x64x128, .f32⟩
  | 40 => ⟨S1x1x8x1x1, .f32⟩
  | 41 => ⟨S1x1x8x64x128, .f32⟩
  | 42 => ⟨S1x1x8x64x128, .f32⟩
  | 43 => ⟨S1x1x8x64x128, .f32⟩
  | 44 => ⟨S1x1x8x1x1, .f32⟩
  | 45 => ⟨S1x1x8x64x128, .f32⟩
  | 46 => ⟨S1x1x8x64x128, .f32⟩
  | 47 => ⟨S1x1x8x64x128, .f32⟩
  | 48 => ⟨S1x1x8x1x1, .f32⟩
  | 49 => ⟨S1x1x8x64x128, .f32⟩
  | 50 => ⟨S1x1x8x64x128, .f32⟩
  | 51 => ⟨S1x1x8x64x128, .f32⟩
  | 52 => ⟨S1x1x8x1x1, .f32⟩
  | 53 => ⟨S1x1x8x64x128, .f32⟩
  | 54 => ⟨S1x1x8x64x128, .f32⟩
  | 55 => ⟨S1x1x8x64x128, .f32⟩
  | 56 => ⟨S1x1x8x1x1, .f32⟩
  | 57 => ⟨S1x1x8x64x128, .f32⟩
  | 58 => ⟨S1x1x8x64x128, .f32⟩
  | 59 => ⟨S1x1x8x64x128, .f32⟩
  | 60 => ⟨S1x1x8x1x1, .f32⟩
  | 61 => ⟨S1x1x8x64x128, .f32⟩
  | 62 => ⟨S1x1x8x64x128, .f32⟩
  | 63 => ⟨S1x1x8x64x128, .f32⟩
  | 64 => ⟨S1x1x8x1x1, .f32⟩
  | 65 => ⟨S1x1x8x64x128, .f32⟩
  | 66 => ⟨S1x1x8x64x128, .f32⟩
  | 67 => ⟨S1x1x8x64x128, .f32⟩
  | 68 => ⟨S1x1x8x1x1, .f32⟩
  | 69 => ⟨S1x1x8x64x128, .f32⟩
  | 70 => ⟨S1x1x8x64x128, .f32⟩
  | 71 => ⟨S1x1x8x64x128, .f32⟩
  | 72 => ⟨S1x1x8x1x1, .f32⟩
  | 73 => ⟨S1x1x8x64x128, .f32⟩
  | 74 => ⟨S1x1x8x64x128, .f32⟩
  | 75 => ⟨S1x1x8x64x128, .f32⟩
  | 76 => ⟨S1x1x8x1x1, .f32⟩
  | 77 => ⟨S1x1x8x64x128, .f32⟩
  | 78 => ⟨S1x1x8x64x128, .f32⟩
  | 79 => ⟨S1x1x8x64x128, .f32⟩
  | 80 => ⟨S1x1x8x1x1, .f32⟩
  | 81 => ⟨S1x1x8x64x128, .f32⟩
  | 82 => ⟨S1x1x8x64x128, .f32⟩
  | 83 => ⟨S1x1x8x64x128, .f32⟩
  | 84 => ⟨S1x1x8x64x128, .f32⟩
  | 85 => ⟨S1x1x8x64x128, .f32⟩
  | 86 => ⟨S1x1x8x64x128, .f32⟩
  | 87 => ⟨S1x1x8x64x128, .f32⟩
  | 88 => ⟨S1x1x8x64x128, .f32⟩
  | 89 => ⟨S1x1x8x64x128, .f32⟩
  | 90 => ⟨S1x1x8x64x128, .f32⟩
  | 91 => ⟨S1x1x8x64x128, .f32⟩
  | 92 => ⟨S1x1x8x64x128, .f32⟩
  | 93 => ⟨S1x1x8x64x128, .f32⟩
  | 94 => ⟨S1x1x8x64x128, .f32⟩
  | 95 => ⟨S1x1x8x1x1, .f32⟩
  | 96 => ⟨S1x1x8x64x128, .f32⟩
  | 97 => ⟨S1x1x8x64x128, .f32⟩
  | 98 => ⟨S1x1x8x64x128, .f32⟩
  | 99 => ⟨S1x1x8x1x1, .f32⟩
  | 100 => ⟨S1x1x8x64x128, .f32⟩
  | 101 => ⟨S1x1x8x64x128, .f32⟩
  | 102 => ⟨S1x1x8x64x128, .f32⟩
  | 103 => ⟨S1x1x8x1x1, .f32⟩
  | 104 => ⟨S1x1x8x64x128, .f32⟩
  | 105 => ⟨S1x1x8x64x128, .f32⟩
  | 106 => ⟨S1x1x8x64x128, .f32⟩
  | 107 => ⟨S1x1x8x1x1, .f32⟩
  | 108 => ⟨S1x1x8x64x128, .f32⟩
  | 109 => ⟨S1x1x8x64x128, .f32⟩
  | 110 => ⟨S1x1x8x64x128, .f32⟩
  | 111 => ⟨S1x1x8x1x1, .f32⟩
  | 112 => ⟨S1x1x8x64x128, .f32⟩
  | 113 => ⟨S1x1x8x64x128, .f32⟩
  | 114 => ⟨S1x1x8x64x128, .f32⟩
  | 115 => ⟨S1x1x8x1x1, .f32⟩
  | 116 => ⟨S1x1x8x64x128, .f32⟩
  | 117 => ⟨S1x1x8x64x128, .f32⟩
  | 118 => ⟨S1x1x8x64x128, .f32⟩
  | 119 => ⟨S1x1x8x1x1, .f32⟩
  | 120 => ⟨S1x1x8x64x128, .f32⟩
  | 121 => ⟨S1x1x8x64x128, .f32⟩
  | 122 => ⟨S1x1x8x64x128, .f32⟩
  | 123 => ⟨S1x1x8x1x1, .f32⟩
  | 124 => ⟨S1x1x8x64x128, .f32⟩
  | 125 => ⟨S1x1x8x64x128, .f32⟩
  | 126 => ⟨S1x1x8x64x128, .f32⟩
  | 127 => ⟨S1x1x8x1x1, .f32⟩
  | _ => ⟨S1x4112x512, .f32⟩

abbrev hbmTy0_2 (i : Nat) : BufTy := match i % 128 with
  | 0 => ⟨S1x1x8x64x128, .f32⟩
  | 1 => ⟨S1x1x8x64x128, .f32⟩
  | 2 => ⟨S1x1x8x64x128, .f32⟩
  | 3 => ⟨S1x1x8x1x1, .f32⟩
  | 4 => ⟨S1x1x8x64x128, .f32⟩
  | 5 => ⟨S1x1x8x64x128, .f32⟩
  | 6 => ⟨S1x1x8x64x128, .f32⟩
  | 7 => ⟨S1x1x8x1x1, .f32⟩
  | 8 => ⟨S1x1x8x64x128, .f32⟩
  | 9 => ⟨S1x1x8x64x128, .f32⟩
  | 10 => ⟨S1x1x8x64x128, .f32⟩
  | 11 => ⟨S1x1x8x64x128, .f32⟩
  | 12 => ⟨S1x1x8x64x128, .f32⟩
  | 13 => ⟨S1x1x8x64x128, .f32⟩
  | 14 => ⟨S1x1x8x64x128, .f32⟩
  | 15 => ⟨S1x1x8x64x128, .f32⟩
  | 16 => ⟨S1x1x8x64x128, .f32⟩
  | 17 => ⟨S1x1x8x64x128, .f32⟩
  | 18 => ⟨S1x1x8x64x128, .f32⟩
  | 19 => ⟨S1x1x8x64x128, .f32⟩
  | 20 => ⟨S1x1x8x64x128, .f32⟩
  | 21 => ⟨S1x1x8x64x128, .f32⟩
  | 22 => ⟨S1x1x8x1x1, .f32⟩
  | 23 => ⟨S1x1x8x64x128, .f32⟩
  | 24 => ⟨S1x1x8x64x128, .f32⟩
  | 25 => ⟨S1x1x8x64x128, .f32⟩
  | 26 => ⟨S1x1x8x1x1, .f32⟩
  | 27 => ⟨S1x1x8x64x128, .f32⟩
  | 28 => ⟨S1x1x8x64x128, .f32⟩
  | 29 => ⟨S1x1x8x64x128, .f32⟩
  | 30 => ⟨S1x1x8x1x1, .f32⟩
  | 31 => ⟨S1x1x8x64x128, .f32⟩
  | 32 => ⟨S1x1x8x64x128, .f32⟩
  | 33 => ⟨S1x1x8x64x128, .f32⟩
  | 34 => ⟨S1x1x8x1x1, .f32⟩
  | 35 => ⟨S1x1x8x64x128, .f32⟩
  | 36 => ⟨S1x1x8x64x128, .f32⟩
  | 37 => ⟨S1x1x8x64x128, .f32⟩
  | 38 => ⟨S1x1x8x1x1, .f32⟩
  | 39 => ⟨S1x1x8x64x128, .f32⟩
  | 40 => ⟨S1x1x8x64x128, .f32⟩
  | 41 => ⟨S1x1x8x64x128, .f32⟩
  | 42 => ⟨S1x1x8x1x1, .f32⟩
  | 43 => ⟨S1x1x8x64x128, .f32⟩
  | 44 => ⟨S1x1x8x64x128, .f32⟩
  | 45 => ⟨S1x1x8x64x128, .f32⟩
  | 46 => ⟨S1x1x8x1x1, .f32⟩
  | 47 => ⟨S1x1x8x64x128, .f32⟩
  | 48 => ⟨S1x1x8x64x128, .f32⟩
  | 49 => ⟨S1x1x8x64x128, .f32⟩
  | 50 => ⟨S1x1x8x1x1, .f32⟩
  | 51 => ⟨S1x1x8x64x128, .f32⟩
  | 52 => ⟨S1x1x8x64x128, .f32⟩
  | 53 => ⟨S1x1x8x64x128, .f32⟩
  | 54 => ⟨S1x1x8x1x1, .f32⟩
  | 55 => ⟨S1x1x8x64x128, .f32⟩
  | 56 => ⟨S1x1x8x64x128, .f32⟩
  | 57 => ⟨S1x1x8x64x128, .f32⟩
  | 58 => ⟨S1x1x8x1x1, .f32⟩
  | 59 => ⟨S1x1x8x64x128, .f32⟩
  | 60 => ⟨S1x1x8x64x128, .f32⟩
  | 61 => ⟨S1x1x8x64x128, .f32⟩
  | 62 => ⟨S1x1x8x1x1, .f32⟩
  | 63 => ⟨S1x1x8x64x128, .f32⟩
  | 64 => ⟨S1x1x8x64x128, .f32⟩
  | 65 => ⟨S1x1x8x64x128, .f32⟩
  | 66 => ⟨S1x11x8x64x128, .f32⟩
  | 67 => ⟨S_, .f32⟩
  | 68 => ⟨S1x1x8x64x128, .f32⟩
  | 69 => ⟨S1x11x8x64x128, .f32⟩
  | 70 => ⟨S1x11x8x64x128, .f32⟩
  | 71 => ⟨S1x33x8x64x128, .f32⟩
  | 72 => ⟨S_, .f32⟩
  | 73 => ⟨S128, .f32⟩
  | 74 => ⟨S128, .f32⟩
  | 75 => ⟨S128x1, .f32⟩
  | 76 => ⟨S1x8, .f32⟩
  | 77 => ⟨S128x8, .f32⟩
  | 78 => ⟨S128x8, .f32⟩
  | 79 => ⟨S128x8, .f32⟩
  | 80 => ⟨S128x8, .f32⟩
  | 81 => ⟨S128x8x1, .f32⟩
  | 82 => ⟨S1x1x128x8x1, .f32⟩
  | 83 => ⟨S1x33x128x8x64, .f32⟩
  | 84 => ⟨S1x33x128x8x64, .f32⟩
  | 85 => ⟨S1x33x8x128x128, .f32⟩
  | 86 => ⟨S1x33x128x8x128, .f32⟩
  | 87 => ⟨S1x33x128x8x128, .f32⟩
  | 88 => ⟨S1x4224x8x128, .f32⟩
  | 89 => ⟨S1x4112x8x128, .f32⟩
  | 90 => ⟨S1024, .f32⟩
  | 91 => ⟨S_, .f32⟩
  | 92 => ⟨S1x4112x8, .f32⟩
  | 93 => ⟨S1x4112x8x1, .f32⟩
  | 94 => ⟨S_, .f32⟩
  | 95 => ⟨S1x4112x8x1, .f32⟩
  | 96 => ⟨S1x4112x8x1, .f32⟩
  | 97 => ⟨S1x4112x8x128, .f32⟩
  | 98 => ⟨S1x4112x8x128, .f32⟩
  | 99 => ⟨S1x4112x8x128, .f32⟩
  | 100 => ⟨S_, .f32⟩
  | 101 => ⟨S1x4112x8, .f32⟩
  | 102 => ⟨S1x4112x8x1, .f32⟩
  | 103 => ⟨S_, .f32⟩
  | 104 => ⟨S1x4112x8x1, .f32⟩
  | 105 => ⟨S1x4112x8x1, .f32⟩
  | 106 => ⟨S_, .f32⟩
  | 107 => ⟨S1x4112x8x1, .f32⟩
  | 108 => ⟨S1x4112x8x1, .f32⟩
  | 109 => ⟨S1x4112x8x1, .f32⟩
  | 110 => ⟨S1x4112x8x1, .f32⟩
  | 111 => ⟨S_, .f32⟩
  | 112 => ⟨S1x4112x8x1, .f32⟩
  | 113 => ⟨S1x4112x8x1, .f32⟩
  | 114 => ⟨S1x4112x8x128, .f32⟩
  | 115 => ⟨S1x4112x8x128, .f32⟩
  | 116 => ⟨S8x128, .f32⟩
  | 117 => ⟨S1x1x8x128, .f32⟩
  | 118 => ⟨S1x4112x8x128, .f32⟩
  | 119 => ⟨S1x4112x8x128, .f32⟩
  | 120 => ⟨S1x4112x1024, .f32⟩
  | 121 => ⟨S1x4112x1024, .f32⟩
  | 122 => ⟨S1x4112x1024, .f32⟩
  | 123 => ⟨S_, .f32⟩
  | 124 => ⟨S1x4112x1024, .f32⟩
  | 125 => ⟨S1x4112x1024, .f32⟩
  | 126 => ⟨S_, .f32⟩
  | 127 => ⟨S1x4112x1024, .f32⟩
  | _ => ⟨S1x4112x512, .f32⟩

abbrev hbmTy0_3 (i : Nat) : BufTy := match i % 128 with
  | 0 => ⟨S1x4112x1024, .f32⟩
  | 1 => ⟨S_, .f32⟩
  | 2 => ⟨S1x4112x1024, .f32⟩
  | 3 => ⟨S1x4112x1024, .f32⟩
  | 4 => ⟨S1x4112x1024, .f32⟩
  | 5 => ⟨S1x4112x1024, .f32⟩
  | 6 => ⟨S1x4112x1024, .f32⟩
  | 7 => ⟨S1x4112x1024, .f32⟩
  | 8 => ⟨S1x4112x1024, .f32⟩
  | 9 => ⟨S1x4112x1024, .f32⟩
  | 10 => ⟨S1x4112x1024, .f32⟩
  | 11 => ⟨S1x4112x1024, .f32⟩
  | 12 => ⟨S1x4112x1024, .f32⟩
  | 13 => ⟨S1x4112x8x128, .f32⟩
  | 14 => ⟨S1x4112x8x128, .f32⟩
  | 15 => ⟨S_, .f32⟩
  | 16 => ⟨S1x8x128, .f32⟩
  | 17 => ⟨S1x1x8x128, .f32⟩
  | 18 => ⟨S1x4112x8x128, .f32⟩
  | 19 => ⟨S1x4112x8x128, .f32⟩
  | 20 => ⟨S_, .f32⟩
  | 21 => ⟨S8x128, .f32⟩
  | 22 => ⟨S1024, .f32⟩
  | 23 => ⟨S1x4112x8x128, .f32⟩
  | 24 => ⟨S_, .f32⟩
  | 25 => ⟨S1x4112x8, .f32⟩
  | 26 => ⟨S1x4112x8x1, .f32⟩
  | 27 => ⟨S1x4112x8x128, .f32⟩
  | 28 => ⟨S1x4112x8x128, .f32⟩
  | 29 => ⟨S1x4112x8x1, .f32⟩
  | 30 => ⟨S_, .f32⟩
  | 31 => ⟨S1x4112x8x1, .f32⟩
  | 32 => ⟨S1x4112x8x1, .f32⟩
  | 33 => ⟨S_, .f32⟩
  | 34 => ⟨S4112x8, .f32⟩
  | 35 => ⟨S1x4112x8, .f32⟩
  | 36 => ⟨S1x4112x8x128, .f32⟩
  | 37 => ⟨S1x4112x8x128, .f32⟩
  | 38 => ⟨S1x4112x8x128, .f32⟩
  | 39 => ⟨S1x4112x8x128, .f32⟩
  | 40 => ⟨S1x4112x8x128, .f32⟩
  | 41 => ⟨S1x4112x8x128, .f32⟩
  | 42 => ⟨S_, .f32⟩
  | 43 => ⟨S1x4112x8, .f32⟩
  | 44 => ⟨S1x4112x8x1, .f32⟩
  | 45 => ⟨S_, .f32⟩
  | 46 => ⟨S1x4112x8x1, .f32⟩
  | 47 => ⟨S1x4112x8x1, .f32⟩
  | 48 => ⟨S_, .f32⟩
  | 49 => ⟨S4112x8, .f32⟩
  | 50 => ⟨S1x4112x8, .f32⟩
  | 51 => ⟨S1x4112x8x128, .f32⟩
  | 52 => ⟨S1x4112x8x128, .f32⟩
  | 53 => ⟨S1x1024, .f32⟩
  | 54 => ⟨S_, .f32⟩
  | 55 => ⟨S1x4224x8x128, .f32⟩
  | 56 => ⟨S1x33x128x8x128, .f32⟩
  | 57 => ⟨S1x33x8x128x128, .f32⟩
  | 58 => ⟨S1x33x8x128x64, .f32⟩
  | 59 => ⟨S1x33x128x8x64, .f32⟩
  | 60 => ⟨S1x33x8x128x64, .f32⟩
  | 61 => ⟨S1x33x8x64x128, .f32⟩
  | 62 => ⟨S1x33x128x8x64, .f32⟩
  | 63 => ⟨S1x33x128x8x64, .f32⟩
  | 64 => ⟨S1x11x8x64x128, .f32⟩
  | 65 => ⟨S1x11x8x64x128, .f32⟩
  | 66 => ⟨S1x11x8x64x128, .f32⟩
  | 67 => ⟨S1x1x8x64x128, .f32⟩
  | 68 => ⟨S1x1x8x64x128, .f32⟩
  | 69 => ⟨S1x1x8x64x128, .f32⟩
  | 70 => ⟨S1x1x8x64x128, .f32⟩
  | 71 => ⟨S1x1x8x64x128, .f32⟩
  | 72 => ⟨S1x1x8x64x128, .f32⟩
  | 73 => ⟨S1x1x8x64x128, .f32⟩
  | 74 => ⟨S1x1x8x64x128, .f32⟩
  | 75 => ⟨S1x1x8x64x128, .f32⟩
  | 76 => ⟨S1x1x8x64x128, .f32⟩
  | 77 => ⟨S1x1x8x64x128, .f32⟩
  | 78 => ⟨S1x1x8x64x128, .f32⟩
  | 79 => ⟨S1x1x8x64x128, .f32⟩
  | 80 => ⟨S1x1x8x64x128, .f32⟩
  | 81 => ⟨S1x1x8x64x128, .f32⟩
  | 82 => ⟨S1x1x8x64x128, .f32⟩
  | 83 => ⟨S1x1x8x64x128, .f32⟩
  | 84 => ⟨S1x1x8x64x128, .f32⟩
  | 85 => ⟨S1x1x8x64x128, .f32⟩
  | 86 => ⟨S1x1x8x64x128, .f32⟩
  | 87 => ⟨S1x1x8x64x128, .f32⟩
  | 88 => ⟨S1x1x8x64x128, .f32⟩
  | 89 => ⟨S1x1x8x64x128, .f32⟩
  | 90 => ⟨S1x1x8x64x128, .f32⟩
  | 91 => ⟨S1x1x8x64x128, .f32⟩
  | 92 => ⟨S1x1x8x64x128, .f32⟩
  | 93 => ⟨S1x1x8x64x128, .f32⟩
  | 94 => ⟨S1x1x8x64x128, .f32⟩
  | 95 => ⟨S1x1x8x64x128, .f32⟩
  | 96 => ⟨S1x1x8x64x128, .f32⟩
  | 97 => ⟨S1x1x8x64x128, .f32⟩
  | 98 => ⟨S1x1x8x64x128, .f32⟩
  | 99 => ⟨S1x1x8x64x128, .f32⟩
  | 100 => ⟨S1x1x8x64x128, .f32⟩
  | 101 => ⟨S1x1x8x64x128, .f32⟩
  | 102 => ⟨S1x1x8x64x128, .f32⟩
  | 103 => ⟨S1x1x8x64x128, .f32⟩
  | 104 => ⟨S1x1x8x64x128, .f32⟩
  | 105 => ⟨S1x1x8x64x128, .f32⟩
  | 106 => ⟨S1x1x8x64x128, .f32⟩
  | 107 => ⟨S1x1x8x64x128, .f32⟩
  | 108 => ⟨S1x1x8x64x128, .f32⟩
  | 109 => ⟨S1x1x8x64x128, .f32⟩
  | 110 => ⟨S1x1x8x64x128, .f32⟩
  | 111 => ⟨S1x1x8x64x128, .f32⟩
  | 112 => ⟨S1x1x8x64x128, .f32⟩
  | 113 => ⟨S1x1x8x64x128, .f32⟩
  | 114 => ⟨S1x1x8x64x128, .f32⟩
  | 115 => ⟨S1x1x8x64x128, .f32⟩
  | 116 => ⟨S1x1x8x64x128, .f32⟩
  | 117 => ⟨S1x1x8x64x128, .f32⟩
  | 118 => ⟨S1x1x8x64x128, .f32⟩
  | 119 => ⟨S1x1x8x64x128, .f32⟩
  | 120 => ⟨S1x1x8x64x128, .f32⟩
  | 121 => ⟨S1x1x8x64x128, .f32⟩
  | 122 => ⟨S1x1x8x64x128, .f32⟩
  | 123 => ⟨S1x1x8x64x128, .f32⟩
  | 124 => ⟨S1x1x8x64x128, .f32⟩
  | 125 => ⟨S1x1x8x64x128, .f32⟩
  | 126 => ⟨S1x1x8x64x128, .f32⟩
  | 127 => ⟨S1x1x8x64x128, .f32⟩
  | _ => ⟨S1x4112x512, .f32⟩

abbrev hbmTy0_4 (i : Nat) : BufTy := match i % 128 with
  | 0 => ⟨S1x1x8x64x128, .f32⟩
  | 1 => ⟨S1x1x8x64x128, .f32⟩
  | 2 => ⟨S_, .f32⟩
  | 3 => ⟨S1x1x8x64x128, .f32⟩
  | 4 => ⟨S1x11x8x64x128, .f32⟩
  | 5 => ⟨S1x1x8x64x128, .f32⟩
  | 6 => ⟨S1x1x8x64x128, .f32⟩
  | 7 => ⟨S1x1x8x64x128, .f32⟩
  | 8 => ⟨S1x1x8x64x128, .f32⟩
  | 9 => ⟨S1x1x8x64x128, .f32⟩
  | 10 => ⟨S1x1x8x64x128, .f32⟩
  | 11 => ⟨S1x1x8x64x128, .f32⟩
  | 12 => ⟨S1x1x8x64x128, .f32⟩
  | 13 => ⟨S1x1x8x64x128, .f32⟩
  | 14 => ⟨S1x1x8x64x128, .f32⟩
  | 15 => ⟨S1x1x8x64x128, .f32⟩
  | 16 => ⟨S1x1x8x64x128, .f32⟩
  | 17 => ⟨S1x1x8x64x128, .f32⟩
  | 18 => ⟨S1x1x8x64x128, .f32⟩
  | 19 => ⟨S1x1x8x64x128, .f32⟩
  | 20 => ⟨S1x1x8x64x128, .f32⟩
  | 21 => ⟨S1x1x8x64x128, .f32⟩
  | 22 => ⟨S1x1x8x64x128, .f32⟩
  | 23 => ⟨S1x1x8x64x128, .f32⟩
  | 24 => ⟨S1x1x8x64x128, .f32⟩
  | 25 => ⟨S1x1x8x64x128, .f32⟩
  | 26 => ⟨S1x1x8x64x128, .f32⟩
  | 27 => ⟨S1x1x8x64x128, .f32⟩
  | 28 => ⟨S1x1x8x64x128, .f32⟩
  | 29 => ⟨S1x1x8x64x128, .f32⟩
  | 30 => ⟨S1x1x8x64x128, .f32⟩
  | 31 => ⟨S1x1x8x64x128, .f32⟩
  | 32 => ⟨S1x1x8x64x128, .f32⟩
  | 33 => ⟨S1x1x8x64x128, .f32⟩
  | 34 => ⟨S1x1x8x64x128, .f32⟩
  | 35 => ⟨S1x1x8x64x128, .f32⟩
  | 36 => ⟨S1x1x8x64x128, .f32⟩
  | 37 => ⟨S1x1x8x64x128, .f32⟩
  | 38 => ⟨S1x11x8x64x128, .f32⟩
  | 39 => ⟨S1x1x8x64x128, .f32⟩
  | 40 => ⟨S1x1x8x64x128, .f32⟩
  | 41 => ⟨S1x1x8x64x128, .f32⟩
  | 42 => ⟨S1x1x8x64x128, .f32⟩
  | 43 => ⟨S1x1x8x64x128, .f32⟩
  | 44 => ⟨S1x1x8x64x128, .f32⟩
  | 45 => ⟨S1x1x8x64x128, .f32⟩
  | 46 => ⟨S1x1x8x64x128, .f32⟩
  | 47 => ⟨S1x1x8x64x128, .f32⟩
  | 48 => ⟨S1x1x8x64x128, .f32⟩
  | 49 => ⟨S1x1x8x64x128, .f32⟩
  | 50 => ⟨S1x1x8x64x128, .f32⟩
  | 51 => ⟨S1x1x8x64x128, .f32⟩
  | 52 => ⟨S1x1x8x64x128, .f32⟩
  | 53 => ⟨S1x1x8x64x128, .f32⟩
  | 54 => ⟨S1x1x8x64x128, .f32⟩
  | 55 => ⟨S1x1x8x64x128, .f32⟩
  | 56 => ⟨S1x1x8x64x128, .f32⟩
  | 57 => ⟨S1x1x8x64x128, .f32⟩
  | 58 => ⟨S1x1x8x64x128, .f32⟩
  | 59 => ⟨S1x1x8x64x128, .f32⟩
  | 60 => ⟨S1x1x8x64x128, .f32⟩
  | 61 => ⟨S1x1x8x64x128, .f32⟩
  | 62 => ⟨S1x1x8x64x128, .f32⟩
  | 63 => ⟨S1x1x8x64x128, .f32⟩
  | 64 => ⟨S1x1x8x64x128, .f32⟩
  | 65 => ⟨S1x1x8x64x128, .f32⟩
  | 66 => ⟨S1x1x8x64x128, .f32⟩
  | 67 => ⟨S1x1x8x64x128, .f32⟩
  | 68 => ⟨S1x1x8x64x128, .f32⟩
  | 69 => ⟨S1x11x8x64x128, .f32⟩
  | 70 => ⟨S1x33x8x64x128, .f32⟩
  | 71 => ⟨S1x33x8x128x128, .f32⟩
  | 72 => ⟨S1x33x128x8x128, .f32⟩
  | 73 => ⟨S1x33x8x64x128, .f32⟩
  | 74 => ⟨S1x33x128x8x64, .f32⟩
  | 75 => ⟨S1x33x128x8x64, .f32⟩
  | 76 => ⟨S1x33x128x8x64, .f32⟩
  | 77 => ⟨S1x33x8x128x128, .f32⟩
  | 78 => ⟨S1x33x8x128x128, .f32⟩
  | 79 => ⟨S1x33x8x128x128, .f32⟩
  | 80 => ⟨S1x33x128x8x128, .f32⟩
  | 81 => ⟨S1x33x128x8x128, .f32⟩
  | 82 => ⟨S1x33x8x128x128, .f32⟩
  | 83 => ⟨S1x33x8x128x128, .f32⟩
  | 84 => ⟨S1x33x8x128x64, .f32⟩
  | 85 => ⟨S1x33x128x8x64, .f32⟩
  | 86 => ⟨S1x33x128x8x64, .f32⟩
  | 87 => ⟨S1x33x8x128x64, .f32⟩
  | 88 => ⟨S1x33x128x8x64, .f32⟩
  | 89 => ⟨S1x33x128x8x64, .f32⟩
  | 90 => ⟨S1x4224x8x128, .f32⟩
  | 91 => ⟨S1x4224x8x64, .f32⟩
  | 92 => ⟨S1x4224x8x64, .f32⟩
  | 93 => ⟨S1x112x8x128, .f32⟩
  | 94 => ⟨S1x4112x8x128, .f32⟩
  | 95 => ⟨S1x112x8x64, .f32⟩
  | 96 => ⟨S1x4112x8x64, .f32⟩
  | 97 => ⟨S1x112x8x64, .f32⟩
  | 98 => ⟨S1x4112x8x64, .f32⟩
  | 99 => ⟨S1x4112x1024, .f32⟩
  | 100 => ⟨S_, .f32⟩
  | 101 => ⟨S1x4112x8x64, .f32⟩
  | 102 => ⟨S1x4112x8x64, .f32⟩
  | 103 => ⟨S1x4112x8x32, .f32⟩
  | 104 => ⟨S1x4112x8x32, .f32⟩
  | 105 => ⟨S1x4112x8x32, .f32⟩
  | 106 => ⟨S1x4112x8x32, .f32⟩
  | 107 => ⟨S1x4112x8x32, .f32⟩
  | 108 => ⟨S1x4112x8x32, .f32⟩
  | 109 => ⟨S1x4112x8x32, .f32⟩
  | 110 => ⟨S1x4112x8x32, .f32⟩
  | 111 => ⟨S1x4112x8x32, .f32⟩
  | 112 => ⟨S1x4112x8x32, .f32⟩
  | 113 => ⟨S1x4112x8x32, .f32⟩
  | 114 => ⟨S1x4112x8x32, .f32⟩
  | 115 => ⟨S1x4112x8x32, .f32⟩
  | 116 => ⟨S_, .f32⟩
  | 117 => ⟨S1x4112x8x64, .f32⟩
  | 118 => ⟨S_, .f32⟩
  | 119 => ⟨S1x4112x8x64, .f32⟩
  | 120 => ⟨S1x4112x8x64, .f32⟩
  | 121 => ⟨S1x4112x512, .f32⟩
  | 122 => ⟨S1x4112x8x32, .f32⟩
  | 123 => ⟨S1x4112x8x32, .f32⟩
  | 124 => ⟨S1x4112x8x32, .f32⟩
  | 125 => ⟨S1x4112x8x32, .f32⟩
  | 126 => ⟨S1x4112x8x32, .f32⟩
  | 127 => ⟨S1x4112x8x32, .f32⟩
  | _ => ⟨S1x4112x512, .f32⟩

abbrev hbmTy0_5 (i : Nat) : BufTy := match i % 128 with
  | 0 => ⟨S1x4112x8x32, .f32⟩
  | 1 => ⟨S1x4112x8x32, .f32⟩
  | 2 => ⟨S1x4112x8x32, .f32⟩
  | 3 => ⟨S1x4112x8x32, .f32⟩
  | 4 => ⟨S1x4112x8x32, .f32⟩
  | 5 => ⟨S1x4112x8x32, .f32⟩
  | 6 => ⟨S1x4112x8x32, .f32⟩
  | 7 => ⟨S_, .f32⟩
  | 8 => ⟨S1x4112x8x64, .f32⟩
  | 9 => ⟨S_, .f32⟩
  | 10 => ⟨S1x4112x8x64, .f32⟩
  | 11 => ⟨S1x4112x8x64, .f32⟩
  | 12 => ⟨S1x4112x512, .f32⟩
  | 13 => ⟨S4112x1024, .f32⟩
  | 14 => ⟨S_, .i32⟩
  | 15 => ⟨S_, .f32⟩
  | 16 => ⟨S4224x1024, .f32⟩
  | 17 => ⟨S4224x1024, .bf16⟩
  | 18 => ⟨S4112x512, .f32⟩
  | 19 => ⟨S_, .i32⟩
  | 20 => ⟨S_, .f32⟩
  | 21 => ⟨S4224x512, .f32⟩
  | 22 => ⟨S4224x512, .bf16⟩
  | 23 => ⟨S4112x512, .f32⟩
  | 24 => ⟨S_, .i32⟩
  | 25 => ⟨S_, .f32⟩
  | 26 => ⟨S4224x512, .f32⟩
  | 27 => ⟨S4224x512, .bf16⟩
  | 28 => ⟨S4112x1024, .f32⟩
  | 29 => ⟨S_, .i32⟩
  | 30 => ⟨S_, .f32⟩
  | 31 => ⟨S4224x1024, .f32⟩
  | 32 => ⟨S4224x1024, .bf16⟩
  | 33 => ⟨S4112x1024, .f32⟩
  | 34 => ⟨S_, .i32⟩
  | 35 => ⟨S_, .f32⟩
  | 36 => ⟨S4224x1024, .f32⟩
  | 37 => ⟨S4224x1024, .bf16⟩
  | _ => ⟨S1x4112x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x4112x512, .f32⟩

abbrev bufTy : (tb : Table) → Fin (tcTables nBuf tb) → BufTy
  | .hbm, ⟨i, _⟩ => hbmTy i
  | _, _ => ⟨S1x4112x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_3 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_4 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_12 : Ref sig .tc := ⟨.hbm, 110, rfl⟩
abbrev main_v91 : Ref sig .tc := ⟨.hbm, 111, rfl⟩
abbrev main_v92 : Ref sig .tc := ⟨.hbm, 112, rfl⟩
abbrev main_cst_13 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_14 : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_15 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_16 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_17 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_cst_18 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_cst_19 : Ref sig .tc := ⟨.hbm, 328, rfl⟩
abbrev main_v299 : Ref sig .tc := ⟨.hbm, 329, rfl⟩
abbrev main_v300 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_v306 : Ref sig .tc := ⟨.hbm, 336, rfl⟩
abbrev main_v307 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_v313 : Ref sig .tc := ⟨.hbm, 343, rfl⟩
abbrev main_v314 : Ref sig .tc := ⟨.hbm, 344, rfl⟩
abbrev main_v315 : Ref sig .tc := ⟨.hbm, 345, rfl⟩
abbrev main_v316 : Ref sig .tc := ⟨.hbm, 346, rfl⟩
abbrev main_cst_20 : Ref sig .tc := ⟨.hbm, 347, rfl⟩
abbrev main_v317 : Ref sig .tc := ⟨.hbm, 348, rfl⟩
abbrev main_v318 : Ref sig .tc := ⟨.hbm, 349, rfl⟩
abbrev main_cst_21 : Ref sig .tc := ⟨.hbm, 350, rfl⟩
abbrev main_v319 : Ref sig .tc := ⟨.hbm, 351, rfl⟩
abbrev main_v320 : Ref sig .tc := ⟨.hbm, 352, rfl⟩
abbrev main_v321 : Ref sig .tc := ⟨.hbm, 353, rfl⟩
abbrev main_v322 : Ref sig .tc := ⟨.hbm, 354, rfl⟩
abbrev main_v323 : Ref sig .tc := ⟨.hbm, 355, rfl⟩
abbrev main_cst_22 : Ref sig .tc := ⟨.hbm, 356, rfl⟩
abbrev main_v324 : Ref sig .tc := ⟨.hbm, 357, rfl⟩
abbrev main_v325 : Ref sig .tc := ⟨.hbm, 358, rfl⟩
abbrev main_cst_23 : Ref sig .tc := ⟨.hbm, 359, rfl⟩
abbrev main_v326 : Ref sig .tc := ⟨.hbm, 360, rfl⟩
abbrev main_v327 : Ref sig .tc := ⟨.hbm, 361, rfl⟩
abbrev main_cst_24 : Ref sig .tc := ⟨.hbm, 362, rfl⟩
abbrev main_v328 : Ref sig .tc := ⟨.hbm, 363, rfl⟩
abbrev main_v329 : Ref sig .tc := ⟨.hbm, 364, rfl⟩
abbrev main_v330 : Ref sig .tc := ⟨.hbm, 365, rfl⟩
abbrev main_v331 : Ref sig .tc := ⟨.hbm, 366, rfl⟩
abbrev main_cst_25 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩
abbrev main_v335 : Ref sig .tc := ⟨.hbm, 371, rfl⟩
abbrev main_v336 : Ref sig .tc := ⟨.hbm, 372, rfl⟩
abbrev main_v337 : Ref sig .tc := ⟨.hbm, 373, rfl⟩
abbrev main_v338 : Ref sig .tc := ⟨.hbm, 374, rfl⟩
abbrev main_v339 : Ref sig .tc := ⟨.hbm, 375, rfl⟩
abbrev main_v340 : Ref sig .tc := ⟨.hbm, 376, rfl⟩
abbrev main_call1_v0 : Ref sig .tc := ⟨.hbm, 377, rfl⟩
abbrev main_call1_v1 : Ref sig .tc := ⟨.hbm, 378, rfl⟩
abbrev main_call1_cst : Ref sig .tc := ⟨.hbm, 379, rfl⟩
abbrev main_call1_v2 : Ref sig .tc := ⟨.hbm, 380, rfl⟩
abbrev main_call1_v3 : Ref sig .tc := ⟨.hbm, 381, rfl⟩
abbrev main_call1_cst_0 : Ref sig .tc := ⟨.hbm, 382, rfl⟩
abbrev main_call1_v4 : Ref sig .tc := ⟨.hbm, 383, rfl⟩
abbrev main_v341_2 : Ref sig .tc := ⟨.hbm, 384, rfl⟩
abbrev main_call1_cst_1 : Ref sig .tc := ⟨.hbm, 385, rfl⟩
abbrev main_call1_v6 : Ref sig .tc := ⟨.hbm, 386, rfl⟩
abbrev main_call1_v7 : Ref sig .tc := ⟨.hbm, 387, rfl⟩
abbrev main_v341_1 : Ref sig .tc := ⟨.hbm, 388, rfl⟩
abbrev main_v341_0 : Ref sig .tc := ⟨.hbm, 389, rfl⟩
abbrev main_v342 : Ref sig .tc := ⟨.hbm, 390, rfl⟩
abbrev main_v343 : Ref sig .tc := ⟨.hbm, 391, rfl⟩
abbrev main_v344 : Ref sig .tc := ⟨.hbm, 392, rfl⟩
abbrev main_call2_v0 : Ref sig .tc := ⟨.hbm, 393, rfl⟩
abbrev main_call2_v1 : Ref sig .tc := ⟨.hbm, 394, rfl⟩
abbrev main_call2_v2 : Ref sig .tc := ⟨.hbm, 395, rfl⟩
abbrev main_v345 : Ref sig .tc := ⟨.hbm, 396, rfl⟩
abbrev main_v346 : Ref sig .tc := ⟨.hbm, 397, rfl⟩
abbrev main_v347 : Ref sig .tc := ⟨.hbm, 398, rfl⟩
abbrev main_cst_26 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_cst_27 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_cst_28 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_cst_29 : Ref sig .tc := ⟨.hbm, 414, rfl⟩
abbrev main_v360 : Ref sig .tc := ⟨.hbm, 415, rfl⟩
abbrev main_v361 : Ref sig .tc := ⟨.hbm, 416, rfl⟩
abbrev main_cst_30 : Ref sig .tc := ⟨.hbm, 417, rfl⟩
abbrev main_v362 : Ref sig .tc := ⟨.hbm, 418, rfl⟩
abbrev main_v363 : Ref sig .tc := ⟨.hbm, 419, rfl⟩
abbrev main_v364 : Ref sig .tc := ⟨.hbm, 420, rfl⟩
abbrev main_v365 : Ref sig .tc := ⟨.hbm, 421, rfl⟩
abbrev main_v366 : Ref sig .tc := ⟨.hbm, 422, rfl⟩
abbrev main_v367 : Ref sig .tc := ⟨.hbm, 423, rfl⟩
abbrev main_v368 : Ref sig .tc := ⟨.hbm, 424, rfl⟩
abbrev main_v369 : Ref sig .tc := ⟨.hbm, 425, rfl⟩
abbrev main_cst_31 : Ref sig .tc := ⟨.hbm, 426, rfl⟩
abbrev main_v370 : Ref sig .tc := ⟨.hbm, 427, rfl⟩
abbrev main_v371 : Ref sig .tc := ⟨.hbm, 428, rfl⟩
abbrev main_cst_32 : Ref sig .tc := ⟨.hbm, 429, rfl⟩
abbrev main_v372 : Ref sig .tc := ⟨.hbm, 430, rfl⟩
abbrev main_v373 : Ref sig .tc := ⟨.hbm, 431, rfl⟩
abbrev main_cst_33 : Ref sig .tc := ⟨.hbm, 432, rfl⟩
abbrev main_v374 : Ref sig .tc := ⟨.hbm, 433, rfl⟩
abbrev main_v375 : Ref sig .tc := ⟨.hbm, 434, rfl⟩
abbrev main_v376 : Ref sig .tc := ⟨.hbm, 435, rfl⟩
abbrev main_v377 : Ref sig .tc := ⟨.hbm, 436, rfl⟩
abbrev main_v378 : Ref sig .tc := ⟨.hbm, 437, rfl⟩
abbrev main_cst_34 : Ref sig .tc := ⟨.hbm, 438, rfl⟩
abbrev main_v379 : Ref sig .tc := ⟨.hbm, 439, rfl⟩
abbrev main_v380 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_v384 : Ref sig .tc := ⟨.hbm, 444, rfl⟩
abbrev main_v385 : Ref sig .tc := ⟨.hbm, 445, rfl⟩
abbrev main_v386 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_v393 : Ref sig .tc := ⟨.hbm, 453, rfl⟩
abbrev main_v394 : Ref sig .tc := ⟨.hbm, 454, rfl⟩
abbrev main_v395 : Ref sig .tc := ⟨.hbm, 455, rfl⟩
abbrev main_v396 : Ref sig .tc := ⟨.hbm, 456, rfl⟩
abbrev main_v397 : Ref sig .tc := ⟨.hbm, 457, rfl⟩
abbrev main_v398 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_v403 : Ref sig .tc := ⟨.hbm, 463, rfl⟩
abbrev main_v404 : Ref sig .tc := ⟨.hbm, 464, rfl⟩
abbrev main_v405 : Ref sig .tc := ⟨.hbm, 465, rfl⟩
abbrev main_v406 : Ref sig .tc := ⟨.hbm, 466, rfl⟩
abbrev main_v407 : Ref sig .tc := ⟨.hbm, 467, rfl⟩
abbrev main_v408 : Ref sig .tc := ⟨.hbm, 468, rfl⟩
abbrev main_v409 : Ref sig .tc := ⟨.hbm, 469, rfl⟩
abbrev main_v410 : Ref sig .tc := ⟨.hbm, 470, rfl⟩
abbrev main_v411 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_v415 : Ref sig .tc := ⟨.hbm, 475, rfl⟩
abbrev main_v416 : Ref sig .tc := ⟨.hbm, 476, rfl⟩
abbrev main_v417 : Ref sig .tc := ⟨.hbm, 477, rfl⟩
abbrev main_v418 : Ref sig .tc := ⟨.hbm, 478, rfl⟩
abbrev main_v419 : Ref sig .tc := ⟨.hbm, 479, rfl⟩
abbrev main_v420 : Ref sig .tc := ⟨.hbm, 480, rfl⟩
abbrev main_v421 : Ref sig .tc := ⟨.hbm, 481, rfl⟩
abbrev main_v422 : Ref sig .tc := ⟨.hbm, 482, rfl⟩
abbrev main_v423 : Ref sig .tc := ⟨.hbm, 483, rfl⟩
abbrev main_v424 : Ref sig .tc := ⟨.hbm, 484, rfl⟩
abbrev main_v425 : Ref sig .tc := ⟨.hbm, 485, rfl⟩
abbrev main_v426 : Ref sig .tc := ⟨.hbm, 486, rfl⟩
abbrev main_v427 : Ref sig .tc := ⟨.hbm, 487, rfl⟩
abbrev main_v428 : Ref sig .tc := ⟨.hbm, 488, rfl⟩
abbrev main_v429 : Ref sig .tc := ⟨.hbm, 489, rfl⟩
abbrev main_v430 : Ref sig .tc := ⟨.hbm, 490, rfl⟩
abbrev main_v431 : Ref sig .tc := ⟨.hbm, 491, rfl⟩
abbrev main_v432 : Ref sig .tc := ⟨.hbm, 492, rfl⟩
abbrev main_v433 : Ref sig .tc := ⟨.hbm, 493, rfl⟩
abbrev main_v434 : Ref sig .tc := ⟨.hbm, 494, rfl⟩
abbrev main_v435 : Ref sig .tc := ⟨.hbm, 495, rfl⟩
abbrev main_v436 : Ref sig .tc := ⟨.hbm, 496, rfl⟩
abbrev main_v437 : Ref sig .tc := ⟨.hbm, 497, rfl⟩
abbrev main_v438 : Ref sig .tc := ⟨.hbm, 498, rfl⟩
abbrev main_v439 : Ref sig .tc := ⟨.hbm, 499, rfl⟩
abbrev main_v440 : Ref sig .tc := ⟨.hbm, 500, rfl⟩
abbrev main_v441 : Ref sig .tc := ⟨.hbm, 501, rfl⟩
abbrev main_v442 : Ref sig .tc := ⟨.hbm, 502, rfl⟩
abbrev main_v443 : Ref sig .tc := ⟨.hbm, 503, rfl⟩
abbrev main_v444 : Ref sig .tc := ⟨.hbm, 504, rfl⟩
abbrev main_v445 : Ref sig .tc := ⟨.hbm, 505, rfl⟩
abbrev main_v446 : Ref sig .tc := ⟨.hbm, 506, rfl⟩
abbrev main_v447 : Ref sig .tc := ⟨.hbm, 507, rfl⟩
abbrev main_v448 : Ref sig .tc := ⟨.hbm, 508, rfl⟩
abbrev main_v449 : Ref sig .tc := ⟨.hbm, 509, rfl⟩
abbrev main_v450 : Ref sig .tc := ⟨.hbm, 510, rfl⟩
abbrev main_v451 : Ref sig .tc := ⟨.hbm, 511, rfl⟩
abbrev main_v452 : Ref sig .tc := ⟨.hbm, 512, rfl⟩
abbrev main_v453 : Ref sig .tc := ⟨.hbm, 513, rfl⟩
abbrev main_cst_35 : Ref sig .tc := ⟨.hbm, 514, rfl⟩
abbrev main_v454 : Ref sig .tc := ⟨.hbm, 515, rfl⟩
abbrev main_v455 : Ref sig .tc := ⟨.hbm, 516, rfl⟩
abbrev main_v456 : Ref sig .tc := ⟨.hbm, 517, rfl⟩
abbrev main_v457 : Ref sig .tc := ⟨.hbm, 518, rfl⟩
abbrev main_v458 : Ref sig .tc := ⟨.hbm, 519, rfl⟩
abbrev main_v459 : Ref sig .tc := ⟨.hbm, 520, rfl⟩
abbrev main_v460 : Ref sig .tc := ⟨.hbm, 521, rfl⟩
abbrev main_v461 : Ref sig .tc := ⟨.hbm, 522, rfl⟩
abbrev main_v462 : Ref sig .tc := ⟨.hbm, 523, rfl⟩
abbrev main_v463 : Ref sig .tc := ⟨.hbm, 524, rfl⟩
abbrev main_v464 : Ref sig .tc := ⟨.hbm, 525, rfl⟩
abbrev main_v465 : Ref sig .tc := ⟨.hbm, 526, rfl⟩
abbrev main_v466 : Ref sig .tc := ⟨.hbm, 527, rfl⟩
abbrev main_v467 : Ref sig .tc := ⟨.hbm, 528, rfl⟩
abbrev main_v468 : Ref sig .tc := ⟨.hbm, 529, rfl⟩
abbrev main_v469 : Ref sig .tc := ⟨.hbm, 530, rfl⟩
abbrev main_v470 : Ref sig .tc := ⟨.hbm, 531, rfl⟩
abbrev main_v471 : Ref sig .tc := ⟨.hbm, 532, rfl⟩
abbrev main_v472 : Ref sig .tc := ⟨.hbm, 533, rfl⟩
abbrev main_v473 : Ref sig .tc := ⟨.hbm, 534, rfl⟩
abbrev main_v474 : Ref sig .tc := ⟨.hbm, 535, rfl⟩
abbrev main_v475 : Ref sig .tc := ⟨.hbm, 536, rfl⟩
abbrev main_v476 : Ref sig .tc := ⟨.hbm, 537, rfl⟩
abbrev main_v477 : Ref sig .tc := ⟨.hbm, 538, rfl⟩
abbrev main_v478 : Ref sig .tc := ⟨.hbm, 539, rfl⟩
abbrev main_v479 : Ref sig .tc := ⟨.hbm, 540, rfl⟩
abbrev main_v480 : Ref sig .tc := ⟨.hbm, 541, rfl⟩
abbrev main_v481 : Ref sig .tc := ⟨.hbm, 542, rfl⟩
abbrev main_v482 : Ref sig .tc := ⟨.hbm, 543, rfl⟩
abbrev main_v483 : Ref sig .tc := ⟨.hbm, 544, rfl⟩
abbrev main_v484 : Ref sig .tc := ⟨.hbm, 545, rfl⟩
abbrev main_v485 : Ref sig .tc := ⟨.hbm, 546, rfl⟩
abbrev main_v486 : Ref sig .tc := ⟨.hbm, 547, rfl⟩
abbrev main_v487 : Ref sig .tc := ⟨.hbm, 548, rfl⟩
abbrev main_v488 : Ref sig .tc := ⟨.hbm, 549, rfl⟩
abbrev main_v489 : Ref sig .tc := ⟨.hbm, 550, rfl⟩
abbrev main_v490 : Ref sig .tc := ⟨.hbm, 551, rfl⟩
abbrev main_v491 : Ref sig .tc := ⟨.hbm, 552, rfl⟩
abbrev main_v492 : Ref sig .tc := ⟨.hbm, 553, rfl⟩
abbrev main_v493 : Ref sig .tc := ⟨.hbm, 554, rfl⟩
abbrev main_v494 : Ref sig .tc := ⟨.hbm, 555, rfl⟩
abbrev main_v495 : Ref sig .tc := ⟨.hbm, 556, rfl⟩
abbrev main_v496 : Ref sig .tc := ⟨.hbm, 557, rfl⟩
abbrev main_v497 : Ref sig .tc := ⟨.hbm, 558, rfl⟩
abbrev main_v498 : Ref sig .tc := ⟨.hbm, 559, rfl⟩
abbrev main_v499 : Ref sig .tc := ⟨.hbm, 560, rfl⟩
abbrev main_v500 : Ref sig .tc := ⟨.hbm, 561, rfl⟩
abbrev main_v501 : Ref sig .tc := ⟨.hbm, 562, rfl⟩
abbrev main_v502 : Ref sig .tc := ⟨.hbm, 563, rfl⟩
abbrev main_v503 : Ref sig .tc := ⟨.hbm, 564, rfl⟩
abbrev main_v504 : Ref sig .tc := ⟨.hbm, 565, rfl⟩
abbrev main_v505 : Ref sig .tc := ⟨.hbm, 566, rfl⟩
abbrev main_v506 : Ref sig .tc := ⟨.hbm, 567, rfl⟩
abbrev main_v507 : Ref sig .tc := ⟨.hbm, 568, rfl⟩
abbrev main_v508 : Ref sig .tc := ⟨.hbm, 569, rfl⟩
abbrev main_v509 : Ref sig .tc := ⟨.hbm, 570, rfl⟩
abbrev main_v510 : Ref sig .tc := ⟨.hbm, 571, rfl⟩
abbrev main_v511 : Ref sig .tc := ⟨.hbm, 572, rfl⟩
abbrev main_v512 : Ref sig .tc := ⟨.hbm, 573, rfl⟩
abbrev main_v513 : Ref sig .tc := ⟨.hbm, 574, rfl⟩
abbrev main_v514 : Ref sig .tc := ⟨.hbm, 575, rfl⟩
abbrev main_v515 : Ref sig .tc := ⟨.hbm, 576, rfl⟩
abbrev main_v516 : Ref sig .tc := ⟨.hbm, 577, rfl⟩
abbrev main_v517 : Ref sig .tc := ⟨.hbm, 578, rfl⟩
abbrev main_v518 : Ref sig .tc := ⟨.hbm, 579, rfl⟩
abbrev main_v519 : Ref sig .tc := ⟨.hbm, 580, rfl⟩
abbrev main_v520 : Ref sig .tc := ⟨.hbm, 581, rfl⟩
abbrev main_v521 : Ref sig .tc := ⟨.hbm, 582, rfl⟩
abbrev main_v522 : Ref sig .tc := ⟨.hbm, 583, rfl⟩
abbrev main_v523 : Ref sig .tc := ⟨.hbm, 584, rfl⟩
abbrev main_v524 : Ref sig .tc := ⟨.hbm, 585, rfl⟩
abbrev main_v525 : Ref sig .tc := ⟨.hbm, 586, rfl⟩
abbrev main_v526 : Ref sig .tc := ⟨.hbm, 587, rfl⟩
abbrev main_v527 : Ref sig .tc := ⟨.hbm, 588, rfl⟩
abbrev main_v528 : Ref sig .tc := ⟨.hbm, 589, rfl⟩
abbrev main_v529 : Ref sig .tc := ⟨.hbm, 590, rfl⟩
abbrev main_v530 : Ref sig .tc := ⟨.hbm, 591, rfl⟩
abbrev main_v531 : Ref sig .tc := ⟨.hbm, 592, rfl⟩
abbrev main_v532 : Ref sig .tc := ⟨.hbm, 593, rfl⟩
abbrev main_v533 : Ref sig .tc := ⟨.hbm, 594, rfl⟩
abbrev main_v534 : Ref sig .tc := ⟨.hbm, 595, rfl⟩
abbrev main_v535 : Ref sig .tc := ⟨.hbm, 596, rfl⟩
abbrev main_v536 : Ref sig .tc := ⟨.hbm, 597, rfl⟩
abbrev main_v537 : Ref sig .tc := ⟨.hbm, 598, rfl⟩
abbrev main_v538 : Ref sig .tc := ⟨.hbm, 599, rfl⟩
abbrev main_v539 : Ref sig .tc := ⟨.hbm, 600, rfl⟩
abbrev main_v540 : Ref sig .tc := ⟨.hbm, 601, rfl⟩
abbrev main_v541 : Ref sig .tc := ⟨.hbm, 602, rfl⟩
abbrev main_v542 : Ref sig .tc := ⟨.hbm, 603, rfl⟩
abbrev main_v543 : Ref sig .tc := ⟨.hbm, 604, rfl⟩
abbrev main_v544 : Ref sig .tc := ⟨.hbm, 605, rfl⟩
abbrev main_v545 : Ref sig .tc := ⟨.hbm, 606, rfl⟩
abbrev main_v546 : Ref sig .tc := ⟨.hbm, 607, rfl⟩
abbrev main_v547 : Ref sig .tc := ⟨.hbm, 608, rfl⟩
abbrev main_v548 : Ref sig .tc := ⟨.hbm, 609, rfl⟩
abbrev main_v549 : Ref sig .tc := ⟨.hbm, 610, rfl⟩
abbrev main_v550 : Ref sig .tc := ⟨.hbm, 611, rfl⟩
abbrev main_cst_36 : Ref sig .tc := ⟨.hbm, 612, rfl⟩
abbrev main_v551 : Ref sig .tc := ⟨.hbm, 613, rfl⟩
abbrev main_v552 : Ref sig .tc := ⟨.hbm, 614, rfl⟩
abbrev main_v553 : Ref sig .tc := ⟨.hbm, 615, rfl⟩
abbrev main_v554 : Ref sig .tc := ⟨.hbm, 616, rfl⟩
abbrev main_v555 : Ref sig .tc := ⟨.hbm, 617, rfl⟩
abbrev main_v556 : Ref sig .tc := ⟨.hbm, 618, rfl⟩
abbrev main_v557 : Ref sig .tc := ⟨.hbm, 619, rfl⟩
abbrev main_v558 : Ref sig .tc := ⟨.hbm, 620, rfl⟩
abbrev main_v559 : Ref sig .tc := ⟨.hbm, 621, rfl⟩
abbrev main_v560 : Ref sig .tc := ⟨.hbm, 622, rfl⟩
abbrev main_v561 : Ref sig .tc := ⟨.hbm, 623, rfl⟩
abbrev main_v562 : Ref sig .tc := ⟨.hbm, 624, rfl⟩
abbrev main_v563 : Ref sig .tc := ⟨.hbm, 625, rfl⟩
abbrev main_v564 : Ref sig .tc := ⟨.hbm, 626, rfl⟩
abbrev main_v565 : Ref sig .tc := ⟨.hbm, 627, rfl⟩
abbrev main_cst_37 : Ref sig .tc := ⟨.hbm, 628, rfl⟩
abbrev main_v566 : Ref sig .tc := ⟨.hbm, 629, rfl⟩
abbrev main_cst_38 : Ref sig .tc := ⟨.hbm, 630, rfl⟩
abbrev main_v567 : Ref sig .tc := ⟨.hbm, 631, rfl⟩
abbrev main_v568 : Ref sig .tc := ⟨.hbm, 632, rfl⟩
abbrev main_v569 : Ref sig .tc := ⟨.hbm, 633, rfl⟩
abbrev main_v570 : Ref sig .tc := ⟨.hbm, 634, rfl⟩
abbrev main_v571 : Ref sig .tc := ⟨.hbm, 635, rfl⟩
abbrev main_v572 : Ref sig .tc := ⟨.hbm, 636, rfl⟩
abbrev main_v573 : Ref sig .tc := ⟨.hbm, 637, rfl⟩
abbrev main_v574 : Ref sig .tc := ⟨.hbm, 638, rfl⟩
abbrev main_v575 : Ref sig .tc := ⟨.hbm, 639, rfl⟩
abbrev main_v576 : Ref sig .tc := ⟨.hbm, 640, rfl⟩
abbrev main_v577 : Ref sig .tc := ⟨.hbm, 641, rfl⟩
abbrev main_v578 : Ref sig .tc := ⟨.hbm, 642, rfl⟩
abbrev main_v579 : Ref sig .tc := ⟨.hbm, 643, rfl⟩
abbrev main_v580 : Ref sig .tc := ⟨.hbm, 644, rfl⟩
abbrev main_v581 : Ref sig .tc := ⟨.hbm, 645, rfl⟩
abbrev main_v582 : Ref sig .tc := ⟨.hbm, 646, rfl⟩
abbrev main_cst_39 : Ref sig .tc := ⟨.hbm, 647, rfl⟩
abbrev main_v583 : Ref sig .tc := ⟨.hbm, 648, rfl⟩
abbrev main_cst_40 : Ref sig .tc := ⟨.hbm, 649, rfl⟩
abbrev main_v584 : Ref sig .tc := ⟨.hbm, 650, rfl⟩
abbrev main_v585 : Ref sig .tc := ⟨.hbm, 651, rfl⟩
abbrev main_v586 : Ref sig .tc := ⟨.hbm, 652, rfl⟩
abbrev main_v587 : Ref sig .tc := ⟨.hbm, 653, rfl⟩
abbrev main_c : Ref sig .tc := ⟨.hbm, 654, rfl⟩
abbrev main_call3_v0 : Ref sig .tc := ⟨.hbm, 655, rfl⟩
abbrev main_v588 : Ref sig .tc := ⟨.hbm, 656, rfl⟩
abbrev main_v589 : Ref sig .tc := ⟨.hbm, 657, rfl⟩
abbrev main_v590 : Ref sig .tc := ⟨.hbm, 658, rfl⟩
abbrev main_c_41 : Ref sig .tc := ⟨.hbm, 659, rfl⟩
abbrev main_call4_v0 : Ref sig .tc := ⟨.hbm, 660, rfl⟩
abbrev main_v591 : Ref sig .tc := ⟨.hbm, 661, rfl⟩
abbrev main_v592 : Ref sig .tc := ⟨.hbm, 662, rfl⟩
abbrev main_v593 : Ref sig .tc := ⟨.hbm, 663, rfl⟩
abbrev main_c_42 : Ref sig .tc := ⟨.hbm, 664, rfl⟩
abbrev main_call5_v0 : Ref sig .tc := ⟨.hbm, 665, rfl⟩
abbrev main_v594 : Ref sig .tc := ⟨.hbm, 666, rfl⟩
abbrev main_v595 : Ref sig .tc := ⟨.hbm, 667, rfl⟩
abbrev main_v596 : Ref sig .tc := ⟨.hbm, 668, rfl⟩
abbrev main_c_43 : Ref sig .tc := ⟨.hbm, 669, rfl⟩
abbrev main_call6_v0 : Ref sig .tc := ⟨.hbm, 670, rfl⟩
abbrev main_v597 : Ref sig .tc := ⟨.hbm, 671, rfl⟩
abbrev main_v598 : Ref sig .tc := ⟨.hbm, 672, rfl⟩
abbrev main_v599 : Ref sig .tc := ⟨.hbm, 673, rfl⟩
abbrev main_c_44 : Ref sig .tc := ⟨.hbm, 674, rfl⟩
abbrev main_call7_v0 : Ref sig .tc := ⟨.hbm, 675, rfl⟩
abbrev main_v600 : Ref sig .tc := ⟨.hbm, 676, rfl⟩
abbrev main_v601 : Ref sig .tc := ⟨.hbm, 677, rfl⟩

abbrev nD : Nat := 1
abbrev τ : Topo := Topo.v7x

variable {F : FTy → Type} [FloatOps F]
-- ==== Kernel3.lean ====
abbrev S1x4096x1024 : Shape := ⟨3, ![1, 4096, 1024]⟩
abbrev S16x1024 : Shape := ⟨2, ![16, 1024]⟩
abbrev S1x1024 : Shape := ⟨2, ![1, 1024]⟩
abbrev S1x1024x5120 : Shape := ⟨3, ![1, 1024, 5120]⟩
abbrev S4224x32 : Shape := ⟨2, ![4224, 32]⟩
abbrev S8x128x128 : Shape := ⟨3, ![8, 128, 128]⟩
abbrev S128x512 : Shape := ⟨2, ![128, 512]⟩
abbrev S8 : Shape := ⟨1, ![8]⟩
abbrev S32 : Shape := ⟨1, ![32]⟩
abbrev S_ : Shape := ⟨0, ![]⟩
abbrev S1x32 : Shape := ⟨2, ![1, 32]⟩
abbrev S4224x128 : Shape := ⟨2, ![4224, 128]⟩
abbrev S8x64 : Shape := ⟨2, ![8, 64]⟩
abbrev S512 : Shape := ⟨1, ![512]⟩
abbrev S8x64x256 : Shape := ⟨3, ![8, 64, 256]⟩
abbrev S4x128x256 : Shape := ⟨3, ![4, 128, 256]⟩
abbrev S2x2 : Shape := ⟨2, ![2, 2]⟩
abbrev S2x64x2x128 : Shape := ⟨4, ![2, 64, 2, 128]⟩
abbrev S128x256 : Shape := ⟨2, ![128, 256]⟩
abbrev S1024x5120 : Shape := ⟨2, ![1024, 5120]⟩
abbrev S1024x4x1280 : Shape := ⟨3, ![1024, 4, 1280]⟩
abbrev S4x1024x1280 : Shape := ⟨3, ![4, 1024, 1280]⟩
abbrev S4096x1024 : Shape := ⟨2, ![4096, 1024]⟩
abbrev S4224x1024 : Shape := ⟨2, ![4224, 1024]⟩
abbrev S4224x512 : Shape := ⟨2, ![4224, 512]⟩
abbrev S128x1024 : Shape := ⟨2, ![128, 1024]⟩
abbrev S384x128 : Shape := ⟨2, ![384, 128]⟩
abbrev S384x1024 : Shape := ⟨2, ![384, 1024]⟩
abbrev S384x512 : Shape := ⟨2, ![384, 512]⟩
abbrev S112x1024 : Shape := ⟨2, ![112, 1024]⟩
abbrev S384 : Shape := ⟨1, ![384]⟩
abbrev S384x1 : Shape := ⟨2, ![384, 1]⟩
abbrev S1x1024x1024 : Shape := ⟨3, ![1, 1024, 1024]⟩
abbrev S1024x1024 : Shape := ⟨2, ![1024, 1024]⟩
abbrev S1x1024x256 : Shape := ⟨3, ![1, 1024, 256]⟩
abbrev S1024x256 : Shape := ⟨2, ![1024, 256]⟩
abbrev S384x256 : Shape := ⟨2, ![384, 256]⟩
abbrev S1x1024x768 : Shape := ⟨3, ![1, 1024, 768]⟩
abbrev S1024x768 : Shape := ⟨2, ![1024, 768]⟩
abbrev S384x768 : Shape := ⟨2, ![384, 768]⟩
abbrev S1x1024x512 : Shape := ⟨3, ![1, 1024, 512]⟩
abbrev S1024x512 : Shape := ⟨2, ![1024, 512]⟩

abbrev nBuf : Space → Nat
  | .hbm => 80
  | .vmem => 35
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x1024x5120, .f32⟩
  | .hbm, ⟨4, _⟩ => ⟨S4224x32, .f32⟩
  | .hbm, ⟨5, _⟩ => ⟨S8x128x128, .f32⟩
  | .hbm, ⟨6, _⟩ => ⟨S128x512, .f32⟩
  | .hbm, ⟨7, _⟩ => ⟨S128x512, .f32⟩
  | .hbm, ⟨8, _⟩ => ⟨S8, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4224x32, .f32⟩
  | .hbm, ⟨18, _⟩ => ⟨S4224x32, .f32⟩
  | .hbm, ⟨19, _⟩ => ⟨S1x32, .f32⟩
  | .hbm, ⟨20, _⟩ => ⟨S4224x32, .f32⟩
  | .hbm, ⟨21, _⟩ => ⟨S4224x32, .f32⟩
  | .hbm, ⟨22, _⟩ => ⟨S4224x32, .f32⟩
  | .hbm, ⟨23, _⟩ => ⟨S4224x32, .f32⟩
  | .hbm, ⟨24, _⟩ => ⟨S4224x128, .f32⟩
  | .hbm, ⟨25, _⟩ => ⟨S4224x32, .f32⟩
  | .hbm, ⟨26, _⟩ => ⟨S4224x128, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8x128x128, .f32⟩
  | .hbm, ⟨38, _⟩ => ⟨S8x128x128, .f32⟩
  | .hbm, ⟨39, _⟩ => ⟨S8x128x128, .f32⟩
  | .hbm, ⟨40, _⟩ => ⟨S8x128x128, .i1⟩
  | .hbm, ⟨41, _⟩ => ⟨S8x128x128, .f32⟩
  | .hbm, ⟨42, _⟩ => ⟨S8x128x128, .f32⟩
  | .hbm, ⟨43, _⟩ => ⟨S8x128x128, .f32⟩
  | .hbm, ⟨44, _⟩ => ⟨S8x128x128, .f32⟩
  | .hbm, ⟨45, _⟩ => ⟨S8x128x128, .f32⟩
  | .hbm, ⟨46, _⟩ => ⟨S8x64, .f32⟩
  | .hbm, ⟨47, _⟩ => ⟨S512, .f32⟩
  | .hbm, ⟨48, _⟩ => ⟨S128x512, .f32⟩
  | .hbm, ⟨49, _⟩ => ⟨S128x512, .f32⟩
  | .hbm, ⟨50, _⟩ => ⟨S128x512, .f32⟩
  | .hbm, ⟨51, _⟩ => ⟨S128x512, .f32⟩
  | .hbm, ⟨52, _⟩ => ⟨S128x512, .f32⟩
  | .hbm, ⟨53, _⟩ => ⟨S128x512, .f32⟩
  | .hbm, ⟨54, _⟩ => ⟨S128x512, .f32⟩
  | .hbm, ⟨55, _⟩ => ⟨S128x512, .f32⟩
  | .hbm, ⟨56, _⟩ => ⟨S8, .f32⟩
  | .hbm, ⟨57, _⟩ => ⟨S8, .f32⟩
  | .hbm, ⟨58, _⟩ => ⟨S8x64x256, .f32⟩
  | .hbm, ⟨59, _⟩ => ⟨S4x128x256, .f32⟩
  | .hbm, ⟨60, _⟩ => ⟨S2x2, .i32⟩
  | .hbm, ⟨61, _⟩ => ⟨S2x2, .i32⟩
  | .hbm, ⟨62, _⟩ => ⟨S2x2, .i1⟩
  | .hbm, ⟨63, _⟩ => ⟨S2x2, .f32⟩
  | .hbm, ⟨64, _⟩ => ⟨S2x64x2x128, .f32⟩
  | .hbm, ⟨65, _⟩ => ⟨S128x256, .f32⟩
  | .hbm, ⟨66, _⟩ => ⟨S1024x5120, .f32⟩
  | .hbm, ⟨67, _⟩ => ⟨S1024x4x1280, .f32⟩
  | .hbm, ⟨68, _⟩ => ⟨S4x1024x1280, .f32⟩
  | .hbm, ⟨69, _⟩ => ⟨S4x1024x1280, .bf16⟩
  | .hbm, ⟨70, _⟩ => ⟨S4096x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S4224x512, .bf16⟩
  | .hbm, ⟨75, _⟩ => ⟨S4224x512, .bf16⟩
  | .hbm, ⟨76, _⟩ => ⟨S4224x512, .bf16⟩
  | .hbm, ⟨77, _⟩ => ⟨S4224x512, .bf16⟩
  | .hbm, ⟨78, _⟩ => ⟨S4224x1024, .bf16⟩
  | .hbm, ⟨79, _⟩ => ⟨S4224x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S16x1024, .f32⟩
  | .local _ .vmem, ⟨7, _⟩ => ⟨S1x1024, .f32⟩
  | .local _ .vmem, ⟨8, _⟩ => ⟨S4x1024x1280, .bf16⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S128x512, .f32⟩
  | .local _ .vmem, ⟨14, _⟩ => ⟨S128x512, .f32⟩
  | .local _ .vmem, ⟨15, _⟩ => ⟨S384x1024, .f32⟩
  | .local _ .vmem, ⟨16, _⟩ => ⟨S384x1024, .f32⟩
  | .local _ .vmem, ⟨17, _⟩ => ⟨S384x1024, .f32⟩
  | .local _ .vmem, ⟨18, _⟩ => ⟨S384x1024, .f32⟩
  | .local _ .vmem, ⟨19, _⟩ => ⟨S384x1024, .f32⟩
  | .local _ .vmem, ⟨20, _⟩ => ⟨S384x1024, .f32⟩
  | .local _ .vmem, ⟨21, _⟩ => ⟨S384x512, .bf16⟩
  | .local _ .vmem, ⟨22, _⟩ => ⟨S384x512, .bf16⟩
  | .local _ .vmem, ⟨23, _⟩ => ⟨S384x512, .bf16⟩
  | .local _ .vmem, ⟨24, _⟩ => ⟨S384x512, .bf16⟩
  | .local _ .vmem, ⟨25, _⟩ => ⟨S384x512, .bf16⟩
  | .local _ .vmem, ⟨26, _⟩ => ⟨S384x512, .bf16⟩
  | .local _ .vmem, ⟨27, _⟩ => ⟨S384x512, .bf16⟩
  | .local _ .vmem, ⟨28, _⟩ => ⟨S384x512, .bf16⟩
  | .local _ .vmem, ⟨29, _⟩ => ⟨S384x1024, .bf16⟩
  | .local _ .vmem, ⟨30, _⟩ => ⟨S384x1024, .bf16⟩
  | .local _ .vmem, ⟨31, _⟩ => ⟨S384x1024, .f32⟩
  | .local _ .vmem, ⟨32, _⟩ => ⟨S384x1024, .f32⟩
  | .local _ .vmem, ⟨33, _⟩ => ⟨S384x512, .f32⟩
  | .local _ .vmem, ⟨34, _⟩ => ⟨S384x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_v0 : Ref sig .tc := ⟨.hbm, 9, rfl⟩
abbrev main_v1 : Ref sig .tc := ⟨.hbm, 10, rfl⟩
abbrev main_cst_4 : Ref sig .tc := ⟨.hbm, 11, rfl⟩
abbrev main_v2 : Ref sig .tc := ⟨.hbm, 12, rfl⟩
abbrev main_v3 : Ref sig .tc := ⟨.hbm, 13, rfl⟩
abbrev main_cst_5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_cst_7 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58_0 : Ref sig .tc := ⟨.hbm, 71, rfl⟩
abbrev main_v58_1 : Ref sig .tc := ⟨.hbm, 72, rfl⟩
abbrev main_v58_2 : Ref sig .tc := ⟨.hbm, 73, rfl⟩
abbrev main_v58_3 : Ref sig .tc := ⟨.hbm, 74, rfl⟩
abbrev main_v58_4 : Ref sig .tc := ⟨.hbm, 75, rfl⟩
abbrev main_v58_5 : Ref sig .tc := ⟨.hbm, 76, rfl⟩
abbrev main_v58_6 : Ref sig .tc := ⟨.hbm, 77, rfl⟩
abbrev main_v58_7 : Ref sig .tc := ⟨.hbm, 78, rfl⟩
abbrev main_v58_8 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S1x4096x1024 : Shape := ⟨3, ![1, 4096, 1024]⟩
abbrev S16x1024 : Shape := ⟨2, ![16, 1024]⟩
abbrev S1x1024 : Shape := ⟨2, ![1, 1024]⟩
abbrev S1x1024x5120 : Shape := ⟨3, ![1, 1024, 5120]⟩
abbrev S1x16x1024 : Shape := ⟨3, ![1, 16, 1024]⟩
abbrev S1x4112x1024 : Shape := ⟨3, ![1, 4112, 1024]⟩
abbrev S1024 : Shape := ⟨1, ![1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1024x5120 : Shape := ⟨2, ![1024, 5120]⟩
abbrev S1x4112x5120 : Shape := ⟨3, ![1, 4112, 5120]⟩
abbrev S1x4112x512 : Shape := ⟨3, ![1, 4112, 512]⟩
abbrev S4112 : Shape := ⟨1, ![4112]⟩
abbrev S1x4112x8x64 : Shape := ⟨4, ![1, 4112, 8, 64]⟩
abbrev S32 : Shape := ⟨1, ![32]⟩
abbrev S4112x1 : Shape := ⟨2, ![4112, 1]⟩
abbrev S1x32 : Shape := ⟨2, ![1, 32]⟩
abbrev S4112x32 : Shape := ⟨2, ![4112, 32]⟩
abbrev S1x4112x1x32 : Shape := ⟨4, ![1, 4112, 1, 32]⟩
abbrev S1x4112x8x32 : Shape := ⟨4, ![1, 4112, 8, 32]⟩
abbrev S8 : Shape := ⟨1, ![8]⟩
abbrev S128 : Shape := ⟨1, ![128]⟩
abbrev S4112x8x64 : Shape := ⟨3, ![4112, 8, 64]⟩
abbrev S4224x8x64 : Shape := ⟨3, ![4224, 8, 64]⟩
abbrev S33x128x8x64 : Shape := ⟨4, ![33, 128, 8, 64]⟩
abbrev S128x1 : Shape := ⟨2, ![128, 1]⟩
abbrev S1x8 : Shape := ⟨2, ![1, 8]⟩
abbrev S128x8 : Shape := ⟨2, ![128, 8]⟩
abbrev S128x8x1 : Shape := ⟨3, ![128, 8, 1]⟩
abbrev S1x128x8x1 : Shape := ⟨4, ![1, 128, 8, 1]⟩
abbrev S4112x1024 : Shape := ⟨2, ![4112, 1024]⟩
abbrev S4224x1024 : Shape := ⟨2, ![4224, 1024]⟩
abbrev S4112x512 : Shape := ⟨2, ![4112, 512]⟩
abbrev S4224x512 : Shape := ⟨2, ![4224, 512]⟩

abbrev nBuf : Space → Nat
  | .hbm => 181
  | .vmem => 0
  | .smem => 0
  | _ => 0

abbrev hbmTy0_0 (i : Nat) : BufTy := match i % 128 with
  | 0 => ⟨S1x4096x1024, .f32⟩
  | 1 => ⟨S16x1024, .f32⟩
  | 2 => ⟨S1x1024, .f32⟩
  | 3 => ⟨S1x1024x5120, .f32⟩
  | 4 => ⟨S1x16x1024, .f32⟩
  | 5 => ⟨S1x4112x1024, .f32⟩
  | 6 => ⟨S1024, .f32⟩
  | 7 => ⟨S1x4112x1024, .f32⟩
  | 8 => ⟨S_, .f32⟩
  | 9 => ⟨S1x4112, .f32⟩
  | 10 => ⟨S1x4112x1, .f32⟩
  | 11 => ⟨S_, .f32⟩
  | 12 => ⟨S1x4112x1, .f32⟩
  | 13 => ⟨S1x4112x1, .f32⟩
  | 14 => ⟨S_, .f32⟩
  | 15 => ⟨S1x4112x1, .f32⟩
  | 16 => ⟨S1x4112x1, .f32⟩
  | 17 => ⟨S1x4112x1, .f32⟩
  | 18 => ⟨S1x4112x1024, .f32⟩
  | 19 => ⟨S1x4112x1024, .f32⟩
  | 20 => ⟨S1x1x1024, .f32⟩
  | 21 => ⟨S1x4112x1024, .f32⟩
  | 22 => ⟨S1x4112x1024, .f32⟩
  | 23 => ⟨S1024x5120, .f32⟩
  | 24 => ⟨S1x4112x5120, .f32⟩
  | 25 => ⟨S1x4112x1024, .f32⟩
  | 26 => ⟨S1x4112x1024, .f32⟩
  | 27 => ⟨S1x4112x512, .f32⟩
  | 28 => ⟨S1x4112x512, .f32⟩
  | 29 => ⟨S1x4112x1024, .f32⟩
  | 30 => ⟨S1x4112x1024, .f32⟩
  | 31 => ⟨S4112, .i32⟩
  | 32 => ⟨S1x4112x8x64, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S4112, .f32⟩
  | 42 => ⟨S4112x1, .f32⟩
  | 43 => ⟨S1x32, .f32⟩
  | 44 => ⟨S4112x32, .f32⟩
  | 45 => ⟨S4112x32, .f32⟩
  | 46 => ⟨S4112x32, .f32⟩
  | 47 => ⟨S4112x32, .f32⟩
  | 48 => ⟨S1x4112x1x32, .f32⟩
  | 49 => ⟨S4112x32, .f32⟩
  | 50 => ⟨S1x4112x1x32, .f32⟩
  | 51 => ⟨S1x4112x8x32, .f32⟩
  | 52 => ⟨S1x4112x8x32, .f32⟩
  | 53 => ⟨S1x4112x8x32, .f32⟩
  | 54 => ⟨S1x4112x8x32, .f32⟩
  | 55 => ⟨S1x4112x8x32, .f32⟩
  | 56 => ⟨S1x4112x8x32, .f32⟩
  | 57 => ⟨S1x4112x8x32, .f32⟩
  | 58 => ⟨S1x4112x8x32, .f32⟩
  | 59 => ⟨S1x4112x8x32, .f32⟩
  | 60 => ⟨S1x4112x8x32, .f32⟩
  | 61 => ⟨S1x4112x8x32, .f32⟩
  | 62 => ⟨S1x4112x8x32, .f32⟩
  | 63 => ⟨S1x4112x8x64, .f32⟩
  | 64 => ⟨S1x4112x8x64, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S4112, .f32⟩
  | 74 => ⟨S4112x1, .f32⟩
  | 75 => ⟨S1x32, .f32⟩
  | 76 => ⟨S4112x32, .f32⟩
  | 77 => ⟨S4112x32, .f32⟩
  | 78 => ⟨S4112x32, .f32⟩
  | 79 => ⟨S4112x32, .f32⟩
  | 80 => ⟨S1x4112x1x32, .f32⟩
  | 81 => ⟨S4112x32, .f32⟩
  | 82 => ⟨S1x4112x1x32, .f32⟩
  | 83 => ⟨S1x4112x8x32, .f32⟩
  | 84 => ⟨S1x4112x8x32, .f32⟩
  | 85 => ⟨S1x4112x8x32, .f32⟩
  | 86 => ⟨S1x4112x8x32, .f32⟩
  | 87 => ⟨S1x4112x8x32, .f32⟩
  | 88 => ⟨S1x4112x8x32, .f32⟩
  | 89 => ⟨S1x4112x8x32, .f32⟩
  | 90 => ⟨S1x4112x8x32, .f32⟩
  | 91 => ⟨S1x4112x8x32, .f32⟩
  | 92 => ⟨S1x4112x8x32, .f32⟩
  | 93 => ⟨S1x4112x8x32, .f32⟩
  | 94 => ⟨S1x4112x8x32, .f32⟩
  | 95 => ⟨S1x4112x8x64, .f32⟩
  | 96 => ⟨S_, .f32⟩
  | 97 => ⟨S1x4112x8x64, .f32⟩
  | 98 => ⟨S1x4112x8x64, .f32⟩
  | 99 => ⟨S8, .f32⟩
  | 100 => ⟨S_, .f32⟩
  | 101 => ⟨S8, .f32⟩
  | 102 => ⟨S8, .f32⟩
  | 103 => ⟨S_, .f32⟩
  | 104 => ⟨S8, .f32⟩
  | 105 => ⟨S8, .f32⟩
  | 106 => ⟨S8, .f32⟩
  | 107 => ⟨S8, .f32⟩
  | 108 => ⟨S8, .f32⟩
  | 109 => ⟨S128, .f32⟩
  | 110 => ⟨S4112x8x64, .f32⟩
  | 111 => ⟨S_, .i32⟩
  | 112 => ⟨S_, .f32⟩
  | 113 => ⟨S4224x8x64, .f32⟩
  | 114 => ⟨S33x128x8x64, .f32⟩
  | 115 => ⟨S_, .f32⟩
  | 116 => ⟨S128, .f32⟩
  | 117 => ⟨S128, .f32⟩
  | 118 => ⟨S128x1, .f32⟩
  | 119 => ⟨S1x8, .f32⟩
  | 120 => ⟨S128x8, .f32⟩
  | 121 => ⟨S128x8, .f32⟩
  | 122 => ⟨S128x8, .f32⟩
  | 123 => ⟨S128x8, .f32⟩
  | 124 => ⟨S128x8x1, .f32⟩
  | 125 => ⟨S1x128x8x1, .f32⟩
  | 126 => ⟨S33x128x8x64, .f32⟩
  | 127 => ⟨S33x128x8x64, .f32⟩
  | _ => ⟨S1x4096x1024, .f32⟩

abbrev hbmTy0_1 (i : Nat) : BufTy := match i % 128 with
  | 0 => ⟨S4112x8x64, .f32⟩
  | 1 => ⟨S_, .i32⟩
  | 2 => ⟨S_, .f32⟩
  | 3 => ⟨S4224x8x64, .f32⟩
  | 4 => ⟨S33x128x8x64, .f32⟩
  | 5 => ⟨S_, .f32⟩
  | 6 => ⟨S128, .f32⟩
  | 7 => ⟨S128, .f32⟩
  | 8 => ⟨S128x1, .f32⟩
  | 9 => ⟨S1x8, .f32⟩
  | 10 => ⟨S128x8, .f32⟩
  | 11 => ⟨S128x8, .f32⟩
  | 12 => ⟨S128x8, .f32⟩
  | 13 => ⟨S128x8, .f32⟩
  | 14 => ⟨S128x8x1, .f32⟩
  | 15 => ⟨S1x128x8x1, .f32⟩
  | 16 => ⟨S33x128x8x64, .f32⟩
  | 17 => ⟨S33x128x8x64, .f32⟩
  | 18 => ⟨S4112x1024, .f32⟩
  | 19 => ⟨S_, .i32⟩
  | 20 => ⟨S_, .f32⟩
  | 21 => ⟨S4224x1024, .f32⟩
  | 22 => ⟨S4112x1024, .f32⟩
  | 23 => ⟨S_, .i32⟩
  | 24 => ⟨S_, .f32⟩
  | 25 => ⟨S4224x1024, .f32⟩
  | 26 => ⟨S4112x1024, .f32⟩
  | 27 => ⟨S_, .i32⟩
  | 28 => ⟨S_, .f32⟩
  | 29 => ⟨S4224x1024, .f32⟩
  | 30 => ⟨S4112x512, .f32⟩
  | 31 => ⟨S_, .i32⟩
  | 32 => ⟨S_, .f32⟩
  | 33 => ⟨S4224x512, .f32⟩
  | 34 => ⟨S4224x512, .bf16⟩
  | 35 => ⟨S4112x512, .f32⟩
  | 36 => ⟨S_, .i32⟩
  | 37 => ⟨S_, .f32⟩
  | 38 => ⟨S4224x512, .f32⟩
  | 39 => ⟨S4224x512, .bf16⟩
  | 40 => ⟨S4224x512, .f32⟩
  | 41 => ⟨S4224x512, .bf16⟩
  | 42 => ⟨S4224x512, .f32⟩
  | 43 => ⟨S4224x512, .bf16⟩
  | 44 => ⟨S4112x1024, .f32⟩
  | 45 => ⟨S_, .i32⟩
  | 46 => ⟨S_, .f32⟩
  | 47 => ⟨S4224x1024, .f32⟩
  | 48 => ⟨S4224x1024, .bf16⟩
  | 49 => ⟨S4112x1024, .f32⟩
  | 50 => ⟨S_, .i32⟩
  | 51 => ⟨S_, .f32⟩
  | 52 => ⟨S4224x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_6 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_7 : Ref sig .tc := ⟨.hbm, 100, rfl⟩
abbrev main_v88 : Ref sig .tc := ⟨.hbm, 101, rfl⟩
abbrev main_v89 : Ref sig .tc := ⟨.hbm, 102, rfl⟩
abbrev main_cst_8 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_c : Ref sig .tc := ⟨.hbm, 111, rfl⟩
abbrev main_call0_v0 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_c_10 : Ref sig .tc := ⟨.hbm, 129, rfl⟩
abbrev main_call1_v0 : Ref sig .tc := ⟨.hbm, 130, rfl⟩
abbrev main_v112 : Ref sig .tc := ⟨.hbm, 131, rfl⟩
abbrev main_v113 : Ref sig .tc := ⟨.hbm, 132, rfl⟩
abbrev main_cst_11 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_c_12 : Ref sig .tc := ⟨.hbm, 147, rfl⟩
abbrev main_call2_v0 : Ref sig .tc := ⟨.hbm, 148, rfl⟩
abbrev main_v127 : Ref sig .tc := ⟨.hbm, 149, rfl⟩
abbrev main_v128 : Ref sig .tc := ⟨.hbm, 150, rfl⟩
abbrev main_c_13 : Ref sig .tc := ⟨.hbm, 151, rfl⟩
abbrev main_call3_v0 : Ref sig .tc := ⟨.hbm, 152, rfl⟩
abbrev main_v129 : Ref sig .tc := ⟨.hbm, 153, rfl⟩
abbrev main_v130 : Ref sig .tc := ⟨.hbm, 154, rfl⟩
abbrev main_c_14 : Ref sig .tc := ⟨.hbm, 155, rfl⟩
abbrev main_call4_v0 : Ref sig .tc := ⟨.hbm, 156, rfl⟩
abbrev main_v131 : Ref sig .tc := ⟨.hbm, 157, rfl⟩
abbrev main_v132 : Ref sig .tc := ⟨.hbm, 158, rfl⟩
abbrev main_c_15 : Ref sig .tc := ⟨.hbm, 159, rfl⟩
abbrev main_call5_v0 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_c_16 : Ref sig .tc := ⟨.hbm, 164, rfl⟩
abbrev main_call6_v0 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_c_17 : Ref sig .tc := ⟨.hbm, 173, rfl⟩
abbrev main_call7_v0 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_c_18 : Ref sig .tc := ⟨.hbm, 178, rfl⟩
abbrev main_call8_v0 : Ref sig .tc := ⟨.hbm, 179, rfl⟩
abbrev main_v146 : Ref sig .tc := ⟨.hbm, 180, rfl⟩

abbrev nD : Nat := 1
abbrev τ : Topo := Topo.v7x

variable {F : FTy → Type} [FloatOps F]
-- ==== Proof.Reals.lean ====
/- Extended reals that are real numbers: what the ideal operations do to them, and two host sums read at an index. -/
module

public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.Reals

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals, taken in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem IsReal.sum {ι : Type*} (s : Finset ι) {f : ι → EReal} (h : ∀ i ∈ s, IsReal (f i)) : IsReal (∑ i ∈ s, f i) := by
  classical
  induction s using Finset.induction_on with
  | empty => exact isReal_zero
  | insert a s ha ih =>
    rw [Finset.sum_insert ha]
    exact (h a (Finset.mem_insert_self a s)).add (ih fun i hi => h i (Finset.mem_insert_of_mem hi))

/-- A real factor goes into a sum of reals. -/
theorem mul_sum {ι : Type*} (s : Finset ι) {a : EReal} {f : ι → EReal} (ha : IsReal a) (h : ∀ i ∈ s, IsReal (f i)) :
    a * ∑ i ∈ s, f i = ∑ i ∈ s, a * f i := by
  classical
  induction s using Finset.induction_on with
  | empty => simp
  | insert b s hb ih =>
    obtain ⟨x, hx⟩ := h b (Finset.mem_insert_self b s)
    obtain ⟨y, hy⟩ := IsReal.sum s fun i hi => h i (Finset.mem_insert_of_mem hi)
    obtain ⟨z, rfl⟩ := ha
    rw [Finset.sum_insert hb, Finset.sum_insert hb, ← ih fun i hi => h i (Finset.mem_insert_of_mem hi), hx, hy,
      ← EReal.coe_add, ← EReal.coe_mul, ← EReal.coe_mul, ← EReal.coe_mul, ← EReal.coe_add, mul_add]

/-- A value whose absolute value is below the top is real. -/
theorem isReal_of_abs_lt {x : EReal} (h : max x (-x) < ⊤) : IsReal x := by
  induction x using EReal.rec with
  | bot => exact absurd h (by simp)
  | coe r => exact ⟨r, rfl⟩
  | top => exact absurd h (by simp)

/-- A family of reals is the coercion of a real family. -/
theorem exists_real {ι : Type*} {f : ι → EReal} (h : ∀ i, IsReal (f i)) : ∃ g : ι → ℝ, f = fun i => (g i : EReal) := by
  choose g hg using h
  exact ⟨g, funext hg⟩

theorem rsqrt_coe_pos {r : ℝ} (h : 0 < r) : Ideal.rsqrt (r : EReal) = (((Real.sqrt r)⁻¹ : ℝ) : EReal) := by
  rw [Ideal.rsqrt_coe, if_neg (not_lt.2 h.le), if_neg h.ne']

theorem div_coe_pos {r : ℝ} (h : 0 < r) (x : ℝ) : Ideal.div (x : EReal) (r : EReal) = ((x / r : ℝ) : EReal) := by
  rw [Ideal.div_coe h.ne', ← EReal.coe_mul, mul_one_div]

/-! ## Literals -/

/-- One thousand and twenty-four. -/
abbrev W1024 : EReal := Ideal.ofBits .f32 0x44800000#32
/-- The norms' guard, the single-precision number nearest to a millionth. -/
abbrev WEps : EReal := Ideal.ofBits .f32 0x358637BD#32
abbrev WHalf : EReal := Ideal.ofBits .f32 0x3F000000#32
abbrev WTwo : EReal := Ideal.ofBits .f32 0x40000000#32
abbrev WNegHalf : EReal := Ideal.ofBits .f32 0xBF000000#32
/-- One over one thousand and twenty-four. -/
abbrev WInv1024 : EReal := Ideal.ofBits .f32 0x3A800000#32

theorem w1024 : W1024 = ((1024 : ℝ) : EReal) := by
  simp [W1024, Ideal.ofBits, Ideal.ieee, -EReal.coe_mul]; norm_num
theorem wHalf : WHalf = ((1 / 2 : ℝ) : EReal) := by
  simp [WHalf, Ideal.ofBits, Ideal.ieee, -EReal.coe_mul]; norm_num
theorem wTwo : WTwo = ((2 : ℝ) : EReal) := by
  simp [WTwo, Ideal.ofBits, Ideal.ieee, -EReal.coe_mul]; norm_num
theorem wNegHalf : WNegHalf = ((-(1 / 2) : ℝ) : EReal) := by
  simp [WNegHalf, Ideal.ofBits, Ideal.ieee, -EReal.coe_mul, -EReal.coe_neg]; norm_num
theorem wInv1024 : WInv1024 = ((1 / 1024 : ℝ) : EReal) := by
  simp [WInv1024, Ideal.ofBits, Ideal.ieee, -EReal.coe_mul]; norm_num
/-- The guard is a positive real. -/
theorem wEps : ∃ e : ℝ, 0 < e ∧ WEps = (e : EReal) := by
  refine ⟨(8796093 : ℝ) / 8796093022208, by norm_num, ?_⟩
  simp [WEps, Ideal.ofBits, Ideal.ieee, -EReal.coe_mul]; norm_num

/-! ## Host sums over unit axes and one other -/

/-- A host sum of which one operand element goes to the index `j` is the initial value plus that element. -/
theorem hostReduceAdd_fiber {s t : Shape} {axes : List (Fin s.rank)} (h : s.ReducesTo axes t) (x : s.Idx → EReal) (init : EReal)
    (j : t.Idx) (i : s.Idx) (hi : ∀ a, h.drop a = j ↔ a = i) : Ideal.hostReduceAdd h x init j = init + x i := by
  unfold Ideal.hostReduceAdd
  rw [Finset.filter_congr (fun a _ => hi a), Finset.filter_eq', if_pos (Finset.mem_univ i), Finset.sum_singleton]

@[pointwise] theorem hostReduceAdd_row {n : ℕ} (h : (⟨3, ![1, n, 1]⟩ : Shape).ReducesTo [0, 2] ⟨1, ![n]⟩)
    (x : (⟨3, ![1, n, 1]⟩ : Shape).Idx → EReal) (init : EReal) (j : (⟨1, ![n]⟩ : Shape).Idx) :
    Ideal.hostReduceAdd h x init j = init + x (ix3 0 (j 0) 0) := by
  have hd : ∀ a, (h.drop a 0).val = (a 1).val := fun a => rfl
  refine hostReduceAdd_fiber h x init j _ fun a => ⟨fun e => ?_, fun e => ?_⟩
  · have h1 := congrArg Fin.val (congrFun e 0)
    rw [hd] at h1
    have h0 : (a 0).val < 1 := (a 0).isLt
    have h2 : (a 2).val < 1 := (a 2).isLt
    funext b
    match b with
    | ⟨0, _⟩ => exact Fin.ext (Nat.lt_one_iff.1 h0)
    | ⟨1, _⟩ => exact Fin.ext h1
    | ⟨2, _⟩ => exact Fin.ext (Nat.lt_one_iff.1 h2)
  · subst e
    funext b
    match b with
    | ⟨0, _⟩ => exact Fin.ext (hd _)

@[pointwise] theorem hostReduceAdd_col {n : ℕ} (h : (⟨3, ![1, 1, n]⟩ : Shape).ReducesTo [0, 1] ⟨1, ![n]⟩)
    (x : (⟨3, ![1, 1, n]⟩ : Shape).Idx → EReal) (init : EReal) (j : (⟨1, ![n]⟩ : Shape).Idx) :
    Ideal.hostReduceAdd h x init j = init + x (ix3 0 0 (j 0)) := by
  have hd : ∀ a, (h.drop a 0).val = (a 2).val := fun a => rfl
  refine hostReduceAdd_fiber h x init j _ fun a => ⟨fun e => ?_, fun e => ?_⟩
  · have h1 := congrArg Fin.val (congrFun e 0)
    rw [hd] at h1
    have h0 : (a 0).val < 1 := (a 0).isLt
    have h2 : (a 1).val < 1 := (a 1).isLt
    funext b
    match b with
    | ⟨0, _⟩ => exact Fin.ext (Nat.lt_one_iff.1 h0)
    | ⟨1, _⟩ => exact Fin.ext (Nat.lt_one_iff.1 h2)
    | ⟨2, _⟩ => exact Fin.ext h1
  · subst e
    funext b
    match b with
    | ⟨0, _⟩ => exact Fin.ext (hd _)

end Cert.Reals

end
-- ==== Proof.LossRows.lean ====
/- The output projection, the final norm and the loss, and their gradients, over rows: the kernel's form of the norm's
   gradient, `jax.vjp`'s form, and that they agree on real numbers. -/
module

public import proofs.«01_k».proof.Proof.Reals

@[expose] public section

set_option maxRecDepth 16384

noncomputable section

open Idealize.ShloMosaic Idealize.ShloMosaic.TcCoe Idealize.SL.Sem

namespace Cert.LossRows

open Cert.Reals

/-- A row's reciprocal root mean square. -/
def rms (h : Fin 1024 → EReal) : EReal := Ideal.rsqrt (Ideal.div (∑ x, h x * h x) W1024 + WEps)

/-- The row's gradient as the kernel writes it: `r (n − ĥ mean(n ĥ))` for `n = e g / 1024`, `ĥ = r h`. -/
def grad (h e g : Fin 1024 → EReal) (d : Fin 1024) : EReal :=
  rms h * (e d * WInv1024 * g d - h d * rms h * Ideal.div (∑ x, e x * WInv1024 * g x * (h x * rms h)) W1024)

/-- The cotangent of the norm's output times the gain, as the reverse pass writes it. -/
def cot (e g : Fin 1024 → EReal) (d : Fin 1024) : EReal := Ideal.div WHalf W1024 * (WTwo * e d) * g d

/-- The reverse pass's cotangent of the mean square. -/
def cotMean (h e g : Fin 1024 → EReal) : EReal :=
  Ideal.div ((∑ x, h x * cot e g x) * (WNegHalf * Ideal.div (rms h) (Ideal.div (∑ x, h x * h x) W1024 + WEps))) W1024

/-- The row's gradient as the reverse pass writes it. -/
def gradVjp (h e g : Fin 1024 → EReal) (d : Fin 1024) : EReal :=
  cot e g d * rms h + h d * cotMean h e g + cotMean h e g * h d

/-- On real numbers the mean square plus the guard is a positive real. -/
theorem meanSq_real (H : Fin 1024 → ℝ) :
    ∃ s : ℝ, 0 < s ∧ Ideal.div (∑ x, (H x : EReal) * (H x : EReal)) W1024 + WEps = (s : EReal) := by
  obtain ⟨e, he, hw⟩ := wEps
  have h0 : (0 : ℝ) ≤ ∑ x, H x * H x := Finset.sum_nonneg fun x _ => mul_self_nonneg _
  refine ⟨(∑ x, H x * H x) / 1024 + e, by positivity, ?_⟩
  rw [hw, w1024]
  simp only [← EReal.coe_mul]
  rw [coe_sum, div_coe_pos (by norm_num), ← EReal.coe_add]

theorem isReal_rms {h : Fin 1024 → EReal} (hh : ∀ x, IsReal (h x)) : IsReal (rms h) := by
  obtain ⟨H, rfl⟩ := exists_real hh
  obtain ⟨s, hs, e⟩ := meanSq_real H
  rw [rms, e, rsqrt_coe_pos hs]; exact isReal_coe _

/-- The two forms of the row's gradient agree on real numbers. -/
theorem gradVjp_eq_grad {h e g : Fin 1024 → EReal} (hh : ∀ x, IsReal (h x)) (he : ∀ x, IsReal (e x)) (hg : ∀ x, IsReal (g x))
    (d : Fin 1024) : gradVjp h e g d = grad h e g d := by
  obtain ⟨H, rfl⟩ := exists_real hh
  obtain ⟨E, rfl⟩ := exists_real he
  obtain ⟨G, rfl⟩ := exists_real hg
  obtain ⟨s, hs, es⟩ := meanSq_real H
  have hr : rms (fun x => (H x : EReal)) = (((Real.sqrt s)⁻¹ : ℝ) : EReal) := by rw [rms, es, rsqrt_coe_pos hs]
  simp only [gradVjp, grad, cotMean, cot, hr, es]
  rw [w1024, wHalf, wTwo, wNegHalf, wInv1024]
  simp only [div_coe_pos hs, div_coe_pos (show (0 : ℝ) < 1024 by norm_num), ← EReal.coe_mul, ← EReal.coe_add, ← EReal.coe_sub, coe_sum]
  congr 1
  have hq : Real.sqrt s * Real.sqrt s = s := Real.mul_self_sqrt hs.le
  have hq0 : Real.sqrt s ≠ 0 := (Real.sqrt_pos.2 hs).ne'
  have hs1 : (∑ x, H x * (1 / 2 / 1024 * (2 * E x) * G x)) = (∑ x, E x * G x * H x) / 1024 := by
    rw [Finset.sum_div]; exact Finset.sum_congr rfl fun x _ => by ring
  have hs2 : (∑ x, E x * (1 / 1024) * G x * (H x * (Real.sqrt s)⁻¹)) = (∑ x, E x * G x * H x) / 1024 * (Real.sqrt s)⁻¹ := by
    rw [Finset.sum_div, Finset.sum_mul]; exact Finset.sum_congr rfl fun x _ => by ring
  rw [hs1, hs2]
  generalize (∑ x, E x * G x * H x) = S
  generalize hqq : Real.sqrt s = q at *
  subst hq
  field_simp
  ring

/-- A zero row with no error has a zero gradient. -/
theorem grad_zero (g : Fin 1024 → EReal) (d : Fin 1024) : grad (fun _ => 0) (fun _ => 0) g d = 0 := by
  simp [grad]

/-! ## The rows of the call's arguments -/

/-- A normalized row. -/
def nrm (h : Fin 1024 → EReal) (d : Fin 1024) : EReal := h d * rms h

section args

variable (x0 x1 x2 : (⟨3, ![1, 4112, 1024]⟩ : Shape).Idx → EReal) (x3 : (⟨3, ![1, 2048, 1024]⟩ : Shape).Idx → EReal)
  (x4 : (⟨1, ![1024]⟩ : Shape).Idx → EReal) (x5 : (⟨3, ![1, 4096, 1024]⟩ : Shape).Idx → EReal)

/-- Row `k` of the projection's first half, the recurrence's, and of its second half, the retention's. -/
def wLru (k d : Fin 1024) : EReal := x3 (ix3 0 ⟨k.val, by omega⟩ d)
def wRet (k d : Fin 1024) : EReal := x3 (ix3 0 ⟨1024 + k.val, by omega⟩ d)

/-- The residual stream after the output projection, row by row. -/
def mix (r : Fin 4112) (d : Fin 1024) : EReal :=
  x2 (ix3 0 r d) + ∑ k, x0 (ix3 0 r k) * wLru x3 k d + ∑ k, x1 (ix3 0 r k) * wRet x3 k d

/-- The final norm's gain. -/
def gain (d : Fin 1024) : EReal := x4 (ix1 d)

/-- The error of a row against its target; none on the meta tokens. -/
def err (r : Fin 4112) (d : Fin 1024) : EReal :=
  if h : 16 ≤ r.val then nrm (mix x0 x1 x2 x3 r) d * gain x4 d - x5 (ix3 0 ⟨r.val - 16, by omega⟩ d) else 0

/-- A row's gradient. -/
def dRow (r : Fin 4112) (d : Fin 1024) : EReal := grad (mix x0 x1 x2 x3 r) (err x0 x1 x2 x3 x4 x5 r) (gain x4) d

/-- Every element of every argument is a real number. -/
def AllReal : Prop :=
  (∀ i, IsReal (x0 i)) ∧ (∀ i, IsReal (x1 i)) ∧ (∀ i, IsReal (x2 i)) ∧ (∀ i, IsReal (x3 i)) ∧ (∀ i, IsReal (x4 i)) ∧ ∀ i, IsReal (x5 i)

variable {x0 x1 x2 x3 x4 x5}

theorem isReal_mix (h : AllReal x0 x1 x2 x3 x4 x5) (r : Fin 4112) (d : Fin 1024) : IsReal (mix x0 x1 x2 x3 r d) :=
  ((h.2.2.1 _).add (.sum _ fun _ _ => (h.1 _).mul (h.2.2.2.1 _))).add (.sum _ fun _ _ => (h.2.1 _).mul (h.2.2.2.1 _))

theorem isReal_nrm (h : AllReal x0 x1 x2 x3 x4 x5) (r : Fin 4112) (d : Fin 1024) : IsReal (nrm (mix x0 x1 x2 x3 r) d) :=
  (isReal_mix h r d).mul (isReal_rms (isReal_mix h r))

theorem isReal_err (h : AllReal x0 x1 x2 x3 x4 x5) (r : Fin 4112) (d : Fin 1024) : IsReal (err x0 x1 x2 x3 x4 x5 r d) := by
  unfold err
  split
  · exact ((isReal_nrm h r d).mul (h.2.2.2.2.1 _)).sub (h.2.2.2.2.2 _)
  · exact isReal_zero

/-- The reverse pass's gradient of a row is the kernel's. -/
theorem gradVjp_row (h : AllReal x0 x1 x2 x3 x4 x5) (r : Fin 4112) (d : Fin 1024) :
    gradVjp (mix x0 x1 x2 x3 r) (err x0 x1 x2 x3 x4 x5 r) (gain x4) d = dRow x0 x1 x2 x3 x4 x5 r d :=
  gradVjp_eq_grad (isReal_mix h r) (isReal_err h r) (fun _ => h.2.2.2.2.1 _) d

end args

/-! ## Padded rows -/

/-- Rows after 112 rows of zeros. -/
def padded (f : Fin 4112 → Fin 1024 → EReal) (R : Fin 4224) (d : Fin 1024) : EReal :=
  if h : 112 ≤ R.val then f ⟨R.val - 112, by omega⟩ d else 0

theorem padded_of_le {f : Fin 4112 → Fin 1024 → EReal} {R : Fin 4224} (h : 112 ≤ R.val) (d : Fin 1024) :
    padded f R d = f ⟨R.val - 112, by omega⟩ d := dif_pos h

theorem padded_of_lt {f : Fin 4112 → Fin 1024 → EReal} {R : Fin 4224} (h : ¬112 ≤ R.val) (d : Fin 1024) : padded f R d = 0 :=
  dif_neg h

/-- A sum over the padded rows, of terms that vanish on the zero rows, is the sum over the rows. -/
theorem sum_padded {M : Type*} [AddCommMonoid M] (F : Fin 4224 → M) (f : Fin 4112 → M) (h0 : ∀ R : Fin 4224, ¬112 ≤ R.val → F R = 0)
    (h1 : ∀ r : Fin 4112, F ⟨112 + r.val, by omega⟩ = f r) : ∑ R, F R = ∑ r, f r := by
  have e : ∑ R : Fin (112 + 4112), F R = ∑ r, f r := by
    rw [Fin.sum_univ_add]
    rw [Finset.sum_eq_zero fun i _ => h0 _ (by simp [Fin.castAdd]), zero_add]
    exact Finset.sum_congr rfl fun r _ => h1 r
  exact e

end Cert.LossRows

end
-- ==== Proof.LossKernel.lean ====
/- The kernel's blocks at coordinates: the rows, the targets, the projection and the gain that a grid point reads. -/
module

public import proofs.«01_k».proof.Proof.LossRows
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.LossKernel

open Cert.KernelIdeal Cert.KernelIdeal.Gen Cert.Reals Cert.LossRows

variable (m : (ℓ : Loc nD τ sig) → Buf (Elt Ideal) ℓ)

/-- The call's arguments: the recurrence's output, the retention's output, the residual stream, the projection, the gain, the targets. -/
abbrev arg0 (c : Dev nD) : S1x4112x1024.Idx → EReal := m ((c : Thread nD τ).loc main_arg0)
abbrev arg1 (c : Dev nD) : S1x4112x1024.Idx → EReal := m ((c : Thread nD τ).loc main_arg1)
abbrev arg2 (c : Dev nD) : S1x4112x1024.Idx → EReal := m ((c : Thread nD τ).loc main_arg2)
abbrev arg3 (c : Dev nD) : S1x2048x1024.Idx → EReal := m ((c : Thread nD τ).loc main_arg3)
abbrev arg4 (c : Dev nD) : S1024.Idx → EReal := m ((c : Thread nD τ).loc main_arg4)
abbrev arg5 (c : Dev nD) : S1x4096x1024.Idx → EReal := m ((c : Thread nD τ).loc main_arg5)

/-- Every window's block index at a grid point. -/
theorem idx : ∀ t : Fin cfg0.N, win0_0.index t = ![t.val, 0] ∧ win0_1.index t = ![t.val, 0] ∧ win0_2.index t = ![t.val, 0]
    ∧ win0_3.index t = ![3 * t.val - 1, 0] ∧ win0_4.index t = ![3 * t.val, 0] ∧ win0_5.index t = ![3 * t.val + 1, 0]
    ∧ win0_6.index t = ![0, 0] ∧ win0_7.index t = ![0, 0] ∧ win0_8.index t = ![t.val, 0] ∧ win0_9.index t = ![t.val, 0]
    ∧ win0_10.index t = ![t.val, 0] ∧ win0_11.index t = ![0, 0] ∧ win0_12.index t = ![0, 0] ∧ win0_13.index t = ![0, 0]
    ∧ (grid0.coords t 0).val = t.val ∧ t.val < 11 :=
  (by decide +kernel : ∀ t : Fin grid0.N, _)

theorem sitofp_zero : FloatOps.sitofp (F := Ideal) .f32 (0#32) = (0 : EReal) := by
  show (((0#32 : BitVec 32).toInt : ℝ) : EReal) = 0
  simp

/-! ## The arrays the call's host lines prepare -/

theorem V_v2 (c : Dev nD) (i : S4224x1024.Idx) : (V m c main_v2 : S4224x1024.Idx → EReal) i
    = padded (fun r d => arg0 m c (ix3 0 r d)) (i 0) (i 1) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp
  pointwise
  unfold padded
  by_cases h : 112 ≤ (i 0).val
  · have h' : (i 0).val - 112 < 4112 := by have := (i 0).isLt; change (i 0).val < 4224 at this; omega
    refine (dif_pos ⟨h, h'⟩).trans (Eq.trans ?_ (dif_pos h).symm)
    rfl
  · exact ((dif_neg (fun h' => h h'.1)).trans sitofp_zero).trans (dif_neg h).symm

theorem V_v5 (c : Dev nD) (i : S4224x1024.Idx) : (V m c main_v5 : S4224x1024.Idx → EReal) i
    = padded (fun r d => arg1 m c (ix3 0 r d)) (i 0) (i 1) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp
  pointwise
  unfold padded
  by_cases h : 112 ≤ (i 0).val
  · have h' : (i 0).val - 112 < 4112 := by have := (i 0).isLt; change (i 0).val < 4224 at this; omega
    refine (dif_pos ⟨h, h'⟩).trans (Eq.trans ?_ (dif_pos h).symm)
    rfl
  · exact ((dif_neg (fun h' => h h'.1)).trans sitofp_zero).trans (dif_neg h).symm

theorem V_v7 (c : Dev nD) (i : S4224x1024.Idx) : (V m c main_v7 : S4224x1024.Idx → EReal) i
    = padded (fun r d => arg2 m c (ix3 0 r d)) (i 0) (i 1) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp
  pointwise
  unfold padded
  by_cases h : 112 ≤ (i 0).val
  · have h' : (i 0).val - 112 < 4112 := by have := (i 0).isLt; change (i 0).val < 4224 at this; omega
    refine (dif_pos ⟨h, h'⟩).trans (Eq.trans ?_ (dif_pos h).symm)
    rfl
  · exact ((dif_neg (fun h' => h h'.1)).trans sitofp_zero).trans (dif_neg h).symm

theorem V_v8 (c : Dev nD) (i : S4096x1024.Idx) : (V m c main_v8 : S4096x1024.Idx → EReal) i = arg5 m c (ix3 0 (i 0) (i 1)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp
  pointwise

theorem V_v10 (c : Dev nD) (i : S2048x1024.Idx) : (V m c main_v10 : S2048x1024.Idx → EReal) i = arg3 m c (ix3 0 (i 0) (i 1)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp
  pointwise

theorem V_v11 (c : Dev nD) (i : S1x1024.Idx) : (V m c main_v11 : S1x1024.Idx → EReal) i = arg4 m c (ix1 (i 1)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp
  pointwise

/-! ## The blocks -/

/-- The padded row at row `y` of point `t`'s block. -/
def rowOf (t : Fin cfg0.N) (y : Fin 384) : Fin 4224 := ⟨t.val * 384 + y.val, by have := (idx t).2.2.2.2.2.2.2.2.2.2.2.2.2.2.2; omega⟩

theorem blk0_at (c : Dev nD) (t : Fin cfg0.N) (y : Fin 384) (k : Fin 1024) : (iblk m c 0 t : S384x1024.Idx → EReal) (ix2 y k)
    = padded (fun r d => arg0 m c (ix3 0 r d)) (rowOf t y) k := by
  refine (V_v2 m c ((win0_0.blk t).view.emb (ix2 y k))).trans ?_
  have e0 : (win0_0.blk t).view.emb (ix2 y k) 0 = rowOf t y := Fin.ext (by blk_simp [idx t]; rfl)
  have e1 : (win0_0.blk t).view.emb (ix2 y k) 1 = k := Fin.ext (by blk_simp [idx t])
  rw [e0, e1]

theorem blk1_at (c : Dev nD) (t : Fin cfg0.N) (y : Fin 384) (k : Fin 1024) : (iblk m c 1 t : S384x1024.Idx → EReal) (ix2 y k)
    = padded (fun r d => arg1 m c (ix3 0 r d)) (rowOf t y) k := by
  refine (V_v5 m c ((win0_1.blk t).view.emb (ix2 y k))).trans ?_
  have e0 : (win0_1.blk t).view.emb (ix2 y k) 0 = rowOf t y := Fin.ext (by blk_simp [idx t]; rfl)
  have e1 : (win0_1.blk t).view.emb (ix2 y k) 1 = k := Fin.ext (by blk_simp [idx t])
  rw [e0, e1]

theorem blk2_at (c : Dev nD) (t : Fin cfg0.N) (y : Fin 384) (k : Fin 1024) : (iblk m c 2 t : S384x1024.Idx → EReal) (ix2 y k)
    = padded (fun r d => arg2 m c (ix3 0 r d)) (rowOf t y) k := by
  refine (V_v7 m c ((win0_2.blk t).view.emb (ix2 y k))).trans ?_
  have e0 : (win0_2.blk t).view.emb (ix2 y k) 0 = rowOf t y := Fin.ext (by blk_simp [idx t]; rfl)
  have e1 : (win0_2.blk t).view.emb (ix2 y k) 1 = k := Fin.ext (by blk_simp [idx t])
  rw [e0, e1]

theorem ldLru_at (c : Dev nD) (t : Fin cfg0.N) (k d : Fin 1024) :
    (View.ld (iblk m c 6 t : S2048x1024.Idx → EReal) (Rect.unit ![0, 0] ![1024, 1024] inb_S2048x1024_S1024x1024_0_0)) (ix2 k d)
    = wLru (arg3 m c) k d := by
  blk_simp [iblk, idx t]
  refine (V_v10 m c _).trans ?_
  unfold wLru
  blk_ext [idx t]
  · show 0 + 1 * k.val = k.val
    omega
  · show 0 + 1 * d.val = d.val
    omega

theorem ldRet_at (c : Dev nD) (t : Fin cfg0.N) (k d : Fin 1024) :
    (View.ld (iblk m c 6 t : S2048x1024.Idx → EReal) (Rect.unit ![1024, 0] ![1024, 1024] inb_S2048x1024_S1024x1024_1024_0)) (ix2 k d)
    = wRet (arg3 m c) k d := by
  blk_simp [iblk, idx t]
  refine (V_v10 m c _).trans ?_
  unfold wRet
  blk_ext [idx t]
  · show 1024 + 1 * k.val = 1024 + k.val
    omega
  · show 0 + 1 * d.val = d.val
    omega

theorem blk7_at (c : Dev nD) (t : Fin cfg0.N) (d : Fin 1024) : (iblk m c 7 t : S1x1024.Idx → EReal) (ix2 0 d) = gain (arg4 m c) d := by
  refine (V_v11 m c ((win0_7.blk t).view.emb (ix2 0 d))).trans ?_
  have e1 : (win0_7.blk t).view.emb (ix2 0 d) 1 = d := Fin.ext (by blk_simp [idx t])
  rw [e1]; rfl

theorem blk3_at (c : Dev nD) (t : Fin cfg0.N) (y : Fin 128) (d : Fin 1024) : (iblk m c 3 t : S128x1024.Idx → EReal) (ix2 y d)
    = arg5 m c (ix3 0 ⟨(3 * t.val - 1) * 128 + y.val, by have := (idx t).2.2.2.2.2.2.2.2.2.2.2.2.2.2.2; omega⟩ d) := by
  refine (V_v8 m c ((win0_3.blk t).view.emb (ix2 y d))).trans ?_
  have e0 : ((win0_3.blk t).view.emb (ix2 y d) 0).val = (3 * t.val - 1) * 128 + y.val := by blk_simp [idx t]
  have e1 : (win0_3.blk t).view.emb (ix2 y d) 1 = d := Fin.ext (by blk_simp [idx t])
  refine congrArg (arg5 m c) ?_
  rw [e1]
  exact congrArg (fun r => ix3 0 r d) (Fin.ext e0)

theorem blk4_at (c : Dev nD) (t : Fin cfg0.N) (y : Fin 128) (d : Fin 1024) : (iblk m c 4 t : S128x1024.Idx → EReal) (ix2 y d)
    = arg5 m c (ix3 0 ⟨(3 * t.val) * 128 + y.val, by have := (idx t).2.2.2.2.2.2.2.2.2.2.2.2.2.2.2; omega⟩ d) := by
  refine (V_v8 m c ((win0_4.blk t).view.emb (ix2 y d))).trans ?_
  have e0 : ((win0_4.blk t).view.emb (ix2 y d) 0).val = (3 * t.val) * 128 + y.val := by blk_simp [idx t]
  have e1 : (win0_4.blk t).view.emb (ix2 y d) 1 = d := Fin.ext (by blk_simp [idx t])
  refine congrArg (arg5 m c) ?_
  rw [e1]
  exact congrArg (fun r => ix3 0 r d) (Fin.ext e0)

theorem blk5_at (c : Dev nD) (t : Fin cfg0.N) (y : Fin 128) (d : Fin 1024) : (iblk m c 5 t : S128x1024.Idx → EReal) (ix2 y d)
    = arg5 m c (ix3 0 ⟨(3 * t.val + 1) * 128 + y.val, by have := (idx t).2.2.2.2.2.2.2.2.2.2.2.2.2.2.2; omega⟩ d) := by
  refine (V_v8 m c ((win0_5.blk t).view.emb (ix2 y d))).trans ?_
  have e0 : ((win0_5.blk t).view.emb (ix2 y d) 0).val = (3 * t.val + 1) * 128 + y.val := by blk_simp [idx t]
  have e1 : (win0_5.blk t).view.emb (ix2 y d) 1 = d := Fin.ext (by blk_simp [idx t])
  refine congrArg (arg5 m c) ?_
  rw [e1]
  exact congrArg (fun r => ix3 0 r d) (Fin.ext e0)

end Cert.KernelIdeal.LossKernel

end
-- ==== Proof.LossPoint.lean ====
/- What a grid point computes, at coordinates: its rows, their norm, their error and their gradient. -/
module

public import proofs.«01_k».proof.Proof.LossKernel
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.LossKernel

open Cert.KernelIdeal Cert.KernelIdeal.Gen Cert.Reals Cert.LossRows

variable (m : (ℓ : Loc nD τ sig) → Buf (Elt Ideal) ℓ)

/-! ## The rows a point computes -/

/-- The residual stream after the projection, of any rows and weights. -/
theorem pay6_at (v3 v5 : FVec Ideal S384x1024 .bf16) (v7 : FVec Ideal S384x1024 .f32) (v9 v13 : FVec Ideal S1024x1024 .bf16)
    (y : Fin 384) (d : Fin 1024) (A B : Fin 1024 → EReal) (W W' : Fin 1024 → Fin 1024 → EReal) (C : EReal)
    (h7 : v7 (ix2 y d) = C) (h3 : ∀ k, v3 (ix2 y k) = A k) (h5 : ∀ k, v5 (ix2 y k) = B k)
    (h9 : ∀ k d, v9 (ix2 k d) = W k d) (h13 : ∀ k d, v13 (ix2 k d) = W' k d) :
    k0_pay6 (F := Ideal) v3 v5 v7 v9 v13 (ix2 y d) = C + ∑ k, A k * W k d + ∑ k, B k * W' k d := by
  pointwise [k0_pay6, k0_pay4, k0_pay5]
  simp only [h7, h3, h5, h9, h13]

/-- The kernel's rows are the padded rows of the residual stream after the projection. -/
theorem mix_at (c : Dev nD) (t : Fin cfg0.N) (y : Fin 384) (d : Fin 1024) :
    k0_pay6 (F := Ideal) (iblk m c 0 t) (iblk m c 1 t) (iblk m c 2 t)
      (View.ld (iblk m c 6 t) (Rect.unit ![0, 0] ![1024, 1024] inb_S2048x1024_S1024x1024_0_0))
      (View.ld (iblk m c 6 t) (Rect.unit ![1024, 0] ![1024, 1024] inb_S2048x1024_S1024x1024_1024_0)) (ix2 y d)
    = padded (mix (arg0 m c) (arg1 m c) (arg2 m c) (arg3 m c)) (rowOf t y) d := by
  refine (pay6_at _ _ _ _ _ y d _ _ _ _ _ (blk2_at m c t y d) (blk0_at m c t y) (blk1_at m c t y) (ldLru_at m c t)
    (ldRet_at m c t)).trans ?_
  by_cases h : 112 ≤ (rowOf t y).val
  · simp only [padded_of_le h]; rfl
  · simp only [padded_of_lt h, zero_mul, Finset.sum_const_zero, add_zero]

section

variable (c : Dev nD) (t : Fin cfg0.N)

/-- What a point reads and computes, by name: the normalized rows, the reciprocal root mean square, the error. -/
abbrev rinvV : FVec Ideal S384x1 .f32 := k0_pay7 (iblk m c 0 t) (iblk m c 1 t) (iblk m c 2 t)
  (View.ld (iblk m c 6 t) (Rect.unit ![0, 0] ![1024, 1024] inb_S2048x1024_S1024x1024_0_0))
  (View.ld (iblk m c 6 t) (Rect.unit ![1024, 0] ![1024, 1024] inb_S2048x1024_S1024x1024_1024_0))
abbrev nrmV : FVec Ideal S384x1024 .f32 := k0_pay8 (iblk m c 0 t) (iblk m c 1 t) (iblk m c 2 t)
  (View.ld (iblk m c 6 t) (Rect.unit ![0, 0] ![1024, 1024] inb_S2048x1024_S1024x1024_0_0))
  (View.ld (iblk m c 6 t) (Rect.unit ![1024, 0] ![1024, 1024] inb_S2048x1024_S1024x1024_1024_0))
abbrev errV : FVec Ideal S384x1024 .f32 := k0_pay12 (BitVec.ofNat 32 (grid0.coords t 0).val) (nrmV m c t) (k0_pay9 (iblk m c 7 t))
  (k0_pay10 (iblk m c 3 t)) (k0_pay11 (iblk m c 4 t)) (iblk m c 5 t)
abbrev doutV : FVec Ideal S384x1024 .f32 := k0_pay14 (BitVec.ofNat 32 (grid0.coords t 0).val) (nrmV m c t) (k0_pay9 (iblk m c 7 t))
  (k0_pay10 (iblk m c 3 t)) (k0_pay11 (iblk m c 4 t)) (iblk m c 5 t)

abbrev mixP := padded (mix (arg0 m c) (arg1 m c) (arg2 m c) (arg3 m c))
abbrev errP := padded (err (arg0 m c) (arg1 m c) (arg2 m c) (arg3 m c) (arg4 m c) (arg5 m c))
abbrev dRowP := padded (dRow (arg0 m c) (arg1 m c) (arg2 m c) (arg3 m c) (arg4 m c) (arg5 m c))

theorem rinv_at (y : Fin 384) : rinvV m c t (ix2 y 0) = rms (mixP m c (rowOf t y)) := by
  pointwise [rinvV, k0_pay7]
  simp only [mix_at]
  rfl

theorem nrm_at (y : Fin 384) (d : Fin 1024) : nrmV m c t (ix2 y d) = nrm (mixP m c (rowOf t y)) d := by
  pointwise [nrmV, k0_pay8]
  exact congrArg₂ (· * ·) (mix_at m c t y d) (rinv_at m c t y)

theorem mask_at : ∀ t : Fin 11, ∀ y : Fin 384,
    IntOp.cmpi CmpIPredicate.sge (IntOp.addi (BitVec.ofNat 32 y.val) (Scalar.muli (BitVec.ofNat 32 t.val) 384#32)) 128#32
    = if 128 ≤ t.val * 384 + y.val then 1#1 else 0#1 := by
  decide +kernel

/-- The masked error, of any rows, gain and targets. -/
theorem pay12_at (a : BitVec 32) (v26 : FVec Ideal S384x1024 .f32) (v27 : FVec Ideal S1x1024 .f32) (v29 v31 v33 : FVec Ideal S128x1024 .f32)
    (y : Fin 384) (d : Fin 1024) (N G T : EReal) (on : Prop) [Decidable on]
    (hm : IntOp.cmpi CmpIPredicate.sge (IntOp.addi (BitVec.ofNat 32 y.val) (Scalar.muli a 384#32)) 128#32 = if on then 1#1 else 0#1)
    (h26 : v26 (ix2 y d) = N) (h27 : v27 (ix2 0 d) = G)
    (h29 : ∀ h : y.val < 128, on → v29 (ix2 ⟨y.val, h⟩ d) = T)
    (h31 : ∀ (h : y.val - 128 < 128), ¬y.val < 128 → on → v31 (ix2 ⟨y.val - 128, h⟩ d) = T)
    (h33 : ∀ (h : y.val - 128 - 128 < 128), ¬y.val < 128 → ¬y.val - 128 < 128 → on → v33 (ix2 ⟨y.val - 128 - 128, h⟩ d) = T) :
    k0_pay12 (F := Ideal) a v26 (k0_pay9 v27) (k0_pay10 v29) (k0_pay11 v31) v33 (ix2 y d) = if on then N * G - T else 0 := by
  pointwise [k0_pay12, k0_pay9, k0_pay10, k0_pay11]
  rw [hm, h26, h27]
  by_cases o : on
  · rw [if_pos o, if_pos o]
    show N * G - _ = N * G - T
    congr 1
    split
    · exact h29 _ o
    · split
      · exact h31 _ ‹_› o
      · exact h33 _ ‹_› ‹_› o
  · rw [if_neg o, if_neg o]
    rfl

theorem errP_eq (R : Fin 4224) (d : Fin 1024) : errP m c R d = if h : 128 ≤ R.val then
    nrm (mixP m c R) d * gain (arg4 m c) d - arg5 m c (ix3 0 ⟨R.val - 128, by omega⟩ d) else 0 := by
  by_cases h : 112 ≤ R.val
  · rw [errP, padded_of_le h, err]
    by_cases h' : 128 ≤ R.val
    · have e : mixP m c R = mix (arg0 m c) (arg1 m c) (arg2 m c) (arg3 m c) ⟨R.val - 112, by omega⟩ := funext fun d => padded_of_le h d
      rw [dif_pos (by simp; omega), dif_pos h', e]
      congr 3
    · rw [dif_neg (by simp; omega), dif_neg h']
  · rw [errP, padded_of_lt h, dif_neg (by omega)]

theorem err_at (y : Fin 384) (d : Fin 1024) : errV m c t (ix2 y d) = errP m c (rowOf t y) d := by
  have ht := (idx t).2.2.2.2.2.2.2.2.2.2.2.2.2.2
  have hm := mask_at ⟨t.val, ht.2⟩ y
  rw [← ht.1, show (grid0.coords t 0).val * 384 + y.val = (rowOf t y).val by rw [ht.1]; rfl] at hm
  rw [errP_eq]
  by_cases h : 128 ≤ (rowOf t y).val
  · rw [dif_pos h]
    refine (pay12_at _ _ _ _ _ _ y d _ _ (arg5 m c (ix3 0 ⟨(rowOf t y).val - 128, by omega⟩ d)) _ hm (nrm_at m c t y d) (blk7_at m c t d)
      ?_ ?_ ?_).trans (if_pos ?_)
    · exact fun hy o => (blk3_at m c t _ d).trans (congrArg (arg5 m c) (congrArg (fun r => ix3 0 r d) (Fin.ext (by
        show (3 * t.val - 1) * 128 + y.val = t.val * 384 + y.val - 128
        change 128 ≤ t.val * 384 + y.val at o
        omega))))
    · exact fun hy hy' o => (blk4_at m c t _ d).trans (congrArg (arg5 m c) (congrArg (fun r => ix3 0 r d) (Fin.ext (by
        show 3 * t.val * 128 + (y.val - 128) = t.val * 384 + y.val - 128
        omega))))
    · exact fun hy hy' hy'' o => (blk5_at m c t _ d).trans (congrArg (arg5 m c) (congrArg (fun r => ix3 0 r d) (Fin.ext (by
        show (3 * t.val + 1) * 128 + (y.val - 128 - 128) = t.val * 384 + y.val - 128
        omega))))
    · exact h
  · rw [dif_neg h]
    exact (pay12_at _ _ _ _ _ _ y d _ _ 0 _ hm (nrm_at m c t y d) (blk7_at m c t d) (fun _ o => absurd o h) (fun _ _ o => absurd o h)
      (fun _ _ _ o => absurd o h)).trans (if_neg h)

theorem dout_at (y : Fin 384) (d : Fin 1024) : doutV m c t (ix2 y d) = errP m c (rowOf t y) d * WInv1024 := by
  pointwise [doutV, k0_pay14]
  exact congrArg (· * WInv1024) (err_at m c t y d)

/-- The row's gradient, of any rows, errors and gain. -/
theorem pay17_at (v24 : FVec Ideal S384x1 .f32) (v26 v65 v73 : FVec Ideal S384x1024 .f32) (y : Fin 384) (d : Fin 1024)
    (r : EReal) (H E G : Fin 1024 → EReal) (h24 : v24 (ix2 y 0) = r) (h26 : ∀ d, v26 (ix2 y d) = H d * r)
    (h65 : ∀ d, v65 (ix2 y d) = E d * WInv1024) (h73 : ∀ d, v73 (ix2 y d) = G d) :
    k0_pay17 (F := Ideal) v24 v26 v65 v73 (ix2 y d)
    = r * (E d * WInv1024 * G d - H d * r * Ideal.div (∑ x, E x * WInv1024 * G x * (H x * r)) W1024) := by
  pointwise [k0_pay17]
  simp only [h24, h26, h65, h73]

theorem pay16_at (v27 : FVec Ideal S1x1024 .f32) (y : Fin 384) (d : Fin 1024) :
    k0_pay16 (F := Ideal) (k0_pay9 v27) (ix2 y d) = v27 (ix2 0 d) := by
  pointwise [k0_pay16, k0_pay9]

/-- The gradient of a point's rows, by name. -/
abbrev dh2V : FVec Ideal S384x1024 .f32 := k0_pay17 (rinvV m c t) (nrmV m c t) (doutV m c t) (k0_pay16 (k0_pay9 (iblk m c 7 t)))

theorem dRowP_eq (R : Fin 4224) (d : Fin 1024) : grad (mixP m c R) (errP m c R) (gain (arg4 m c)) d = dRowP m c R d := by
  by_cases h : 112 ≤ R.val
  · rw [dRowP, padded_of_le h, dRow, show mixP m c R = _ from funext fun d => padded_of_le h d,
      show errP m c R = _ from funext fun d => padded_of_le h d]
  · rw [dRowP, padded_of_lt h, show mixP m c R = _ from funext fun d => padded_of_lt h d,
      show errP m c R = _ from funext fun d => padded_of_lt h d, grad_zero]

theorem dh2_at (y : Fin 384) (d : Fin 1024) : dh2V m c t (ix2 y d) = dRowP m c (rowOf t y) d :=
  (pay17_at _ _ _ _ y d _ _ _ _ (rinv_at m c t y) (nrm_at m c t y) (dout_at m c t y)
    (fun d => (pay16_at _ y d).trans (blk7_at m c t d))).trans (dRowP_eq m c _ d)

/-! ## The other results of a point -/

theorem pay19_at (v24 : FVec Ideal S384x1 .f32) (v26 v65 v73 : FVec Ideal S384x1024 .f32) (w : FVec Ideal S1024x1024 .bf16)
    (y : Fin 384) (d : Fin 1024) (D W : Fin 1024 → EReal) (hD : ∀ x, k0_pay17 (F := Ideal) v24 v26 v65 v73 (ix2 y x) = D x)
    (hW : ∀ x, w (ix2 d x) = W x) : k0_pay19 (F := Ideal) v24 v26 v65 v73 w (ix2 y d) = ∑ x, D x * W x := by
  pointwise [k0_pay19, k0_pay18]
  simp only [hD, hW]

theorem pay20_at (v24 : FVec Ideal S384x1 .f32) (v26 v65 v73 : FVec Ideal S384x1024 .f32) (w : FVec Ideal S1024x1024 .bf16)
    (y : Fin 384) (d : Fin 1024) (D W : Fin 1024 → EReal) (hD : ∀ x, k0_pay17 (F := Ideal) v24 v26 v65 v73 (ix2 y x) = D x)
    (hW : ∀ x, w (ix2 d x) = W x) : k0_pay20 (F := Ideal) v24 v26 v65 v73 w (ix2 y d) = ∑ x, D x * W x := by
  pointwise [k0_pay20, k0_pay18]
  simp only [hD, hW]

theorem pay21_at (v3 : FVec Ideal S384x1024 .bf16) (v24 : FVec Ideal S384x1 .f32) (v26 v65 v73 : FVec Ideal S384x1024 .f32)
    (v95 : FVec Ideal S1024x1024 .f32) (k d : Fin 1024) (Y D : Fin 384 → EReal) (hY : ∀ y, v3 (ix2 y k) = Y y)
    (hD : ∀ y, k0_pay17 (F := Ideal) v24 v26 v65 v73 (ix2 y d) = D y) :
    k0_pay21 (F := Ideal) (k0_pay4 v3) v24 v26 v65 v73 v95 (ix2 k d) = v95 (ix2 k d) + ∑ y, Y y * D y := by
  pointwise [k0_pay21, k0_pay18, k0_pay4]
  simp only [hD, hY]

theorem pay22_at (v5 : FVec Ideal S384x1024 .bf16) (v24 : FVec Ideal S384x1 .f32) (v26 v65 v73 : FVec Ideal S384x1024 .f32)
    (v100 : FVec Ideal S1024x1024 .f32) (k d : Fin 1024) (Y D : Fin 384 → EReal) (hY : ∀ y, v5 (ix2 y k) = Y y)
    (hD : ∀ y, k0_pay17 (F := Ideal) v24 v26 v65 v73 (ix2 y d) = D y) :
    k0_pay22 (F := Ideal) (k0_pay5 v5) v24 v26 v65 v73 v100 (ix2 k d) = v100 (ix2 k d) + ∑ y, Y y * D y := by
  pointwise [k0_pay22, k0_pay18, k0_pay5]
  simp only [hD, hY]

theorem pay13_at (a : BitVec 32) (v26 : FVec Ideal S384x1024 .f32) (v28 : FVec Ideal S1x1024 .f32) (v30 v32 v33 : FVec Ideal S128x1024 .f32)
    (v49 : FVec Ideal S8x128 .f32) (i : S8x128.Idx) (E : Fin 384 → Fin 1024 → EReal)
    (hE : ∀ y d, k0_pay12 (F := Ideal) a v26 v28 v30 v32 v33 (ix2 y d) = E y d) :
    k0_pay13 (F := Ideal) a v26 v28 v30 v32 v33 v49 i = v49 i + WHalf * ∑ y, Ideal.div (∑ x, E y x * E y x) W1024 := by
  pointwise [k0_pay13]
  simp only [hE]
  refine congrArg (fun s => v49 i + WHalf * s) (Finset.sum_congr rfl fun y _ => ?_)
  exact Fin.sum_univ_one _

theorem pay15_at (a : BitVec 32) (v26 : FVec Ideal S384x1024 .f32) (v28 : FVec Ideal S1x1024 .f32) (v30 v32 v33 : FVec Ideal S128x1024 .f32)
    (v66 : FVec Ideal S1x1024 .f32) (d : Fin 1024) (E N : Fin 384 → EReal)
    (hE : ∀ y, k0_pay14 (F := Ideal) a v26 v28 v30 v32 v33 (ix2 y d) = E y) (hN : ∀ y, v26 (ix2 y d) = N y) :
    k0_pay15 (F := Ideal) a v26 v28 v30 v32 v33 v66 (ix2 0 d) = v66 (ix2 0 d) + ∑ y, E y * N y := by
  pointwise [k0_pay15]
  simp only [hE, hN]

theorem pay1_at (i) : k0_pay1 (F := Ideal) i = (0 : EReal) := by pointwise [k0_pay1]
theorem pay2_at (i) : k0_pay2 (F := Ideal) i = (0 : EReal) := by pointwise [k0_pay2]
theorem pay3_at (i) : k0_pay3 (F := Ideal) i = (0 : EReal) := by pointwise [k0_pay3]

end

end Cert.KernelIdeal.LossKernel

end
-- ==== Proof.LossValue.lean ====
/- What the call leaves in its six results: the padded gradients, the sums over all rows, the loss. -/
module

public import proofs.«01_k».proof.Proof.LossPoint
public import proofs.«01_k».proof.Proof.Gen.KernelIdeal.Value
public import Idealize.ShloMosaic.Lib.Pipeline.ReadBack

@[expose] public section

set_option maxRecDepth 16384

noncomputable section

open Idealize.ShloMosaic Idealize.ShloMosaic.TcCoe Idealize.SL.Sem

namespace Cert.KernelIdeal.LossKernel

open Cert.KernelIdeal Cert.KernelIdeal.Gen Cert.Reals Cert.LossRows

variable (m : (ℓ : Loc nD τ sig) → Buf (Elt Ideal) ℓ)

/-! ## The tiled results -/

theorem out8_at (c : Dev nD) (t : Fin cfg0.N) (a : Fin 384) (b : Fin 1024) : (outsAt0 m c t.val t.isLt).1 (ix2 a b)
    = dRowP m c (rowOf t a) b := by
  refine Eq.trans ?_ (dh2_at m c t a b)
  by_cases h : t.val % 11 = 0
  · rw [outsAt0_A m c t h]; frame_out; rfl
  · rw [outsAt0_B m c t h]; frame_out; rfl

theorem final8 (c : Dev nD) (X : S4224x1024.Idx → EReal) (hX : ∀ R b, X (ix2 R b) = dRowP m c R b) :
    (dats m 0 c).arrAt 8 cfg0.N = X := by
  refine (dats m 0 c).arrAt_eq_of_covers 8 _ (by decide +kernel) fun t hf y => ?_
  blk_simp
  have e : ((View.whole main_v12_0).slice (win0_8.rect t)).emb y = ix2 (rowOf t (y 0)) (y 1) := by blk_ext [idx t]; rfl
  rw [after0_8]
  exact (congrArg _ (eq_ix2 (n0 := 384) (n1 := 1024) y)).trans ((out8_at m c t (y 0) (y 1)).trans ((hX _ _).symm.trans (congrArg X e.symm)))

theorem out9_at (c : Dev nD) (t : Fin cfg0.N) (a : Fin 384) (b : Fin 1024) : (outsAt0 m c t.val t.isLt).2.1 (ix2 a b)
    = ∑ x, dRowP m c (rowOf t a) x * wLru (arg3 m c) b x := by
  refine Eq.trans ?_ (pay19_at _ _ _ _ _ a b _ _ (dh2_at m c t a) (ldLru_at m c t b))
  by_cases h : t.val % 11 = 0
  · rw [outsAt0_A m c t h]; frame_out; rfl
  · rw [outsAt0_B m c t h]; frame_out; rfl

theorem final9 (c : Dev nD) (X : S4224x1024.Idx → EReal) (hX : ∀ R b, X (ix2 R b) = ∑ x, dRowP m c R x * wLru (arg3 m c) b x) :
    (dats m 0 c).arrAt 9 cfg0.N = X := by
  refine (dats m 0 c).arrAt_eq_of_covers 9 _ (by decide +kernel) fun t hf y => ?_
  blk_simp
  have e : ((View.whole main_v12_1).slice (win0_9.rect t)).emb y = ix2 (rowOf t (y 0)) (y 1) := by blk_ext [idx t]; rfl
  rw [after0_9]
  exact (congrArg _ (eq_ix2 (n0 := 384) (n1 := 1024) y)).trans ((out9_at m c t (y 0) (y 1)).trans ((hX _ _).symm.trans (congrArg X e.symm)))

theorem out10_at (c : Dev nD) (t : Fin cfg0.N) (a : Fin 384) (b : Fin 1024) : (outsAt0 m c t.val t.isLt).2.2.1 (ix2 a b)
    = ∑ x, dRowP m c (rowOf t a) x * wRet (arg3 m c) b x := by
  refine Eq.trans ?_ (pay20_at _ _ _ _ _ a b _ _ (dh2_at m c t a) (ldRet_at m c t b))
  by_cases h : t.val % 11 = 0
  · rw [outsAt0_A m c t h]; frame_out; rfl
  · rw [outsAt0_B m c t h]; frame_out; rfl

theorem final10 (c : Dev nD) (X : S4224x1024.Idx → EReal) (hX : ∀ R b, X (ix2 R b) = ∑ x, dRowP m c R x * wRet (arg3 m c) b x) :
    (dats m 0 c).arrAt 10 cfg0.N = X := by
  refine (dats m 0 c).arrAt_eq_of_covers 10 _ (by decide +kernel) fun t hf y => ?_
  blk_simp
  have e : ((View.whole main_v12_2).slice (win0_10.rect t)).emb y = ix2 (rowOf t (y 0)) (y 1) := by blk_ext [idx t]; rfl
  rw [after0_10]
  exact (congrArg _ (eq_ix2 (n0 := 384) (n1 := 1024) y)).trans ((out10_at m c t (y 0) (y 1)).trans ((hX _ _).symm.trans (congrArg X e.symm)))

/-! ## The accumulated results -/

/-- The last grid point. -/
abbrev tL : Fin cfg0.N := ⟨10, by decide +kernel⟩

/-- A sum over the points and their rows is the sum over the rows. -/
theorem sum_rows (F : Fin 4224 → EReal) : ∑ t : Fin cfg0.N, ∑ y : Fin 384, F (rowOf t y) = ∑ R, F R := by
  refine (Fin.sum_points_lanes_congr (M := EReal) (N := cfg0.N) (n := 384) (A := 1) (L := 4224) 11 (F := fun t y => F (rowOf t y))
    (g := fun _ R => F R) (fun t k ha hl => congrArg F (Fin.ext ?_)) (by decide +kernel) (by decide)).trans (Fin.sum_univ_one _)
  have := (idx t).2.2.2.2.2.2.2.2.2.2.2.2.2.2.2
  show t.val * 384 + k.val = t.val % 11 * 384 + k.val
  rw [Nat.mod_eq_of_lt this]

theorem row_one (j : S1x1024.Idx) : j = ix2 0 (j 1) :=
  (eq_ix2 j).trans (congrArg (ix2 · (j 1)) (Subsingleton.elim (α := Fin 1) _ _))

section

variable (c : Dev nD)

abbrev errA := err (arg0 m c) (arg1 m c) (arg2 m c) (arg3 m c) (arg4 m c) (arg5 m c)
abbrev mixA := mix (arg0 m c) (arg1 m c) (arg2 m c) (arg3 m c)
abbrev dRowA := dRow (arg0 m c) (arg1 m c) (arg2 m c) (arg3 m c) (arg4 m c) (arg5 m c)

theorem padded_row (f : Fin 4112 → Fin 1024 → EReal) (r : Fin 4112) (d : Fin 1024) : padded f ⟨112 + r.val, by omega⟩ d = f r d :=
  (padded_of_le (by simp) d).trans (congrArg (f · d) (Fin.ext (by simp)))

theorem padded_row' (f : Fin 4112 → Fin 1024 → EReal) (r : Fin 4112) : padded f ⟨112 + r.val, by omega⟩ = f r :=
  funext (padded_row f r)

/-- One row's share of the loss. -/
def lossRow (e : Fin 1024 → EReal) : EReal := Ideal.div (∑ x, e x * e x) W1024

theorem lossRow_zero : lossRow 0 = 0 := by
  rw [lossRow, w1024, Ideal.div_coe (y := 1024) (by norm_num)]
  simp

theorem isReal_lossRow {e : Fin 1024 → EReal} (h : ∀ x, IsReal (e x)) : IsReal (lossRow e) := by
  rw [lossRow, w1024, Ideal.div_coe (y := 1024) (by norm_num)]
  exact (IsReal.sum _ fun x _ => (h x).mul (h x)).mul (isReal_coe _)

theorem final13 (X : S8x128.Idx → EReal) (hx : AllReal (arg0 m c) (arg1 m c) (arg2 m c) (arg3 m c) (arg4 m c) (arg5 m c))
    (hX : ∀ i, X i = WHalf * ∑ r, lossRow (errA m c r)) : (dats m 0 c).arrAt 13 cfg0.N = X := by
  have hP : ∀ R, IsReal (lossRow (errP m c R)) := fun R => isReal_lossRow fun x => by
    unfold errP padded
    split
    · exact isReal_err hx _ _
    · exact isReal_zero
  refine (dats m 0 c).arrAt_eq_of_after_last 13 tL (by decide +kernel) _ fun j => ?_
  blk_simp
  rw [after0_13, Pipeline.eq_sum_fin_of_reset_step_apply_last (fun n h => (outsAt0 m c n h).2.2.2.2.2) 11 (fun _ => 0)
    (fun t _ => WHalf * ∑ y, lossRow (errP m c (rowOf t y)))
    (fun t h j => by
      rw [outsAt0_A m c t h]; frame_out
      exact (pay13_at _ _ _ _ _ _ _ j _ (err_at m c t)).trans (congrArg (· + _) (pay3_at j)))
    (fun t h j => by
      rw [outsAt0_B m c t h]; frame_out
      exact pay13_at _ _ _ _ _ _ _ j _ (err_at m c t))
    (le_of_eq N_0) tL rfl _, zero_add]
  refine Eq.trans ?_ (hX j).symm
  rw [← mul_sum _ (wHalf ▸ isReal_coe _) fun t _ => IsReal.sum _ fun y _ => hP _]
  refine congrArg (WHalf * ·) ((sum_rows fun R => lossRow (errP m c R)).trans ?_)
  exact sum_padded _ _ (fun R h => (congrArg lossRow (funext fun d => padded_of_lt h d)).trans lossRow_zero)
    (fun r => congrArg lossRow (padded_row' _ r))

theorem sum_dgf (d : Fin 1024) : ∑ t : Fin cfg0.N, ∑ y, errP m c (rowOf t y) d * WInv1024 * nrm (mixP m c (rowOf t y)) d
    = ∑ r, errA m c r d * WInv1024 * nrm (mixA m c r) d := by
  refine (sum_rows fun R => errP m c R d * WInv1024 * nrm (mixP m c R) d).trans (sum_padded _ _ (fun R h => ?_) fun r => ?_)
  · rw [errP, padded_of_lt h, zero_mul, zero_mul]
  · rw [errP, mixP, padded_row, padded_row']

theorem final12 (X : S1x1024.Idx → EReal)
    (hX : ∀ d, X (ix2 0 d) = ∑ r, errA m c r d * WInv1024 * nrm (mixA m c r) d) : (dats m 0 c).arrAt 12 cfg0.N = X := by
  refine (dats m 0 c).arrAt_eq_of_after_last 12 tL (by decide +kernel) _ fun j => ?_
  blk_simp
  rw [after0_12, Pipeline.eq_sum_fin_of_reset_step_apply_last (fun n h => (outsAt0 m c n h).2.2.2.2.1) 11 (fun _ => 0)
    (fun t j => ∑ y, errP m c (rowOf t y) (j 1) * WInv1024 * nrm (mixP m c (rowOf t y)) (j 1))
    (fun t h j => by
      rw [outsAt0_A m c t h]; frame_out
      refine (congrArg _ (row_one j)).trans ((pay15_at _ _ _ _ _ _ _ (j 1) _ _ (fun y => dout_at m c t y (j 1)) (fun y => nrm_at m c t y (j 1))).trans
        (congrArg (· + _) (pay2_at _))))
    (fun t h j => by
      rw [outsAt0_B m c t h]; frame_out
      refine (congrArg _ (row_one j)).trans ((pay15_at _ _ _ _ _ _ _ (j 1) _ _ (fun y => dout_at m c t y (j 1)) (fun y => nrm_at m c t y (j 1))).trans
        (congrArg (· + _) (congrArg _ (row_one j).symm))))
    (le_of_eq N_0) tL rfl _, zero_add]
  refine Eq.trans ?_ ((congrArg X (row_one j)).trans (hX (j 1))).symm
  exact sum_dgf m c (j 1)

/-- One row's share of the weight gradient. -/
def dwoRow (R : Fin 4224) (k : Fin 2048) (d : Fin 1024) : EReal :=
  (if h : k.val < 1024 then padded (fun r d => arg0 m c (ix3 0 r d)) R ⟨k.val, h⟩
    else padded (fun r d => arg1 m c (ix3 0 r d)) R ⟨k.val - 1024, by omega⟩) * dRowP m c R d

/-- The two halves of the rows. -/
abbrev upper : Rect S2048x1024 := Rect.unit ![0, 0] ![1024, 1024] inb_S2048x1024_S1024x1024_0_0
abbrev lower : Rect S2048x1024 := Rect.unit ![1024, 0] ![1024, 1024] inb_S2048x1024_S1024x1024_1024_0

theorem emb_upper (k : Fin 2048) (h : k.val < 1024) (d : Fin 1024) : upper.emb (ix2 ⟨k.val, h⟩ d) = ix2 k d := by
  funext a
  apply Fin.ext
  fin_cases a
  · show 0 + 1 * k.val = k.val; omega
  · show 0 + 1 * d.val = d.val; omega

theorem emb_lower (k : Fin 2048) (h : ¬k.val < 1024) (d : Fin 1024) : lower.emb (ix2 ⟨k.val - 1024, by omega⟩ d) = ix2 k d := by
  funext a
  apply Fin.ext
  fin_cases a
  · show 1024 + 1 * (k.val - 1024) = k.val; omega
  · show 0 + 1 * d.val = d.val; omega

/-- Two stores of half the rows each, read at an index. -/
theorem canon_halves (P Q : S1024x1024.Idx → EReal) (L : List (View.Piece (Elt Ideal) S2048x1024 .f32)) (k : Fin 2048) (d : Fin 1024) :
    View.canon ((⟨Rect.unit ![1024, 0] ![1024, 1024] inb_S2048x1024_S1024x1024_1024_0, Q⟩ : View.Piece (Elt Ideal) S2048x1024 .f32)
      :: ⟨Rect.unit ![0, 0] ![1024, 1024] inb_S2048x1024_S1024x1024_0_0, P⟩ :: L) (ix2 k d)
    = if h : k.val < 1024 then P (ix2 ⟨k.val, h⟩ d) else Q (ix2 ⟨k.val - 1024, by omega⟩ d) := by
  by_cases h : k.val < 1024
  · rw [dif_pos h, View.canon_cons_of_not_mem _ _ (fun hm => by
      have := ((Rect.mem_set_unit (inb := inb_S2048x1024_S1024x1024_1024_0)).mp hm 0).1
      change 1024 ≤ k.val at this
      omega)]
    exact (congrArg _ (emb_upper k h d).symm).trans (View.canon_cons_emb (Val := Elt Ideal) (s := S2048x1024) (e := .f32) upper P L _)
  · rw [dif_neg h]
    exact (congrArg _ (emb_lower k h d).symm).trans (View.canon_cons_emb (Val := Elt Ideal) (s := S2048x1024) (e := .f32) lower Q _ _)

/-- What a point adds to the weight gradient. -/
theorem dwo_step (t : Fin cfg0.N) (v21 v22 : FVec Ideal S1024x1024 .f32) (L : List (View.Piece (Elt Ideal) S2048x1024 .f32))
    (k : Fin 2048) (d : Fin 1024) (p : EReal) (h21 : ∀ h : k.val < 1024, v21 (ix2 ⟨k.val, h⟩ d) = p)
    (h22 : ∀ h : ¬k.val < 1024, v22 (ix2 ⟨k.val - 1024, by omega⟩ d) = p) :
    View.canon ((⟨Rect.unit ![1024, 0] ![1024, 1024] inb_S2048x1024_S1024x1024_1024_0,
        k0_pay22 (k0_pay5 (iblk m c 1 t)) (rinvV m c t) (nrmV m c t) (doutV m c t) (k0_pay16 (k0_pay9 (iblk m c 7 t))) v22⟩
          : View.Piece (Elt Ideal) S2048x1024 .f32)
      :: ⟨Rect.unit ![0, 0] ![1024, 1024] inb_S2048x1024_S1024x1024_0_0,
        k0_pay21 (k0_pay4 (iblk m c 0 t)) (rinvV m c t) (nrmV m c t) (doutV m c t) (k0_pay16 (k0_pay9 (iblk m c 7 t))) v21⟩ :: L) (ix2 k d)
    = p + ∑ y, dwoRow m c (rowOf t y) k d := by
  refine (canon_halves _ _ L k d).trans ?_
  by_cases h : k.val < 1024
  · rw [dif_pos h]
    refine (pay21_at _ _ _ _ _ _ _ d _ _ (fun y => blk0_at m c t y _) fun y => dh2_at m c t y d).trans (congrArg₂ (· + ·) (h21 h) ?_)
    exact Finset.sum_congr rfl fun y _ => by rw [dwoRow, dif_pos h]
  · rw [dif_neg h]
    refine (pay22_at _ _ _ _ _ _ _ d _ _ (fun y => blk1_at m c t y _) fun y => dh2_at m c t y d).trans (congrArg₂ (· + ·) (h22 h) ?_)
    exact Finset.sum_congr rfl fun y _ => by rw [dwoRow, dif_neg h]

theorem sum_dwo (k : Fin 2048) (d : Fin 1024) : ∑ t : Fin cfg0.N, ∑ y, dwoRow m c (rowOf t y) k d
    = ∑ r, (if h : k.val < 1024 then arg0 m c (ix3 0 r ⟨k.val, h⟩) else arg1 m c (ix3 0 r ⟨k.val - 1024, by omega⟩)) * dRowA m c r d := by
  refine (sum_rows fun R => dwoRow m c R k d).trans (sum_padded _ _ (fun R h => ?_) fun r => ?_)
  · rw [dwoRow, dRowP, padded_of_lt h, mul_zero]
  · rw [dwoRow, dRowP]
    simp only [padded_row]

theorem final11 (X : S2048x1024.Idx → EReal)
    (hX : ∀ k d, X (ix2 k d) = ∑ r, (if h : k.val < 1024 then arg0 m c (ix3 0 r ⟨k.val, h⟩)
      else arg1 m c (ix3 0 r ⟨k.val - 1024, by omega⟩)) * dRowA m c r d) : (dats m 0 c).arrAt 11 cfg0.N = X := by
  refine (dats m 0 c).arrAt_eq_of_after_last 11 tL (by decide +kernel) _ fun j => ?_
  blk_simp
  rw [after0_11, Pipeline.eq_sum_fin_of_reset_step_apply_last (fun n h => (outsAt0 m c n h).2.2.2.1) 11 (fun _ => 0)
    (fun t j => ∑ y, dwoRow m c (rowOf t y) (j 0) (j 1))
    (fun t h j => by
      rw [outsAt0_A m c t h]; frame_out
      refine (congrArg _ (eq_ix2 j)).trans (dwo_step m c t _ _ _ (j 0) (j 1) 0 (fun h => ?_) fun h => ?_)
      · rw [View.readCov_fill _ _ _ _ upper (by decide)]
        exact pay1_at _
      · rw [View.readCov_skip _ _ _ _ _ (by decide), View.readCov_fill _ _ _ _ lower (by decide)]
        exact pay1_at _)
    (fun t h j => by
      rw [outsAt0_B m c t h]; frame_out
      exact (congrArg _ (eq_ix2 j)).trans (dwo_step m c t _ _ _ (j 0) (j 1) _
        (fun h => congrArg (outsAt0 m c (t.val - 1) _).2.2.2.1 ((emb_upper (j 0) h (j 1)).trans (eq_ix2 j).symm))
        fun h => congrArg (outsAt0 m c (t.val - 1) _).2.2.2.1 ((emb_lower (j 0) h (j 1)).trans (eq_ix2 j).symm)))
    (le_of_eq N_0) tL rfl _, zero_add]
  refine Eq.trans ?_ ((congrArg X (eq_ix2 j)).trans (hX (j 0) (j 1))).symm
  exact sum_dwo m c (j 0) (j 1)

end

end Cert.KernelIdeal.LossKernel

end
-- ==== Proof.LossRef.lean ====
/- The reference's results read at an index: the reverse pass over rows. -/
module

public import proofs.«01_k».proof.Proof.LossRows
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.LossRef

open Cert.ReferenceIdeal Cert.ReferenceIdeal.Gen Cert.ReferenceIdeal.Read Cert.Reals Cert.LossRows

variable (x0 x1 x2 : FVec Ideal S1x4112x1024 .f32) (x3 : FVec Ideal S1x2048x1024 .f32) (x4 : FVec Ideal S1024 .f32)
  (x5 : FVec Ideal S1x4096x1024 .f32)

theorem sitofp_zero : FloatOps.sitofp (F := Ideal) .f32 (0#32) = (0 : EReal) := by
  show (((0#32 : BitVec 32).toInt : ℝ) : EReal) = 0
  simp

theorem v3_at (r : Fin 4112) (d : Fin 1024) : val_main_v3 (F := Ideal) x0 x1 x2 x3 (ix3 0 r d) = mix x0 x1 x2 x3 r d := by
  pointwise [val_main_v3, val_main_v2, val_main_v1, val_main_v0, mix, wLru, wRet]
  rw [add_assoc]

theorem v10_at (r : Fin 4112) : val_main_v10 (F := Ideal) x0 x1 x2 x3 (ix3 0 r 0)
    = Ideal.div (∑ x, mix x0 x1 x2 x3 r x * mix x0 x1 x2 x3 r x) W1024 + WEps := by
  pointwise [val_main_v10, val_main_v9, val_main_v8, val_main_v7, val_main_v6, val_main_v5, val_main_v4, val_main_cst, val_main_cst_0,
    val_main_cst_1]
  simp only [v3_at]

theorem v11_at (r : Fin 4112) : val_main_v11 (F := Ideal) x0 x1 x2 x3 (ix3 0 r 0) = rms (mix x0 x1 x2 x3 r) := by
  pointwise [val_main_v11]
  rw [v10_at, rms]

theorem v16_at (r : Fin 4112) (d : Fin 1024) :
    val_main_v16 (F := Ideal) x0 x1 x2 x3 (ix3 0 r d) = nrm (mix x0 x1 x2 x3 r) d := by
  pointwise [val_main_v16, val_main_v15]
  rw [v3_at, v11_at, nrm]

theorem v36_at (r : Fin 4112) (d : Fin 1024) : val_main_v36 (F := Ideal) x0 x1 x2 x3 x4 x5 (ix3 0 r d)
    = Ideal.div WHalf W1024 * (WTwo * err x0 x1 x2 x3 x4 x5 r d) := by
  pointwise [val_main_v36, val_main_cst_11, val_main_v35, val_main_v34, val_main_v33, val_main_v32, val_main_cst_10, val_main_v31,
    val_main_v30, val_main_cst_9, val_main_cst_8, val_main_v24, val_main_v23, val_main_cst_3, val_main_v21, val_main_v20, val_main_v19,
    val_main_v18, val_main_v17]
  by_cases h : 16 ≤ r.val
  · have e : (⟨16 + (r.val - 16), by omega⟩ : Fin 4112) = r := Fin.ext (by simp; omega)
    rw [dif_pos ⟨h, by omega⟩, err, dif_pos h, e, v16_at]
    rfl
  · rw [dif_neg (fun h' => h h'.1), err, dif_neg h, mul_zero, mul_zero]

theorem v57_at (r : Fin 4112) (d : Fin 1024) : val_main_v57 (F := Ideal) x0 x1 x2 x3 x4 x5 (ix3 0 r d)
    = gradVjp (mix x0 x1 x2 x3 r) (err x0 x1 x2 x3 x4 x5 r) (gain x4) d := by
  pointwise [val_main_v57, val_main_v56, val_main_v55, val_main_v54, val_main_v53, val_main_v52, val_main_v51, val_main_cst_16,
    val_main_v50, val_main_v49, val_main_cst_15, val_main_v48, val_main_v47, val_main_v46, val_main_v45, val_main_v44, val_main_cst_14,
    val_main_v43, val_main_v14, val_main_v13, val_main_v12, val_main_cst_2, val_main_v41, val_main_v40, val_main_v17]
  simp only [v3_at, v10_at, v11_at, v36_at]
  rfl

section real

variable {x0 x1 x2 x3 x4 x5} (hx : AllReal x0 x1 x2 x3 x4 x5)
include hx

/-- The gradient of the residual stream. -/
theorem v65_at (R : Fin 4224) (d : Fin 1024) : val_main_v65 (F := Ideal) x0 x1 x2 x3 x4 x5 (ix2 R d)
    = padded (dRow x0 x1 x2 x3 x4 x5) R d := by
  pointwise [val_main_v65, val_main_v64, val_main_call0_v0, val_main_c]
  by_cases h : 112 ≤ R.val
  · rw [dif_pos ⟨h, by omega⟩, v57_at, gradVjp_row hx]
    exact (padded_of_le h _).symm
  · rw [dif_neg (fun h' => h h'.1), sitofp_zero]
    exact (padded_of_lt h _).symm

/-- The gradient of the recurrence's output. -/
theorem v67_at (R : Fin 4224) (d : Fin 1024) : val_main_v67 (F := Ideal) x0 x1 x2 x3 x4 x5 (ix2 R d)
    = ∑ x, padded (dRow x0 x1 x2 x3 x4 x5) R x * wLru x3 d x := by
  pointwise [val_main_v67, val_main_v66, val_main_call1_v0, val_main_c_17, val_main_v62, val_main_v60, val_main_v1]
  by_cases h : 112 ≤ R.val
  · rw [dif_pos ⟨h, by omega⟩]
    refine Finset.sum_congr rfl fun x _ => ?_
    rw [v57_at, gradVjp_row hx, padded_of_le h]
    rfl
  · rw [dif_neg (fun h' => h h'.1), sitofp_zero]
    exact (Finset.sum_eq_zero fun x _ => by rw [padded_of_lt h, zero_mul]).symm

/-- The gradient of the retention's output. -/
theorem v69_at (R : Fin 4224) (d : Fin 1024) : val_main_v69 (F := Ideal) x0 x1 x2 x3 x4 x5 (ix2 R d)
    = ∑ x, padded (dRow x0 x1 x2 x3 x4 x5) R x * wRet x3 d x := by
  pointwise [val_main_v69, val_main_v68, val_main_call2_v0, val_main_c_18, val_main_v63, val_main_v60, val_main_v1]
  by_cases h : 112 ≤ R.val
  · rw [dif_pos ⟨h, by omega⟩]
    refine Finset.sum_congr rfl fun x _ => ?_
    rw [v57_at, gradVjp_row hx, padded_of_le h]
    rfl
  · rw [dif_neg (fun h' => h h'.1), sitofp_zero]
    exact (Finset.sum_eq_zero fun x _ => by rw [padded_of_lt h, zero_mul]).symm

/-- The gradient of the projection. -/
theorem v70_at (k : Fin 2048) (d : Fin 1024) : val_main_v70 (F := Ideal) x0 x1 x2 x3 x4 x5 (ix2 k d)
    = ∑ r, (if h : k.val < 1024 then x0 (ix3 0 r ⟨k.val, h⟩)
        else x1 (ix3 0 r ⟨k.val - 1024, by omega⟩))
        * dRow x0 x1 x2 x3 x4 x5 r d := by
  pointwise [val_main_v70, val_main_v61, val_main_v59, val_main_v58, val_main_v0]
  rw [Fin.sum_univ_one]
  refine Finset.sum_congr rfl fun r _ => ?_
  rw [v57_at, gradVjp_row hx, mul_comm]

/-- The gradient of the final norm's gain. -/
theorem v71_at (d : Fin 1024) : val_main_v71 (F := Ideal) x0 x1 x2 x3 x4 x5 (ix2 0 d)
    = ∑ r, err x0 x1 x2 x3 x4 x5 r d * WInv1024 * nrm (mix x0 x1 x2 x3 r) d := by
  pointwise [val_main_v71, val_main_v42, val_main_v39, val_main_v38, val_main_v37, val_main_v16, val_main_v15, val_main_cst_12,
    val_main_cst_13]
  refine Finset.sum_congr rfl fun r _ => ?_
  rw [v3_at, v11_at, v36_at]
  obtain ⟨e, he⟩ := isReal_err hx r d
  obtain ⟨n, hn⟩ := isReal_nrm hx r d
  rw [← nrm, hn, he, w1024, wHalf, wTwo, wInv1024, div_coe_pos (by norm_num)]
  simp only [← EReal.coe_mul]
  congr 1
  ring

end real

/-- The loss. -/
theorem v72_at (i : S8x128.Idx) : val_main_v72 (F := Ideal) x0 x1 x2 x3 x4 x5 i
    = WHalf * ∑ r : Fin 4112, Ideal.div (∑ x, err x0 x1 x2 x3 x4 x5 r x * err x0 x1 x2 x3 x4 x5 r x) W1024 := by
  pointwise [val_main_v72, val_main_v29, val_main_v28, val_main_v27, val_main_v26, val_main_v25, val_main_v22, val_main_v21,
    val_main_v20, val_main_v19, val_main_v18, val_main_v17, val_main_cst_7, val_main_cst_6, val_main_cst_5, val_main_cst_4]
  congr 1
  rw [Fin.sum_univ_one]
  have e : ∑ r : Fin (16 + 4096), Ideal.div (∑ x, err x0 x1 x2 x3 x4 x5 r x * err x0 x1 x2 x3 x4 x5 r x) W1024
      = ∑ r : Fin 4112, Ideal.div (∑ x, err x0 x1 x2 x3 x4 x5 r x * err x0 x1 x2 x3 x4 x5 r x) W1024 := rfl
  rw [← e, Fin.sum_univ_add]
  rw [show ∑ r : Fin 16, Ideal.div (∑ x, err x0 x1 x2 x3 x4 x5 (Fin.castAdd 4096 r) x * err x0 x1 x2 x3 x4 x5 (Fin.castAdd 4096 r) x) W1024
    = 0 from Finset.sum_eq_zero fun r _ => ?_]
  · refine Eq.trans ?_ (zero_add _).symm
    refine Finset.sum_congr rfl fun r _ => ?_
    congr 1
    refine Finset.sum_congr rfl fun x _ => ?_
    have he : err x0 x1 x2 x3 x4 x5 (Fin.natAdd 16 r) x
        = nrm (mix x0 x1 x2 x3 ⟨16 + r.val, by omega⟩) x * gain x4 x - x5 (ix3 0 r x) := by
      rw [err, dif_pos (by simp)]
      congr 3
      exact Fin.ext (by simp)
    rw [he, v16_at]
    rfl
  · have he : ∀ x, err x0 x1 x2 x3 x4 x5 (Fin.castAdd 4096 r) x = 0 := fun x => dif_neg (by simp)
    simp only [he, mul_zero, Finset.sum_const_zero]
    rw [w1024, show (0 : EReal) = ((0 : ℝ) : EReal) from rfl, div_coe_pos (by norm_num), zero_div]

end Cert.ReferenceIdeal.LossRef

end
-- ==== Proof.Finite.lean ====
/- Arrays whose finiteness test reads true hold real numbers. -/
module

public import proofs.«01_k».proof.Proof.Reals
public import Idealize.ShloMosaic.Lib.ReduceAll
public import Idealize.ShloMosaic.Lib.WordCmp

@[expose] public section

noncomputable section

open Idealize.ShloMosaic Idealize.ShloMosaic.TcCoe Idealize.SL.Sem

namespace Cert.Reals

/-- The pattern of positive infinity reads as the top element. -/
theorem ofBits_inf : Ideal.ofBits .f32 0x7F800000#32 = (⊤ : EReal) := by
  simp [Ideal.ofBits, Ideal.ieee]

theorem and_eq_one : ∀ {a b : BitVec 1}, IntOp.andi a b = 1#1 → a = 1#1 ∧ b = 1#1 := by decide

/-- An array of which `all (abs x < inf)` reads true is an array of reals. -/
theorem isReal_of_all {s : Shape} {axes : List (Fin s.rank)} {x v : FVec Ideal s .f32} (hv : ∀ i, v i = Ideal.ofBits .f32 0x7F800000#32)
    {init : IVec ⟨0, ![]⟩ 1} {h : s.ReducesTo axes ⟨0, ![]⟩} {hu : 0 < (⟨0, ![]⟩ : Shape).numel} {j : (⟨0, ![]⟩ : Shape).Idx}
    (e : Host.reduce IntOp.andi (cmpf .olt (Host.absf x) v) init h hu j = 1#1) (i : s.Idx) : IsReal (x i) := by
  have hi := Host.reduce_andi_eq_one _ init h hu j e i (funext fun a => a.elim0)
  change BitVec.ofBool (decide (max (x i) (-(x i)) < v i)) = 1#1 at hi
  rw [hv, ofBits_inf] at hi
  refine isReal_of_abs_lt (by_contra fun hc => ?_)
  rw [decide_eq_false hc] at hi
  exact absurd hi (by decide)

end Cert.Reals

end
-- ==== Proof.LossFinite.lean ====
/- The finiteness condition on the arguments of the loss's gradients, read as: every element is a real number. -/
module

public import proofs.«01_k».proof.Proof.Finite
public import proofs.«01_k».proof.Proof.LossRows
public import proofs.«01_k».proof.Pre_finite

@[expose] public section

noncomputable section

open Idealize.ShloMosaic Idealize.ShloMosaic.TcCoe Idealize.SL.Sem

namespace Cert.LossRows

open Cert.Reals Cert.Pre_finite

variable [Cert.Pre_finite.Facts]

theorem allReal_of_finite {x0 x1 x2 : FVec Ideal S1x4112x1024 .f32} {x3 : FVec Ideal S1x2048x1024 .f32} {x4 : FVec Ideal S1024 .f32}
    {x5 : FVec Ideal S1x4096x1024 .f32} (h : Cert.Pre_finite.fn (F := Ideal) x0 x1 x2 x3 x4 x5 = fun _ => 1#1) :
    AllReal x0 x1 x2 x3 x4 x5 := by
  have h5 := and_eq_one (congrFun h fun a => a.elim0)
  have h4 := and_eq_one h5.1
  have h3 := and_eq_one h4.1
  have h2 := and_eq_one h3.1
  have h1 := and_eq_one h2.1
  exact ⟨isReal_of_all (fun _ => rfl) h1.1, isReal_of_all (fun _ => rfl) h1.2, isReal_of_all (fun _ => rfl) h2.2,
    isReal_of_all (fun _ => rfl) h3.2, isReal_of_all (fun _ => rfl) h4.2, isReal_of_all (fun _ => rfl) h5.2⟩

end Cert.LossRows

end
-- ==== Proof.LossAgree.lean ====
/- The kernel's six results are the reference's. -/
module

public import proofs.«01_k».proof.Defs
public import proofs.«01_k».proof.Proof.LossValue
public import proofs.«01_k».proof.Proof.LossRef
public import proofs.«01_k».proof.Proof.LossFinite
public import proofs.«01_k».proof.Proof.Gen.ReferenceIdeal.Run
public import proofs.«01_k».proof.Proof.Gen.Pre_finite

@[expose] public section

noncomputable section

open Idealize.ShloMosaic Idealize.ShloMosaic.TcCoe Idealize.SL.Sem

namespace Cert.LossRows

open Cert.KernelIdeal.LossKernel Cert.ReferenceIdeal.LossRef Cert.ReferenceIdeal.Read

variable (m : (ℓ : Loc Cert.KernelIdeal.nD Cert.KernelIdeal.τ Cert.KernelIdeal.sig) → Buf (Elt Ideal) ℓ)
  (c : Dev Cert.KernelIdeal.nD)

/-- The arguments are finite. -/
abbrev Real (m : (ℓ : Loc Cert.KernelIdeal.nD Cert.KernelIdeal.τ Cert.KernelIdeal.sig) → Buf (Elt Ideal) ℓ)
    (c : Dev Cert.KernelIdeal.nD) : Prop :=
  AllReal (arg0 m c) (arg1 m c) (arg2 m c) (arg3 m c) (arg4 m c) (arg5 m c)

variable {m c}

theorem result0 (hx : Real m c) : (Cert.KernelIdeal.Gen.dats m 0 c).arrAt 8 Cert.KernelIdeal.cfg0.N
    = val_main_v65 (F := Ideal) (arg0 m c) (arg1 m c) (arg2 m c) (arg3 m c) (arg4 m c) (arg5 m c) :=
  final8 m c _ (fun R d => v65_at hx R d)

theorem result1 (hx : Real m c) : (Cert.KernelIdeal.Gen.dats m 0 c).arrAt 9 Cert.KernelIdeal.cfg0.N
    = val_main_v67 (F := Ideal) (arg0 m c) (arg1 m c) (arg2 m c) (arg3 m c) (arg4 m c) (arg5 m c) :=
  final9 m c _ (fun R d => v67_at hx R d)

theorem result2 (hx : Real m c) : (Cert.KernelIdeal.Gen.dats m 0 c).arrAt 10 Cert.KernelIdeal.cfg0.N
    = val_main_v69 (F := Ideal) (arg0 m c) (arg1 m c) (arg2 m c) (arg3 m c) (arg4 m c) (arg5 m c) :=
  final10 m c _ (fun R d => v69_at hx R d)

theorem result3 (hx : Real m c) : (Cert.KernelIdeal.Gen.dats m 0 c).arrAt 11 Cert.KernelIdeal.cfg0.N
    = val_main_v70 (F := Ideal) (arg0 m c) (arg1 m c) (arg2 m c) (arg3 m c) (arg4 m c) (arg5 m c) :=
  final11 m c _ (fun k d => v70_at hx k d)

theorem result4 (hx : Real m c) : (Cert.KernelIdeal.Gen.dats m 0 c).arrAt 12 Cert.KernelIdeal.cfg0.N
    = val_main_v71 (F := Ideal) (arg0 m c) (arg1 m c) (arg2 m c) (arg3 m c) (arg4 m c) (arg5 m c) :=
  final12 m c _ (fun d => v71_at hx d)

theorem result5 (hx : Real m c) : (Cert.KernelIdeal.Gen.dats m 0 c).arrAt 13 Cert.KernelIdeal.cfg0.N
    = val_main_v72 (F := Ideal) (arg0 m c) (arg1 m c) (arg2 m c) (arg3 m c) (arg4 m c) (arg5 m c) :=
  final13 m c _ hx fun i => v72_at _ _ _ _ _ _ i

theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  have hx : ∀ c, Real m c := fun c => allReal_of_finite (hp c)
  have e0 : ∀ c, Cert.ReferenceIdeal.Value.res_main_v65 m' c = val_main_v65 (F := Ideal) (arg0 m c) (arg1 m c) (arg2 m c) (arg3 m c) (arg4 m c) (arg5 m c) := fun c => by
    obtain ⟨a0, a1, a2, a3, a4, a5⟩ := ha c
    rw [val_main_v65_eq, a0, a1, a2, a3, a4, a5]
  have e1 : ∀ c, Cert.ReferenceIdeal.Value.res_main_v67 m' c = val_main_v67 (F := Ideal) (arg0 m c) (arg1 m c) (arg2 m c) (arg3 m c) (arg4 m c) (arg5 m c) := fun c => by
    obtain ⟨a0, a1, a2, a3, a4, a5⟩ := ha c
    rw [val_main_v67_eq, a0, a1, a2, a3, a4, a5]
  have e2 : ∀ c, Cert.ReferenceIdeal.Value.res_main_v69 m' c = val_main_v69 (F := Ideal) (arg0 m c) (arg1 m c) (arg2 m c) (arg3 m c) (arg4 m c) (arg5 m c) := fun c => by
    obtain ⟨a0, a1, a2, a3, a4, a5⟩ := ha c
    rw [val_main_v69_eq, a0, a1, a2, a3, a4, a5]
  have e3 : ∀ c, Cert.ReferenceIdeal.Value.res_main_v70 m' c = val_main_v70 (F := Ideal) (arg0 m c) (arg1 m c) (arg2 m c) (arg3 m c) (arg4 m c) (arg5 m c) := fun c => by
    obtain ⟨a0, a1, a2, a3, a4, a5⟩ := ha c
    rw [val_main_v70_eq, a0, a1, a2, a3, a4, a5]
  have e4 : ∀ c, Cert.ReferenceIdeal.Value.res_main_v71 m' c = val_main_v71 (F := Ideal) (arg0 m c) (arg1 m c) (arg2 m c) (arg3 m c) (arg4 m c) (arg5 m c) := fun c => by
    obtain ⟨a0, a1, a2, a3, a4, a5⟩ := ha c
    rw [val_main_v71_eq, a0, a1, a2, a3, a4, a5]
  have e5 : ∀ c, Cert.ReferenceIdeal.Value.res_main_v72 m' c = val_main_v72 (F := Ideal) (arg0 m c) (arg1 m c) (arg2 m c) (arg3 m c) (arg4 m c) (arg5 m c) := fun c => by
    obtain ⟨a0, a1, a2, a3, a4, a5⟩ := ha c
    rw [val_main_v72_eq, a0, a1, a2, a3, a4, a5]
  refine ⟨fun c => val_main_v65 (F := Ideal) (arg0 m c) (arg1 m c) (arg2 m c) (arg3 m c) (arg4 m c) (arg5 m c), fun c => val_main_v67 (F := Ideal) (arg0 m c) (arg1 m c) (arg2 m c) (arg3 m c) (arg4 m c) (arg5 m c), fun c => val_main_v69 (F := Ideal) (arg0 m c) (arg1 m c) (arg2 m c) (arg3 m c) (arg4 m c) (arg5 m c), fun c => val_main_v70 (F := Ideal) (arg0 m c) (arg1 m c) (arg2 m c) (arg3 m c) (arg4 m c) (arg5 m c), fun c => val_main_v71 (F := Ideal) (arg0 m c) (arg1 m c) (arg2 m c) (arg3 m c) (arg4 m c) (arg5 m c), fun c => val_main_v72 (F := Ideal) (arg0 m c) (arg1 m c) (arg2 m c) (arg3 m c) (arg4 m c) (arg5 m c),
    (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · obtain ⟨r0, r1, r2, r3, r4, r5, k⟩ := h c
    exact ⟨r0.trans (result0 (hx c)), r1.trans (result1 (hx c)), r2.trans (result2 (hx c)), r3.trans (result3 (hx c)),
      r4.trans (result4 (hx c)), r5.trans (result5 (hx c)), k⟩
  · obtain ⟨r0, r1, r2, r3, r4, r5, k⟩ := h c
    exact ⟨r0.trans (e0 c), r1.trans (e1 c), r2.trans (e2 c), r3.trans (e3 c), r4.trans (e4 c), r5.trans (e5 c), k⟩

end Cert.LossRows

end
-- ==== Proof.BackBlocks.lean ====
/- When a point of the backward pass is the first. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point clears the states' gradients. -/
abbrev cond1_0 (i : grid1.Coords) : Prop := (Scalar.cmpi .ne (Scalar.extui (Scalar.cmpi .eq (BitVec.ofNat 32 (i 0).val) 0#32)) 0#32) = 1#1

theorem hcond1_0 : ∀ t : Fin cfg1.N, cond1_0 (grid1.coords t) ↔ t.val % 11 = 0 :=
  (fun t => by
    have ht : t.val < 11 := Nat.lt_of_lt_of_eq t.isLt N_1
    have e0 : (grid1.coords t 0).val = t.val / 1 % 11 := Pipeline.Grid.coords_val t 0 (by decide) rfl
    simp only [cond1_0, e0]
    word_cmp
   : ∀ t : Fin grid1.N, cond1_0 (grid1.coords t) ↔ t.val % 11 = 0)

end Cert.Kernel2Ideal.Gen

end
-- ==== Proof.BackRunA.lean ====
/- The first point of the backward pass, run. -/
module

public import proofs.«01_k».proof.Proof.BackBlocks

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S384x512 .bf16) (harg1 : arg1.IsWhole) (arg2 : Memref sig .tc .vmem S384x512 .bf16)
  (harg2 : arg2.IsWhole) (arg3 : Memref sig .tc .vmem S384x512 .bf16) (harg3 : arg3.IsWhole) (arg4 : Memref sig .tc .vmem S384x512 .bf16) (harg4 : arg4.IsWhole)
  (arg5 : Memref sig .tc .vmem S384x1024 .bf16) (harg5 : arg5.IsWhole) (arg6 : Memref sig .tc .vmem S384x1024 .f32) (harg6 : arg6.IsWhole)
  (arg7 : Memref sig .tc .vmem S384x1024 .f32) (harg7 : arg7.IsWhole) (arg8 : Memref sig .tc .vmem S3x4x128x256 .bf16) (harg8 : arg8.IsWhole)
  (arg9 : Memref sig .tc .vmem S384x1024 .f32) (harg9 : arg9.IsWhole) (arg10 : Memref sig .tc .vmem S1x1024 .f32) (harg10 : arg10.IsWhole)
  (arg11 : Memref sig .tc .vmem S384x128 .f32) (harg11 : arg11.IsWhole) (arg12 : Memref sig .tc .vmem S384x128 .f32) (harg12 : arg12.IsWhole)
  (arg13 : Memref sig .tc .vmem S8x128x128 .f32) (harg13 : arg13.IsWhole) (arg14 : Memref sig .tc .vmem S8x128x128 .f32) (harg14 : arg14.IsWhole)
  (arg15 : Memref sig .tc .vmem S128x512 .f32) (harg15 : arg15.IsWhole) (arg16 : Memref sig .tc .vmem S128x512 .f32) (harg16 : arg16.IsWhole)
  (arg17 : Memref sig .tc .vmem S4x128x256 .f32) (harg17 : arg17.IsWhole) (arg18 : Memref sig .tc .vmem S128x256 .f32) (harg18 : arg18.IsWhole)
  (arg19 : Memref sig .tc .vmem S384x512 .bf16) (harg19 : arg19.IsWhole) (arg20 : Memref sig .tc .vmem S384x512 .bf16) (harg20 : arg20.IsWhole)
  (arg21 : Memref sig .tc .vmem S384x1024 .bf16) (harg21 : arg21.IsWhole) (arg22 : Memref sig .tc .vmem S384x1024 .bf16) (harg22 : arg22.IsWhole)
  (arg23 : Memref sig .tc .vmem S1x1024 .f32) (harg23 : arg23.IsWhole) (arg24 : Memref sig .tc .vmem S4x128x256 .f32) (harg24 : arg24.IsWhole)
  (x0 : Vec F S384x512 .bf16) (x1 : Vec F S384x512 .bf16) (x2 : Vec F S384x512 .bf16) (x3 : Vec F S384x512 .bf16) (x4 : Vec F S384x1024 .bf16) (x5 : Vec F S384x1024 .f32)
    (x6 : Vec F S384x1024 .f32) (x7 : Vec F S3x4x128x256 .bf16) (x8 : Vec F S384x1024 .f32) (x9 : Vec F S1x1024 .f32) (x10 : Vec F S384x128 .f32)
    (x11 : Vec F S384x128 .f32) (x12 : Vec F S8x128x128 .f32) (x13 : Vec F S8x128x128 .f32) (x14 : Vec F S128x512 .f32) (x15 : Vec F S128x512 .f32)
    (x16 : Vec F S4x128x256 .f32) (x17 : Vec F S128x256 .f32)

set_option maxHeartbeats 4000000 in
/-- The stores of the first point, found by running its body. -/
noncomputable def kernelRun1_A (hc0 : cond1_0 i) :
    Σ' (L18 : List (View.Piece (Elt F) S384x512 .bf16)), Σ' (L19 : List (View.Piece (Elt F) S384x512 .bf16)), Σ' (L20 : List (View.Piece (Elt F) S384x1024 .bf16)),
      Σ' (L21 : List (View.Piece (Elt F) S384x1024 .bf16)), Σ' (L22 : List (View.Piece (Elt F) S1x1024 .f32)), { L23 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ)
          arg4 fullShare x3 ∗ owns (c : Thread nD τ) arg5 fullShare x4 ∗ owns (c : Thread nD τ) arg6 fullShare x5 ∗ owns (c : Thread nD τ) arg7 fullShare x6 ∗
          owns (c : Thread nD τ) arg8 fullShare x7 ∗ owns (c : Thread nD τ) arg9 fullShare x8 ∗ owns (c : Thread nD τ) arg10 fullShare x9 ∗ owns (c : Thread nD τ)
          arg11 fullShare x10 ∗ owns (c : Thread nD τ) arg12 fullShare x11 ∗ owns (c : Thread nD τ) arg13 fullShare x12 ∗ owns (c : Thread nD τ) arg14 fullShare x13 ∗
          owns (c : Thread nD τ) arg15 fullShare x14 ∗ owns (c : Thread nD τ) arg16 fullShare x15 ∗ owns (c : Thread nD τ) arg17 fullShare x16 ∗ owns (c : Thread nD τ)
          arg18 fullShare x17 ∗ (∃ d, owns (c : Thread nD τ) arg19 fullShare d) ∗ (∃ d, owns (c : Thread nD τ) arg20 fullShare d) ∗ (∃ d, owns (c : Thread nD τ)
          arg21 fullShare d) ∗ (∃ d, owns (c : Thread nD τ) arg22 fullShare d) ∗ (∃ d, owns (c : Thread nD τ) arg23 fullShare d) ∗ (∃ d, owns (c : Thread nD τ)
          arg24 fullShare d)
            ∗ (iprop(owns (c : Thread nD τ) arg1 fullShare x0 ∗ owns (c : Thread nD τ) arg2 fullShare x1 ∗ owns (c : Thread nD τ) arg3 fullShare x2 ∗
              owns (c : Thread nD τ) arg4 fullShare x3 ∗ owns (c : Thread nD τ) arg5 fullShare x4 ∗ owns (c : Thread nD τ) arg6 fullShare x5 ∗ owns (c : Thread nD τ)
              arg7 fullShare x6 ∗ owns (c : Thread nD τ) arg8 fullShare x7 ∗ owns (c : Thread nD τ) arg9 fullShare x8 ∗ owns (c : Thread nD τ) arg10 fullShare x9 ∗
              owns (c : Thread nD τ) arg11 fullShare x10 ∗ owns (c : Thread nD τ) arg12 fullShare x11 ∗ owns (c : Thread nD τ) arg13 fullShare x12 ∗
              owns (c : Thread nD τ) arg14 fullShare x13 ∗ owns (c : Thread nD τ) arg15 fullShare x14 ∗ owns (c : Thread nD τ) arg16 fullShare x15 ∗
              owns (c : Thread nD τ) arg17 fullShare x16 ∗ owns (c : Thread nD τ) arg18 fullShare x17 ∗ (∃ f, arg19.view.loc (c : Thread nD τ)
              ↦[arg19.view.set]{fullShare} arg19.view.writes (Elt F) f L18) ∗ (∃ f, arg20.view.loc (c : Thread nD τ)
              ↦[arg20.view.set]{fullShare} arg20.view.writes (Elt F) f L19) ∗ (∃ f, arg21.view.loc (c : Thread nD τ)
              ↦[arg21.view.set]{fullShare} arg21.view.writes (Elt F) f L20) ∗ (∃ f, arg22.view.loc (c : Thread nD τ)
              ↦[arg22.view.set]{fullShare} arg22.view.writes (Elt F) f L21) ∗ (∃ f, arg23.view.loc (c : Thread nD τ)
              ↦[arg23.view.set]{fullShare} arg23.view.writes (Elt F) f L22) ∗ (∃ f, arg24.view.loc (c : Thread nD τ)
              ↦[arg24.view.set]{fullShare} arg24.view.writes (Elt F) f L23)) -∗ K ⟨⟩))
          ⊢ wp frame (wpE (defs₀ (F := F)) Variants.none c none)
            E (cc1_ret_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
            K } := by
  refine ⟨?_, ?_, ?_, ?_, ?_, ?_, fun E K => ?run⟩
  case run =>
    simp only [cc1_ret_bwd_eq_skeleton]; unfold cc1_ret_bwd_skel
    simp only [k1_part93_eq_skeleton, k1_part1_eq_skeleton, k1_part2_eq_skeleton, k1_part3_eq_skeleton, k1_part4_eq_skeleton, k1_part5_eq_skeleton, k1_part6_eq_skeleton,
      k1_part7_eq_skeleton, k1_part8_eq_skeleton, k1_part9_eq_skeleton, k1_part10_eq_skeleton, k1_part11_eq_skeleton, k1_part12_eq_skeleton, k1_part13_eq_skeleton,
      k1_part14_eq_skeleton, k1_part15_eq_skeleton, k1_part16_eq_skeleton, k1_part17_eq_skeleton, k1_part18_eq_skeleton, k1_part19_eq_skeleton, k1_part20_eq_skeleton,
      k1_part21_eq_skeleton, k1_part22_eq_skeleton, k1_part23_eq_skeleton, k1_part24_eq_skeleton, k1_part25_eq_skeleton, k1_part26_eq_skeleton, k1_part27_eq_skeleton,
      k1_part28_eq_skeleton, k1_part29_eq_skeleton, k1_part30_eq_skeleton, k1_part31_eq_skeleton, k1_part32_eq_skeleton, k1_part33_eq_skeleton, k1_part34_eq_skeleton,
      k1_part35_eq_skeleton, k1_part36_eq_skeleton, k1_part37_eq_skeleton, k1_part38_eq_skeleton, k1_part39_eq_skeleton, k1_part40_eq_skeleton, k1_part41_eq_skeleton,
      k1_part42_eq_skeleton, k1_part43_eq_skeleton, k1_part44_eq_skeleton, k1_part45_eq_skeleton, k1_part46_eq_skeleton, k1_part47_eq_skeleton, k1_part48_eq_skeleton,
      k1_part49_eq_skeleton, k1_part50_eq_skeleton, k1_part51_eq_skeleton, k1_part52_eq_skeleton, k1_part53_eq_skeleton, k1_part54_eq_skeleton, k1_part55_eq_skeleton,
      k1_part56_eq_skeleton, k1_part57_eq_skeleton, k1_part58_eq_skeleton, k1_part59_eq_skeleton, k1_part60_eq_skeleton, k1_part94_eq_skeleton, k1_part61_eq_skeleton,
      k1_part62_eq_skeleton, k1_part63_eq_skeleton, k1_part64_eq_skeleton, k1_part65_eq_skeleton, k1_part66_eq_skeleton, k1_part67_eq_skeleton, k1_part68_eq_skeleton,
      k1_part69_eq_skeleton, k1_part70_eq_skeleton, k1_part71_eq_skeleton, k1_part72_eq_skeleton, k1_part73_eq_skeleton, k1_part74_eq_skeleton, k1_part75_eq_skeleton,
      k1_part76_eq_skeleton, k1_part77_eq_skeleton, k1_part78_eq_skeleton, k1_part79_eq_skeleton, k1_part80_eq_skeleton, k1_part81_eq_skeleton, k1_part82_eq_skeleton,
      k1_part83_eq_skeleton, k1_part84_eq_skeleton, k1_part85_eq_skeleton, k1_part86_eq_skeleton, k1_part87_eq_skeleton, k1_part88_eq_skeleton, k1_part89_eq_skeleton,
      k1_part90_eq_skeleton, k1_part91_eq_skeleton, k1_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9,
      %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17,
      H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := harg1.eq_unread hf0; obtain rfl := harg2.eq_unread hf1; obtain rfl := harg3.eq_unread hf2; obtain rfl := harg4.eq_unread hf3;
      obtain rfl := harg5.eq_unread hf4; obtain rfl := harg6.eq_unread hf5; obtain rfl := harg7.eq_unread hf6; obtain rfl := harg8.eq_unread hf7;
      obtain rfl := harg9.eq_unread hf8; obtain rfl := harg10.eq_unread hf9; obtain rfl := harg11.eq_unread hf10; obtain rfl := harg12.eq_unread hf11;
      obtain rfl := harg13.eq_unread hf12; obtain rfl := harg14.eq_unread hf13; obtain rfl := harg15.eq_unread hf14; obtain rfl := harg16.eq_unread hf15;
      obtain rfl := harg17.eq_unread hf16; obtain rfl := harg18.eq_unread hf17
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.Kernel2Ideal.Gen

end
-- ==== Proof.BackRunB.lean ====
/- A later point of the backward pass, run. -/
module

public import proofs.«01_k».proof.Proof.BackBlocks

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid1.Coords) (arg1 : Memref sig .tc .vmem S384x512 .bf16) (harg1 : arg1.IsWhole) (arg2 : Memref sig .tc .vmem S384x512 .bf16)
  (harg2 : arg2.IsWhole) (arg3 : Memref sig .tc .vmem S384x512 .bf16) (harg3 : arg3.IsWhole) (arg4 : Memref sig .tc .vmem S384x512 .bf16) (harg4 : arg4.IsWhole)
  (arg5 : Memref sig .tc .vmem S384x1024 .bf16) (harg5 : arg5.IsWhole) (arg6 : Memref sig .tc .vmem S384x1024 .f32) (harg6 : arg6.IsWhole)
  (arg7 : Memref sig .tc .vmem S384x1024 .f32) (harg7 : arg7.IsWhole) (arg8 : Memref sig .tc .vmem S3x4x128x256 .bf16) (harg8 : arg8.IsWhole)
  (arg9 : Memref sig .tc .vmem S384x1024 .f32) (harg9 : arg9.IsWhole) (arg10 : Memref sig .tc .vmem S1x1024 .f32) (harg10 : arg10.IsWhole)
  (arg11 : Memref sig .tc .vmem S384x128 .f32) (harg11 : arg11.IsWhole) (arg12 : Memref sig .tc .vmem S384x128 .f32) (harg12 : arg12.IsWhole)
  (arg13 : Memref sig .tc .vmem S8x128x128 .f32) (harg13 : arg13.IsWhole) (arg14 : Memref sig .tc .vmem S8x128x128 .f32) (harg14 : arg14.IsWhole)
  (arg15 : Memref sig .tc .vmem S128x512 .f32) (harg15 : arg15.IsWhole) (arg16 : Memref sig .tc .vmem S128x512 .f32) (harg16 : arg16.IsWhole)
  (arg17 : Memref sig .tc .vmem S4x128x256 .f32) (harg17 : arg17.IsWhole) (arg18 : Memref sig .tc .vmem S128x256 .f32) (harg18 : arg18.IsWhole)
  (arg19 : Memref sig .tc .vmem S384x512 .bf16) (harg19 : arg19.IsWhole) (arg20 : Memref sig .tc .vmem S384x512 .bf16) (harg20 : arg20.IsWhole)
  (arg21 : Memref sig .tc .vmem S384x1024 .bf16) (harg21 : arg21.IsWhole) (arg22 : Memref sig .tc .vmem S384x1024 .bf16) (harg22 : arg22.IsWhole)
  (arg23 : Memref sig .tc .vmem S1x1024 .f32) (harg23 : arg23.IsWhole) (arg24 : Memref sig .tc .vmem S4x128x256 .f32) (harg24 : arg24.IsWhole)
  (x0 : Vec F S384x512 .bf16) (x1 : Vec F S384x512 .bf16) (x2 : Vec F S384x512 .bf16) (x3 : Vec F S384x512 .bf16) (x4 : Vec F S384x1024 .bf16) (x5 : Vec F S384x1024 .f32)
    (x6 : Vec F S384x1024 .f32) (x7 : Vec F S3x4x128x256 .bf16) (x8 : Vec F S384x1024 .f32) (x9 : Vec F S1x1024 .f32) (x10 : Vec F S384x128 .f32)
    (x11 : Vec F S384x128 .f32) (x12 : Vec F S8x128x128 .f32) (x13 : Vec F S8x128x128 .f32) (x14 : Vec F S128x512 .f32) (x15 : Vec F S128x512 .f32)
    (x16 : Vec F S4x128x256 .f32) (x17 : Vec F S128x256 .f32) (xo22 : Vec F S1x1024 .f32) (xo23 : Vec F S4x128x256 .f32)

set_option maxHeartbeats 4000000 in
/-- The stores of a later point, found by running its body. -/
noncomputable def kernelRun1_B (hc0 : ¬cond1_0 i) :
    Σ' (L18 : List (View.Piece (Elt F) S384x512 .bf16)), Σ' (L19 : List (View.Piece (Elt F) S384x512 .bf16)), Σ' (L20 : List (View.Piece (Elt F) S384x1024 .bf16)),
      Σ' (L21 : List (View.Piece (Elt F) S384x1024 .bf16)), Σ' (L22 : List (View.Piece (Elt F) S1x1024 .f32)), { L23 : List (View.Piece (Elt F) S4x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ)
          arg4 fullShare x3 ∗ owns (c : Thread nD τ) arg5 fullShare x4 ∗ owns (c : Thread nD τ) arg6 fullShare x5 ∗ owns (c : Thread nD τ) arg7 fullShare x6 ∗
          owns (c : Thread nD τ) arg8 fullShare x7 ∗ owns (c : Thread nD τ) arg9 fullShare x8 ∗ owns (c : Thread nD τ) arg10 fullShare x9 ∗ owns (c : Thread nD τ)
          arg11 fullShare x10 ∗ owns (c : Thread nD τ) arg12 fullShare x11 ∗ owns (c : Thread nD τ) arg13 fullShare x12 ∗ owns (c : Thread nD τ) arg14 fullShare x13 ∗
          owns (c : Thread nD τ) arg15 fullShare x14 ∗ owns (c : Thread nD τ) arg16 fullShare x15 ∗ owns (c : Thread nD τ) arg17 fullShare x16 ∗ owns (c : Thread nD τ)
          arg18 fullShare x17 ∗ (∃ d, owns (c : Thread nD τ) arg19 fullShare d) ∗ (∃ d, owns (c : Thread nD τ) arg20 fullShare d) ∗ (∃ d, owns (c : Thread nD τ)
          arg21 fullShare d) ∗ (∃ d, owns (c : Thread nD τ) arg22 fullShare d) ∗ owns (c : Thread nD τ) arg23 fullShare xo22 ∗ owns (c : Thread nD τ) arg24 fullShare xo23
            ∗ (iprop(owns (c : Thread nD τ) arg1 fullShare x0 ∗ owns (c : Thread nD τ) arg2 fullShare x1 ∗ owns (c : Thread nD τ) arg3 fullShare x2 ∗
              owns (c : Thread nD τ) arg4 fullShare x3 ∗ owns (c : Thread nD τ) arg5 fullShare x4 ∗ owns (c : Thread nD τ) arg6 fullShare x5 ∗ owns (c : Thread nD τ)
              arg7 fullShare x6 ∗ owns (c : Thread nD τ) arg8 fullShare x7 ∗ owns (c : Thread nD τ) arg9 fullShare x8 ∗ owns (c : Thread nD τ) arg10 fullShare x9 ∗
              owns (c : Thread nD τ) arg11 fullShare x10 ∗ owns (c : Thread nD τ) arg12 fullShare x11 ∗ owns (c : Thread nD τ) arg13 fullShare x12 ∗
              owns (c : Thread nD τ) arg14 fullShare x13 ∗ owns (c : Thread nD τ) arg15 fullShare x14 ∗ owns (c : Thread nD τ) arg16 fullShare x15 ∗
              owns (c : Thread nD τ) arg17 fullShare x16 ∗ owns (c : Thread nD τ) arg18 fullShare x17 ∗ (∃ f, arg19.view.loc (c : Thread nD τ)
              ↦[arg19.view.set]{fullShare} arg19.view.writes (Elt F) f L18) ∗ (∃ f, arg20.view.loc (c : Thread nD τ)
              ↦[arg20.view.set]{fullShare} arg20.view.writes (Elt F) f L19) ∗ (∃ f, arg21.view.loc (c : Thread nD τ)
              ↦[arg21.view.set]{fullShare} arg21.view.writes (Elt F) f L20) ∗ (∃ f, arg22.view.loc (c : Thread nD τ)
              ↦[arg22.view.set]{fullShare} arg22.view.writes (Elt F) f L21) ∗ (∃ f, arg23.view.loc (c : Thread nD τ)
              ↦[arg23.view.set]{fullShare} arg23.view.writes (Elt F) f L22) ∗ (∃ f, arg24.view.loc (c : Thread nD τ)
              ↦[arg24.view.set]{fullShare} arg24.view.writes (Elt F) f L23)) -∗ K ⟨⟩))
          ⊢ wp frame (wpE (defs₀ (F := F)) Variants.none c none)
            E (cc1_ret_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
            K } := by
  refine ⟨?_, ?_, ?_, ?_, ?_, ?_, fun E K => ?run⟩
  case run =>
    simp only [cc1_ret_bwd_eq_skeleton]; unfold cc1_ret_bwd_skel
    simp only [k1_part93_eq_skeleton, k1_part1_eq_skeleton, k1_part2_eq_skeleton, k1_part3_eq_skeleton, k1_part4_eq_skeleton, k1_part5_eq_skeleton, k1_part6_eq_skeleton,
      k1_part7_eq_skeleton, k1_part8_eq_skeleton, k1_part9_eq_skeleton, k1_part10_eq_skeleton, k1_part11_eq_skeleton, k1_part12_eq_skeleton, k1_part13_eq_skeleton,
      k1_part14_eq_skeleton, k1_part15_eq_skeleton, k1_part16_eq_skeleton, k1_part17_eq_skeleton, k1_part18_eq_skeleton, k1_part19_eq_skeleton, k1_part20_eq_skeleton,
      k1_part21_eq_skeleton, k1_part22_eq_skeleton, k1_part23_eq_skeleton, k1_part24_eq_skeleton, k1_part25_eq_skeleton, k1_part26_eq_skeleton, k1_part27_eq_skeleton,
      k1_part28_eq_skeleton, k1_part29_eq_skeleton, k1_part30_eq_skeleton, k1_part31_eq_skeleton, k1_part32_eq_skeleton, k1_part33_eq_skeleton, k1_part34_eq_skeleton,
      k1_part35_eq_skeleton, k1_part36_eq_skeleton, k1_part37_eq_skeleton, k1_part38_eq_skeleton, k1_part39_eq_skeleton, k1_part40_eq_skeleton, k1_part41_eq_skeleton,
      k1_part42_eq_skeleton, k1_part43_eq_skeleton, k1_part44_eq_skeleton, k1_part45_eq_skeleton, k1_part46_eq_skeleton, k1_part47_eq_skeleton, k1_part48_eq_skeleton,
      k1_part49_eq_skeleton, k1_part50_eq_skeleton, k1_part51_eq_skeleton, k1_part52_eq_skeleton, k1_part53_eq_skeleton, k1_part54_eq_skeleton, k1_part55_eq_skeleton,
      k1_part56_eq_skeleton, k1_part57_eq_skeleton, k1_part58_eq_skeleton, k1_part59_eq_skeleton, k1_part60_eq_skeleton, k1_part94_eq_skeleton, k1_part61_eq_skeleton,
      k1_part62_eq_skeleton, k1_part63_eq_skeleton, k1_part64_eq_skeleton, k1_part65_eq_skeleton, k1_part66_eq_skeleton, k1_part67_eq_skeleton, k1_part68_eq_skeleton,
      k1_part69_eq_skeleton, k1_part70_eq_skeleton, k1_part71_eq_skeleton, k1_part72_eq_skeleton, k1_part73_eq_skeleton, k1_part74_eq_skeleton, k1_part75_eq_skeleton,
      k1_part76_eq_skeleton, k1_part77_eq_skeleton, k1_part78_eq_skeleton, k1_part79_eq_skeleton, k1_part80_eq_skeleton, k1_part81_eq_skeleton, k1_part82_eq_skeleton,
      k1_part83_eq_skeleton, k1_part84_eq_skeleton, k1_part85_eq_skeleton, k1_part86_eq_skeleton, k1_part87_eq_skeleton, k1_part88_eq_skeleton, k1_part89_eq_skeleton,
      k1_part90_eq_skeleton, k1_part91_eq_skeleton, k1_part92_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9,
      %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17,
      H17⟩, ⟨%d18, %f18, -, H18⟩, ⟨%d19, %f19, -, H19⟩, ⟨%d20, %f20, -, H20⟩, ⟨%d21, %f21, -, H21⟩, ⟨%f22, %hf22, H22⟩, ⟨%f23, %hf23, H23⟩, Hk⟩
    obtain rfl := harg1.eq_unread hf0; obtain rfl := harg2.eq_unread hf1; obtain rfl := harg3.eq_unread hf2; obtain rfl := harg4.eq_unread hf3;
      obtain rfl := harg5.eq_unread hf4; obtain rfl := harg6.eq_unread hf5; obtain rfl := harg7.eq_unread hf6; obtain rfl := harg8.eq_unread hf7;
      obtain rfl := harg9.eq_unread hf8; obtain rfl := harg10.eq_unread hf9; obtain rfl := harg11.eq_unread hf10; obtain rfl := harg12.eq_unread hf11;
      obtain rfl := harg13.eq_unread hf12; obtain rfl := harg14.eq_unread hf13; obtain rfl := harg15.eq_unread hf14; obtain rfl := harg16.eq_unread hf15;
      obtain rfl := harg17.eq_unread hf16; obtain rfl := harg18.eq_unread hf17; obtain rfl := harg23.eq_unread hf22; obtain rfl := harg24.eq_unread hf23
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.Kernel2Ideal.Gen

end
-- ==== Proof.BackPass.lean ====
/- The backward pass's pipeline: what each point leaves, and that every point runs. -/
module

public import proofs.«01_k».proof.Proof.BackRunA
public import proofs.«01_k».proof.Proof.BackRunB

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pass is entered
variable (V : (c : Dev nD) → (b : Ref sig .tc) → Buf (Elt F) ((c : Thread nD τ).loc b))

/-- Window `w`'s block at point `t`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev VO1_18 : View sig .tc .vmem S384x512 .bf16 :=
  (Memref.whole cc1_stg18_0 : Memref sig .tc .vmem S384x512 .bf16).view
abbrev VO1_19 : View sig .tc .vmem S384x512 .bf16 :=
  (Memref.whole cc1_stg19_0 : Memref sig .tc .vmem S384x512 .bf16).view
abbrev VO1_20 : View sig .tc .vmem S384x1024 .bf16 :=
  (Memref.whole cc1_stg20_0 : Memref sig .tc .vmem S384x1024 .bf16).view
abbrev VO1_21 : View sig .tc .vmem S384x1024 .bf16 :=
  (Memref.whole cc1_stg21_0 : Memref sig .tc .vmem S384x1024 .bf16).view
abbrev VO1_22 : View sig .tc .vmem S1x1024 .f32 :=
  (Memref.whole cc1_stg22_0 : Memref sig .tc .vmem S1x1024 .f32).view
abbrev VO1_23 : View sig .tc .vmem S4x128x256 .f32 :=
  (Memref.whole cc1_stg23_0 : Memref sig .tc .vmem S4x128x256 .f32).view
abbrev ms1_0 (t : Fin cfg1.N) : Memref sig .tc .vmem S384x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S384x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S384x512 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S384x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S384x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S384x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S384x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S3x4x128x256 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S384x1024 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1024 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S384x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S384x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x128x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x128x128 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S128x512 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S128x512 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S4x128x256 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S128x256 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S384x512 .bf16 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S384x512 .bf16 := win1_19.stage (cfg1.slots t 19)
abbrev hs1_19 (t : Fin cfg1.N) : (ms1_19 t).IsWhole := hstage1_19 ((cfg1.slots t 19).cast nbuf1_19)
abbrev ms1_20 (t : Fin cfg1.N) : Memref sig .tc .vmem S384x1024 .bf16 := win1_20.stage (cfg1.slots t 20)
abbrev hs1_20 (t : Fin cfg1.N) : (ms1_20 t).IsWhole := hstage1_20 ((cfg1.slots t 20).cast nbuf1_20)
abbrev ms1_21 (t : Fin cfg1.N) : Memref sig .tc .vmem S384x1024 .bf16 := win1_21.stage (cfg1.slots t 21)
abbrev hs1_21 (t : Fin cfg1.N) : (ms1_21 t).IsWhole := hstage1_21 ((cfg1.slots t 21).cast nbuf1_21)
abbrev ms1_22 (t : Fin cfg1.N) : Memref sig .tc .vmem S1x1024 .f32 := win1_22.stage (cfg1.slots t 22)
abbrev hs1_22 (t : Fin cfg1.N) : (ms1_22 t).IsWhole := hstage1_22 ((cfg1.slots t 22).cast nbuf1_22)
abbrev ms1_23 (t : Fin cfg1.N) : Memref sig .tc .vmem S4x128x256 .f32 := win1_23.stage (cfg1.slots t 23)
abbrev hs1_23 (t : Fin cfg1.N) : (ms1_23 t).IsWhole := hstage1_23 ((cfg1.slots t 23).cast nbuf1_23)

section

variable (c : Dev nD) (t : Fin cfg1.N)

/-- The first point's stores, at its blocks. -/
abbrev runA (h0 : t.val % 11 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t)
    (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t)
    (hs1_12 t) (ms1_13 t) (hs1_13 t) (ms1_14 t) (hs1_14 t) (ms1_15 t) (hs1_15 t) (ms1_16 t) (hs1_16 t) (ms1_17 t) (hs1_17 t) (ms1_18 t) (hs1_18 t)
    (ms1_19 t) (hs1_19 t) (ms1_20 t) (hs1_20 t) (ms1_21 t) (hs1_21 t) (ms1_22 t) (hs1_22 t) (ms1_23 t) (hs1_23 t) (iblk1 V c 0 t) (iblk1 V c 1 t)
    (iblk1 V c 2 t) (iblk1 V c 3 t) (iblk1 V c 4 t) (iblk1 V c 5 t) (iblk1 V c 6 t) (iblk1 V c 7 t) (iblk1 V c 8 t) (iblk1 V c 9 t) (iblk1 V c 10 t)
    (iblk1 V c 11 t) (iblk1 V c 12 t) (iblk1 V c 13 t) (iblk1 V c 14 t) (iblk1 V c 15 t) (iblk1 V c 16 t) (iblk1 V c 17 t) ((hcond1_0 t).mpr h0)

/-- A later point's stores, at its blocks and over what the point before left. -/
abbrev runB (h0 : ¬t.val % 11 = 0) (x22 : Vec F S1x1024 .f32) (x23 : Vec F S4x128x256 .f32) :=
  kernelRun1_B c (grid1.coords t) (ms1_0 t) (hs1_0 t) (ms1_1 t) (hs1_1 t) (ms1_2 t) (hs1_2 t) (ms1_3 t) (hs1_3 t) (ms1_4 t) (hs1_4 t) (ms1_5 t)
    (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t)
    (hs1_12 t) (ms1_13 t) (hs1_13 t) (ms1_14 t) (hs1_14 t) (ms1_15 t) (hs1_15 t) (ms1_16 t) (hs1_16 t) (ms1_17 t) (hs1_17 t) (ms1_18 t) (hs1_18 t)
    (ms1_19 t) (hs1_19 t) (ms1_20 t) (hs1_20 t) (ms1_21 t) (hs1_21 t) (ms1_22 t) (hs1_22 t) (ms1_23 t) (hs1_23 t) (iblk1 V c 0 t) (iblk1 V c 1 t)
    (iblk1 V c 2 t) (iblk1 V c 3 t) (iblk1 V c 4 t) (iblk1 V c 5 t) (iblk1 V c 6 t) (iblk1 V c 7 t) (iblk1 V c 8 t) (iblk1 V c 9 t) (iblk1 V c 10 t)
    (iblk1 V c 11 t) (iblk1 V c 12 t) (iblk1 V c 13 t) (iblk1 V c 14 t) (iblk1 V c 15 t) (iblk1 V c 16 t) (iblk1 V c 17 t)
    x22 x23 (fun h => h0 ((hcond1_0 t).mp h))

theorem cover1_A_18 (h0 : t.val % 11 = 0) (y : S384x512.Idx) : ∃ pc ∈ (runA V c t h0).1, y ∈ pc.1.set :=
  View.cover_of_tiledL (runA V c t h0).1 S128x512.size (by sl_kernel_rfl) y
def out1_A_18 (h0 : t.val % 11 = 0) : Vec F S384x512 .bf16 :=
  VO1_18.read (Elt F) (VO1_18.writes (Elt F) VO1_18.junk (runA V c t h0).1)
theorem cover1_A_19 (h0 : t.val % 11 = 0) (y : S384x512.Idx) : ∃ pc ∈ (runA V c t h0).2.1, y ∈ pc.1.set :=
  View.cover_of_tiledL (runA V c t h0).2.1 S128x512.size (by sl_kernel_rfl) y
def out1_A_19 (h0 : t.val % 11 = 0) : Vec F S384x512 .bf16 :=
  VO1_19.read (Elt F) (VO1_19.writes (Elt F) VO1_19.junk (runA V c t h0).2.1)
theorem cover1_A_20 (h0 : t.val % 11 = 0) (y : S384x1024.Idx) : ∃ pc ∈ (runA V c t h0).2.2.1, y ∈ pc.1.set :=
  View.cover_of_tiledL (runA V c t h0).2.2.1 S128x256.size (by sl_kernel_rfl) y
def out1_A_20 (h0 : t.val % 11 = 0) : Vec F S384x1024 .bf16 :=
  VO1_20.read (Elt F) (VO1_20.writes (Elt F) VO1_20.junk (runA V c t h0).2.2.1)
theorem cover1_A_21 (h0 : t.val % 11 = 0) (y : S384x1024.Idx) : ∃ pc ∈ (runA V c t h0).2.2.2.1, y ∈ pc.1.set :=
  View.cover_of_tiledL (runA V c t h0).2.2.2.1 S128x128.size (by sl_kernel_rfl) y
def out1_A_21 (h0 : t.val % 11 = 0) : Vec F S384x1024 .bf16 :=
  VO1_21.read (Elt F) (VO1_21.writes (Elt F) VO1_21.junk (runA V c t h0).2.2.2.1)
theorem cover1_A_22 (h0 : t.val % 11 = 0) (y : S1x1024.Idx) : ∃ pc ∈ (runA V c t h0).2.2.2.2.1, y ∈ pc.1.set :=
  View.cover_of_tiledBy (runA V c t h0).2.2.2.2.1 ![1, 128] (by sl_kernel_rfl) y
def out1_A_22 (h0 : t.val % 11 = 0) : Vec F S1x1024 .f32 :=
  VO1_22.read (Elt F) (VO1_22.writes (Elt F) VO1_22.junk (runA V c t h0).2.2.2.2.1)
theorem cover1_A_23 (h0 : t.val % 11 = 0) (y : S4x128x256.Idx) : ∃ pc ∈ (runA V c t h0).2.2.2.2.2.1, y ∈ pc.1.set :=
  View.cover_of_tiledBy (runA V c t h0).2.2.2.2.2.1 ![1, 128, 256] (by sl_kernel_rfl) y
def out1_A_23 (h0 : t.val % 11 = 0) : Vec F S4x128x256 .f32 :=
  VO1_23.read (Elt F) (VO1_23.writes (Elt F) VO1_23.junk (runA V c t h0).2.2.2.2.2.1)
theorem cover1_B_18 (h0 : ¬t.val % 11 = 0) (x22 : Vec F S1x1024 .f32) (x23 : Vec F S4x128x256 .f32) (y : S384x512.Idx) : ∃ pc ∈ (runB V c t h0 x22 x23).1, y ∈ pc.1.set :=
  View.cover_of_tiledL (runB V c t h0 x22 x23).1 S128x512.size (by sl_kernel_rfl) y
def out1_B_18 (h0 : ¬t.val % 11 = 0) (x22 : Vec F S1x1024 .f32) (x23 : Vec F S4x128x256 .f32) : Vec F S384x512 .bf16 :=
  VO1_18.read (Elt F) (VO1_18.writes (Elt F) VO1_18.junk (runB V c t h0 x22 x23).1)
theorem cover1_B_19 (h0 : ¬t.val % 11 = 0) (x22 : Vec F S1x1024 .f32) (x23 : Vec F S4x128x256 .f32) (y : S384x512.Idx) : ∃ pc ∈ (runB V c t h0 x22 x23).2.1,
  y ∈ pc.1.set :=
  View.cover_of_tiledL (runB V c t h0 x22 x23).2.1 S128x512.size (by sl_kernel_rfl) y
def out1_B_19 (h0 : ¬t.val % 11 = 0) (x22 : Vec F S1x1024 .f32) (x23 : Vec F S4x128x256 .f32) : Vec F S384x512 .bf16 :=
  VO1_19.read (Elt F) (VO1_19.writes (Elt F) VO1_19.junk (runB V c t h0 x22 x23).2.1)
theorem cover1_B_20 (h0 : ¬t.val % 11 = 0) (x22 : Vec F S1x1024 .f32) (x23 : Vec F S4x128x256 .f32) (y : S384x1024.Idx) : ∃ pc ∈ (runB V c t h0 x22 x23).2.2.1,
  y ∈ pc.1.set :=
  View.cover_of_tiledL (runB V c t h0 x22 x23).2.2.1 S128x256.size (by sl_kernel_rfl) y
def out1_B_20 (h0 : ¬t.val % 11 = 0) (x22 : Vec F S1x1024 .f32) (x23 : Vec F S4x128x256 .f32) : Vec F S384x1024 .bf16 :=
  VO1_20.read (Elt F) (VO1_20.writes (Elt F) VO1_20.junk (runB V c t h0 x22 x23).2.2.1)
theorem cover1_B_21 (h0 : ¬t.val % 11 = 0) (x22 : Vec F S1x1024 .f32) (x23 : Vec F S4x128x256 .f32) (y : S384x1024.Idx) : ∃ pc ∈ (runB V c t h0 x22 x23).2.2.2.1,
  y ∈ pc.1.set :=
  View.cover_of_tiledL (runB V c t h0 x22 x23).2.2.2.1 S128x128.size (by sl_kernel_rfl) y
def out1_B_21 (h0 : ¬t.val % 11 = 0) (x22 : Vec F S1x1024 .f32) (x23 : Vec F S4x128x256 .f32) : Vec F S384x1024 .bf16 :=
  VO1_21.read (Elt F) (VO1_21.writes (Elt F) VO1_21.junk (runB V c t h0 x22 x23).2.2.2.1)
theorem cover1_B_22 (h0 : ¬t.val % 11 = 0) (x22 : Vec F S1x1024 .f32) (x23 : Vec F S4x128x256 .f32) (y : S1x1024.Idx) : ∃ pc ∈ (runB V c t h0 x22 x23).2.2.2.2.1,
  y ∈ pc.1.set :=
  View.cover_of_tiledL (runB V c t h0 x22 x23).2.2.2.2.1 S1x128.size (by sl_kernel_rfl) y
def out1_B_22 (h0 : ¬t.val % 11 = 0) (x22 : Vec F S1x1024 .f32) (x23 : Vec F S4x128x256 .f32) : Vec F S1x1024 .f32 :=
  VO1_22.read (Elt F) (VO1_22.writes (Elt F) VO1_22.junk (runB V c t h0 x22 x23).2.2.2.2.1)
theorem cover1_B_23 (h0 : ¬t.val % 11 = 0) (x22 : Vec F S1x1024 .f32) (x23 : Vec F S4x128x256 .f32) (y : S4x128x256.Idx) : ∃ pc ∈ (runB V c t h0 x22 x23).2.2.2.2.2.1,
  y ∈ pc.1.set :=
  View.cover_of_tiledL (runB V c t h0 x22 x23).2.2.2.2.2.1 S1x128x256.size (by sl_kernel_rfl) y
def out1_B_23 (h0 : ¬t.val % 11 = 0) (x22 : Vec F S1x1024 .f32) (x23 : Vec F S4x128x256 .f32) : Vec F S4x128x256 .f32 :=
  VO1_23.read (Elt F) (VO1_23.writes (Elt F) VO1_23.junk (runB V c t h0 x22 x23).2.2.2.2.2.1)

end

abbrev Outs1 (F : FTy → Type)
  [FloatOps F] := Vec F S384x512 .bf16 × Vec F S384x512 .bf16 × Vec F S384x1024 .bf16 × Vec F S384x1024 .bf16 × Vec F S1x1024 .f32 × Vec F S4x128x256 .f32

abbrev outs1_A (c : Dev nD) (t : Fin cfg1.N) (h0 : t.val % 11 = 0) : Outs1 F :=
  (out1_A_18 V c t h0, out1_A_19 V c t h0, out1_A_20 V c t h0, out1_A_21 V c t h0, out1_A_22 V c t h0, out1_A_23 V c t h0)

abbrev outs1_B (c : Dev nD) (t : Fin cfg1.N) (h0 : ¬t.val % 11 = 0) (o : Outs1 F) : Outs1 F :=
  (out1_B_18 V c t h0 o.2.2.2.2.1 o.2.2.2.2.2, out1_B_19 V c t h0 o.2.2.2.2.1 o.2.2.2.2.2, out1_B_20 V c t h0 o.2.2.2.2.1 o.2.2.2.2.2,
    out1_B_21 V c t h0 o.2.2.2.2.1 o.2.2.2.2.2, out1_B_22 V c t h0 o.2.2.2.2.1 o.2.2.2.2.2, out1_B_23 V c t h0 o.2.2.2.2.1 o.2.2.2.2.2)

/-- What the windows hold after point `n`. -/
def outsAt1 (c : Dev nD) : (n : ℕ) → n < cfg1.N → Outs1 F
  | 0, hn => outs1_A V c ⟨0, hn⟩ (Nat.zero_mod _)
  | n + 1, hn =>
    if h0 : (n + 1) % 11 = 0 then outs1_A V c ⟨n + 1, hn⟩ h0
    else outs1_B V c ⟨n + 1, hn⟩ h0 (outsAt1 c n (Nat.lt_of_succ_lt hn))

theorem outsAt1_A (c : Dev nD) (t : Fin cfg1.N) (h0 : t.val % 11 = 0) : outsAt1 V c t.val t.isLt = (out1_A_18 V c t h0, out1_A_19 V c t h0, out1_A_20 V c t h0,
  out1_A_21 V c t h0, out1_A_22 V c t h0, out1_A_23 V c t h0) := by
  obtain ⟨n, hn⟩ := t
  cases n with
  | zero => exact rfl
  | succ n => exact (dif_pos h0).trans rfl

theorem outsAt1_B (c : Dev nD) (t : Fin cfg1.N) (h0 : ¬t.val % 11 = 0) :
    outsAt1 V c t.val t.isLt = (out1_B_18 V c t h0 (outsAt1 V c (t.val - 1) (Nat.lt_of_le_of_lt (Nat.sub_le _ _) t.isLt)).2.2.2.2.1 (outsAt1 V c (t.val - 1)
      (Nat.lt_of_le_of_lt (Nat.sub_le _ _) t.isLt)).2.2.2.2.2, out1_B_19 V c t h0 (outsAt1 V c (t.val - 1) (Nat.lt_of_le_of_lt (Nat.sub_le _ _)
      t.isLt)).2.2.2.2.1 (outsAt1 V c (t.val - 1) (Nat.lt_of_le_of_lt (Nat.sub_le _ _) t.isLt)).2.2.2.2.2, out1_B_20 V c t h0 (outsAt1 V c (t.val - 1)
      (Nat.lt_of_le_of_lt (Nat.sub_le _ _) t.isLt)).2.2.2.2.1 (outsAt1 V c (t.val - 1) (Nat.lt_of_le_of_lt (Nat.sub_le _ _) t.isLt)).2.2.2.2.2,
      out1_B_21 V c t h0 (outsAt1 V c (t.val - 1) (Nat.lt_of_le_of_lt (Nat.sub_le _ _) t.isLt)).2.2.2.2.1 (outsAt1 V c (t.val - 1) (Nat.lt_of_le_of_lt (Nat.sub_le _ _)
      t.isLt)).2.2.2.2.2, out1_B_22 V c t h0 (outsAt1 V c (t.val - 1) (Nat.lt_of_le_of_lt (Nat.sub_le _ _) t.isLt)).2.2.2.2.1 (outsAt1 V c (t.val - 1)
      (Nat.lt_of_le_of_lt (Nat.sub_le _ _) t.isLt)).2.2.2.2.2, out1_B_23 V c t h0 (outsAt1 V c (t.val - 1) (Nat.lt_of_le_of_lt (Nat.sub_le _ _)
      t.isLt)).2.2.2.2.1 (outsAt1 V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The pipeline's proof data: inputs stay at their blocks, outputs are at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => (outsAt1 V c t.val t.isLt).1
    | ⟨19, _⟩ => (outsAt1 V c t.val t.isLt).2.1
    | ⟨20, _⟩ => (outsAt1 V c t.val t.isLt).2.2.1
    | ⟨21, _⟩ => (outsAt1 V c t.val t.isLt).2.2.2.1
    | ⟨22, _⟩ => (outsAt1 V c t.val t.isLt).2.2.2.2.1
    | ⟨23, _⟩ => (outsAt1 V c t.val t.isLt).2.2.2.2.2
    | ⟨_ + 24, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = (outsAt1 V c t.val t.isLt).1 := by
  dsimp only [dat1]
theorem after1_19 (c : Dev nD) (t : Fin cfg1.N) : (dat1 V c).after 19 t = (outsAt1 V c t.val t.isLt).2.1 := by
  dsimp only [dat1]
theorem after1_20 (c : Dev nD) (t : Fin cfg1.N) : (dat1 V c).after 20 t = (outsAt1 V c t.val t.isLt).2.2.1 := by
  dsimp only [dat1]
theorem after1_21 (c : Dev nD) (t : Fin cfg1.N) : (dat1 V c).after 21 t = (outsAt1 V c t.val t.isLt).2.2.2.1 := by
  dsimp only [dat1]
theorem after1_22 (c : Dev nD) (t : Fin cfg1.N) : (dat1 V c).after 22 t = (outsAt1 V c t.val t.isLt).2.2.2.2.1 := by
  dsimp only [dat1]
theorem after1_23 (c : Dev nD) (t : Fin cfg1.N) : (dat1 V c).after 23 t = (outsAt1 V c t.val t.isLt).2.2.2.2.2 := by
  dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl)
    (fun t => by rw [after1_14]; unfold Dat.blockOf iblk1; rw [A_eq1]; try rfl) t d).trans (by unfold Dat.fetched Dat.blockOf iblk1; rw [A_eq1]; try rfl)
theorem before1_15 (c : Dev nD) (t : Fin cfg1.N) (d) : (dat1 V c).before 15 t d = iblk1 V c 15 t :=
  ((dat1 V c).before_in_eq_fetched 15 rfl (fun _ => rfl) (fun _ _ _ => rfl)
    (fun t => by rw [after1_15]; unfold Dat.blockOf iblk1; rw [A_eq1]; try rfl) t d).trans (by unfold Dat.fetched Dat.blockOf iblk1; rw [A_eq1]; try rfl)
theorem before1_16 (c : Dev nD) (t : Fin cfg1.N) (d) : (dat1 V c).before 16 t d = iblk1 V c 16 t :=
  ((dat1 V c).before_in_eq_fetched 16 rfl (fun _ => rfl) (fun _ _ _ => rfl)
    (fun t => by rw [after1_16]; unfold Dat.blockOf iblk1; rw [A_eq1]; try rfl) t d).trans (by unfold Dat.fetched Dat.blockOf iblk1; rw [A_eq1]; try rfl)
theorem before1_17 (c : Dev nD) (t : Fin cfg1.N) (d) : (dat1 V c).before 17 t d = iblk1 V c 17 t :=
  ((dat1 V c).before_in_eq_fetched 17 rfl (fun _ => rfl) (fun _ _ _ => rfl)
    (fun t => by rw [after1_17]; unfold Dat.blockOf iblk1; rw [A_eq1]; try rfl) t d).trans (by unfold Dat.fetched Dat.blockOf iblk1; rw [A_eq1]; try rfl)

theorem before1_22_B (c : Dev nD) (t : Fin cfg1.N) (h0 : ¬t.val % 11 = 0) (d) :
    (dat1 V c).before 22 t d = (outsAt1 V c (t.val - 1) (Nat.lt_of_le_of_lt (Nat.sub_le _ _) t.isLt)).2.2.2.2.1 := by
  have hN : t.val < 11 := lt_of_lt_of_eq t.isLt (show cfg1.N = 11 from N_1)
  rw [Dat.before_out_kept _ 22 rfl t (by omega) (Bool.eq_false_iff.mpr fun h => by have := (flush1_22 _).mp h; dsimp only at this; omega)
    (fun _ => rfl) (fun _ _ => rfl)]
  dsimp only [dat1]

theorem before1_23_B (c : Dev nD) (t : Fin cfg1.N) (h0 : ¬t.val % 11 = 0) (d) :
    (dat1 V c).before 23 t d = (outsAt1 V c (t.val - 1) (Nat.lt_of_le_of_lt (Nat.sub_le _ _) t.isLt)).2.2.2.2.2 := by
  have hN : t.val < 11 := lt_of_lt_of_eq t.isLt (show cfg1.N = 11 from N_1)
  rw [Dat.before_out_kept _ 23 rfl t (by omega) (Bool.eq_false_iff.mpr fun h => by have := (flush1_23 _).mp h; dsimp only at this; omega)
    (fun _ => rfl) (fun _ _ => rfl)]
  dsimp only [dat1]

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d))
    ∗ (∃ d, owns (c : Thread nD τ) (ms1_22 t) fullShare ((dat1 V c).before 22 t d))
    ∗ (∃ d, owns (c : Thread nD τ) (ms1_23 t) fullShare ((dat1 V c).before 23 t d)))

/-- What it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t)
    ∗ owns (c : Thread nD τ) (ms1_21 t) fullShare ((dat1 V c).after 21 t)
    ∗ owns (c : Thread nD τ) (ms1_22 t) fullShare ((dat1 V c).after 22 t)
    ∗ owns (c : Thread nD τ) (ms1_23 t) fullShare ((dat1 V c).after 23 t))

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13,
    before1_14, before1_15, before1_16, before1_17]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15,
      after1_16, after1_17, after1_18, after1_19, after1_20, after1_21, after1_22, after1_23]
  have hN : t.val < 11 := lt_of_lt_of_eq t.isLt (show cfg1.N = 11 from N_1)
  by_cases h0 : t.val % 11 = 0
  · rw [outsAt1_A V c t h0]
    unfold out1_A_18 out1_A_19 out1_A_20 out1_A_21 out1_A_22 out1_A_23; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
      ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((runA V c t h0).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (cover1_A_18 V c t h0)
    isplitl [H19]
    · unfold owns; iexists _; isplitr
      swap; · iexact H19
      ipureintro; exact View.read_writes_of_cover _ _ _ _ _ (cover1_A_19 V c t h0)
    isplitl [H20]
    · unfold owns; iexists _; isplitr
      swap; · iexact H20
      ipureintro; exact View.read_writes_of_cover _ _ _ _ _ (cover1_A_20 V c t h0)
    isplitl [H21]
    · unfold owns; iexists _; isplitr
      swap; · iexact H21
      ipureintro; exact View.read_writes_of_cover _ _ _ _ _ (cover1_A_21 V c t h0)
    isplitl [H22]
    · unfold owns; iexists _; isplitr
      swap; · iexact H22
      ipureintro; exact View.read_writes_of_cover _ _ _ _ _ (cover1_A_22 V c t h0)
    unfold owns; iexists _; isplitr
    swap; · iexact H23
    ipureintro; exact View.read_writes_of_cover _ _ _ _ _ (cover1_A_23 V c t h0)
  · rw [outsAt1_B V c t h0]
    simp only [before1_22_B V c t h0, before1_23_B V c t h0]
    unfold out1_B_18 out1_B_19 out1_B_20 out1_B_21 out1_B_22 out1_B_23; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
      ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((runB V c t h0 (outsAt1 V c (t.val - 1) (Nat.lt_of_le_of_lt (Nat.sub_le _ _) t.isLt)).2.2.2.2.1 (outsAt1 V c (t.val - 1) (Nat.lt_of_le_of_lt (Nat.sub_le _ _)
      t.isLt)).2.2.2.2.2).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexists _; iexact H20
    isplitl [H21]; · iexists _; iexact H21
    isplitl [H22]; · iexact H22
    isplitl [H23]; · iexact H23
    iintro ⟨H0, H1, H2, H3, H4, H5, H6, H7, H8, H9, H10, H11, H12, H13, H14, H15, H16, H17, ⟨%e18, H18⟩, ⟨%e19, H19⟩, ⟨%e20, H20⟩, ⟨%e21, H21⟩, ⟨%e22, H22⟩, ⟨%e23, H23⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]
    · unfold owns; iexists _; isplitr
      swap; · iexact H18
      ipureintro; exact View.read_writes_of_cover _ _ _ _ _ (cover1_B_18 V c t h0 _ _)
    isplitl [H19]
    · unfold owns; iexists _; isplitr
      swap; · iexact H19
      ipureintro; exact View.read_writes_of_cover _ _ _ _ _ (cover1_B_19 V c t h0 _ _)
    isplitl [H20]
    · unfold owns; iexists _; isplitr
      swap; · iexact H20
      ipureintro; exact View.read_writes_of_cover _ _ _ _ _ (cover1_B_20 V c t h0 _ _)
    isplitl [H21]
    · unfold owns; iexists _; isplitr
      swap; · iexact H21
      ipureintro; exact View.read_writes_of_cover _ _ _ _ _ (cover1_B_21 V c t h0 _ _)
    isplitl [H22]
    · unfold owns; iexists _; isplitr
      swap; · iexact H22
      ipureintro; exact View.read_writes_of_cover _ _ _ _ _ (cover1_B_22 V c t h0 _ _)
    unfold owns; iexists _; isplitr
    swap; · iexact H23
    ipureintro; exact View.read_writes_of_cover _ _ _ _ _ (cover1_B_23 V c t h0 _ _)

/-- The body table's row. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- Every point of the pipeline runs. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel2Ideal.Gen

end
-- ==== Proof.BackRun.lean ====
/- The two passes one after the other: what the buffers hold at each boundary, and that every run ends there. -/
module

public import proofs.«01_k».proof.Proof.BackPass
public import proofs.«01_k».proof.Proof.Gen.Kernel2Ideal.Frame.Region0
public import proofs.«01_k».proof.Proof.Gen.Kernel2Ideal.Frame.Hosts0

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The contents at each boundary -/

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ### The passes as segments -/

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with each buffer at the last boundary's contents, and no counter raised. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments end as launched. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    have k : ∀ a ∈ argRefs, Proc.devRef .tc a ∈ Pipeline.ucRefs τ sig → r.2.mem ((c.tc : Thread nD τ).loc a) = m ((c.tc : Thread nD τ).loc a) :=
      fun a ha hu => (h.1 c _ hu).trans (W4_args m ρ c a ha)
    ⟨k main_arg0 (by decide) (mem_uc main_arg0 (by decide)),
     k main_arg1 (by decide) (mem_uc main_arg1 (by decide)),
     k main_arg2 (by decide) (mem_uc main_arg2 (by decide)),
     k main_arg3 (by decide) (mem_uc main_arg3 (by decide)),
     k main_arg4 (by decide) (mem_uc main_arg4 (by decide)),
     k main_arg5 (by decide) (mem_uc main_arg5 (by decide))⟩, h.2⟩) (run m ρ)

end Cert.Kernel2Ideal.Gen

end
-- ==== Proof.RetFrame.lean ====
/- The frames of the retention's forward and backward calls. -/
module

public import proofs.«01_k».proof.Proof.BackRun
public import Idealize.ShloMosaic.PureOps.BitExact
public import proofs.«01_k».proof.Proof.Gen.Kernel2
public import proofs.«01_k».proof.Proof.Gen.Kernel2Ideal

@[expose] public section

set_option maxRecDepth 16384

noncomputable section

open Idealize.ShloMosaic Idealize.ShloMosaic.TcCoe Idealize.SL.Sem

namespace Cert.RetFrame

local instance : Cert.Kernel2.Facts := Cert.Kernel2.Gen.facts
local instance : Cert.Kernel2Ideal.Facts := Cert.Kernel2Ideal.Gen.facts

/-- The two programs have one text, read at two instances of the floats. -/
theorem same : (∀ m ρ, θ_run (Cert.Kernel2Ideal.defs (F := Bits)) (onTc (τ := Cert.Kernel2Ideal.τ) (Cert.Kernel2Ideal.main (F := Bits)))
    ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0))
    = (∀ m ρ, θ_run (Cert.Kernel2.defs (F := Bits)) (onTc (τ := Cert.Kernel2.τ) (Cert.Kernel2.main (F := Bits)))
    ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)) := by
  sl_kernel_rfl

theorem words : (∀ m ρ, θ_run (Cert.Kernel2.defs (F := Bits)) (onTc (τ := Cert.Kernel2.τ) (Cert.Kernel2.main (F := Bits)))
    ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)) :=
  cast same fun m ρ => Cert.Kernel2Ideal.Gen.frame_ideal m ρ

end Cert.RetFrame

end
-- ==== Proof.RetRows.lean ====
/- The retention and its gradient on padded rows, as functions of the rotated rows: no program occurs here. -/
module

public import proofs.«01_k».proof.Proof.Reals

@[expose] public section

set_option maxRecDepth 16384

noncomputable section

open Idealize.ShloMosaic Idealize.ShloMosaic.TcCoe Idealize.SL.Sem

namespace Cert.RetRows

open Cert.Reals

/-- Row `c` of chunk `n`. -/
def row (n : Fin 33) (c : Fin 128) : Fin 4224 := ⟨n.val * 128 + c.val, by omega⟩
/-- Column `d` of head `h` among the queries' and keys' columns. -/
def qcol (h : Fin 8) (d : Fin 64) : Fin 512 := ⟨h.val * 64 + d.val, by omega⟩
/-- Column `e` of head `h` among the values' columns. -/
def vcol (h : Fin 8) (e : Fin 128) : Fin 1024 := ⟨h.val * 128 + e.val, by omega⟩
/-- The chunk of a row and its place in it. -/
def chunkOf (R : Fin 4224) : Fin 33 := ⟨R.val / 128, by omega⟩
def placeOf (R : Fin 4224) : Fin 128 := ⟨R.val % 128, by omega⟩
def qhead (j : Fin 512) : Fin 8 := ⟨j.val / 64, by omega⟩
def qlane (j : Fin 512) : Fin 64 := ⟨j.val % 64, by omega⟩
def vhead (x : Fin 1024) : Fin 8 := ⟨x.val / 128, by omega⟩
def vlane (x : Fin 1024) : Fin 128 := ⟨x.val % 128, by omega⟩

theorem row_of (R : Fin 4224) : row (chunkOf R) (placeOf R) = R := Fin.ext (by simp only [row, chunkOf, placeOf]; omega)
theorem vcol_of (x : Fin 1024) : vcol (vhead x) (vlane x) = x := Fin.ext (by simp only [vcol, vhead, vlane]; omega)
theorem qcol_of (x : Fin 512) : qcol (qhead x) (qlane x) = x := Fin.ext (by simp only [qcol, qhead, qlane]; omega)
@[simp] theorem chunkOf_row (n : Fin 33) (c : Fin 128) : chunkOf (row n c) = n := Fin.ext (by simp only [row, chunkOf]; omega)
@[simp] theorem placeOf_row (n : Fin 33) (c : Fin 128) : placeOf (row n c) = c := Fin.ext (by simp only [row, placeOf]; omega)
@[simp] theorem vhead_vcol (h : Fin 8) (e : Fin 128) : vhead (vcol h e) = h := Fin.ext (by simp only [vcol, vhead]; omega)
@[simp] theorem vlane_vcol (h : Fin 8) (e : Fin 128) : vlane (vcol h e) = e := Fin.ext (by simp only [vcol, vlane]; omega)
@[simp] theorem qhead_qcol (h : Fin 8) (e : Fin 64) : qhead (qcol h e) = h := Fin.ext (by simp only [qcol, qhead]; omega)
@[simp] theorem qlane_qcol (h : Fin 8) (e : Fin 64) : qlane (qcol h e) = e := Fin.ext (by simp only [qcol, qlane]; omega)

/-! ## One head's norm and gate, of its row -/

abbrev W128 : EReal := Ideal.ofBits FTy.f32 0x43000000#32
abbrev WEighth : EReal := Ideal.ofBits FTy.f32 0x3E000000#32
abbrev WEps : EReal := Ideal.ofBits FTy.f32 0x358637BD#32

section

variable (o g dy gn : Fin 128 → EReal)

def mean : EReal := Ideal.div (∑ l, o l) W128
def oc (l : Fin 128) : EReal := o l - mean o
def rstd : EReal := Ideal.rsqrt (mean (fun l => oc o l * oc o l) + WEps)
def xhat (l : Fin 128) : EReal := oc o l * rstd o
/-- The gate's sigmoid. -/
def sigm (x : EReal) : EReal := WHalf * Ideal.tanh (WHalf * x) + WHalf
def yRow (l : Fin 128) : EReal := (xhat o l * gn l) * (g l * sigm (g l))
def don (l : Fin 128) : EReal := dy l * (g l * sigm (g l))
def dgRow (l : Fin 128) : EReal := (dy l * (xhat o l * gn l)) * (sigm (g l) * (1 + g l * (1 - sigm (g l))))
def dxh (l : Fin 128) : EReal := don g dy l * gn l
def doRow (l : Fin 128) : EReal :=
  rstd o * ((dxh g dy gn l - mean (dxh g dy gn)) - xhat o l * mean (fun x => dxh g dy gn x * xhat o x))

end

/-! ## The arrays and what the retention makes of them -/

/-- The rotated, padded rows, the decays, the gate, the cotangent. -/
structure Arr where
  q : Fin 4224 → Fin 512 → EReal
  k : Fin 4224 → Fin 512 → EReal
  qd : Fin 4224 → Fin 512 → EReal
  kd : Fin 4224 → Fin 512 → EReal
  v : Fin 4224 → Fin 1024 → EReal
  g : Fin 4224 → Fin 1024 → EReal
  dy : Fin 4224 → Fin 1024 → EReal
  gain : Fin 1024 → EReal
  dm : Fin 8 → Fin 128 → Fin 128 → EReal
  qdec : Fin 128 → Fin 512 → EReal
  kdec : Fin 128 → Fin 512 → EReal
  gs : Fin 8 → EReal
  cos : Fin 4224 → Fin 128 → EReal
  sin : Fin 4224 → Fin 128 → EReal

namespace Arr

variable (A : Arr)

/-- The state before chunk `n`. -/
def st (h : Fin 8) : ℕ → Fin 64 → Fin 128 → EReal
  | 0, _, _ => 0
  | n + 1, d, e => A.gs h * st h n d e
    + if hn : n < 33 then ∑ c, A.kd (row ⟨n, hn⟩ c) (qcol h d) * A.v (row ⟨n, hn⟩ c) (vcol h e) else 0

theorem st_succ (h : Fin 8) (n : Fin 33) (d : Fin 64) (e : Fin 128) : A.st h (n.val + 1) d e
    = A.gs h * A.st h n.val d e + ∑ c, A.kd (row n c) (qcol h d) * A.v (row n c) (vcol h e) := by
  rw [st, dif_pos n.isLt]

/-- One head's outputs on row `c` of chunk `n`. -/
def out (h : Fin 8) (n : Fin 33) (c e : Fin 128) : EReal :=
  ∑ m, ((∑ d, A.q (row n c) (qcol h d) * A.k (row n m) (qcol h d)) * A.dm h c m) * A.v (row n m) (vcol h e)
    + ∑ d, A.qd (row n c) (qcol h d) * A.st h n.val d e

abbrev oR (h : Fin 8) (n : Fin 33) (c : Fin 128) : Fin 128 → EReal := A.out h n c
abbrev gR (h : Fin 8) (n : Fin 33) (c l : Fin 128) : EReal := A.g (row n c) (vcol h l)
abbrev dyR (h : Fin 8) (n : Fin 33) (c l : Fin 128) : EReal := A.dy (row n c) (vcol h l)
abbrev gnR (h : Fin 8) (l : Fin 128) : EReal := A.gain (vcol h l)

def y (h : Fin 8) (n : Fin 33) (c l : Fin 128) : EReal := yRow (A.oR h n c) (A.gR h n c) (A.gnR h) l
def dg (h : Fin 8) (n : Fin 33) (c l : Fin 128) : EReal := dgRow (A.oR h n c) (A.gR h n c) (A.dyR h n c) (A.gnR h) l
def dgain (h : Fin 8) (l : Fin 128) : EReal := ∑ n, ∑ c, don (A.gR h n c) (A.dyR h n c) l * xhat (A.oR h n c) l
/-- The gradient of a head's outputs. -/
def dO (h : Fin 8) (n : Fin 33) (c l : Fin 128) : EReal := doRow (A.oR h n c) (A.gR h n c) (A.dyR h n c) (A.gnR h) l

/-- The gradient of the state after the chunk that lies `j` chunks before the last. -/
def dst (h : Fin 8) : ℕ → Fin 64 → Fin 128 → EReal
  | 0, _, _ => 0
  | j + 1, d, e => A.gs h * dst h j d e
    + if hj : j < 33 then ∑ c, A.qd (row ⟨32 - j, by omega⟩ c) (qcol h d) * A.dO h ⟨32 - j, by omega⟩ c e else 0

def dv (h : Fin 8) (n : Fin 33) (c e : Fin 128) : EReal :=
  ∑ d, A.kd (row n c) (qcol h d) * A.dst h (32 - n.val) d e
    + ∑ m, ((∑ d, A.k (row n c) (qcol h d) * A.q (row n m) (qcol h d)) * A.dm h m c) * A.dO h n m e

/-- The queries' gradient before the rotation is undone. -/
def dqp (h : Fin 8) (n : Fin 33) (c : Fin 128) (d : Fin 64) : EReal :=
  (∑ e, A.dO h n c e * A.st h n.val d e) * A.qdec c (qcol h d)
    + ∑ m, ((∑ e, A.dO h n c e * A.v (row n m) (vcol h e)) * A.dm h c m) * A.k (row n m) (qcol h d)

/-- The keys' gradient before the rotation is undone. -/
def dkp (h : Fin 8) (n : Fin 33) (c : Fin 128) (d : Fin 64) : EReal :=
  (∑ e, A.v (row n c) (vcol h e) * A.dst h (32 - n.val) d e) * A.kdec c (qcol h d)
    + ∑ m, ((∑ e, A.v (row n c) (vcol h e) * A.dO h n m e) * A.dm h m c) * A.q (row n m) (qcol h d)

/-- A column of a rotation table. -/
def tcol (j : Fin 512) : Fin 128 := ⟨j.val % 128, by omega⟩
/-- The column a rotation pairs with `j`. -/
def mate (j : Fin 512) : Fin 512 := if h : j.val % 64 < 32 then ⟨j.val + 32, by omega⟩ else ⟨j.val - 32, by omega⟩

/-- A rotation undone on one row. -/
def unrot (x : Fin 512 → EReal) (cs sn : Fin 128 → EReal) (j : Fin 512) : EReal :=
  x j * cs (tcol j) + x (mate j) * sn (tcol (mate j))

def dq (n : Fin 33) (c : Fin 128) (j : Fin 512) : EReal :=
  unrot (fun j => A.dqp (qhead j) n c (qlane j)) (A.cos (row n c)) (A.sin (row n c)) j
def dk (n : Fin 33) (c : Fin 128) (j : Fin 512) : EReal :=
  unrot (fun j => A.dkp (qhead j) n c (qlane j) * WEighth) (A.cos (row n c)) (A.sin (row n c)) j

end Arr

/-- A sum over the lanes of a pair of heads, of which only one head's lanes count. -/
theorem sum_half (e : Fin 2) (f : Fin 128 → EReal) (F : Fin 64 → EReal)
    (h1 : ∀ l : Fin 128, l.val / 64 ≠ e.val → f l = 0) (h2 : ∀ d : Fin 64, f ⟨e.val * 64 + d.val, by omega⟩ = F d) : ∑ l, f l = ∑ d, F d := by
  rw [show ∑ l : Fin 128, f l = ∑ l : Fin (64 + 64), f l from rfl, Fin.sum_univ_add]
  have e2 := e.isLt
  rcases (show e.val = 0 ∨ e.val = 1 by omega) with h | h
  · rw [Finset.sum_eq_zero (s := Finset.univ) (f := fun i : Fin 64 => f (Fin.natAdd 64 i))
      (fun i _ => h1 _ (by show (64 + i.val) / 64 ≠ _; omega)), add_zero]
    exact Finset.sum_congr rfl fun d _ => (congrArg f (Fin.ext (by show d.val = _; simp [h]))).trans (h2 d)
  · rw [Finset.sum_eq_zero (s := Finset.univ) (f := fun i : Fin 64 => f (Fin.castAdd 64 i))
      (fun i _ => h1 _ (by show i.val / 64 ≠ _; omega)), zero_add]
    exact Finset.sum_congr rfl fun d _ => (congrArg f (Fin.ext (by show 64 + d.val = _; simp [h]))).trans (h2 d)

/-- A sum over the columns of a pair of heads' values, of which only one head's columns count. -/
theorem sum_half2 (e : Fin 2) (f : Fin 256 → EReal) (F : Fin 128 → EReal)
    (h1 : ∀ l : Fin 256, l.val / 128 ≠ e.val → f l = 0) (h2 : ∀ d : Fin 128, f ⟨e.val * 128 + d.val, by omega⟩ = F d) : ∑ l, f l = ∑ d, F d := by
  rw [show ∑ l : Fin 256, f l = ∑ l : Fin (128 + 128), f l from rfl, Fin.sum_univ_add]
  have e2 := e.isLt
  rcases (show e.val = 0 ∨ e.val = 1 by omega) with h | h
  · rw [Finset.sum_eq_zero (s := Finset.univ) (f := fun i : Fin 128 => f (Fin.natAdd 128 i))
      (fun i _ => h1 _ (by show (128 + i.val) / 128 ≠ _; omega)), add_zero]
    exact Finset.sum_congr rfl fun d _ => (congrArg f (Fin.ext (by show d.val = _; simp [h]))).trans (h2 d)
  · rw [Finset.sum_eq_zero (s := Finset.univ) (f := fun i : Fin 128 => f (Fin.castAdd 128 i))
      (fun i _ => h1 _ (by show i.val / 128 ≠ _; omega)), zero_add]
    exact Finset.sum_congr rfl fun d _ => (congrArg f (Fin.ext (by show 128 + d.val = _; simp [h]))).trans (h2 d)

end Cert.RetRows

end
-- ==== Proof.RetOps.lean ====
/- The operations of the retention's grid points on one chunk of rows, with what each gives at coordinates. -/
module

public import proofs.«01_k».proof.Proof.Gen.Kernel2Ideal
public import proofs.«01_k».proof.Proof.RetRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

/-! ## One head's norm and gate, of its rows -/

section

variable (o g dy : FVec Ideal S128x128 .f32) (gn : FVec Ideal S1x128 .f32)

/-- The mean of each row. -/
def rmeanV (x : FVec Ideal S128x128 .f32) : FVec Ideal S128x1 .f32 :=
  divf (shapeCast S128x1 (multiReduction .add [1] S128 x 0x00000000#32 reduces_S128x128_S128 (.inl rfl) rfl) shapeCasts_S128_S128x1)
    (broadcast S128x1 (Scalar.ofBits .f32 0x43000000#32 : Ideal .f32))
def colV (x : FVec Ideal S128x1 .f32) : FVec Ideal S128x128 .f32 := broadcastTo S128x128 x broadcasts_S128x1_S128x128
def rowV (x : FVec Ideal S1x128 .f32) : FVec Ideal S128x128 .f32 := broadcastTo S128x128 x broadcasts_S1x128_S128x128
def full (w : BitVec 32) : FVec Ideal S128x128 .f32 := broadcast S128x128 (Scalar.ofBits .f32 w : Ideal .f32)
def ocV : FVec Ideal S128x128 .f32 := subf o (colV (rmeanV o))
def rstdV : FVec Ideal S128x1 .f32 := rsqrt (addf (rmeanV (mulf (ocV o) (ocV o))) (broadcast S128x1 (Scalar.ofBits .f32 0x358637BD#32 : Ideal .f32)))
def xhatV : FVec Ideal S128x128 .f32 := mulf (ocV o) (colV (rstdV o))
def sgV : FVec Ideal S128x128 .f32 := addf (mulf (full 0x3F000000#32) (tanh (mulf (full 0x3F000000#32) g))) (full 0x3F000000#32)
def donV : FVec Ideal S128x128 .f32 := mulf dy (mulf g (sgV g))
/-- The gradient of the gate. -/
def drgV : FVec Ideal S128x128 .bf16 :=
  truncf .bf16 (mulf (mulf dy (mulf (xhatV o) (rowV gn))) (mulf (sgV g) (addf (full 0x3F800000#32) (mulf g (subf (full 0x3F800000#32) (sgV g)))))) bitsLt_bf16_f32
/-- The rows' share of the gain's gradient. -/
def dgnV : FVec Ideal S1x128 .f32 :=
  shapeCast S1x128 (multiReduction .add [0] S128 (mulf (donV g dy) (xhatV o)) 0x00000000#32 reduces_S128x128_S128_2 (.inl rfl) rfl) shapeCasts_S128_S1x128
def dxhV : FVec Ideal S128x128 .f32 := mulf (donV g dy) (rowV gn)
/-- The head's gated outputs. -/
def yV : FVec Ideal S128x128 .bf16 := truncf .bf16 (mulf (mulf (xhatV o) (rowV gn)) (mulf g (sgV g))) bitsLt_bf16_f32
/-- The gradient of the head's outputs. -/
def dohV : FVec Ideal S128x128 .f32 :=
  mulf (colV (rstdV o)) (subf (subf (dxhV g dy gn) (colV (rmeanV (dxhV g dy gn)))) (mulf (xhatV o) (colV (rmeanV (mulf (dxhV g dy gn) (xhatV o))))))

end

/-! ## One pair of heads -/

def lo {e : FTy} (x : FVec Ideal S128x256 e) : FVec Ideal S128x128 e := extractStridedSlice S128x128 ![0, 0] x slices_S128x256_o0_0_S128x128
def hi {e : FTy} (x : FVec Ideal S128x256 e) : FVec Ideal S128x128 e := extractStridedSlice S128x128 ![0, 128] x slices_S128x256_o0_128_S128x128

abbrev z128 : FVec Ideal S128x128 .f32 := constant S128x128 .f32 0x00000000#32
abbrev z256 : FVec Ideal S128x256 .f32 := constant S128x256 .f32 0x00000000#32

abbrev nt (x y : FVec Ideal S128x128 .bf16) : FVec Ideal S128x128 .f32 := matmul dot_S128x128_S128x128_S128x128_1_1_0_0_n_n none x y z128
abbrev nn (x y : FVec Ideal S128x128 .bf16) : FVec Ideal S128x128 .f32 := matmul dot_S128x128_S128x128_S128x128_1_0_0_1_n_n none x y z128
abbrev nt2 (x y : FVec Ideal S128x256 .bf16) : FVec Ideal S128x128 .f32 := matmul dot_S128x256_S128x256_S128x128_1_1_0_0_n_n none x y z128

/-- Which lanes of a pair belong to its head `e`. -/
def mine (e : BitVec 32) : IVec S128x128 1 :=
  let L : IVec S128x128 32 := iota .tc S128x128 32 [1] iota_S128x128_d1_w32
  cmpi .eq (select (andi (cmpi .ne (subi (extui 32 (cmpi .sgt L (broadcast S128x128 0#32)) natLt_1_32)
      (extui 32 (cmpi .slt L (broadcast S128x128 0#32)) natLt_1_32))
      (broadcast S128x128 (Scalar.subi (Scalar.extui (Scalar.cmpi .sgt 64#32 0#32)) (Scalar.extui (Scalar.cmpi .slt 64#32 0#32)))))
      (cmpi .ne (remsi L (broadcast S128x128 64#32)) (broadcast S128x128 0#32)))
    (subi (divsi L (broadcast S128x128 64#32)) (broadcast S128x128 1#32)) (divsi L (broadcast S128x128 64#32))) (broadcast S128x128 e)

def own (e : BitVec 32) (x : FVec Ideal S128x128 .bf16) : FVec Ideal S128x128 .bf16 :=
  select (mine e) x (broadcast S128x128 (Scalar.ofBits .bf16 0x0000#16 : Ideal .bf16))

def mask (x : FVec Ideal S1x128x128 .f32) (y : FVec Ideal S128x128 .f32) : FVec Ideal S128x128 .bf16 :=
  truncf .bf16 (mulf y (shapeCast S128x128 x shapeCasts_S1x128x128_S128x128)) bitsLt_bf16_f32

section

variable (D V : FVec Ideal S128x256 .bf16) (q k kd qd : FVec Ideal S128x128 .bf16) (d : FVec Ideal S1x128x256 .f32)

def stb : FVec Ideal S128x256 .bf16 := truncf .bf16 (shapeCast S128x256 d shapeCasts_S1x128x256_S128x256) bitsLt_bf16_f32

/-- One head's outputs. -/
def outV (q' : FVec Ideal S128x128 .bf16) (m : FVec Ideal S1x128x128 .f32) (v : FVec Ideal S128x128 .bf16) (c : FVec Ideal S128x128 .f32) : FVec Ideal S128x128 .f32 :=
  addf (nn (mask m (nt q' k)) v) c

/-- What the state adds to a pair's outputs. -/
def crossV : FVec Ideal S128x256 .f32 := matmul dot_S128x128_S128x256_S128x256_1_0_0_1_n_n none qd (stb d) z256

/-- The gradient of the pair's queries before the rotation is undone. -/
def dqOf (r : FVec Ideal S1x1x128x256 .bf16) (qdec : FVec Ideal S128x128 .f32) (m0 m1 : FVec Ideal S1x128x128 .f32) : FVec Ideal S128x128 .f32 :=
  addf (addf (mulf (nt2 D (shapeCast S128x256 r shapeCasts_S1x1x128x256_S128x256)) (shapeCast S128x128 qdec shapeCasts_S128x128_S128x128))
    (nn (mask m0 (nt (lo D) (lo V))) (own 0#32 k))) (nn (mask m1 (nt (hi D) (hi V))) (own 1#32 k))

/-- The gradient of the pair's keys before the rotation is undone. -/
def dkOf (kdec : FVec Ideal S128x128 .f32) (t0 t1 : FVec Ideal S1x128x128 .f32) : FVec Ideal S128x128 .f32 :=
  addf (addf (mulf (nt2 V (stb d)) (shapeCast S128x128 kdec shapeCasts_S128x128_S128x128))
    (nn (mask t0 (nt (lo V) (lo D))) (own 0#32 q))) (nn (mask t1 (nt (hi V) (hi D))) (own 1#32 q))

/-- The gradient of the pair's values. -/
def dvOf (t0 t1 : FVec Ideal S1x128x128 .f32) : FVec Ideal S128x256 .bf16 :=
  let P : FVec Ideal S128x256 .f32 := matmul dot_S128x128_S128x256_S128x256_1_0_0_1_n_n none kd (stb d) z256
  truncf .bf16 (concatenate S128x256 1 [⟨S128x128, addf (lo P) (nn (mask t0 (nt k (own 0#32 q))) (lo D))⟩,
    ⟨S128x128, addf (hi P) (nn (mask t1 (nt k (own 1#32 q))) (hi D))⟩] concatenates_S128x128_S128x128_S128x256_d1) bitsLt_bf16_f32

/-- The gradient of the state before the chunk from that after it. -/
def stOf (gs : FVec Ideal S1x128x256 .f32) (bd : FVec Ideal S128x256 .f32) : FVec Ideal S1x128x256 .f32 :=
  shapeCast S1x128x256 (addf (mulf (shapeCast S128x256 gs shapeCasts_S1x128x256_S128x256) (shapeCast S128x256 d shapeCasts_S1x128x256_S128x256))
    (mulf (shapeCast S128x256 bd shapeCasts_S128x256_S128x256) (matmul dot_S128x128_S128x256_S128x256_0_0_1_1_n_n none qd D z256))) shapeCasts_S128x256_S1x128x256

end

/-! ## The rotation, undone -/

def firstHalf : IVec S128x512 1 :=
  let c : BitVec 32 := Scalar.select (Scalar.cmpi .eq 64#32 0#32) 1#32 64#32
  let R : IVec S128x512 32 := remsi (iota .tc S128x512 32 [1] iota_S128x512_d1_w32) (broadcast S128x512 c)
  cmpi .slt (select (andi (xori (cmpi .slt R (broadcast S128x512 0#32))
    (broadcastTo S128x512 (broadcast S128x512 (Scalar.cmpi .slt c 0#32)) broadcasts_S128x512_S128x512)) (cmpi .ne R (broadcast S128x512 0#32)))
    (addi R (broadcast S128x512 c)) R) (broadcast S128x512 32#32)

def tile4 (a b c d : FVec Ideal S128x128 .f32) : FVec Ideal S128x512 .f32 :=
  concatenate S128x512 1 [⟨S128x128, a⟩, ⟨S128x128, b⟩, ⟨S128x128, c⟩, ⟨S128x128, d⟩] concatenates_S128x128_S128x128_S128x128_S128x128_S128x512_d1

def tile (a : FVec Ideal S128x128 .f32) : FVec Ideal S128x512 .f32 :=
  tile4 (shapeCast S128x128 a shapeCasts_S128x128_S128x128) (shapeCast S128x128 a shapeCasts_S128x128_S128x128)
    (shapeCast S128x128 a shapeCasts_S128x128_S128x128) (shapeCast S128x128 a shapeCasts_S128x128_S128x128)

def unrotV (x : FVec Ideal S128x512 .f32) (cos sin : FVec Ideal S128x128 .f32) : FVec Ideal S128x512 .bf16 :=
  truncf .bf16 (addf (mulf x (tile cos)) (select firstHalf (dynamicRotate 1 480#32 none (mulf x (tile sin)) rotates_S128x512_d1)
    (dynamicRotate 1 32#32 none (mulf x (tile sin)) rotates_S128x512_d1))) bitsLt_bf16_f32

/-! ## What they give at coordinates -/

section

variable (o g dy : FVec Ideal S128x128 .f32) (gn : FVec Ideal S1x128 .f32) (r l : Fin 128)

theorem rmean_at : rmeanV o (ix2 r 0) = mean (fun l => o (ix2 r l)) := by
  pointwise [rmeanV]
  rfl

theorem oc_at : ocV o (ix2 r l) = oc (fun l => o (ix2 r l)) l := by
  pointwise [ocV, colV]
  exact congrArg (o (ix2 r l) - ·) (rmean_at o r)

theorem rstd_at : rstdV o (ix2 r 0) = rstd (fun l => o (ix2 r l)) := by
  pointwise [rstdV]
  rw [rmean_at]
  pointwise [mulf]
  simp only [oc_at]
  rfl

theorem xhat_at : xhatV o (ix2 r l) = xhat (fun l => o (ix2 r l)) l := by
  pointwise [xhatV, colV]
  exact congrArg₂ (· * ·) (oc_at o r l) (rstd_at o r)

theorem sg_at : sgV g (ix2 r l) = sigm (g (ix2 r l)) := by
  pointwise [sgV, full]
  rfl

theorem y_at : yV o g gn (ix2 r l) = yRow (fun l => o (ix2 r l)) (fun l => g (ix2 r l)) (fun l => gn (ix2 0 l)) l := by
  pointwise [yV, rowV]
  simp only [xhat_at, sg_at]
  rfl

theorem don_at : donV g dy (ix2 r l) = don (fun l => g (ix2 r l)) (fun l => dy (ix2 r l)) l := by
  pointwise [donV]
  simp only [sg_at]
  rfl

theorem drg_at : drgV o g dy gn (ix2 r l)
    = dgRow (fun l => o (ix2 r l)) (fun l => g (ix2 r l)) (fun l => dy (ix2 r l)) (fun l => gn (ix2 0 l)) l := by
  pointwise [drgV, rowV, full]
  simp only [xhat_at, sg_at]
  rfl

theorem dgn_at : dgnV o g dy (ix2 0 l)
    = ∑ r : Fin 128, don (fun l => g (ix2 r l)) (fun l => dy (ix2 r l)) l * xhat (fun l => o (ix2 r l)) l := by
  pointwise [dgnV]
  simp only [xhat_at, don_at]

theorem dxh_at : dxhV g dy gn (ix2 r l) = dxh (fun l => g (ix2 r l)) (fun l => dy (ix2 r l)) (fun l => gn (ix2 0 l)) l := by
  pointwise [dxhV, rowV]
  simp only [don_at]
  rfl

theorem doh_at : dohV o g dy gn (ix2 r l)
    = doRow (fun l => o (ix2 r l)) (fun l => g (ix2 r l)) (fun l => dy (ix2 r l)) (fun l => gn (ix2 0 l)) l := by
  pointwise [dohV, colV]
  simp only [rmean_at, rstd_at, xhat_at, dxh_at]
  pointwise [mulf]
  simp only [xhat_at, dxh_at]
  rfl

end

section

variable (r l : Fin 128)

theorem lo_at {e : FTy} (x : FVec Ideal S128x256 e) : lo x (ix2 r l) = x (ix2 r ⟨l.val, by omega⟩) := by
  pointwise [lo]

theorem hi_at {e : FTy} (x : FVec Ideal S128x256 e) : hi x (ix2 r l) = x (ix2 r ⟨128 + l.val, by omega⟩) := by
  pointwise [hi]

theorem nt_at (x y : FVec Ideal S128x128 .bf16) : nt x y (ix2 r l) = ∑ k : Fin 128, x (ix2 r k) * y (ix2 l k) := by
  pointwise [nt]

theorem nn_at (x y : FVec Ideal S128x128 .bf16) : nn x y (ix2 r l) = ∑ k : Fin 128, x (ix2 r k) * y (ix2 k l) := by
  pointwise [nn]

theorem nt2_at (x y : FVec Ideal S128x256 .bf16) : nt2 x y (ix2 r l) = ∑ k : Fin 256, x (ix2 r k) * y (ix2 l k) := by
  pointwise [nt2]

theorem mine_at : ∀ e : Fin 2, ∀ l : Fin 128, mine (BitVec.ofNat 32 e.val) (ix2 0 l) = if l.val / 64 = e.val then 1#1 else 0#1 := by
  decide +kernel

theorem own_at (e : Fin 2) (x : FVec Ideal S128x128 .bf16) :
    own (BitVec.ofNat 32 e.val) x (ix2 r l) = if l.val / 64 = e.val then x (ix2 r l) else 0 := by
  have h : mine (BitVec.ofNat 32 e.val) (ix2 r l) = if l.val / 64 = e.val then 1#1 else 0#1 := mine_at e l
  pointwise [own]
  rw [h]
  by_cases hl : l.val / 64 = e.val
  · rw [if_pos hl, if_pos hl]; rfl
  · rw [if_neg hl, if_neg hl]; rfl

theorem mask_at (x : FVec Ideal S1x128x128 .f32) (y : FVec Ideal S128x128 .f32) : mask x y (ix2 r l) = y (ix2 r l) * x (ix3 0 r l) := by
  pointwise [mask]

theorem stb_at (d : FVec Ideal S1x128x256 .f32) (x : Fin 256) : stb d (ix2 r x) = d (ix3 0 r x) := by
  pointwise [stb]

theorem cross_at (qd : FVec Ideal S128x128 .bf16) (d : FVec Ideal S1x128x256 .f32) (x : Fin 256) :
    crossV qd d (ix2 r x) = ∑ k : Fin 128, qd (ix2 r k) * d (ix3 0 k x) := by
  pointwise [crossV]
  simp only [stb_at]

theorem st_at (D : FVec Ideal S128x256 .bf16) (qd : FVec Ideal S128x128 .bf16) (d gs : FVec Ideal S1x128x256 .f32) (bd : FVec Ideal S128x256 .f32)
    (x : Fin 256) : stOf D qd d gs bd (ix3 0 r x) = gs (ix3 0 r x) * d (ix3 0 r x) + bd (ix2 r x) * ∑ k : Fin 128, qd (ix2 k r) * D (ix2 k x) := by
  pointwise [stOf]

theorem out_at (k q : FVec Ideal S128x128 .bf16) (m : FVec Ideal S1x128x128 .f32) (v : FVec Ideal S128x128 .bf16) (c : FVec Ideal S128x128 .f32) :
    outV k q m v c (ix2 r l) = (∑ j, ((∑ k', q (ix2 r k') * k (ix2 j k')) * m (ix3 0 r j)) * v (ix2 j l)) + c (ix2 r l) := by
  pointwise [outV]
  simp only [mask_at]
  pointwise [nt]

section

variable (D V : FVec Ideal S128x256 .bf16) (q k kd qd : FVec Ideal S128x128 .bf16) (d : FVec Ideal S1x128x256 .f32)

theorem dq_at (rp : FVec Ideal S1x1x128x256 .bf16) (qdec : FVec Ideal S128x128 .f32) (m0 m1 : FVec Ideal S1x128x128 .f32) :
    dqOf D V k rp qdec m0 m1 (ix2 r l) = (∑ x : Fin 256, D (ix2 r x) * rp (ix4 0 0 l x)) * qdec (ix2 r l)
      + (∑ j, ((∑ x, lo D (ix2 r x) * lo V (ix2 j x)) * m0 (ix3 0 r j)) * own 0#32 k (ix2 j l))
      + ∑ j, ((∑ x, hi D (ix2 r x) * hi V (ix2 j x)) * m1 (ix3 0 r j)) * own 1#32 k (ix2 j l) := by
  pointwise [dqOf]
  simp only [mask_at]
  pointwise [nt]

theorem dk_at (kdec : FVec Ideal S128x128 .f32) (t0 t1 : FVec Ideal S1x128x128 .f32) :
    dkOf D V q d kdec t0 t1 (ix2 r l) = (∑ x : Fin 256, V (ix2 r x) * d (ix3 0 l x)) * kdec (ix2 r l)
      + (∑ j, ((∑ x, lo V (ix2 r x) * lo D (ix2 j x)) * t0 (ix3 0 r j)) * own 0#32 q (ix2 j l))
      + ∑ j, ((∑ x, hi V (ix2 r x) * hi D (ix2 j x)) * t1 (ix3 0 r j)) * own 1#32 q (ix2 j l) := by
  pointwise [dkOf]
  simp only [mask_at, stb_at]
  pointwise [nt]

theorem dv0_at (t0 t1 : FVec Ideal S1x128x128 .f32) : dvOf D q k kd d t0 t1 (ix2 r ⟨l.val, by omega⟩)
    = (∑ k', kd (ix2 r k') * d (ix3 0 k' ⟨l.val, by omega⟩))
      + ∑ j, ((∑ k', k (ix2 r k') * own 0#32 q (ix2 j k')) * t0 (ix3 0 r j)) * lo D (ix2 j l) := by
  pointwise [dvOf]
  simp only [mask_at, stb_at, lo_at, hi_at]
  pointwise [nt]
  simp only [stb_at]

theorem dv1_at (t0 t1 : FVec Ideal S1x128x128 .f32) : dvOf D q k kd d t0 t1 (ix2 r ⟨128 + l.val, by omega⟩)
    = (∑ k', kd (ix2 r k') * d (ix3 0 k' ⟨128 + l.val, by omega⟩))
      + ∑ j, ((∑ k', k (ix2 r k') * own 1#32 q (ix2 j k')) * t1 (ix3 0 r j)) * hi D (ix2 j l) := by
  pointwise [dvOf]
  simp only [mask_at, stb_at, lo_at, hi_at]
  pointwise [nt]
  simp only [stb_at]

end

theorem firstHalf_at : ∀ j : Fin 512, firstHalf (ix2 0 j) = if j.val % 64 < 32 then 1#1 else 0#1 := by
  decide +kernel

theorem tile_at (a : FVec Ideal S128x128 .f32) (j : Fin 512) : tile a (ix2 r j) = a (ix2 r (Arr.tcol j)) := by
  have hj := j.isLt
  pointwise [tile, tile4]
  split_ifs <;> exact congrArg (fun x => a (ix2 r x)) (Fin.ext (by simp only [Arr.tcol]; omega))

theorem unrot_at (x : FVec Ideal S128x512 .f32) (cos sin : FVec Ideal S128x128 .f32) (j : Fin 512) :
    unrotV x cos sin (ix2 r j) = Arr.unrot (fun j => x (ix2 r j)) (fun l => cos (ix2 r l)) (fun l => sin (ix2 r l)) j := by
  have h : firstHalf (ix2 r j) = if j.val % 64 < 32 then 1#1 else 0#1 := firstHalf_at j
  pointwise [unrotV]
  rw [h]
  simp only [tile_at]
  have hj := j.isLt
  unfold Arr.unrot
  by_cases hl : j.val % 64 < 32
  · have e : (⟨(j.val + 512 - 480) % 512, by omega⟩ : Fin 512) = Arr.mate j := by
      unfold Arr.mate; rw [dif_pos hl]; exact Fin.ext (by simp only []; omega)
    rw [if_pos hl, ← e]
    rfl
  · have e : (⟨(j.val + 512 - 32) % 512, by omega⟩ : Fin 512) = Arr.mate j := by
      unfold Arr.mate; rw [dif_neg hl]; exact Fin.ext (by simp only []; omega)
    rw [if_neg hl, ← e]
    rfl

end

end Cert.Kernel2Ideal.Ret

end
-- ==== Proof.RetPoint.lean ====
/- What a grid point of the retention stores, chunk by chunk and head by head, forward and backward, and what that means on the padded rows. -/
module

public import proofs.«01_k».proof.Proof.RetOps

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

/-- The blocks a grid point reads: three chunks of rows, and the tables. -/
structure Blk where
  q : Vec Ideal S384x512 .bf16
  k : Vec Ideal S384x512 .bf16
  qd : Vec Ideal S384x512 .bf16
  kd : Vec Ideal S384x512 .bf16
  v : Vec Ideal S384x1024 .bf16
  g : Vec Ideal S384x1024 .f32
  o : Vec Ideal S384x1024 .f32
  r : Vec Ideal S3x4x128x256 .bf16
  dy : Vec Ideal S384x1024 .f32
  gain : Vec Ideal S1x1024 .f32
  cos : Vec Ideal S384x128 .f32
  sin : Vec Ideal S384x128 .f32
  dm : Vec Ideal S8x128x128 .f32
  dmt : Vec Ideal S8x128x128 .f32
  qdec : Vec Ideal S128x512 .f32
  kdec : Vec Ideal S128x512 .f32
  gs : Vec Ideal S4x128x256 .f32
  bd : Vec Ideal S128x256 .f32

theorem in1024 (ci : Fin 3) (h : Fin 8) : ∀ a, (![ci.val * 128, h.val * 128] : Fin 2 → Nat) a + S128x128.size a ≤ S384x1024.size a := by
  revert ci h; decide
theorem in1024w (ci : Fin 3) (p : Fin 4) : ∀ a, (![ci.val * 128, p.val * 256] : Fin 2 → Nat) a + S128x256.size a ≤ S384x1024.size a := by
  revert ci p; decide
theorem in512 (ci : Fin 3) (p : Fin 4) : ∀ a, (![ci.val * 128, p.val * 128] : Fin 2 → Nat) a + S128x128.size a ≤ S384x512.size a := by
  revert ci p; decide
theorem in512w (ci : Fin 3) : ∀ a, (![ci.val * 128, 0] : Fin 2 → Nat) a + S128x512.size a ≤ S384x512.size a := by
  revert ci; decide
theorem in128 (ci : Fin 3) : ∀ a, (![ci.val * 128, 0] : Fin 2 → Nat) a + S128x128.size a ≤ S384x128.size a := by
  revert ci; decide
theorem inDec (p : Fin 4) : ∀ a, (![0, p.val * 128] : Fin 2 → Nat) a + S128x128.size a ≤ S128x512.size a := by
  revert p; decide
theorem inGain (h : Fin 8) : ∀ a, (![0, h.val * 128] : Fin 2 → Nat) a + S1x128.size a ≤ S1x1024.size a := by
  revert h; decide
theorem inMask (h : Fin 8) : ∀ a, (![h.val, 0, 0] : Fin 3 → Nat) a + S1x128x128.size a ≤ S8x128x128.size a := by
  revert h; decide
theorem inSt (p : Fin 4) : ∀ a, (![p.val, 0, 0] : Fin 3 → Nat) a + S1x128x256.size a ≤ S4x128x256.size a := by
  revert p; decide
theorem inR (ci : Fin 3) (p : Fin 4) : ∀ a, (![ci.val, p.val, 0, 0] : Fin 4 → Nat) a + S1x1x128x256.size a ≤ S3x4x128x256.size a := by
  revert ci p; decide

abbrev r1024 (ci : Fin 3) (h : Fin 8) : Rect S384x1024 := Rect.unit (s := S384x1024) ![ci.val * 128, h.val * 128] S128x128.size (in1024 ci h)
abbrev r1024w (ci : Fin 3) (p : Fin 4) : Rect S384x1024 := Rect.unit (s := S384x1024) ![ci.val * 128, p.val * 256] S128x256.size (in1024w ci p)
abbrev r512 (ci : Fin 3) (p : Fin 4) : Rect S384x512 := Rect.unit (s := S384x512) ![ci.val * 128, p.val * 128] S128x128.size (in512 ci p)
abbrev r512w (ci : Fin 3) : Rect S384x512 := Rect.unit (s := S384x512) ![ci.val * 128, 0] S128x512.size (in512w ci)
abbrev r128 (ci : Fin 3) : Rect S384x128 := Rect.unit (s := S384x128) ![ci.val * 128, 0] S128x128.size (in128 ci)
abbrev rDec (p : Fin 4) : Rect S128x512 := Rect.unit (s := S128x512) ![0, p.val * 128] S128x128.size (inDec p)
abbrev rGain (h : Fin 8) : Rect S1x1024 := Rect.unit (s := S1x1024) ![0, h.val * 128] S1x128.size (inGain h)
abbrev rMask (h : Fin 8) : Rect S8x128x128 := Rect.unit (s := S8x128x128) ![h.val, 0, 0] S1x128x128.size (inMask h)
abbrev rSt (p : Fin 4) : Rect S4x128x256 := Rect.unit (s := S4x128x256) ![p.val, 0, 0] S1x128x256.size (inSt p)
abbrev rR (ci : Fin 3) (p : Fin 4) : Rect S3x4x128x256 := Rect.unit (s := S3x4x128x256) ![ci.val, p.val, 0, 0] S1x1x128x256.size (inR ci p)

/-! ## A grid point -/

section

variable (B : Blk) (ci : Fin 3)

abbrev hd (p : Fin 4) (e : Fin 2) : Fin 8 := ⟨2 * p.val + e.val, by omega⟩

abbrev oB (h : Fin 8) : FVec Ideal S128x128 .f32 := shapeCast S128x128 (View.ld B.o (r1024 ci h)) shapeCasts_S128x128_S128x128
abbrev gB (h : Fin 8) : FVec Ideal S128x128 .f32 := shapeCast S128x128 (View.ld B.g (r1024 ci h)) shapeCasts_S128x128_S128x128
abbrev dyB (h : Fin 8) : FVec Ideal S128x128 .f32 := shapeCast S128x128 (View.ld B.dy (r1024 ci h)) shapeCasts_S128x128_S128x128
abbrev gnB (h : Fin 8) : FVec Ideal S1x128 .f32 := View.ld B.gain (rGain h)

/-- The gate's gradient over one chunk and head. -/
def drgB (h : Fin 8) : FVec Ideal S128x128 .bf16 := drgV (oB B ci h) (gB B ci h) (dyB B ci h) (gnB B h)

/-- The gain's gradient after one more chunk. -/
def dgnB (h : Fin 8) (acc : FVec Ideal S1x128 .f32) : FVec Ideal S1x128 .f32 :=
  addf (shapeCast S1x128 acc shapeCasts_S1x128_S1x128) (dgnV (oB B ci h) (gB B ci h) (dyB B ci h))

def dohB (h : Fin 8) : FVec Ideal S128x128 .f32 := dohV (oB B ci h) (gB B ci h) (dyB B ci h) (gnB B h)

variable (p : Fin 4)

def doB : FVec Ideal S128x256 .bf16 :=
  truncf .bf16 (concatenate S128x256 1 [⟨S128x128, dohB B ci (hd p 0)⟩, ⟨S128x128, dohB B ci (hd p 1)⟩] concatenates_S128x128_S128x128_S128x256_d1) bitsLt_bf16_f32

abbrev qB : FVec Ideal S128x128 .bf16 := shapeCast S128x128 (View.ld B.q (r512 ci p)) shapeCasts_S128x128_S128x128
abbrev kB : FVec Ideal S128x128 .bf16 := shapeCast S128x128 (View.ld B.k (r512 ci p)) shapeCasts_S128x128_S128x128
abbrev qdB : FVec Ideal S128x128 .bf16 := shapeCast S128x128 (View.ld B.qd (r512 ci p)) shapeCasts_S128x128_S128x128
abbrev kdB : FVec Ideal S128x128 .bf16 := shapeCast S128x128 (View.ld B.kd (r512 ci p)) shapeCasts_S128x128_S128x128
abbrev vB : FVec Ideal S128x256 .bf16 := shapeCast S128x256 (View.ld B.v (r1024w ci p)) shapeCasts_S128x256_S128x256

/-- The tables' blocks. -/
def dmB (h : Fin 8) : FVec Ideal S1x128x128 .f32 := View.ld B.dm (rMask h)
def dmtB (h : Fin 8) : FVec Ideal S1x128x128 .f32 := View.ld B.dmt (rMask h)
def gsB : FVec Ideal S1x128x256 .f32 := View.ld B.gs (rSt p)
def rB : FVec Ideal S1x1x128x256 .bf16 := View.ld B.r (rR ci p)
def qdecB : FVec Ideal S128x128 .f32 := View.ld B.qdec (rDec p)
def kdecB : FVec Ideal S128x128 .f32 := View.ld B.kdec (rDec p)
def cosB : FVec Ideal S128x128 .f32 := View.ld B.cos (r128 ci)
def sinB : FVec Ideal S128x128 .f32 := View.ld B.sin (r128 ci)

/-! ### Forward -/

variable (d : FVec Ideal S1x128x256 .f32)

/-- The state after one more chunk. -/
def stF : FVec Ideal S1x128x256 .f32 := stOf (vB B ci p) (kdB B ci p) d (gsB B p) B.bd
def out0F : FVec Ideal S128x128 .f32 :=
  outV (kB B ci p) (own 0#32 (qB B ci p)) (dmB B (hd p 0)) (lo (vB B ci p)) (lo (crossV (qdB B ci p) d))
def out1F : FVec Ideal S128x128 .f32 :=
  outV (kB B ci p) (own 1#32 (qB B ci p)) (dmB B (hd p 1)) (hi (vB B ci p)) (hi (crossV (qdB B ci p) d))
/-- One head's outputs over a chunk, from the state before it. -/
def outF (e : Fin 2) : FVec Ideal S128x128 .f32 := match e with
  | 0 => out0F B ci p d
  | 1 => out1F B ci p d
def yF (e : Fin 2) : FVec Ideal S128x128 .bf16 := yV (outF B ci p d e) (gB B ci (hd p e)) (gnB B (hd p e))
def rpF : FVec Ideal S1x1x128x256 .bf16 := shapeCast S1x1x128x256 (stb d) shapeCasts_S128x256_S1x1x128x256

/-! ### Backward -/

def dqB : FVec Ideal S128x128 .f32 :=
  dqOf (doB B ci p) (vB B ci p) (kB B ci p) (rB B ci p) (qdecB B p) (dmB B (hd p 0)) (dmB B (hd p 1))

def dkB : FVec Ideal S128x128 .f32 :=
  dkOf (doB B ci p) (vB B ci p) (qB B ci p) d (kdecB B p) (dmtB B (hd p 0)) (dmtB B (hd p 1))

def dvB : FVec Ideal S128x256 .bf16 :=
  dvOf (doB B ci p) (qB B ci p) (kB B ci p) (kdB B ci p) d (dmtB B (hd p 0)) (dmtB B (hd p 1))

def stB : FVec Ideal S1x128x256 .f32 := stOf (doB B ci p) (qdB B ci p) d (gsB B p) B.bd

end

section

variable (B : Blk)

/-- The queries' gradient over one chunk. -/
def dqC (ci : Fin 3) : FVec Ideal S128x512 .bf16 :=
  unrotV (tile4 (dqB B ci 0) (dqB B ci 1) (dqB B ci 2) (dqB B ci 3)) (cosB B ci) (sinB B ci)

/-- The keys' gradient over one chunk, from the state's gradients after it. -/
def dkC (ci : Fin 3) (d : Fin 4 → FVec Ideal S1x128x256 .f32) : FVec Ideal S128x512 .bf16 :=
  unrotV (mulf (tile4 (dkB B ci 0 (d 0)) (dkB B ci 1 (d 1)) (dkB B ci 2 (d 2)) (dkB B ci 3 (d 3)))
    (broadcast S128x512 (Scalar.ofBits .f32 0x3E000000#32 : Ideal .f32))) (cosB B ci) (sinB B ci)

end

/-! ## The blocks' places among the padded rows -/

def at3 (ci : Fin 3) (c : Fin 128) : Fin 384 := ⟨ci.val * 128 + c.val, by omega⟩
def pcol (p : Fin 4) (l : Fin 128) : Fin 512 := ⟨p.val * 128 + l.val, by omega⟩
def pvcol (p : Fin 4) (x : Fin 256) : Fin 1024 := ⟨p.val * 256 + x.val, by omega⟩
def lhead (l : Fin 128) : Fin 2 := ⟨l.val / 64, by omega⟩
def llane (l : Fin 128) : Fin 64 := ⟨l.val % 64, by omega⟩
def xhead (x : Fin 256) : Fin 2 := ⟨x.val / 128, by omega⟩
def xlane (x : Fin 256) : Fin 128 := ⟨x.val % 128, by omega⟩
def lcol (e : Fin 2) (d : Fin 64) : Fin 128 := ⟨e.val * 64 + d.val, by omega⟩
def xcol (e : Fin 2) (l : Fin 128) : Fin 256 := ⟨e.val * 128 + l.val, by omega⟩

theorem pcol_lcol (p : Fin 4) (e : Fin 2) (d : Fin 64) : pcol p (lcol e d) = qcol (hd p e) d :=
  Fin.ext (by simp only [pcol, lcol, qcol]; omega)
theorem pvcol_xcol (p : Fin 4) (e : Fin 2) (l : Fin 128) : pvcol p (xcol e l) = vcol (hd p e) l :=
  Fin.ext (by simp only [pvcol, xcol, vcol]; omega)
theorem lcol_of (l : Fin 128) : lcol (lhead l) (llane l) = l := Fin.ext (by simp only [lcol, lhead, llane]; omega)
theorem xcol_of (x : Fin 256) : xcol (xhead x) (xlane x) = x := Fin.ext (by simp only [xcol, xhead, xlane]; omega)
@[simp] theorem lhead_lcol (e : Fin 2) (d : Fin 64) : lhead (lcol e d) = e := Fin.ext (by simp only [lcol, lhead]; omega)
@[simp] theorem llane_lcol (e : Fin 2) (d : Fin 64) : llane (lcol e d) = d := Fin.ext (by simp only [lcol, llane]; omega)
@[simp] theorem xhead_xcol (e : Fin 2) (d : Fin 128) : xhead (xcol e d) = e := Fin.ext (by simp only [xcol, xhead]; omega)
@[simp] theorem xlane_xcol (e : Fin 2) (d : Fin 128) : xlane (xcol e d) = d := Fin.ext (by simp only [xcol, xlane]; omega)

section

variable (B : Blk) (ci : Fin 3) (h : Fin 8) (p : Fin 4) (c l : Fin 128) (x : Fin 256)

theorem oB_at : oB B ci h (ix2 c l) = B.o (ix2 (at3 ci c) (vcol h l)) := by pointwise [oB]; rfl
theorem gB_at : gB B ci h (ix2 c l) = B.g (ix2 (at3 ci c) (vcol h l)) := by pointwise [gB]; rfl
theorem dyB_at : dyB B ci h (ix2 c l) = B.dy (ix2 (at3 ci c) (vcol h l)) := by pointwise [dyB]; rfl
theorem gnB_at : gnB B h (ix2 0 l) = B.gain (ix2 0 (vcol h l)) := by pointwise [gnB]; rfl
theorem qB_at : qB B ci p (ix2 c l) = B.q (ix2 (at3 ci c) (pcol p l)) := by pointwise [qB]; rfl
theorem kB_at : kB B ci p (ix2 c l) = B.k (ix2 (at3 ci c) (pcol p l)) := by pointwise [kB]; rfl
theorem qdB_at : qdB B ci p (ix2 c l) = B.qd (ix2 (at3 ci c) (pcol p l)) := by pointwise [qdB]; rfl
theorem kdB_at : kdB B ci p (ix2 c l) = B.kd (ix2 (at3 ci c) (pcol p l)) := by pointwise [kdB]; rfl
theorem vB_at : vB B ci p (ix2 c x) = B.v (ix2 (at3 ci c) (pvcol p x)) := by pointwise [vB]; rfl
theorem dmB_at : dmB B h (ix3 0 c l) = B.dm (ix3 h c l) := by pointwise [dmB]
theorem dmtB_at : dmtB B h (ix3 0 c l) = B.dmt (ix3 h c l) := by pointwise [dmtB]
theorem gsB_at : gsB B p (ix3 0 c x) = B.gs (ix3 p c x) := by pointwise [gsB]
theorem rB_at : rB B ci p (ix4 0 0 c x) = B.r (ix4 ci p c x) := by pointwise [rB]
theorem qdecB_at : qdecB B p (ix2 c l) = B.qdec (ix2 c (pcol p l)) := by pointwise [qdecB]; rfl
theorem kdecB_at : kdecB B p (ix2 c l) = B.kdec (ix2 c (pcol p l)) := by pointwise [kdecB]; rfl
theorem cosB_at : cosB B ci (ix2 c l) = B.cos (ix2 (at3 ci c) l) := by pointwise [cosB]; rfl
theorem sinB_at : sinB B ci (ix2 c l) = B.sin (ix2 (at3 ci c) l) := by pointwise [sinB]; rfl

end

/-- A block of the forward pass holds chunk `n` of the arrays as its chunk `ci`. -/
structure FitsF (A : Arr) (B : Blk) (ci : Fin 3) (n : Fin 33) : Prop where
  q : ∀ c j, B.q (ix2 (at3 ci c) j) = A.q (row n c) j
  k : ∀ c j, B.k (ix2 (at3 ci c) j) = A.k (row n c) j
  qd : ∀ c j, B.qd (ix2 (at3 ci c) j) = A.qd (row n c) j
  kd : ∀ c j, B.kd (ix2 (at3 ci c) j) = A.kd (row n c) j
  v : ∀ c x, B.v (ix2 (at3 ci c) x) = A.v (row n c) x
  g : ∀ c x, B.g (ix2 (at3 ci c) x) = A.g (row n c) x
  gain : ∀ x, B.gain (ix2 0 x) = A.gain x
  dm : ∀ h c m, B.dm (ix3 h c m) = A.dm h c m
  gs : ∀ p l x, B.gs (ix3 p l x) = A.gs (hd p (lhead l))
  bd : ∀ l x, B.bd (ix2 l x) = if lhead l = xhead x then 1 else 0

/-- A state of a pair of heads: each head's own in its lanes and columns, zero elsewhere. -/
def StOk (s : Fin 8 → Fin 64 → Fin 128 → EReal) (p : Fin 4) (d : FVec Ideal S1x128x256 .f32) : Prop :=
  ∀ l x, d (ix3 0 l x) = if lhead l = xhead x then s (hd p (lhead l)) (llane l) (xlane x) else 0

section

variable {A : Arr} {B : Blk} {ci : Fin 3} {n : Fin 33}

/-- The state's step. -/
theorem StOk.next {s s' : Fin 8 → Fin 64 → Fin 128 → EReal} {p : Fin 4} {d : FVec Ideal S1x128x256 .f32} (hs : StOk s p d)
    (D : FVec Ideal S128x256 .bf16) (qd : FVec Ideal S128x128 .bf16) (gs : FVec Ideal S1x128x256 .f32) (bd : FVec Ideal S128x256 .f32)
    (hg : ∀ l x, gs (ix3 0 l x) = A.gs (hd p (lhead l))) (hb : ∀ l x, bd (ix2 l x) = if lhead l = xhead x then 1 else 0)
    (h' : ∀ e j x, s' (hd p e) j x = A.gs (hd p e) * s (hd p e) j x + ∑ c, qd (ix2 c (lcol e j)) * D (ix2 c (xcol e x))) :
    StOk s' p (stOf D qd d gs bd) := fun l x => by
  rw [st_at, hg, hb, hs]
  by_cases e : lhead l = xhead x
  · rw [if_pos e, if_pos e, if_pos e, h', lcol_of, e, xcol_of, one_mul]
  · rw [if_neg e, if_neg e, if_neg e, mul_zero, zero_mul, add_zero]

theorem FitsF.st {p : Fin 4} {d : FVec Ideal S1x128x256 .f32} (F : FitsF A B ci n) (hs : StOk (fun h => A.st h n.val) p d) :
    StOk (fun h => A.st h (n.val + 1)) p (stF B ci p d) :=
  hs.next _ _ _ _ (fun l x => (gsB_at B p l x).trans (F.gs p l x)) F.bd fun e j x => by
    simp only [Arr.st_succ, kdB_at, vB_at, F.kd, F.v, pcol_lcol, pvcol_xcol]

theorem own_sum (e : Fin 2) (q k : FVec Ideal S128x128 .bf16) (r m : Fin 128) :
    ∑ l, own (BitVec.ofNat 32 e.val) q (ix2 r l) * k (ix2 m l) = ∑ j, q (ix2 r (lcol e j)) * k (ix2 m (lcol e j)) :=
  sum_half e _ _ (fun l hl => by rw [own_at, if_neg hl, zero_mul]) fun j => by
    rw [own_at, if_pos (by show (e.val * 64 + j.val) / 64 = _; omega)]
    rfl

theorem own_sum' (e : Fin 2) (q k : FVec Ideal S128x128 .bf16) (r m : Fin 128) :
    ∑ l, k (ix2 m l) * own (BitVec.ofNat 32 e.val) q (ix2 r l) = ∑ j, k (ix2 m (lcol e j)) * q (ix2 r (lcol e j)) := by
  simp only [mul_comm (k _)]
  exact own_sum e q k r m

/-- What a state adds to a head's outputs: only the head's own lanes count. -/
theorem StOk.sum {s : Fin 8 → Fin 64 → Fin 128 → EReal} {p : Fin 4} {d : FVec Ideal S1x128x256 .f32} (hs : StOk s p d)
    (q : Fin 128 → EReal) (e : Fin 2) (x : Fin 128) :
    ∑ l, q l * d (ix3 0 l (xcol e x)) = ∑ j, q (lcol e j) * s (hd p e) j x :=
  sum_half e _ _ (fun l hl => by rw [hs, xhead_xcol, if_neg fun h => hl (congrArg Fin.val h), mul_zero]) fun j => by
    show q (lcol e j) * d (ix3 0 (lcol e j) (xcol e x)) = _
    rw [hs, xhead_xcol, lhead_lcol, if_pos rfl, llane_lcol, xlane_xcol]

theorem StOk.sum' {s : Fin 8 → Fin 64 → Fin 128 → EReal} {p : Fin 4} {d : FVec Ideal S1x128x256 .f32} (hs : StOk s p d)
    (q : Fin 256 → EReal) (e : Fin 2) (j : Fin 64) :
    ∑ x, q x * d (ix3 0 (lcol e j) x) = ∑ x, q (xcol e x) * s (hd p e) j x :=
  sum_half2 e _ _ (fun l hl => by rw [hs, lhead_lcol, if_neg fun h => hl (congrArg Fin.val h).symm, mul_zero]) fun x => by
    show q (xcol e x) * d (ix3 0 (lcol e j) (xcol e x)) = _
    rw [hs, xhead_xcol, lhead_lcol, if_pos rfl, llane_lcol, xlane_xcol]

theorem FitsF.out {p : Fin 4} {d : FVec Ideal S1x128x256 .f32} (F : FitsF A B ci n) (hs : StOk (fun h => A.st h n.val) p d) (e : Fin 2)
    (c l : Fin 128) : outF B ci p d e (ix2 c l) = A.out (hd p e) n c l := by
  have hx : ∀ e : Fin 2, ∑ k', qdB B ci p (ix2 c k') * d (ix3 0 k' (xcol e l)) = ∑ j, A.qd (row n c) (qcol (hd p e) j) * A.st (hd p e) n.val j l :=
    fun e => (hs.sum (fun k' => qdB B ci p (ix2 c k')) e l).trans (by simp only [qdB_at, F.qd, pcol_lcol])
  have hq : ∀ (e : Fin 2) (m : Fin 128), ∑ k', own (BitVec.ofNat 32 e.val) (qB B ci p) (ix2 c k') * kB B ci p (ix2 m k')
      = ∑ j, A.q (row n c) (qcol (hd p e) j) * A.k (row n m) (qcol (hd p e) j) :=
    fun e m => (own_sum e _ _ c m).trans (by simp only [qB_at, kB_at, F.q, F.k, pcol_lcol])
  have hv : ∀ (e : Fin 2) (m : Fin 128), vB B ci p (ix2 m (xcol e l)) = A.v (row n m) (vcol (hd p e) l) :=
    fun e m => by rw [vB_at, F.v, pvcol_xcol]
  have e0 : (⟨l.val, by omega⟩ : Fin 256) = xcol 0 l := Fin.ext (by simp [xcol])
  have e1 : (⟨128 + l.val, by omega⟩ : Fin 256) = xcol 1 l := Fin.ext (by simp [xcol])
  match e with
  | 0 =>
    show out0F B ci p d (ix2 c l) = _
    rw [out0F, out_at, lo_at, cross_at, e0, hx]
    simp only [lo_at, e0, hv, dmB_at, F.dm, show own 0#32 = own (BitVec.ofNat 32 (0 : Fin 2).val) from rfl, hq]
    rfl
  | 1 =>
    show out1F B ci p d (ix2 c l) = _
    rw [out1F, out_at, hi_at, cross_at, e1, hx]
    simp only [hi_at, e1, hv, dmB_at, F.dm, show own 1#32 = own (BitVec.ofNat 32 (1 : Fin 2).val) from rfl, hq]
    rfl

theorem FitsF.y {p : Fin 4} {d : FVec Ideal S1x128x256 .f32} (F : FitsF A B ci n) (hs : StOk (fun h => A.st h n.val) p d) (e : Fin 2)
    (c l : Fin 128) : yF B ci p d e (ix2 c l) = A.y (hd p e) n c l := by
  rw [yF, y_at]
  simp only [F.out hs, gB_at, gnB_at, F.g, F.gain]
  rfl

theorem rp_at (d : FVec Ideal S1x128x256 .f32) (l : Fin 128) (x : Fin 256) : rpF d (ix4 0 0 l x) = d (ix3 0 l x) := by
  pointwise [rpF]
  rw [stb_at]

end

end Cert.Kernel2Ideal.Ret

end
-- ==== Proof.RetStates.lean ====
/- Windows that hold chunks of rows or every head's state, read off a point's stores. -/
module

public import proofs.«01_k».proof.Proof.RetPoint
public import Idealize.ShloMosaic.Lib.Pipeline.ReadBack

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

theorem rSt_emb (p : Fin 4) (l : Fin 128) (x : Fin 256) : (rSt p).emb (ix3 0 l x) = ix3 p l x := by
  funext a
  refine Fin.ext ((ValueKit.rect_emb_unit_val _ _ _ _ a).trans ?_)
  match a with
  | ⟨0, _⟩ => rfl
  | ⟨1, _⟩ => exact Nat.zero_add _
  | ⟨2, _⟩ => exact Nat.zero_add _

/-- A state window's contents that hold every head's state. -/
def stG (s : Fin 8 → Fin 64 → Fin 128 → EReal) : Vec Ideal S4x128x256 .f32 := fun y =>
  if lhead (y 1) = xhead (y 2) then s (hd (y 0) (lhead (y 1))) (llane (y 1)) (xlane (y 2)) else 0

theorem stG_at {s : Fin 8 → Fin 64 → Fin 128 → EReal} {p : Fin 4} {d : FVec Ideal S1x128x256 .f32} (hs : StOk s p d) (x : S1x128x256.Idx) :
    d x = stG s ((rSt p).emb x) := by
  have e : x = ix3 0 (x 1) (x 2) := (eq_ix3 (n0 := 1) (n1 := 128) (n2 := 256) x).trans (congrArg (fun z => ix3 z (x 1) (x 2)) (Subsingleton.elim _ _))
  have e' : (rSt p).emb x = ix3 p (x 1) (x 2) := (congrArg _ e).trans (rSt_emb p (x 1) (x 2))
  rw [e']
  exact (congrArg d e).trans (hs _ _)

theorem stOk_ld {s : Fin 8 → Fin 64 → Fin 128 → EReal} {X : Vec Ideal S4x128x256 .f32} (h : ∀ y, X y = stG s y) (p : Fin 4) :
    StOk s p (View.ld X (rSt p)) := fun l x => by
  exact (h _).trans ((congrArg (stG s) (rSt_emb p l x)).trans rfl)

/-- The last four stores of a point leave the four pairs' states. -/
theorem canon_st (s : Fin 8 → Fin 64 → Fin 128 → EReal) (d3 d2 d1 d0 : FVec Ideal S1x128x256 .f32)
    (hs : StOk s 3 d3 ∧ StOk s 2 d2 ∧ StOk s 1 d1 ∧ StOk s 0 d0) (L : List (View.Piece (Elt Ideal) S4x128x256 .f32)) (y : S4x128x256.Idx) :
    View.canon (⟨rSt 3, d3⟩ :: ⟨rSt 2, d2⟩ :: ⟨rSt 1, d1⟩ :: ⟨rSt 0, d0⟩ :: L) y = stG s y := by
  refine View.canon_append_of_piecesOf (Val := Elt Ideal) (stG s) L [⟨rSt 3, d3⟩, ⟨rSt 2, d2⟩, ⟨rSt 1, d1⟩, ⟨rSt 0, d0⟩]
    ⟨stG_at hs.1, stG_at hs.2.1, stG_at hs.2.2.1, stG_at hs.2.2.2, trivial⟩ y ?_
  have hy : ∀ p : Fin 4, y 0 = p → y ∈ (rSt p).set := fun p h => by
    rw [Rect.mem_set_unit]
    intro a
    have h0 := congrArg Fin.val h
    have h1 := (y 1).isLt
    have h2 := (y 2).isLt
    match a with
    | ⟨0, _⟩ => exact ⟨h0.ge, by show (y 0).val < p.val + 1; omega⟩
    | ⟨1, _⟩ => exact ⟨Nat.zero_le _, by show (y 1).val < 0 + 128; exact (Nat.zero_add _).symm ▸ h1⟩
    | ⟨2, _⟩ => exact ⟨Nat.zero_le _, by show (y 2).val < 0 + 256; exact (Nat.zero_add _).symm ▸ h2⟩
  have h4 : ∀ p : Fin 4, p = 3 ∨ p = 2 ∨ p = 1 ∨ p = 0 := by decide
  rcases h4 (y 0) with h | h | h | h
  · exact ⟨_, .head _, hy 3 h⟩
  · exact ⟨_, .tail _ (.head _), hy 2 h⟩
  · exact ⟨_, .tail _ (.tail _ (.head _)), hy 1 h⟩
  · exact ⟨_, .tail _ (.tail _ (.tail _ (.head _))), hy 0 h⟩

/-- The grid point's chunk `ci`. -/
def ch (T : Fin 11) (ci : Fin 3) : Fin 33 := ⟨3 * T.val + ci.val, by omega⟩
def ciOf (i : Fin 384) : Fin 3 := ⟨i.val / 128, by omega⟩
def plOf (i : Fin 384) : Fin 128 := ⟨i.val % 128, by omega⟩

/-- A window of three chunks of rows, from each head's rows. -/
def rowG (f : Fin 8 → Fin 33 → Fin 128 → Fin 128 → EReal) (n : Fin 3 → Fin 33) (y : S384x1024.Idx) : EReal :=
  f (vhead (y 1)) (n (ciOf (y 0))) (plOf (y 0)) (vlane (y 1))

theorem rowG_at {f : Fin 8 → Fin 33 → Fin 128 → Fin 128 → EReal} {n : Fin 3 → Fin 33} {φ : FTy} (ci : Fin 3) (h : Fin 8) (w : FVec Ideal S128x128 φ)
    (hw : ∀ c l, w (ix2 c l) = f h (n ci) c l) (x : S128x128.Idx) : w x = rowG f n ((r1024 ci h).emb x) := by
  have e0 : (((r1024 ci h).emb x 0 : Fin 384)) = at3 ci (x 0) := Fin.ext (ValueKit.rect_emb_unit_val _ _ _ _ 0)
  have e1 : (((r1024 ci h).emb x 1 : Fin 1024)) = vcol h (x 1) := Fin.ext (ValueKit.rect_emb_unit_val _ _ _ _ 1)
  have h0 : (x 0).val < 128 := (x 0).isLt
  have c0 : ciOf (at3 ci (x 0)) = ci := Fin.ext (by show (ci.val * 128 + (x 0).val) / 128 = _; omega)
  have c1 : plOf (at3 ci (x 0)) = x 0 := Fin.ext (by show (ci.val * 128 + (x 0).val) % 128 = _; omega)
  refine (congrArg w (eq_ix2 (n0 := 128) (n1 := 128) x)).trans ((hw _ _).trans ?_)
  show _ = f (vhead ((r1024 ci h).emb x 1)) (n (ciOf ((r1024 ci h).emb x 0))) (plOf ((r1024 ci h).emb x 0)) (vlane ((r1024 ci h).emb x 1))
  rw [e0, e1, c0, c1]
  exact (congrArg₂ (fun a b => f a (n ci) (x 0) b) (vhead_vcol h (x 1)) (vlane_vcol h (x 1))).symm

/-- A window of the pairs' states at three chunks. -/
def stsG (s : Fin 3 → Fin 8 → Fin 64 → Fin 128 → EReal) (y : S3x4x128x256.Idx) : EReal := stG (s (y 0)) (ix3 (y 1) (y 2) (y 3))

theorem stsG_at {s : Fin 3 → Fin 8 → Fin 64 → Fin 128 → EReal} (ci : Fin 3) (p : Fin 4) {d : FVec Ideal S1x128x256 .f32} (hs : StOk (s ci) p d)
    (x : S1x1x128x256.Idx) : rpF d x = stsG s ((rR ci p).emb x) := by
  have ex : x = ix4 0 0 (x 2) (x 3) := (eq_ix4 (n0 := 1) (n1 := 1) (n2 := 128) (n3 := 256) x).trans
    ((congrArg (fun z : Fin 1 => ix4 z (x 1) (x 2) (x 3)) (Subsingleton.elim _ _)).trans
      (congrArg (fun z : Fin 1 => ix4 (0 : Fin 1) z (x 2) (x 3)) (Subsingleton.elim _ _)))
  have e : (rR ci p).emb x = ix4 ci p (x 2) (x 3) := by
    refine (congrArg _ ex).trans ?_
    funext a
    refine Fin.ext ((ValueKit.rect_emb_unit_val _ _ _ _ a).trans ?_)
    match a with
    | ⟨0, _⟩ => rfl
    | ⟨1, _⟩ => rfl
    | ⟨2, _⟩ => exact Nat.zero_add _
    | ⟨3, _⟩ => exact Nat.zero_add _
  rw [e]
  exact (congrArg (rpF d) ex).trans ((rp_at d _ _).trans (hs _ _))

end Cert.Kernel2Ideal.Ret

end
-- ==== Proof.RetFwd.lean ====
/- What a point of the forward pass leaves in its windows. -/
module

public import proofs.«01_k».proof.Proof.RetStates
public import proofs.«01_k».proof.Proof.Gen.Kernel2Ideal.Frame.Region0

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (V : (c : Dev nD) → (b : Ref sig .tc) → Buf (Elt Ideal) ((c : Thread nD τ).loc b)) (c : Dev nD) (t : Fin cfg0.N)

/-- The blocks point `t` reads. -/
def BF : Blk where
  q := iblk0 V c 0 t
  k := iblk0 V c 1 t
  qd := iblk0 V c 2 t
  kd := iblk0 V c 3 t
  v := iblk0 V c 4 t
  g := iblk0 V c 5 t
  o := fun _ => 0
  r := fun _ => 0
  dy := fun _ => 0
  gain := iblk0 V c 6 t
  cos := fun _ => 0
  sin := fun _ => 0
  dm := iblk0 V c 7 t
  dmt := fun _ => 0
  qdec := fun _ => 0
  kdec := fun _ => 0
  gs := iblk0 V c 8 t
  bd := iblk0 V c 9 t

/-- The states before each chunk of a point, from those the point starts with. -/
def dF (d : Fin 4 → FVec Ideal S1x128x256 .f32) : ℕ → Fin 4 → FVec Ideal S1x128x256 .f32
  | 0 => d
  | 1 => fun p => stF (BF V c t) 0 p (d p)
  | 2 => fun p => stF (BF V c t) 1 p (stF (BF V c t) 0 p (d p))
  | _ => fun p => stF (BF V c t) 2 p (stF (BF V c t) 1 p (stF (BF V c t) 0 p (d p)))

/-- What the point before left of the states. -/
abbrev before0 : Vec Ideal S4x128x256 .f32 := (outsAt0 V c (t.val - 1) (Nat.lt_of_le_of_lt (Nat.sub_le _ _) t.isLt)).2.2.2

variable {V c t} {A : Arr} {n : Fin 3 → Fin 33}

/-- The states before chunk `ci` of a point, and after its last. -/
theorem dF_ok {d : Fin 4 → FVec Ideal S1x128x256 .f32} (F : ∀ ci, FitsF A (BF V c t) ci (n ci)) {k : ℕ} (hn : ∀ ci, (n ci).val = k + ci.val)
    (hd : ∀ p, StOk (fun h => A.st h k) p (d p)) : ∀ i : ℕ, i ≤ 3 → ∀ p, StOk (fun h => A.st h (k + i)) p (dF V c t d i p)
  | 0, _, p => hd p
  | 1, _, p => by
    have h := (F 0).st (p := p) (d := d p) (by rw [hn]; exact hd p)
    rw [hn] at h; exact h
  | 2, _, p => by
    have h := (F 1).st (p := p) (by rw [hn]; exact dF_ok F hn hd 1 (by omega) p)
    rw [hn] at h; exact h
  | 3, _, p => by
    have h := (F 2).st (p := p) (by rw [hn]; exact dF_ok F hn hd 2 (by omega) p)
    rw [hn] at h; exact h
  | i + 4, h, _ => absurd h (by omega)

section

variable {d : Fin 4 → FVec Ideal S1x128x256 .f32} (F : ∀ ci, FitsF A (BF V c t) ci (n ci)) {k : ℕ} (hn : ∀ ci, (n ci).val = k + ci.val)
  (hd : ∀ p, StOk (fun h => A.st h k) p (d p))

include F hn hd

theorem o_piece (ci : Fin 3) (p : Fin 4) (e : Fin 2) (x : S128x128.Idx) :
    outF (BF V c t) ci p (dF V c t d ci.val p) e x = rowG A.out n ((r1024 ci (Ret.hd p e)).emb x) :=
  rowG_at ci (Ret.hd p e) _ (fun r l => (F ci).out (by rw [hn]; exact dF_ok F hn hd ci.val (by omega) p) e r l) x

theorem y_piece (ci : Fin 3) (p : Fin 4) (e : Fin 2) (x : S128x128.Idx) :
    yF (BF V c t) ci p (dF V c t d ci.val p) e x = rowG A.y n ((r1024 ci (Ret.hd p e)).emb x) :=
  rowG_at ci (Ret.hd p e) _ (fun r l => (F ci).y (by rw [hn]; exact dF_ok F hn hd ci.val (by omega) p) e r l) x

theorem r_piece (ci : Fin 3) (p : Fin 4) (x : S1x1x128x256.Idx) :
    rpF (dF V c t d ci.val p) x = stsG (fun i h => A.st h (n i).val) ((rR ci p).emb x) :=
  stsG_at ci p (by show StOk (fun h => A.st h (n ci).val) p _; rw [hn]; exact dF_ok F hn hd ci.val (by omega) p) x

end

set_option maxHeartbeats 4000000 in
theorem o_B (F : ∀ ci, FitsF A (BF V c t) ci (n ci)) {k : ℕ} (hn : ∀ ci, (n ci).val = k + ci.val) (h : ¬ t.val % 11 = 0)
    (hd : ∀ p, StOk (fun h => A.st h k) p (View.ld (before0 V c t) (rSt p))) (y) :
    (outsAt0 V c t.val t.isLt).1 y = rowG A.out n y := by
  rw [outsAt0_B V c t h]
  frame_out [↓View.readCov_cons_toLoadRect, ↓View.readCov_skip]
  have P := o_piece F hn hd
  refine View.canon_apply_of_pieces (Val := Elt Ideal) (e := .f32) (rowG A.out n) _ (View.PiecesOf.mem ?_) y ?_
  · have H := And.intro (P 2 3 1) <| And.intro (P 2 3 0) <| And.intro (P 2 2 1) <| And.intro (P 2 2 0) <| And.intro (P 2 1 1) <|
      And.intro (P 2 1 0) <| And.intro (P 2 0 1) <| And.intro (P 2 0 0) <| And.intro (P 1 3 1) <| And.intro (P 1 3 0) <| And.intro (P 1 2 1) <|
      And.intro (P 1 2 0) <| And.intro (P 1 1 1) <| And.intro (P 1 1 0) <| And.intro (P 1 0 1) <| And.intro (P 1 0 0) <| And.intro (P 0 3 1) <|
      And.intro (P 0 3 0) <| And.intro (P 0 2 1) <| And.intro (P 0 2 0) <| And.intro (P 0 1 1) <| And.intro (P 0 1 0) <| And.intro (P 0 0 1) <|
      And.intro (P 0 0 0) <| trivial
    exact cast (by sl_kernel_rfl) H
  · exact View.cover_of_tiledL (s := S384x1024) _ S128x128.size (by sl_kernel_rfl) y

set_option maxHeartbeats 4000000 in
theorem y_B (F : ∀ ci, FitsF A (BF V c t) ci (n ci)) {k : ℕ} (hn : ∀ ci, (n ci).val = k + ci.val) (h : ¬ t.val % 11 = 0)
    (hd : ∀ p, StOk (fun h => A.st h k) p (View.ld (before0 V c t) (rSt p))) (y) :
    (outsAt0 V c t.val t.isLt).2.1 y = rowG A.y n y := by
  rw [outsAt0_B V c t h]
  frame_out [↓View.readCov_cons_toLoadRect, ↓View.readCov_skip]
  have P := y_piece F hn hd
  refine View.canon_apply_of_pieces (Val := Elt Ideal) (e := .bf16) (rowG A.y n) _ (View.PiecesOf.mem ?_) y ?_
  · have H := And.intro (P 2 3 1) <| And.intro (P 2 3 0) <| And.intro (P 2 2 1) <| And.intro (P 2 2 0) <| And.intro (P 2 1 1) <|
      And.intro (P 2 1 0) <| And.intro (P 2 0 1) <| And.intro (P 2 0 0) <| And.intro (P 1 3 1) <| And.intro (P 1 3 0) <| And.intro (P 1 2 1) <|
      And.intro (P 1 2 0) <| And.intro (P 1 1 1) <| And.intro (P 1 1 0) <| And.intro (P 1 0 1) <| And.intro (P 1 0 0) <| And.intro (P 0 3 1) <|
      And.intro (P 0 3 0) <| And.intro (P 0 2 1) <| And.intro (P 0 2 0) <| And.intro (P 0 1 1) <| And.intro (P 0 1 0) <| And.intro (P 0 0 1) <|
      And.intro (P 0 0 0) <| trivial
    exact cast (by sl_kernel_rfl) H
  · exact View.cover_of_tiledL (s := S384x1024) _ S128x128.size (by sl_kernel_rfl) y

set_option maxHeartbeats 4000000 in
theorem r_B (F : ∀ ci, FitsF A (BF V c t) ci (n ci)) {k : ℕ} (hn : ∀ ci, (n ci).val = k + ci.val) (h : ¬ t.val % 11 = 0)
    (hd : ∀ p, StOk (fun h => A.st h k) p (View.ld (before0 V c t) (rSt p))) (y) :
    (outsAt0 V c t.val t.isLt).2.2.1 y = stsG (fun i h => A.st h (n i).val) y := by
  rw [outsAt0_B V c t h]
  frame_out [↓View.readCov_cons_toLoadRect, ↓View.readCov_skip]
  have P := r_piece F hn hd
  refine View.canon_apply_of_pieces (Val := Elt Ideal) (e := .bf16) (stsG (fun i h => A.st h (n i).val)) _ (View.PiecesOf.mem ?_) y ?_
  · have H := And.intro (P 2 3) <| And.intro (P 2 2) <| And.intro (P 2 1) <| And.intro (P 2 0) <| And.intro (P 1 3) <| And.intro (P 1 2) <|
      And.intro (P 1 1) <| And.intro (P 1 0) <| And.intro (P 0 3) <| And.intro (P 0 2) <| And.intro (P 0 1) <| And.intro (P 0 0) <| trivial
    exact cast (by sl_kernel_rfl) H
  · exact View.cover_of_tiledL (s := S3x4x128x256) _ S1x1x128x256.size (by sl_kernel_rfl) y

set_option maxHeartbeats 4000000 in
theorem st_B (F : ∀ ci, FitsF A (BF V c t) ci (n ci)) {k : ℕ} (hn : ∀ ci, (n ci).val = k + ci.val) (h : ¬ t.val % 11 = 0)
    (hd : ∀ p, StOk (fun h => A.st h k) p (View.ld (before0 V c t) (rSt p))) (y) :
    (outsAt0 V c t.val t.isLt).2.2.2 y = stG (fun h => A.st h (k + 3)) y := by
  rw [outsAt0_B V c t h]
  frame_out [↓View.readCov_cons_toLoadRect, ↓View.readCov_skip]
  have Q := dF_ok F hn hd 3 (by omega)
  refine canon_st _ _ _ _ _ ?_ _ y
  have H := And.intro (Q 3) <| And.intro (Q 2) <| And.intro (Q 1) (Q 0)
  exact cast (by sl_kernel_rfl) H

end Cert.Kernel2Ideal.Ret

end
-- ==== Proof.RetFwdA.lean ====
/- What the first point of the forward pass leaves in its windows. -/
module

public import proofs.«01_k».proof.Proof.RetFwd

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable {V : (c : Dev nD) → (b : Ref sig .tc) → Buf (Elt Ideal) ((c : Thread nD τ).loc b)} {c : Dev nD} {t : Fin cfg0.N} {A : Arr} {n : Fin 3 → Fin 33}

/-- The zero states the first point starts from. -/
abbrev zero0 : Vec Ideal S4x128x256 .f32 := k0_pay2 (F := Ideal)

set_option maxHeartbeats 4000000 in
theorem o_A (F : ∀ ci, FitsF A (BF V c t) ci (n ci)) {k : ℕ} (hn : ∀ ci, (n ci).val = k + ci.val) (h : t.val % 11 = 0)
    (hd : ∀ p, StOk (fun h => A.st h k) p (View.ld zero0 (rSt p))) (y) :
    (outsAt0 V c t.val t.isLt).1 y = rowG A.out n y := by
  rw [outsAt0_A V c t h]
  frame_out [↓View.readCov_cons_toLoadRect, ↓View.readCov_skip, ↓View.readCov_fill]
  have P := o_piece F hn hd
  refine View.canon_apply_of_pieces (Val := Elt Ideal) (e := .f32) (rowG A.out n) _ (View.PiecesOf.mem ?_) y ?_
  · have H := And.intro (P 2 3 1) <| And.intro (P 2 3 0) <| And.intro (P 2 2 1) <| And.intro (P 2 2 0) <| And.intro (P 2 1 1) <|
      And.intro (P 2 1 0) <| And.intro (P 2 0 1) <| And.intro (P 2 0 0) <| And.intro (P 1 3 1) <| And.intro (P 1 3 0) <| And.intro (P 1 2 1) <|
      And.intro (P 1 2 0) <| And.intro (P 1 1 1) <| And.intro (P 1 1 0) <| And.intro (P 1 0 1) <| And.intro (P 1 0 0) <| And.intro (P 0 3 1) <|
      And.intro (P 0 3 0) <| And.intro (P 0 2 1) <| And.intro (P 0 2 0) <| And.intro (P 0 1 1) <| And.intro (P 0 1 0) <| And.intro (P 0 0 1) <|
      And.intro (P 0 0 0) <| trivial
    exact cast (by sl_kernel_rfl) H
  · exact View.cover_of_tiledL (s := S384x1024) _ S128x128.size (by sl_kernel_rfl) y

set_option maxHeartbeats 4000000 in
theorem y_A (F : ∀ ci, FitsF A (BF V c t) ci (n ci)) {k : ℕ} (hn : ∀ ci, (n ci).val = k + ci.val) (h : t.val % 11 = 0)
    (hd : ∀ p, StOk (fun h => A.st h k) p (View.ld zero0 (rSt p))) (y) :
    (outsAt0 V c t.val t.isLt).2.1 y = rowG A.y n y := by
  rw [outsAt0_A V c t h]
  frame_out [↓View.readCov_cons_toLoadRect, ↓View.readCov_skip, ↓View.readCov_fill]
  have P := y_piece F hn hd
  refine View.canon_apply_of_pieces (Val := Elt Ideal) (e := .bf16) (rowG A.y n) _ (View.PiecesOf.mem ?_) y ?_
  · have H := And.intro (P 2 3 1) <| And.intro (P 2 3 0) <| And.intro (P 2 2 1) <| And.intro (P 2 2 0) <| And.intro (P 2 1 1) <|
      And.intro (P 2 1 0) <| And.intro (P 2 0 1) <| And.intro (P 2 0 0) <| And.intro (P 1 3 1) <| And.intro (P 1 3 0) <| And.intro (P 1 2 1) <|
      And.intro (P 1 2 0) <| And.intro (P 1 1 1) <| And.intro (P 1 1 0) <| And.intro (P 1 0 1) <| And.intro (P 1 0 0) <| And.intro (P 0 3 1) <|
      And.intro (P 0 3 0) <| And.intro (P 0 2 1) <| And.intro (P 0 2 0) <| And.intro (P 0 1 1) <| And.intro (P 0 1 0) <| And.intro (P 0 0 1) <|
      And.intro (P 0 0 0) <| trivial
    exact cast (by sl_kernel_rfl) H
  · exact View.cover_of_tiledL (s := S384x1024) _ S128x128.size (by sl_kernel_rfl) y

set_option maxHeartbeats 4000000 in
theorem r_A (F : ∀ ci, FitsF A (BF V c t) ci (n ci)) {k : ℕ} (hn : ∀ ci, (n ci).val = k + ci.val) (h : t.val % 11 = 0)
    (hd : ∀ p, StOk (fun h => A.st h k) p (View.ld zero0 (rSt p))) (y) :
    (outsAt0 V c t.val t.isLt).2.2.1 y = stsG (fun i h => A.st h (n i).val) y := by
  rw [outsAt0_A V c t h]
  frame_out [↓View.readCov_cons_toLoadRect, ↓View.readCov_skip, ↓View.readCov_fill]
  have P := r_piece F hn hd
  refine View.canon_apply_of_pieces (Val := Elt Ideal) (e := .bf16) (stsG (fun i h => A.st h (n i).val)) _ (View.PiecesOf.mem ?_) y ?_
  · have H := And.intro (P 2 3) <| And.intro (P 2 2) <| And.intro (P 2 1) <| And.intro (P 2 0) <| And.intro (P 1 3) <| And.intro (P 1 2) <|
      And.intro (P 1 1) <| And.intro (P 1 0) <| And.intro (P 0 3) <| And.intro (P 0 2) <| And.intro (P 0 1) <| And.intro (P 0 0) <| trivial
    exact cast (by sl_kernel_rfl) H
  · exact View.cover_of_tiledL (s := S3x4x128x256) _ S1x1x128x256.size (by sl_kernel_rfl) y

set_option maxHeartbeats 4000000 in
theorem st_A (F : ∀ ci, FitsF A (BF V c t) ci (n ci)) {k : ℕ} (hn : ∀ ci, (n ci).val = k + ci.val) (h : t.val % 11 = 0)
    (hd : ∀ p, StOk (fun h => A.st h k) p (View.ld zero0 (rSt p))) (y) :
    (outsAt0 V c t.val t.isLt).2.2.2 y = stG (fun h => A.st h (k + 3)) y := by
  rw [outsAt0_A V c t h]
  frame_out [↓View.readCov_cons_toLoadRect, ↓View.readCov_skip, ↓View.readCov_fill]
  have Q := dF_ok F hn hd 3 (by omega)
  refine canon_st _ _ _ _ _ ?_ _ y
  have H := And.intro (Q 3) <| And.intro (Q 2) <| And.intro (Q 1) (Q 0)
  exact cast (by sl_kernel_rfl) H

end Cert.Kernel2Ideal.Ret

end
-- ==== Proof.RetKernelF.lean ====
/- What the forward pass leaves in its arrays. -/
module

public import proofs.«01_k».proof.Proof.RetFwd
public import proofs.«01_k».proof.Proof.RetFwdA

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (V : (c : Dev nD) → (b : Ref sig .tc) → Buf (Elt Ideal) ((c : Thread nD τ).loc b)) (c : Dev nD)

/-- The arrays the forward pass reads are those of `A`. -/
structure HoldF (A : Arr) : Prop where
  q : ∀ R j, (V c main_v77 : S4224x512.Idx → EReal) (ix2 R j) = A.q R j
  k : ∀ R j, (V c main_v78 : S4224x512.Idx → EReal) (ix2 R j) = A.k R j
  qd : ∀ R j, (V c main_v84 : S4224x512.Idx → EReal) (ix2 R j) = A.qd R j
  kd : ∀ R j, (V c main_v90 : S4224x512.Idx → EReal) (ix2 R j) = A.kd R j
  v : ∀ R x, (V c main_v91 : S4224x1024.Idx → EReal) (ix2 R x) = A.v R x
  g : ∀ R x, (V c main_v5 : S4224x1024.Idx → EReal) (ix2 R x) = A.g R x
  gain : ∀ x, (V c main_arg4 : S1x1024.Idx → EReal) (ix2 0 x) = A.gain x
  dm : ∀ h a b, (V c main_v56 : S8x128x128.Idx → EReal) (ix3 h a b) = A.dm h a b
  gs : ∀ p l x, (V c main_v70 : S4x128x256.Idx → EReal) (ix3 p l x) = A.gs (hd p (lhead l))
  bd : ∀ l x, (V c main_v76 : S128x256.Idx → EReal) (ix2 l x) = (if lhead l = xhead x then (1 : EReal) else 0 : EReal)

/-- Every window's block index at a grid point. -/
theorem idx0 : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_10.index t = ![t.val, 0] ∧ win0_11.index t = ![t.val, 0] ∧ win0_6.index t = ![0, 0] ∧ win0_7.index t = ![0, 0, 0] ∧ win0_8.index t = ![0, 0, 0] ∧ win0_9.index t = ![0, 0] ∧ win0_12.index t = ![t.val, 0, 0, 0] ∧ win0_13.index t = ![0, 0, 0] ∧ t.val < 11 :=
  (by decide +kernel : ∀ t : Fin grid0.N, _)

theorem lt0 (t : Fin cfg0.N) : t.val < 11 := t.isLt.trans_eq N_0

/-- Chunk `ci` of point `t`. -/
abbrev chF (t : Fin cfg0.N) (ci : Fin 3) : Fin 33 := ch ⟨t.val, lt0 t⟩ ci

variable {V c} {A : Arr}

set_option maxHeartbeats 4000000 in
theorem HoldF.fits (H : HoldF V c A) (t : Fin cfg0.N) (ci : Fin 3) : FitsF A (BF V c t) ci (chF t ci) where
  q := fun a b => by
    have e : (win0_0.blk t).view.emb (ix2 (at3 ci a) b) = ix2 (row (chF t ci) a) b := by
      blk_ext [idx0 t]
      show _ = (3 * t.val + ci.val) * 128 + a.val
      simp only [at3]
      omega
    exact (congrArg (V c main_v77) e).trans (H.q _ _)
  k := fun a b => by
    have e : (win0_1.blk t).view.emb (ix2 (at3 ci a) b) = ix2 (row (chF t ci) a) b := by
      blk_ext [idx0 t]
      show _ = (3 * t.val + ci.val) * 128 + a.val
      simp only [at3]
      omega
    exact (congrArg (V c main_v78) e).trans (H.k _ _)
  qd := fun a b => by
    have e : (win0_2.blk t).view.emb (ix2 (at3 ci a) b) = ix2 (row (chF t ci) a) b := by
      blk_ext [idx0 t]
      show _ = (3 * t.val + ci.val) * 128 + a.val
      simp only [at3]
      omega
    exact (congrArg (V c main_v84) e).trans (H.qd _ _)
  kd := fun a b => by
    have e : (win0_3.blk t).view.emb (ix2 (at3 ci a) b) = ix2 (row (chF t ci) a) b := by
      blk_ext [idx0 t]
      show _ = (3 * t.val + ci.val) * 128 + a.val
      simp only [at3]
      omega
    exact (congrArg (V c main_v90) e).trans (H.kd _ _)
  v := fun a b => by
    have e : (win0_4.blk t).view.emb (ix2 (at3 ci a) b) = ix2 (row (chF t ci) a) b := by
      blk_ext [idx0 t]
      show _ = (3 * t.val + ci.val) * 128 + a.val
      simp only [at3]
      omega
    exact (congrArg (V c main_v91) e).trans (H.v _ _)
  g := fun a b => by
    have e : (win0_5.blk t).view.emb (ix2 (at3 ci a) b) = ix2 (row (chF t ci) a) b := by
      blk_ext [idx0 t]
      show _ = (3 * t.val + ci.val) * 128 + a.val
      simp only [at3]
      omega
    exact (congrArg (V c main_v5) e).trans (H.g _ _)
  gain := fun x => by
    have e : (win0_6.blk t).view.emb ((ix2 0 x : S1x1024.Idx)) = (ix2 0 x : S1x1024.Idx) := by blk_ext [idx0 t]
    exact (congrArg (V c main_arg4) e).trans (H.gain _)
  dm := fun h x y => by
    have e : (win0_7.blk t).view.emb ((ix3 h x y : S8x128x128.Idx)) = (ix3 h x y : S8x128x128.Idx) := by blk_ext [idx0 t]
    exact (congrArg (V c main_v56) e).trans (H.dm _ _ _)
  gs := fun p l x => by
    have e : (win0_8.blk t).view.emb ((ix3 p l x : S4x128x256.Idx)) = (ix3 p l x : S4x128x256.Idx) := by blk_ext [idx0 t]
    exact (congrArg (V c main_v70) e).trans (H.gs _ _ _)
  bd := fun l x => by
    have e : (win0_9.blk t).view.emb ((ix2 l x : S128x256.Idx)) = (ix2 l x : S128x256.Idx) := by blk_ext [idx0 t]
    exact (congrArg (V c main_v76) e).trans (H.bd _ _)

theorem chF_val (t : Fin cfg0.N) (ci : Fin 3) : (chF t ci).val = 3 * t.val + ci.val := rfl

theorem zero0_at (i) : (zero0 i : EReal) = 0 := by pointwise [k0_pay2]

theorem zero_st (s : Fin 8 → Fin 64 → Fin 128 → EReal) (hs : ∀ h d e, s h d e = 0) (p : Fin 4) : StOk s p (View.ld zero0 (rSt p)) := fun l x => by
  rw [hs, ite_self]
  exact zero0_at _

/-- The states a point starts with. -/
theorem HoldF.state (H : HoldF V c A) : ∀ k (hk : k < cfg0.N), ∀ y, (outsAt0 V c k hk).2.2.2 y = stG (fun h => A.st h (3 * k + 3)) y
  | 0, hk => st_A (t := ⟨0, hk⟩) (H.fits _) (chF_val _) rfl (zero_st _ fun _ _ _ => rfl)
  | k + 1, hk => st_B (t := ⟨k + 1, hk⟩) (H.fits _) (chF_val _) (by have := lt0 ⟨k + 1, hk⟩; show ¬ (k + 1) % 11 = 0; simp only at this; omega)
      fun p => stOk_ld (H.state k (Nat.lt_of_succ_lt hk)) p

theorem HoldF.start (H : HoldF V c A) (t : Fin cfg0.N) (h : ¬ t.val % 11 = 0) (p : Fin 4) :
    StOk (fun h => A.st h (3 * t.val)) p (View.ld (before0 V c t) (rSt p)) := by
  have e : 3 * (t.val - 1) + 3 = 3 * t.val := by omega
  have := stOk_ld (H.state (t.val - 1) (Nat.lt_of_le_of_lt (Nat.sub_le _ _) t.isLt)) p
  rwa [e] at this

theorem zero_of (t : Fin cfg0.N) (h : t.val % 11 = 0) : t.val = 0 := by have := lt0 t; omega

theorem HoldF.out_o (H : HoldF V c A) (t : Fin cfg0.N) (y) : (outsAt0 V c t.val t.isLt).1 y = rowG A.out (chF t) y := by
  by_cases h : t.val % 11 = 0
  · refine o_A (H.fits t) (chF_val t) h (zero_st _ fun h d e => ?_) y
    rw [zero_of t ‹_›]; rfl
  · exact o_B (H.fits t) (chF_val t) h (H.start t h) y

theorem HoldF.out_y (H : HoldF V c A) (t : Fin cfg0.N) (y) : (outsAt0 V c t.val t.isLt).2.1 y = rowG A.y (chF t) y := by
  by_cases h : t.val % 11 = 0
  · refine y_A (H.fits t) (chF_val t) h (zero_st _ fun h d e => ?_) y
    rw [zero_of t ‹_›]; rfl
  · exact y_B (H.fits t) (chF_val t) h (H.start t h) y

theorem HoldF.out_r (H : HoldF V c A) (t : Fin cfg0.N) (y) : (outsAt0 V c t.val t.isLt).2.2.1 y = stsG (fun i h => A.st h (chF t i).val) y := by
  by_cases h : t.val % 11 = 0
  · refine r_A (H.fits t) (chF_val t) h (zero_st _ fun h d e => ?_) y
    rw [zero_of t ‹_›]; rfl
  · exact r_B (H.fits t) (chF_val t) h (H.start t h) y

/-- The whole array of rows whose chunks are `f`'s. -/
def rowsA (f : Fin 8 → Fin 33 → Fin 128 → Fin 128 → EReal) : S4224x1024.Idx → EReal :=
  fun i => f (vhead (i 1)) (chunkOf (i 0)) (placeOf (i 0)) (vlane (i 1))

theorem rowsA_at (f : Fin 8 → Fin 33 → Fin 128 → Fin 128 → EReal) (n : Fin 33) (a : Fin 128) (x : Fin 1024) :
    rowsA f (ix2 (row n a) x) = f (vhead x) n a (vlane x) :=
  congrArg₂ (fun u w => f (vhead x) u w (vlane x)) (chunkOf_row n a) (placeOf_row n a)

/-- The states before each chunk. -/
def statesA (A : Arr) : S33x4x128x256.Idx → EReal := fun i => stG (fun h => A.st h (i 0).val) (ix3 (i 1) (i 2) (i 3))

theorem HoldF.arr_o (H : HoldF V c A) : (dat0 V c).arrAt 10 cfg0.N = rowsA A.out := by
  refine (dat0 V c).arrAt_eq_of_covers 10 _ (by decide +kernel) fun t hf y => ?_
  blk_simp
  have e : ((View.whole main_v92_0).slice (win0_10.rect t)).emb y = ix2 (row (chF t (ciOf (y 0))) (plOf (y 0))) (y 1) := by
    blk_ext [idx0 t]
    show _ = (3 * t.val + (y 0).val / 128) * 128 + (y 0).val % 128
    omega
  rw [after0_10]
  exact (H.out_o t y).trans ((rowsA_at A.out (chF t (ciOf (y 0))) (plOf (y 0)) (y 1)).symm.trans (congrArg (rowsA A.out) e.symm))

theorem HoldF.arr_y (H : HoldF V c A) : (dat0 V c).arrAt 11 cfg0.N = rowsA A.y := by
  refine (dat0 V c).arrAt_eq_of_covers 11 _ (by decide +kernel) fun t hf y => ?_
  blk_simp
  have e : ((View.whole main_v92_1).slice (win0_11.rect t)).emb y = ix2 (row (chF t (ciOf (y 0))) (plOf (y 0))) (y 1) := by
    blk_ext [idx0 t]
    show _ = (3 * t.val + (y 0).val / 128) * 128 + (y 0).val % 128
    omega
  rw [after0_11]
  exact (H.out_y t y).trans ((rowsA_at A.y (chF t (ciOf (y 0))) (plOf (y 0)) (y 1)).symm.trans (congrArg (rowsA A.y) e.symm))

theorem HoldF.arr_r (H : HoldF V c A) : (dat0 V c).arrAt 12 cfg0.N = statesA A := by
  refine (dat0 V c).arrAt_eq_of_covers 12 _ (by decide +kernel) fun t hf y => ?_
  blk_simp
  have e : ((View.whole main_v92_2).slice (win0_12.rect t)).emb y = ix4 (chF t (y 0)) (y 1) (y 2) (y 3) := by
    blk_ext [idx0 t]
    show _ = 3 * t.val + (y 0).val
    omega
  rw [after0_12]
  exact (H.out_r t y).trans (congrArg (statesA A) e.symm)

end Cert.Kernel2Ideal.Ret

end
-- ==== Proof.RetBack.lean ====
/- What a grid point of the retention's gradient stores, on the padded rows. -/
module

public import proofs.«01_k».proof.Proof.RetPoint

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

/-- A block of the backward pass holds chunk `n` of the arrays as its chunk `ci`, with the forward pass's outputs and states. -/
structure FitsB (A : Arr) (B : Blk) (ci : Fin 3) (n : Fin 33) : Prop extends FitsF A B ci n where
  o : ∀ h c e, B.o (ix2 (at3 ci c) (vcol h e)) = A.out h n c e
  r : ∀ p l x, B.r (ix4 ci p l x) = if lhead l = xhead x then A.st (hd p (lhead l)) n.val (llane l) (xlane x) else 0
  dy : ∀ c x, B.dy (ix2 (at3 ci c) x) = A.dy (row n c) x
  dmt : ∀ h c m, B.dmt (ix3 h c m) = A.dm h m c
  qdec : ∀ c j, B.qdec (ix2 c j) = A.qdec c j
  kdec : ∀ c j, B.kdec (ix2 c j) = A.kdec c j
  cos : ∀ c l, B.cos (ix2 (at3 ci c) l) = A.cos (row n c) l
  sin : ∀ c l, B.sin (ix2 (at3 ci c) l) = A.sin (row n c) l

section

variable {A : Arr} {B : Blk} {ci : Fin 3} {n : Fin 33} (F : FitsB A B ci n)
include F

theorem FitsB.drg (h : Fin 8) (c l : Fin 128) : drgB B ci h (ix2 c l) = A.dg h n c l := by
  rw [drgB, drg_at]
  simp only [oB_at, gB_at, dyB_at, gnB_at, F.o, F.g, F.dy, F.gain]
  rfl

theorem FitsB.dgn (h : Fin 8) (acc : FVec Ideal S1x128 .f32) (l : Fin 128) : dgnB B ci h acc (ix2 0 l)
    = acc (ix2 0 l) + ∑ c, don (A.gR h n c) (A.dyR h n c) l * xhat (A.oR h n c) l := by
  pointwise [dgnB]
  rw [dgn_at]
  simp only [oB_at, gB_at, dyB_at, F.o, F.g, F.dy]

theorem FitsB.doh (h : Fin 8) (c l : Fin 128) : dohB B ci h (ix2 c l) = A.dO h n c l := by
  rw [dohB, doh_at]
  simp only [oB_at, gB_at, dyB_at, gnB_at, F.o, F.g, F.dy, F.gain]
  rfl

theorem FitsB.lo_do (p : Fin 4) (c l : Fin 128) : lo (doB B ci p) (ix2 c l) = A.dO (hd p 0) n c l := by
  rw [lo_at]
  pointwise [doB]
  exact F.doh _ c l

theorem FitsB.hi_do (p : Fin 4) (c l : Fin 128) : hi (doB B ci p) (ix2 c l) = A.dO (hd p 1) n c l := by
  rw [hi_at]
  pointwise [doB]
  exact F.doh _ c l

theorem FitsB.do (p : Fin 4) (e : Fin 2) (c l : Fin 128) : doB B ci p (ix2 c (xcol e l)) = A.dO (hd p e) n c l := by
  match e with
  | 0 => exact (congrArg (fun x => doB B ci p (ix2 c x)) (Fin.ext (by simp [xcol]))).trans ((lo_at c l _).symm.trans (F.lo_do p c l))
  | 1 => exact (congrArg (fun x => doB B ci p (ix2 c x)) (Fin.ext (by simp [xcol]))).trans ((hi_at c l _).symm.trans (F.hi_do p c l))

theorem FitsB.v' (p : Fin 4) (e : Fin 2) (c l : Fin 128) : vB B ci p (ix2 c (xcol e l)) = A.v (row n c) (vcol (hd p e) l) := by
  rw [vB_at, F.v, pvcol_xcol]

theorem FitsB.lo_v (p : Fin 4) (c l : Fin 128) : lo (vB B ci p) (ix2 c l) = A.v (row n c) (vcol (hd p 0) l) :=
  (lo_at c l _).trans ((congrArg (fun x => vB B ci p (ix2 c x)) (Fin.ext (by simp [xcol]))).trans (F.v' p 0 c l))

theorem FitsB.hi_v (p : Fin 4) (c l : Fin 128) : hi (vB B ci p) (ix2 c l) = A.v (row n c) (vcol (hd p 1) l) :=
  (hi_at c l _).trans ((congrArg (fun x => vB B ci p (ix2 c x)) (Fin.ext (by simp [xcol]))).trans (F.v' p 1 c l))

theorem FitsB.q' (p : Fin 4) (e : Fin 2) (c : Fin 128) (j : Fin 64) : qB B ci p (ix2 c (lcol e j)) = A.q (row n c) (qcol (hd p e) j) := by
  rw [qB_at, F.q, pcol_lcol]

theorem FitsB.k' (p : Fin 4) (e : Fin 2) (c : Fin 128) (j : Fin 64) : kB B ci p (ix2 c (lcol e j)) = A.k (row n c) (qcol (hd p e) j) := by
  rw [kB_at, F.k, pcol_lcol]

omit F in
theorem own_lcol (e e' : Fin 2) (x : FVec Ideal S128x128 .bf16) (c : Fin 128) (j : Fin 64) :
    own (BitVec.ofNat 32 e'.val) x (ix2 c (lcol e j)) = if e = e' then x (ix2 c (lcol e j)) else 0 := by
  rw [own_at]
  have h : (lcol e j).val / 64 = e.val := congrArg Fin.val (lhead_lcol e j)
  rw [h]
  exact if_congr Fin.val_inj rfl rfl

theorem FitsB.st {p : Fin 4} {d : FVec Ideal S1x128x256 .f32} (j : ℕ) (hj : j + n.val = 32) (hs : StOk (fun h => A.dst h j) p d) :
    StOk (fun h => A.dst h (j + 1)) p (stB B ci p d) :=
  hs.next _ _ _ _ (fun l x => (gsB_at B p l x).trans (F.gs p l x)) F.bd fun e i x => by
    have hn : (⟨32 - j, by omega⟩ : Fin 33) = n := Fin.ext (by show 32 - j = n.val; omega)
    rw [Arr.dst, dif_pos (show j < 33 by omega), hn]
    simp only [qdB_at, F.do, F.qd, pcol_lcol]

theorem FitsB.dq (p : Fin 4) (e : Fin 2) (c : Fin 128) (j : Fin 64) : dqB B ci p (ix2 c (lcol e j)) = A.dqp (hd p e) n c j := by
  have hr : ∑ x, doB B ci p (ix2 c x) * rB B ci p (ix4 0 0 (lcol e j) x) = ∑ x, A.dO (hd p e) n c x * A.st (hd p e) n.val j x := by
    have hs : StOk (fun h => A.st h n.val) p (fun i => rB B ci p (ix4 0 0 (i 1) (i 2))) := fun l x => (rB_at B ci p l x).trans (F.r p l x)
    refine (hs.sum' (fun x => doB B ci p (ix2 c x)) e j).trans ?_
    simp only [F.do]
  rw [dqB, dq_at, hr, qdecB_at, F.qdec, pcol_lcol]
  simp only [F.lo_do, F.lo_v, F.hi_do, F.hi_v, dmB_at, F.dm]
  match e with
  | 0 =>
    have h0 : ∀ m, own 0#32 (kB B ci p) (ix2 m (lcol 0 j)) = A.k (row n m) (qcol (hd p 0) j) :=
      fun m => (own_lcol 0 0 _ m j).trans ((if_pos rfl).trans (F.k' p 0 m j))
    have h1 : ∀ m, own 1#32 (kB B ci p) (ix2 m (lcol 0 j)) = 0 := fun m => (own_lcol 0 1 _ m j).trans (if_neg (by decide))
    simp only [h0, h1, mul_zero, Finset.sum_const_zero, add_zero]
    rfl
  | 1 =>
    have h0 : ∀ m, own 0#32 (kB B ci p) (ix2 m (lcol 1 j)) = 0 := fun m => (own_lcol 1 0 _ m j).trans (if_neg (by decide))
    have h1 : ∀ m, own 1#32 (kB B ci p) (ix2 m (lcol 1 j)) = A.k (row n m) (qcol (hd p 1) j) :=
      fun m => (own_lcol 1 1 _ m j).trans ((if_pos rfl).trans (F.k' p 1 m j))
    simp only [h0, h1, mul_zero, Finset.sum_const_zero, add_zero]
    rfl

theorem FitsB.dk {p : Fin 4} {d : FVec Ideal S1x128x256 .f32} (hs : StOk (fun h => A.dst h (32 - n.val)) p d) (e : Fin 2) (c : Fin 128) (j : Fin 64) :
    dkB B ci p d (ix2 c (lcol e j)) = A.dkp (hd p e) n c j := by
  have hr : ∑ x, vB B ci p (ix2 c x) * d (ix3 0 (lcol e j) x) = ∑ x, A.v (row n c) (vcol (hd p e) x) * A.dst (hd p e) (32 - n.val) j x := by
    refine (hs.sum' (fun x => vB B ci p (ix2 c x)) e j).trans ?_
    simp only [F.v']
  rw [dkB, dk_at, hr, kdecB_at, F.kdec, pcol_lcol]
  simp only [F.lo_do, F.lo_v, F.hi_do, F.hi_v, dmtB_at, F.dmt]
  match e with
  | 0 =>
    have h0 : ∀ m, own 0#32 (qB B ci p) (ix2 m (lcol 0 j)) = A.q (row n m) (qcol (hd p 0) j) :=
      fun m => (own_lcol 0 0 _ m j).trans ((if_pos rfl).trans (F.q' p 0 m j))
    have h1 : ∀ m, own 1#32 (qB B ci p) (ix2 m (lcol 0 j)) = 0 := fun m => (own_lcol 0 1 _ m j).trans (if_neg (by decide))
    simp only [h0, h1, mul_zero, Finset.sum_const_zero, add_zero]
    rfl
  | 1 =>
    have h0 : ∀ m, own 0#32 (qB B ci p) (ix2 m (lcol 1 j)) = 0 := fun m => (own_lcol 1 0 _ m j).trans (if_neg (by decide))
    have h1 : ∀ m, own 1#32 (qB B ci p) (ix2 m (lcol 1 j)) = A.q (row n m) (qcol (hd p 1) j) :=
      fun m => (own_lcol 1 1 _ m j).trans ((if_pos rfl).trans (F.q' p 1 m j))
    simp only [h0, h1, mul_zero, Finset.sum_const_zero, add_zero]
    rfl

theorem FitsB.dv {p : Fin 4} {d : FVec Ideal S1x128x256 .f32} (hs : StOk (fun h => A.dst h (32 - n.val)) p d) (e : Fin 2) (c l : Fin 128) :
    dvB B ci p d (ix2 c (xcol e l)) = A.dv (hd p e) n c l := by
  have hx : ∑ k', kdB B ci p (ix2 c k') * d (ix3 0 k' (xcol e l)) = ∑ j, A.kd (row n c) (qcol (hd p e) j) * A.dst (hd p e) (32 - n.val) j l :=
    (hs.sum (fun k' => kdB B ci p (ix2 c k')) e l).trans (by simp only [kdB_at, F.kd, pcol_lcol])
  have hq : ∀ m, ∑ k', kB B ci p (ix2 c k') * own (BitVec.ofNat 32 e.val) (qB B ci p) (ix2 m k')
      = ∑ j, A.k (row n c) (qcol (hd p e) j) * A.q (row n m) (qcol (hd p e) j) :=
    fun m => (own_sum' e _ _ m c).trans (by simp only [F.q', F.k'])
  match e with
  | 0 =>
    have e0 : xcol 0 l = (⟨l.val, by omega⟩ : Fin 256) := Fin.ext (by simp [xcol])
    rw [e0] at hx ⊢
    rw [dvB, dv0_at, hx]
    have hq' : ∀ m, ∑ k', kB B ci p (ix2 c k') * own 0#32 (qB B ci p) (ix2 m k')
      = ∑ j, A.k (row n c) (qcol (hd p 0) j) * A.q (row n m) (qcol (hd p 0) j) := hq
    simp only [hq', F.lo_do, dmtB_at, F.dmt]
    rfl
  | 1 =>
    have e0 : xcol 1 l = (⟨128 + l.val, by omega⟩ : Fin 256) := Fin.ext (by simp [xcol])
    rw [e0] at hx ⊢
    rw [dvB, dv1_at, hx]
    have hq' : ∀ m, ∑ k', kB B ci p (ix2 c k') * own 1#32 (qB B ci p) (ix2 m k')
      = ∑ j, A.k (row n c) (qcol (hd p 1) j) * A.q (row n m) (qcol (hd p 1) j) := hq
    simp only [hq', F.hi_do, dmtB_at, F.dmt]
    rfl

end

/-- Which pair of heads and which of its lanes a column belongs to. -/
def cpair (j : Fin 512) : Fin 4 := ⟨j.val / 128, by omega⟩
def clane (j : Fin 512) : Fin 128 := ⟨j.val % 128, by omega⟩

theorem tile4_at (x : Fin 4 → FVec Ideal S128x128 .f32) (r : Fin 128) (j : Fin 512) :
    tile4 (x 0) (x 1) (x 2) (x 3) (ix2 r j) = x (cpair j) (ix2 r (clane j)) := by
  have hj := j.isLt
  pointwise [tile4]
  split_ifs <;> exact congrArg₂ (fun p l => x p (ix2 r l)) (Fin.ext (by simp [cpair]; omega)) (Fin.ext (by simp [clane]; omega))

theorem clane_of (j : Fin 512) : clane j = lcol (lhead (clane j)) (qlane j) := Fin.ext (by simp only [clane, lcol, lhead, qlane]; omega)
theorem qhead_of (j : Fin 512) : qhead j = hd (cpair j) (lhead (clane j)) := Fin.ext (by simp only [clane, lhead, qhead, cpair]; omega)

section

variable {A : Arr} {B : Blk} {ci : Fin 3} {n : Fin 33} (F : FitsB A B ci n)
include F

theorem FitsB.dqC (c : Fin 128) (j : Fin 512) : dqC B ci (ix2 c j) = A.dq n c j := by
  have h : ∀ j, dqB B ci (cpair j) (ix2 c (clane j)) = A.dqp (qhead j) n c (qlane j) := fun j => by
    rw [clane_of, F.dq, ← qhead_of]
  rw [Ret.dqC, unrot_at]
  simp only [tile4_at (fun p => dqB B ci p), h, cosB_at, sinB_at, F.cos, F.sin]
  rfl

theorem FitsB.dkC {d : Fin 4 → FVec Ideal S1x128x256 .f32} (hs : ∀ p, StOk (fun h => A.dst h (32 - n.val)) p (d p)) (c : Fin 128) (j : Fin 512) :
    dkC B ci d (ix2 c j) = A.dk n c j := by
  have h : ∀ j, dkB B ci (cpair j) (d (cpair j)) (ix2 c (clane j)) = A.dkp (qhead j) n c (qlane j) := fun j => by
    rw [clane_of, F.dk (hs _), ← qhead_of]
  rw [Ret.dkC, unrot_at]
  pointwise [mulf]
  simp only [tile4_at (fun p => dkB B ci p (d p)), h, cosB_at, sinB_at, F.cos, F.sin]
  rfl

end

end Cert.Kernel2Ideal.Ret

end
-- ==== Proof.RetBackPts.lean ====
/- A point of the backward pass: the pieces it stores. -/
module

public import proofs.«01_k».proof.Proof.RetStates
public import proofs.«01_k».proof.Proof.RetBack
public import proofs.«01_k».proof.Proof.BackPass

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (V : (c : Dev nD) → (b : Ref sig .tc) → Buf (Elt Ideal) ((c : Thread nD τ).loc b)) (c : Dev nD) (t : Fin cfg1.N)

/-- The blocks point `t` reads. -/
def BB : Blk where
  q := iblk1 V c 0 t
  k := iblk1 V c 1 t
  qd := iblk1 V c 2 t
  kd := iblk1 V c 3 t
  v := iblk1 V c 4 t
  g := iblk1 V c 5 t
  o := iblk1 V c 6 t
  r := iblk1 V c 7 t
  dy := iblk1 V c 8 t
  gain := iblk1 V c 9 t
  cos := iblk1 V c 10 t
  sin := iblk1 V c 11 t
  dm := iblk1 V c 12 t
  dmt := iblk1 V c 13 t
  qdec := iblk1 V c 14 t
  kdec := iblk1 V c 15 t
  gs := iblk1 V c 16 t
  bd := iblk1 V c 17 t

/-- The states' gradients after each chunk of a point, last chunk first, from those the point starts with. -/
def dB (d : Fin 4 → FVec Ideal S1x128x256 .f32) : ℕ → Fin 4 → FVec Ideal S1x128x256 .f32
  | 0 => d
  | 1 => fun p => stB (BB V c t) 2 p (d p)
  | 2 => fun p => stB (BB V c t) 1 p (stB (BB V c t) 2 p (d p))
  | _ => fun p => stB (BB V c t) 0 p (stB (BB V c t) 1 p (stB (BB V c t) 2 p (d p)))

/-- What the point before left of the gain's gradient. -/
abbrev before1g : Vec Ideal S1x1024 .f32 := (outsAt1 V c (t.val - 1) (Nat.lt_of_le_of_lt (Nat.sub_le _ _) t.isLt)).2.2.2.2.1
/-- What the point before left of the states' gradients. -/
abbrev before1s : Vec Ideal S4x128x256 .f32 := (outsAt1 V c (t.val - 1) (Nat.lt_of_le_of_lt (Nat.sub_le _ _) t.isLt)).2.2.2.2.2

/-- A window of three chunks of the queries' or keys' rows. -/
def rowQ (f : Fin 33 → Fin 128 → Fin 512 → EReal) (n : Fin 3 → Fin 33) (y : S384x512.Idx) : EReal := f (n (ciOf (y 0))) (plOf (y 0)) (y 1)

theorem ciOf_at3 (ci : Fin 3) (c : Fin 128) : ciOf (at3 ci c) = ci := Fin.ext (by show (ci.val * 128 + c.val) / 128 = _; omega)
theorem plOf_at3 (ci : Fin 3) (c : Fin 128) : plOf (at3 ci c) = c := Fin.ext (by show (ci.val * 128 + c.val) % 128 = _; omega)

theorem rowQ_at {f : Fin 33 → Fin 128 → Fin 512 → EReal} {n : Fin 3 → Fin 33} {φ : FTy} (ci : Fin 3) (w : FVec Ideal S128x512 φ)
    (hw : ∀ c j, w (ix2 c j) = f (n ci) c j) (x : S128x512.Idx) : w x = rowQ f n ((r512w ci).emb x) := by
  have e0 : (((r512w ci).emb x 0 : Fin 384)) = at3 ci (x 0) := Fin.ext (ValueKit.rect_emb_unit_val _ _ _ _ 0)
  have e1 : (((r512w ci).emb x 1 : Fin 512)) = x 1 := Fin.ext ((ValueKit.rect_emb_unit_val _ _ _ _ 1).trans (Nat.zero_add _))
  refine (congrArg w (eq_ix2 (n0 := 128) (n1 := 512) x)).trans ((hw _ _).trans ?_)
  show _ = f (n (ciOf ((r512w ci).emb x 0))) (plOf ((r512w ci).emb x 0)) ((r512w ci).emb x 1)
  have c0 : ciOf (at3 ci (x 0)) = ci := ciOf_at3 ci (x 0)
  have c1 : plOf (at3 ci (x 0)) = x 0 := plOf_at3 ci (x 0)
  rw [e0, e1, c0, c1]

theorem rowG_at2 {f : Fin 8 → Fin 33 → Fin 128 → Fin 128 → EReal} {n : Fin 3 → Fin 33} {φ : FTy} (ci : Fin 3) (p : Fin 4)
    (w : FVec Ideal S128x256 φ) (hw : ∀ e c l, w (ix2 c (xcol e l)) = f (hd p e) (n ci) c l) (x : S128x256.Idx) :
    w x = rowG f n ((r1024w ci p).emb x) := by
  have e0 : (((r1024w ci p).emb x 0 : Fin 384)) = at3 ci (x 0) := Fin.ext (ValueKit.rect_emb_unit_val _ _ _ _ 0)
  have e1 : (((r1024w ci p).emb x 1 : Fin 1024)) = vcol (hd p (xhead (x 1))) (xlane (x 1)) :=
    (Fin.ext (ValueKit.rect_emb_unit_val _ _ _ _ 1) : _ = pvcol p (x 1)).trans
      ((congrArg (pvcol p) (xcol_of (x 1)).symm).trans (pvcol_xcol p _ _))
  refine (congrArg w ((eq_ix2 (n0 := 128) (n1 := 256) x).trans (congrArg (ix2 (x 0)) (xcol_of (x 1)).symm))).trans ((hw _ _ _).trans ?_)
  show _ = f (vhead ((r1024w ci p).emb x 1)) (n (ciOf ((r1024w ci p).emb x 0))) (plOf ((r1024w ci p).emb x 0)) (vlane ((r1024w ci p).emb x 1))
  have c0 : ciOf (at3 ci (x 0)) = ci := ciOf_at3 ci (x 0)
  have c1 : plOf (at3 ci (x 0)) = x 0 := plOf_at3 ci (x 0)
  rw [e0, e1, c0, c1]
  exact (congrArg₂ (fun a b => f a (n ci) (x 0) b) (vhead_vcol _ _) (vlane_vcol _ _)).symm

/-- The gain's gradient, head by head. -/
def gnG (f : Fin 8 → Fin 128 → EReal) : Vec Ideal S1x1024 .f32 := fun y => f (vhead (y 1)) (vlane (y 1))

theorem rGain_emb (h : Fin 8) (x : S1x128.Idx) : (((rGain h).emb x 1 : Fin 1024)) = vcol h (x 1) := Fin.ext (ValueKit.rect_emb_unit_val _ _ _ _ 1)

theorem gnG_at {f : Fin 8 → Fin 128 → EReal} {h : Fin 8} {w : FVec Ideal S1x128 .f32} (hw : ∀ l, w (ix2 0 l) = f h l) (x : S1x128.Idx) :
    w x = gnG f ((rGain h).emb x) := by
  have ex : x = ix2 0 (x 1) := (eq_ix2 (n0 := 1) (n1 := 128) x).trans (congrArg (fun z : Fin 1 => ix2 z (x 1)) (Subsingleton.elim _ _))
  refine (congrArg w ex).trans ((hw _).trans ?_)
  show _ = f (vhead ((rGain h).emb x 1)) (vlane ((rGain h).emb x 1))
  rw [rGain_emb]
  exact (congrArg₂ f (vhead_vcol _ _) (vlane_vcol _ _)).symm

theorem gnG_ld {f : Fin 8 → Fin 128 → EReal} {X : Vec Ideal S1x1024 .f32} (hX : ∀ y, X y = gnG f y) (h : Fin 8) (l : Fin 128) :
    View.ld X (rGain h) (ix2 0 l) = f h l := by
  refine (hX _).trans ?_
  show f (vhead ((rGain h).emb (ix2 0 l) 1)) (vlane ((rGain h).emb (ix2 0 l) 1)) = _
  rw [rGain_emb]
  exact congrArg₂ f (vhead_vcol _ _) (vlane_vcol _ _)

/-- The last eight stores of a point leave the gain's gradient. -/
theorem canon_gn (f : Fin 8 → Fin 128 → EReal) (d7 d6 d5 d4 d3 d2 d1 d0 : FVec Ideal S1x128 .f32)
    (hf : (∀ l, d7 (ix2 0 l) = f 7 l) ∧ (∀ l, d6 (ix2 0 l) = f 6 l) ∧ (∀ l, d5 (ix2 0 l) = f 5 l) ∧ (∀ l, d4 (ix2 0 l) = f 4 l)
      ∧ (∀ l, d3 (ix2 0 l) = f 3 l) ∧ (∀ l, d2 (ix2 0 l) = f 2 l) ∧ (∀ l, d1 (ix2 0 l) = f 1 l) ∧ ∀ l, d0 (ix2 0 l) = f 0 l)
    (L : List (View.Piece (Elt Ideal) S1x1024 .f32)) (y : S1x1024.Idx) :
    View.canon (⟨rGain 7, d7⟩ :: ⟨rGain 6, d6⟩ :: ⟨rGain 5, d5⟩ :: ⟨rGain 4, d4⟩ :: ⟨rGain 3, d3⟩ :: ⟨rGain 2, d2⟩ :: ⟨rGain 1, d1⟩
      :: ⟨rGain 0, d0⟩ :: L) y = gnG f y := by
  obtain ⟨h7, h6, h5, h4, h3, h2, h1, h0⟩ := hf
  refine View.canon_append_of_piecesOf (Val := Elt Ideal) (gnG f) L
    [⟨rGain 7, d7⟩, ⟨rGain 6, d6⟩, ⟨rGain 5, d5⟩, ⟨rGain 4, d4⟩, ⟨rGain 3, d3⟩, ⟨rGain 2, d2⟩, ⟨rGain 1, d1⟩, ⟨rGain 0, d0⟩]
    ⟨gnG_at h7, gnG_at h6, gnG_at h5, gnG_at h4, gnG_at h3, gnG_at h2, gnG_at h1, gnG_at h0, trivial⟩ y ?_
  exact View.cover_of_tiledL (s := S1x1024) _ S1x128.size (by sl_kernel_rfl) y

/-- One chunk's part of the gain's gradient. -/
def gpart (A : Arr) (h : Fin 8) (n : Fin 33) (l : Fin 128) : EReal := ∑ c, don (A.gR h n c) (A.dyR h n c) l * xhat (A.oR h n c) l

variable {V c t} {A : Arr} {n : Fin 3 → Fin 33}

/-- The states' gradients at each chunk of a point. -/
theorem dB_ok {d : Fin 4 → FVec Ideal S1x128x256 .f32} (F : ∀ ci, FitsB A (BB V c t) ci (n ci)) {k : ℕ} (hk : k ≤ 30)
    (hn : ∀ ci, (n ci).val = k + ci.val) (hd : ∀ p, StOk (fun h => A.dst h (30 - k)) p (d p)) :
    ∀ i : ℕ, i ≤ 3 → ∀ p, StOk (fun h => A.dst h (30 - k + i)) p (dB V c t d i p)
  | 0, _, p => hd p
  | 1, _, p => (F 2).st (30 - k) (by rw [hn]; show 30 - k + (k + 2) = 32; omega) (hd p)
  | 2, _, p => (F 1).st (30 - k + 1) (by rw [hn]; show 30 - k + 1 + (k + 1) = 32; omega) (dB_ok F hk hn hd 1 (by omega) p)
  | 3, _, p => (F 0).st (30 - k + 2) (by rw [hn]; show 30 - k + 2 + (k + 0) = 32; omega) (dB_ok F hk hn hd 2 (by omega) p)
  | i + 4, h, _ => absurd h (by omega)

section

variable {d : Fin 4 → FVec Ideal S1x128x256 .f32} (F : ∀ ci, FitsB A (BB V c t) ci (n ci)) {k : ℕ} (hk : k ≤ 30)
  (hn : ∀ ci, (n ci).val = k + ci.val) (hd : ∀ p, StOk (fun h => A.dst h (30 - k)) p (d p))

include F

theorem dq_piece (ci : Fin 3) (x : S128x512.Idx) : dqC (BB V c t) ci x = rowQ A.dq n ((r512w ci).emb x) :=
  rowQ_at ci _ (fun r j => (F ci).dqC r j) x

theorem drg_piece (ci : Fin 3) (h : Fin 8) (x : S128x128.Idx) : drgB (BB V c t) ci h x = rowG A.dg n ((r1024 ci h).emb x) :=
  rowG_at ci h _ (fun r l => (F ci).drg h r l) x

theorem gn_piece {f : Fin 8 → Fin 128 → EReal} {X : Vec Ideal S1x1024 .f32} (hX : ∀ y, X y = gnG f y) (h : Fin 8) (l : Fin 128) :
    dgnB (BB V c t) 0 h (dgnB (BB V c t) 1 h (dgnB (BB V c t) 2 h (View.ld X (rGain h)))) (ix2 0 l)
      = f h l + gpart A h (n 2) l + gpart A h (n 1) l + gpart A h (n 0) l := by
  rw [(F 0).dgn, (F 1).dgn, (F 2).dgn, gnG_ld hX]
  rfl

include hk hn hd

theorem back_ok (ci : Fin 3) (p : Fin 4) : StOk (fun h => A.dst h (32 - (n ci).val)) p (dB V c t d (2 - ci.val) p) := by
  have h := dB_ok F hk hn hd (2 - ci.val) (by omega) p
  rw [show 30 - k + (2 - ci.val) = 32 - (n ci).val by rw [hn]; omega] at h
  exact h

theorem dk_piece (ci : Fin 3) (x : S128x512.Idx) : dkC (BB V c t) ci (dB V c t d (2 - ci.val)) x = rowQ A.dk n ((r512w ci).emb x) :=
  rowQ_at ci _ (fun r j => (F ci).dkC (back_ok F hk hn hd ci) r j) x

theorem dv_piece (ci : Fin 3) (p : Fin 4) (x : S128x256.Idx) :
    dvB (BB V c t) ci p (dB V c t d (2 - ci.val) p) x = rowG A.dv n ((r1024w ci p).emb x) :=
  rowG_at2 ci p _ (fun e r l => (F ci).dv (back_ok F hk hn hd ci p) e r l) x

end

end Cert.Kernel2Ideal.Ret

end
-- ==== Proof.RetKernelB.lean ====
/- The arrays the backward pass reads, block by block. -/
module

public import proofs.«01_k».proof.Proof.RetKernelF
public import proofs.«01_k».proof.Proof.RetBackPts

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (V : (c : Dev nD) → (b : Ref sig .tc) → Buf (Elt Ideal) ((c : Thread nD τ).loc b)) (c : Dev nD)

/-- The arrays the backward pass reads are those of `A`, its outputs and states with them. -/
structure HoldB (A : Arr) : Prop extends HoldF V c A where
  o : ∀ R x, (V c main_v92_0 : S4224x1024.Idx → EReal) (ix2 R x) = rowsA A.out (ix2 R x)
  r : ∀ n p l x, (V c main_v92_2 : S33x4x128x256.Idx → EReal) (ix4 n p l x) = statesA A (ix4 n p l x)
  dy : ∀ R x, (V c main_v6 : S4224x1024.Idx → EReal) (ix2 R x) = A.dy R x
  cos : ∀ R l, (V c main_v20 : S4224x128.Idx → EReal) (ix2 R l) = A.cos R l
  sin : ∀ R l, (V c main_v22 : S4224x128.Idx → EReal) (ix2 R l) = A.sin R l
  dmt : ∀ h a b, (V c main_v93 : S8x128x128.Idx → EReal) (ix3 h a b) = A.dm h b a
  qdec : ∀ a j, (V c main_v66 : S128x512.Idx → EReal) (ix2 a j) = A.qdec a j
  kdec : ∀ a j, (V c main_v63 : S128x512.Idx → EReal) (ix2 a j) = A.kdec a j

/-- Every window's block index at a grid point. -/
theorem idx1 : ∀ t : Fin cfg1.N, win1_0.index t = ![10 - t.val, 0] ∧ win1_1.index t = ![10 - t.val, 0] ∧ win1_2.index t = ![10 - t.val, 0] ∧ win1_3.index t = ![10 - t.val, 0] ∧ win1_4.index t = ![10 - t.val, 0] ∧ win1_5.index t = ![10 - t.val, 0] ∧ win1_6.index t = ![10 - t.val, 0] ∧ win1_8.index t = ![10 - t.val, 0] ∧ win1_10.index t = ![10 - t.val, 0] ∧ win1_11.index t = ![10 - t.val, 0] ∧ win1_18.index t = ![10 - t.val, 0] ∧ win1_19.index t = ![10 - t.val, 0] ∧ win1_20.index t = ![10 - t.val, 0] ∧ win1_21.index t = ![10 - t.val, 0] ∧ win1_9.index t = ![0, 0] ∧ win1_14.index t = ![0, 0] ∧ win1_15.index t = ![0, 0] ∧ win1_17.index t = ![0, 0] ∧ win1_22.index t = ![0, 0] ∧ win1_12.index t = ![0, 0, 0] ∧ win1_13.index t = ![0, 0, 0] ∧ win1_16.index t = ![0, 0, 0] ∧ win1_23.index t = ![0, 0, 0] ∧ win1_7.index t = ![10 - t.val, 0, 0, 0] ∧ t.val < 11 :=
  (by decide +kernel : ∀ t : Fin grid1.N, _)

theorem lt1 (t : Fin cfg1.N) : t.val < 11 := t.isLt.trans_eq N_1

/-- Chunk `ci` of point `t`: the pass runs from the last block to the first. -/
abbrev chB (t : Fin cfg1.N) (ci : Fin 3) : Fin 33 := ch ⟨10 - t.val, by omega⟩ ci

theorem chB_val (t : Fin cfg1.N) (ci : Fin 3) : (chB t ci).val = 3 * (10 - t.val) + ci.val := rfl

variable {V c} {A : Arr}

theorem rowsA_vcol (f : Fin 8 → Fin 33 → Fin 128 → Fin 128 → EReal) (h : Fin 8) (n : Fin 33) (a e : Fin 128) :
    rowsA f (ix2 (row n a) (vcol h e)) = f h n a e :=
  (rowsA_at f n a (vcol h e)).trans (congrArg₂ (fun u w => f u n a w) (vhead_vcol h e) (vlane_vcol h e))

set_option maxHeartbeats 1000000 in
theorem HoldB.at_q (H : HoldB V c A) (t : Fin cfg1.N) (ci : Fin 3) (a : Fin 128) (b : Fin 512) : (BB V c t).q (ix2 (at3 ci a) b) = A.q (row (chB t ci) a) b := by
  have e : (win1_0.blk t).view.emb ((ix2 (at3 ci a) b)) = ix2 (row (chB t ci) a) b := by
    blk_ext [idx1 t]
    show _ = (3 * (10 - t.val) + ci.val) * 128 + a.val
    simp only [at3]
    omega
  exact (congrArg (V c main_v77) e).trans (H.q _ _)

set_option maxHeartbeats 1000000 in
theorem HoldB.at_k (H : HoldB V c A) (t : Fin cfg1.N) (ci : Fin 3) (a : Fin 128) (b : Fin 512) : (BB V c t).k (ix2 (at3 ci a) b) = A.k (row (chB t ci) a) b := by
  have e : (win1_1.blk t).view.emb ((ix2 (at3 ci a) b)) = ix2 (row (chB t ci) a) b := by
    blk_ext [idx1 t]
    show _ = (3 * (10 - t.val) + ci.val) * 128 + a.val
    simp only [at3]
    omega
  exact (congrArg (V c main_v78) e).trans (H.k _ _)

set_option maxHeartbeats 1000000 in
theorem HoldB.at_qd (H : HoldB V c A) (t : Fin cfg1.N) (ci : Fin 3) (a : Fin 128) (b : Fin 512) : (BB V c t).qd (ix2 (at3 ci a) b) = A.qd (row (chB t ci) a) b := by
  have e : (win1_2.blk t).view.emb ((ix2 (at3 ci a) b)) = ix2 (row (chB t ci) a) b := by
    blk_ext [idx1 t]
    show _ = (3 * (10 - t.val) + ci.val) * 128 + a.val
    simp only [at3]
    omega
  exact (congrArg (V c main_v84) e).trans (H.qd _ _)

set_option maxHeartbeats 1000000 in
theorem HoldB.at_kd (H : HoldB V c A) (t : Fin cfg1.N) (ci : Fin 3) (a : Fin 128) (b : Fin 512) : (BB V c t).kd (ix2 (at3 ci a) b) = A.kd (row (chB t ci) a) b := by
  have e : (win1_3.blk t).view.emb ((ix2 (at3 ci a) b)) = ix2 (row (chB t ci) a) b := by
    blk_ext [idx1 t]
    show _ = (3 * (10 - t.val) + ci.val) * 128 + a.val
    simp only [at3]
    omega
  exact (congrArg (V c main_v90) e).trans (H.kd _ _)

set_option maxHeartbeats 1000000 in
theorem HoldB.at_v (H : HoldB V c A) (t : Fin cfg1.N) (ci : Fin 3) (a : Fin 128) (b : Fin 1024) : (BB V c t).v (ix2 (at3 ci a) b) = A.v (row (chB t ci) a) b := by
  have e : (win1_4.blk t).view.emb ((ix2 (at3 ci a) b)) = ix2 (row (chB t ci) a) b := by
    blk_ext [idx1 t]
    show _ = (3 * (10 - t.val) + ci.val) * 128 + a.val
    simp only [at3]
    omega
  exact (congrArg (V c main_v91) e).trans (H.v _ _)

set_option maxHeartbeats 1000000 in
theorem HoldB.at_g (H : HoldB V c A) (t : Fin cfg1.N) (ci : Fin 3) (a : Fin 128) (b : Fin 1024) : (BB V c t).g (ix2 (at3 ci a) b) = A.g (row (chB t ci) a) b := by
  have e : (win1_5.blk t).view.emb ((ix2 (at3 ci a) b)) = ix2 (row (chB t ci) a) b := by
    blk_ext [idx1 t]
    show _ = (3 * (10 - t.val) + ci.val) * 128 + a.val
    simp only [at3]
    omega
  exact (congrArg (V c main_v5) e).trans (H.g _ _)

set_option maxHeartbeats 1000000 in
theorem HoldB.at_dy (H : HoldB V c A) (t : Fin cfg1.N) (ci : Fin 3) (a : Fin 128) (b : Fin 1024) : (BB V c t).dy (ix2 (at3 ci a) b) = A.dy (row (chB t ci) a) b := by
  have e : (win1_8.blk t).view.emb ((ix2 (at3 ci a) b)) = ix2 (row (chB t ci) a) b := by
    blk_ext [idx1 t]
    show _ = (3 * (10 - t.val) + ci.val) * 128 + a.val
    simp only [at3]
    omega
  exact (congrArg (V c main_v6) e).trans (H.dy _ _)

set_option maxHeartbeats 1000000 in
theorem HoldB.at_cos (H : HoldB V c A) (t : Fin cfg1.N) (ci : Fin 3) (a : Fin 128) (b : Fin 128) : (BB V c t).cos (ix2 (at3 ci a) b) = A.cos (row (chB t ci) a) b := by
  have e : (win1_10.blk t).view.emb ((ix2 (at3 ci a) b)) = ix2 (row (chB t ci) a) b := by
    blk_ext [idx1 t]
    show _ = (3 * (10 - t.val) + ci.val) * 128 + a.val
    simp only [at3]
    omega
  exact (congrArg (V c main_v20) e).trans (H.cos _ _)

set_option maxHeartbeats 1000000 in
theorem HoldB.at_sin (H : HoldB V c A) (t : Fin cfg1.N) (ci : Fin 3) (a : Fin 128) (b : Fin 128) : (BB V c t).sin (ix2 (at3 ci a) b) = A.sin (row (chB t ci) a) b := by
  have e : (win1_11.blk t).view.emb ((ix2 (at3 ci a) b)) = ix2 (row (chB t ci) a) b := by
    blk_ext [idx1 t]
    show _ = (3 * (10 - t.val) + ci.val) * 128 + a.val
    simp only [at3]
    omega
  exact (congrArg (V c main_v22) e).trans (H.sin _ _)

set_option maxHeartbeats 1000000 in
theorem HoldB.at_o (H : HoldB V c A) (t : Fin cfg1.N) (ci : Fin 3) (h : Fin 8) (a x : Fin 128) : (BB V c t).o (ix2 (at3 ci a) (vcol h x)) = A.out h (chB t ci) a x := by
  have e : (win1_6.blk t).view.emb ((ix2 (at3 ci a) (vcol h x))) = ix2 (row (chB t ci) a) (vcol h x) := by
    blk_ext [idx1 t]
    show _ = (3 * (10 - t.val) + ci.val) * 128 + a.val
    simp only [at3]
    omega
  exact (congrArg (V c main_v92_0) e).trans ((H.o _ _).trans (rowsA_vcol A.out h (chB t ci) a x))

set_option maxHeartbeats 1000000 in
theorem HoldB.at_r (H : HoldB V c A) (t : Fin cfg1.N) (ci : Fin 3) (p : Fin 4) (l : Fin 128) (x : Fin 256) : (BB V c t).r (ix4 ci p l x) = (if lhead l = xhead x then A.st (hd p (lhead l)) (chB t ci).val (llane l) (xlane x) else 0 : EReal) := by
  have e : (win1_7.blk t).view.emb ((ix4 ci p l x)) = ix4 (chB t ci) p l x := by
    blk_ext [idx1 t]
    show _ = 3 * (10 - t.val) + ci.val
    omega
  exact (congrArg (V c main_v92_2) e).trans (H.r _ _ _ _)

set_option maxHeartbeats 1000000 in
theorem HoldB.at_gain (H : HoldB V c A) (t : Fin cfg1.N) (ci : Fin 3) (x : Fin 1024) : (BB V c t).gain (ix2 0 x : S1x1024.Idx) = A.gain x := by
  have e : (win1_9.blk t).view.emb ((ix2 0 x : S1x1024.Idx)) = (ix2 0 x : S1x1024.Idx) := by
    blk_ext [idx1 t]
  exact (congrArg (V c main_arg4) e).trans (H.gain _)

set_option maxHeartbeats 1000000 in
theorem HoldB.at_dm (H : HoldB V c A) (t : Fin cfg1.N) (ci : Fin 3) (h : Fin 8) (x y : Fin 128) : (BB V c t).dm (ix3 h x y : S8x128x128.Idx) = A.dm h x y := by
  have e : (win1_12.blk t).view.emb ((ix3 h x y : S8x128x128.Idx)) = (ix3 h x y : S8x128x128.Idx) := by
    blk_ext [idx1 t]
  exact (congrArg (V c main_v56) e).trans (H.dm _ _ _)

set_option maxHeartbeats 1000000 in
theorem HoldB.at_dmt (H : HoldB V c A) (t : Fin cfg1.N) (ci : Fin 3) (h : Fin 8) (x y : Fin 128) : (BB V c t).dmt (ix3 h x y : S8x128x128.Idx) = A.dm h y x := by
  have e : (win1_13.blk t).view.emb ((ix3 h x y : S8x128x128.Idx)) = (ix3 h x y : S8x128x128.Idx) := by
    blk_ext [idx1 t]
  exact (congrArg (V c main_v93) e).trans (H.dmt _ _ _)

set_option maxHeartbeats 1000000 in
theorem HoldB.at_qdec (H : HoldB V c A) (t : Fin cfg1.N) (ci : Fin 3) (x : Fin 128) (y : Fin 512) : (BB V c t).qdec (ix2 x y : S128x512.Idx) = A.qdec x y := by
  have e : (win1_14.blk t).view.emb ((ix2 x y : S128x512.Idx)) = (ix2 x y : S128x512.Idx) := by
    blk_ext [idx1 t]
  exact (congrArg (V c main_v66) e).trans (H.qdec _ _)

set_option maxHeartbeats 1000000 in
theorem HoldB.at_kdec (H : HoldB V c A) (t : Fin cfg1.N) (ci : Fin 3) (x : Fin 128) (y : Fin 512) : (BB V c t).kdec (ix2 x y : S128x512.Idx) = A.kdec x y := by
  have e : (win1_15.blk t).view.emb ((ix2 x y : S128x512.Idx)) = (ix2 x y : S128x512.Idx) := by
    blk_ext [idx1 t]
  exact (congrArg (V c main_v63) e).trans (H.kdec _ _)

set_option maxHeartbeats 1000000 in
theorem HoldB.at_gs (H : HoldB V c A) (t : Fin cfg1.N) (ci : Fin 3) (p : Fin 4) (l : Fin 128) (x : Fin 256) : (BB V c t).gs (ix3 p l x : S4x128x256.Idx) = A.gs (hd p (lhead l)) := by
  have e : (win1_16.blk t).view.emb ((ix3 p l x : S4x128x256.Idx)) = (ix3 p l x : S4x128x256.Idx) := by
    blk_ext [idx1 t]
  exact (congrArg (V c main_v70) e).trans (H.gs _ _ _)

set_option maxHeartbeats 1000000 in
theorem HoldB.at_bd (H : HoldB V c A) (t : Fin cfg1.N) (ci : Fin 3) (l : Fin 128) (x : Fin 256) : (BB V c t).bd (ix2 l x : S128x256.Idx) = (if lhead l = xhead x then (1 : EReal) else 0 : EReal) := by
  have e : (win1_17.blk t).view.emb ((ix2 l x : S128x256.Idx)) = (ix2 l x : S128x256.Idx) := by
    blk_ext [idx1 t]
  exact (congrArg (V c main_v76) e).trans (H.bd _ _)

theorem HoldB.fits (H : HoldB V c A) (t : Fin cfg1.N) (ci : Fin 3) : FitsB A (BB V c t) ci (chB t ci) where
  q := H.at_q t ci
  k := H.at_k t ci
  qd := H.at_qd t ci
  kd := H.at_kd t ci
  v := H.at_v t ci
  g := H.at_g t ci
  gain := H.at_gain t ci
  dm := H.at_dm t ci
  gs := H.at_gs t ci
  bd := H.at_bd t ci
  o := H.at_o t ci
  r := H.at_r t ci
  dy := H.at_dy t ci
  dmt := H.at_dmt t ci
  qdec := H.at_qdec t ci
  kdec := H.at_kdec t ci
  cos := H.at_cos t ci
  sin := H.at_sin t ci

end Cert.Kernel2Ideal.Ret

end
-- ==== Proof.RetBackA.lean ====
/- What the first point of the backward pass leaves in its windows. -/
module

public import proofs.«01_k».proof.Proof.RetBackPts

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable {V : (c : Dev nD) → (b : Ref sig .tc) → Buf (Elt Ideal) ((c : Thread nD τ).loc b)} {c : Dev nD} {t : Fin cfg1.N} {A : Arr} {n : Fin 3 → Fin 33}

/-- The zero states the first point starts from. -/
abbrev zero1 : Vec Ideal S4x128x256 .f32 := k1_pay2 (F := Ideal)

set_option maxHeartbeats 4000000 in
theorem dq_A (F : ∀ ci, FitsB A (BB V c t) ci (n ci)) (h : t.val % 11 = 0) (y) :
    (outsAt1 V c t.val t.isLt).1 y = rowQ A.dq n y := by
  rw [outsAt1_A V c t h]
  frame_open
  unfold runA
  frame_out [↓View.readCov_cons_toLoadRect, ↓View.readCov_skip, ↓View.readCov_fill]
  have P := dq_piece F
  refine View.canon_apply_of_pieces (Val := Elt Ideal) (e := .bf16) (rowQ A.dq n) _ (View.PiecesOf.mem ?_) y
    (View.cover_of_tiledL (s := S384x512) _ S128x512.size (by sl_kernel_rfl) y)
  have H := And.intro (P 0) <| And.intro (P 1) <| And.intro (P 2) <| trivial
  exact cast (by sl_kernel_rfl) H

set_option maxHeartbeats 4000000 in
theorem dk_A (F : ∀ ci, FitsB A (BB V c t) ci (n ci)) (h : t.val % 11 = 0) {k : ℕ} (hk : k ≤ 30) (hn : ∀ ci, (n ci).val = k + ci.val)
    (hd : ∀ p, StOk (fun h => A.dst h (30 - k)) p (View.ld zero1 (rSt p))) (y) :
    (outsAt1 V c t.val t.isLt).2.1 y = rowQ A.dk n y := by
  rw [outsAt1_A V c t h]
  frame_open
  unfold runA
  frame_out [↓View.readCov_cons_toLoadRect, ↓View.readCov_skip, ↓View.readCov_fill]
  have P := dk_piece F hk hn hd
  refine View.canon_apply_of_pieces (Val := Elt Ideal) (e := .bf16) (rowQ A.dk n) _ (View.PiecesOf.mem ?_) y
    (View.cover_of_tiledL (s := S384x512) _ S128x512.size (by sl_kernel_rfl) y)
  have H := And.intro (P 0) <| And.intro (P 1) <| And.intro (P 2) <| trivial
  exact cast (by sl_kernel_rfl) H

set_option maxHeartbeats 4000000 in
theorem dv_A (F : ∀ ci, FitsB A (BB V c t) ci (n ci)) (h : t.val % 11 = 0) {k : ℕ} (hk : k ≤ 30) (hn : ∀ ci, (n ci).val = k + ci.val)
    (hd : ∀ p, StOk (fun h => A.dst h (30 - k)) p (View.ld zero1 (rSt p))) (y) :
    (outsAt1 V c t.val t.isLt).2.2.1 y = rowG A.dv n y := by
  rw [outsAt1_A V c t h]
  frame_open
  unfold runA
  frame_out [↓View.readCov_cons_toLoadRect, ↓View.readCov_skip, ↓View.readCov_fill]
  have P := dv_piece F hk hn hd
  refine View.canon_apply_of_pieces (Val := Elt Ideal) (e := .bf16) (rowG A.dv n) _ (View.PiecesOf.mem ?_) y
    (View.cover_of_tiledL (s := S384x1024) _ S128x256.size (by sl_kernel_rfl) y)
  have H := And.intro (P 0 3) <| And.intro (P 0 2) <| And.intro (P 0 1) <| And.intro (P 0 0) <| And.intro (P 1 3) <| And.intro (P 1 2) <|
    And.intro (P 1 1) <| And.intro (P 1 0) <| And.intro (P 2 3) <| And.intro (P 2 2) <| And.intro (P 2 1) <| And.intro (P 2 0) <| trivial
  exact cast (by sl_kernel_rfl) H

set_option maxHeartbeats 4000000 in
theorem drg_A (F : ∀ ci, FitsB A (BB V c t) ci (n ci)) (h : t.val % 11 = 0) (y) :
    (outsAt1 V c t.val t.isLt).2.2.2.1 y = rowG A.dg n y := by
  rw [outsAt1_A V c t h]
  frame_open
  unfold runA
  frame_out [↓View.readCov_cons_toLoadRect, ↓View.readCov_skip, ↓View.readCov_fill]
  have P := drg_piece F
  refine View.canon_apply_of_pieces (Val := Elt Ideal) (e := .bf16) (rowG A.dg n) _ (View.PiecesOf.mem ?_) y
    (View.cover_of_tiledL (s := S384x1024) _ S128x128.size (by sl_kernel_rfl) y)
  have H := And.intro (P 0 7) <| And.intro (P 0 6) <| And.intro (P 0 5) <| And.intro (P 0 4) <| And.intro (P 0 3) <| And.intro (P 0 2) <|
    And.intro (P 0 1) <| And.intro (P 0 0) <| And.intro (P 1 7) <| And.intro (P 1 6) <| And.intro (P 1 5) <| And.intro (P 1 4) <| And.intro (P 1 3) <|
    And.intro (P 1 2) <| And.intro (P 1 1) <| And.intro (P 1 0) <| And.intro (P 2 7) <| And.intro (P 2 6) <| And.intro (P 2 5) <| And.intro (P 2 4) <|
    And.intro (P 2 3) <| And.intro (P 2 2) <| And.intro (P 2 1) <| And.intro (P 2 0) <| trivial
  exact cast (by sl_kernel_rfl) H

set_option maxHeartbeats 4000000 in
theorem gn_A (F : ∀ ci, FitsB A (BB V c t) ci (n ci)) (h : t.val % 11 = 0) {f : Fin 8 → Fin 128 → EReal} (hX : ∀ y, (k1_pay3 (F := Ideal) : Vec Ideal S1x1024 .f32) y = gnG f y) (y) :
    (outsAt1 V c t.val t.isLt).2.2.2.2.1 y = gnG (fun h l => f h l + gpart A h (n 2) l + gpart A h (n 1) l + gpart A h (n 0) l) y := by
  rw [outsAt1_A V c t h]
  frame_open
  unfold runA
  frame_out [↓View.readCov_cons_toLoadRect, ↓View.readCov_skip, ↓View.readCov_fill]
  refine canon_gn _ _ _ _ _ _ _ _ _ ?_ _ y
  have P := gn_piece F hX
  have H := And.intro (P 7) <| And.intro (P 6) <| And.intro (P 5) <| And.intro (P 4) <| And.intro (P 3) <| And.intro (P 2) <| And.intro (P 1) <| P 0
  exact cast (by sl_kernel_rfl) H

set_option maxHeartbeats 4000000 in
theorem ds_A (F : ∀ ci, FitsB A (BB V c t) ci (n ci)) (h : t.val % 11 = 0) {k : ℕ} (hk : k ≤ 30) (hn : ∀ ci, (n ci).val = k + ci.val)
    (hd : ∀ p, StOk (fun h => A.dst h (30 - k)) p (View.ld zero1 (rSt p))) (y) :
    (outsAt1 V c t.val t.isLt).2.2.2.2.2 y = stG (fun h => A.dst h (30 - k + 3)) y := by
  rw [outsAt1_A V c t h]
  frame_open
  unfold runA
  frame_out [↓View.readCov_cons_toLoadRect, ↓View.readCov_skip, ↓View.readCov_fill]
  refine canon_st _ _ _ _ _ ?_ _ y
  have P := dB_ok F hk hn hd 3 (by omega)
  have H := And.intro (P 3) <| And.intro (P 2) <| And.intro (P 1) <| P 0
  exact cast (by sl_kernel_rfl) H

end Cert.Kernel2Ideal.Ret

end
-- ==== Proof.RetBackB.lean ====
/- What a later point of the backward pass leaves in its windows. -/
module

public import proofs.«01_k».proof.Proof.RetBackPts

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable {V : (c : Dev nD) → (b : Ref sig .tc) → Buf (Elt Ideal) ((c : Thread nD τ).loc b)} {c : Dev nD} {t : Fin cfg1.N} {A : Arr} {n : Fin 3 → Fin 33}

set_option maxHeartbeats 4000000 in
theorem dq_B (F : ∀ ci, FitsB A (BB V c t) ci (n ci)) (h : ¬ t.val % 11 = 0) (y) :
    (outsAt1 V c t.val t.isLt).1 y = rowQ A.dq n y := by
  rw [outsAt1_B V c t h]
  frame_open
  unfold runB
  frame_out [↓View.readCov_cons_toLoadRect, ↓View.readCov_skip]
  have P := dq_piece F
  refine View.canon_apply_of_pieces (Val := Elt Ideal) (e := .bf16) (rowQ A.dq n) _ (View.PiecesOf.mem ?_) y
    (View.cover_of_tiledL (s := S384x512) _ S128x512.size (by sl_kernel_rfl) y)
  have H := And.intro (P 0) <| And.intro (P 1) <| And.intro (P 2) <| trivial
  exact cast (by sl_kernel_rfl) H

set_option maxHeartbeats 4000000 in
theorem dk_B (F : ∀ ci, FitsB A (BB V c t) ci (n ci)) (h : ¬ t.val % 11 = 0) {k : ℕ} (hk : k ≤ 30) (hn : ∀ ci, (n ci).val = k + ci.val)
    (hd : ∀ p, StOk (fun h => A.dst h (30 - k)) p (View.ld (before1s V c t) (rSt p))) (y) :
    (outsAt1 V c t.val t.isLt).2.1 y = rowQ A.dk n y := by
  rw [outsAt1_B V c t h]
  frame_open
  unfold runB
  frame_out [↓View.readCov_cons_toLoadRect, ↓View.readCov_skip]
  have P := dk_piece F hk hn hd
  refine View.canon_apply_of_pieces (Val := Elt Ideal) (e := .bf16) (rowQ A.dk n) _ (View.PiecesOf.mem ?_) y
    (View.cover_of_tiledL (s := S384x512) _ S128x512.size (by sl_kernel_rfl) y)
  have H := And.intro (P 0) <| And.intro (P 1) <| And.intro (P 2) <| trivial
  exact cast (by sl_kernel_rfl) H

set_option maxHeartbeats 4000000 in
theorem dv_B (F : ∀ ci, FitsB A (BB V c t) ci (n ci)) (h : ¬ t.val % 11 = 0) {k : ℕ} (hk : k ≤ 30) (hn : ∀ ci, (n ci).val = k + ci.val)
    (hd : ∀ p, StOk (fun h => A.dst h (30 - k)) p (View.ld (before1s V c t) (rSt p))) (y) :
    (outsAt1 V c t.val t.isLt).2.2.1 y = rowG A.dv n y := by
  rw [outsAt1_B V c t h]
  frame_open
  unfold runB
  frame_out [↓View.readCov_cons_toLoadRect, ↓View.readCov_skip]
  have P := dv_piece F hk hn hd
  refine View.canon_apply_of_pieces (Val := Elt Ideal) (e := .bf16) (rowG A.dv n) _ (View.PiecesOf.mem ?_) y
    (View.cover_of_tiledL (s := S384x1024) _ S128x256.size (by sl_kernel_rfl) y)
  have H := And.intro (P 0 3) <| And.intro (P 0 2) <| And.intro (P 0 1) <| And.intro (P 0 0) <| And.intro (P 1 3) <| And.intro (P 1 2) <|
    And.intro (P 1 1) <| And.intro (P 1 0) <| And.intro (P 2 3) <| And.intro (P 2 2) <| And.intro (P 2 1) <| And.intro (P 2 0) <| trivial
  exact cast (by sl_kernel_rfl) H

set_option maxHeartbeats 4000000 in
theorem drg_B (F : ∀ ci, FitsB A (BB V c t) ci (n ci)) (h : ¬ t.val % 11 = 0) (y) :
    (outsAt1 V c t.val t.isLt).2.2.2.1 y = rowG A.dg n y := by
  rw [outsAt1_B V c t h]
  frame_open
  unfold runB
  frame_out [↓View.readCov_cons_toLoadRect, ↓View.readCov_skip]
  have P := drg_piece F
  refine View.canon_apply_of_pieces (Val := Elt Ideal) (e := .bf16) (rowG A.dg n) _ (View.PiecesOf.mem ?_) y
    (View.cover_of_tiledL (s := S384x1024) _ S128x128.size (by sl_kernel_rfl) y)
  have H := And.intro (P 0 7) <| And.intro (P 0 6) <| And.intro (P 0 5) <| And.intro (P 0 4) <| And.intro (P 0 3) <| And.intro (P 0 2) <|
    And.intro (P 0 1) <| And.intro (P 0 0) <| And.intro (P 1 7) <| And.intro (P 1 6) <| And.intro (P 1 5) <| And.intro (P 1 4) <| And.intro (P 1 3) <|
    And.intro (P 1 2) <| And.intro (P 1 1) <| And.intro (P 1 0) <| And.intro (P 2 7) <| And.intro (P 2 6) <| And.intro (P 2 5) <| And.intro (P 2 4) <|
    And.intro (P 2 3) <| And.intro (P 2 2) <| And.intro (P 2 1) <| And.intro (P 2 0) <| trivial
  exact cast (by sl_kernel_rfl) H

set_option maxHeartbeats 4000000 in
theorem gn_B (F : ∀ ci, FitsB A (BB V c t) ci (n ci)) (h : ¬ t.val % 11 = 0) {f : Fin 8 → Fin 128 → EReal} (hX : ∀ y, (before1g V c t) y = gnG f y) (y) :
    (outsAt1 V c t.val t.isLt).2.2.2.2.1 y = gnG (fun h l => f h l + gpart A h (n 2) l + gpart A h (n 1) l + gpart A h (n 0) l) y := by
  rw [outsAt1_B V c t h]
  frame_open
  unfold runB
  frame_out [↓View.readCov_cons_toLoadRect, ↓View.readCov_skip]
  refine canon_gn _ _ _ _ _ _ _ _ _ ?_ _ y
  have P := gn_piece F hX
  have H := And.intro (P 7) <| And.intro (P 6) <| And.intro (P 5) <| And.intro (P 4) <| And.intro (P 3) <| And.intro (P 2) <| And.intro (P 1) <| P 0
  exact cast (by sl_kernel_rfl) H

set_option maxHeartbeats 4000000 in
theorem ds_B (F : ∀ ci, FitsB A (BB V c t) ci (n ci)) (h : ¬ t.val % 11 = 0) {k : ℕ} (hk : k ≤ 30) (hn : ∀ ci, (n ci).val = k + ci.val)
    (hd : ∀ p, StOk (fun h => A.dst h (30 - k)) p (View.ld (before1s V c t) (rSt p))) (y) :
    (outsAt1 V c t.val t.isLt).2.2.2.2.2 y = stG (fun h => A.dst h (30 - k + 3)) y := by
  rw [outsAt1_B V c t h]
  frame_open
  unfold runB
  frame_out [↓View.readCov_cons_toLoadRect, ↓View.readCov_skip]
  refine canon_st _ _ _ _ _ ?_ _ y
  have P := dB_ok F hk hn hd 3 (by omega)
  have H := And.intro (P 3) <| And.intro (P 2) <| And.intro (P 1) <| P 0
  exact cast (by sl_kernel_rfl) H

end Cert.Kernel2Ideal.Ret

end
-- ==== Proof.RetKernelC.lean ====
/- What the backward pass leaves in its arrays. -/
module

public import proofs.«01_k».proof.Proof.RetKernelB
public import proofs.«01_k».proof.Proof.RetBackA
public import proofs.«01_k».proof.Proof.RetBackB

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable {V : (c : Dev nD) → (b : Ref sig .tc) → Buf (Elt Ideal) ((c : Thread nD τ).loc b)} {c : Dev nD} {A : Arr}

theorem zero1_at (i) : (zero1 i : EReal) = 0 := by pointwise [k1_pay2]

theorem zero1_st (s : Fin 8 → Fin 64 → Fin 128 → EReal) (hs : ∀ h d e, s h d e = 0) (p : Fin 4) : StOk s p (View.ld zero1 (rSt p)) := fun l x => by
  rw [hs, ite_self]
  exact zero1_at _

theorem gain0 (y) : (k1_pay3 (F := Ideal) : Vec Ideal S1x1024 .f32) y = gnG (fun _ _ => 0) y := by
  show _ = (0 : EReal)
  pointwise [k1_pay3]

/-- The gain's gradient after the last `j` chunks. -/
def gacc (A : Arr) (h : Fin 8) (l : Fin 128) : ℕ → EReal
  | 0 => 0
  | j + 1 => gacc A h l j + if hj : j < 33 then gpart A h ⟨32 - j, by omega⟩ l else 0

theorem gacc_succ (h : Fin 8) (l : Fin 128) {j : ℕ} {n : Fin 33} (e : n.val + j = 32) : gacc A h l (j + 1) = gacc A h l j + gpart A h n l := by
  rw [gacc, dif_pos (by omega)]
  exact congrArg (fun n => gacc A h l j + gpart A h n l) (Fin.ext (by show 32 - j = n.val; omega))

theorem gacc_sum (h : Fin 8) (l : Fin 128) (j : ℕ) : gacc A h l j = ∑ i ∈ Finset.range j, if hj : i < 33 then gpart A h ⟨32 - i, by omega⟩ l else 0 := by
  induction j with
  | zero => rfl
  | succ j ih => rw [gacc, ih, Finset.sum_range_succ]

theorem gacc_all (h : Fin 8) (l : Fin 128) : gacc A h l 33 = A.dgain h l := by
  rw [gacc_sum, Finset.sum_range]
  refine Eq.trans (Finset.sum_congr rfl fun i _ => ?_) (Equiv.sum_comp Fin.revPerm fun n => gpart A h n l)
  rw [dif_pos i.isLt]
  exact congrArg (fun n => gpart A h n l) (Fin.ext (by show 32 - i.val = _; rw [Fin.revPerm_apply, Fin.val_rev]; omega))

theorem gacc_three (h : Fin 8) (l : Fin 128) (t : Fin cfg1.N) {k : ℕ} (hk : k = 3 * t.val) :
    gacc A h l k + gpart A h (chB t 2) l + gpart A h (chB t 1) l + gpart A h (chB t 0) l = gacc A h l (k + 3) := by
  have ht := lt1 t
  subst hk
  rw [gacc_succ (n := chB t 0) h l (j := 3 * t.val + 2) (by rw [chB_val]; show 3 * (10 - t.val) + 0 + (3 * t.val + 2) = 32; omega),
    gacc_succ (n := chB t 1) h l (j := 3 * t.val + 1) (by rw [chB_val]; show 3 * (10 - t.val) + 1 + (3 * t.val + 1) = 32; omega),
    gacc_succ (n := chB t 2) h l (j := 3 * t.val) (by rw [chB_val]; show 3 * (10 - t.val) + 2 + 3 * t.val = 32; omega)]

theorem zero_of1 (t : Fin cfg1.N) (h : t.val % 11 = 0) : t.val = 0 := by have := lt1 t; omega

theorem le30 (t : Fin cfg1.N) : 3 * (10 - t.val) ≤ 30 := by omega

theorem HoldB.start0 (t : Fin cfg1.N) (h : t.val % 11 = 0) (p : Fin 4) :
    StOk (fun h => A.dst h (30 - 3 * (10 - t.val))) p (View.ld zero1 (rSt p)) := zero1_st _ (fun h d e => by rw [zero_of1 t ‹_›]; rfl) p

/-- The states' gradients a point leaves, from those it starts with. -/
theorem HoldB.leaves (H : HoldB V c A) (t : Fin cfg1.N)
    (hs : ¬ t.val % 11 = 0 → ∀ p, StOk (fun h => A.dst h (30 - 3 * (10 - t.val))) p (View.ld (before1s V c t) (rSt p))) (y) :
    (outsAt1 V c t.val t.isLt).2.2.2.2.2 y = stG (fun h => A.dst h (3 * t.val + 3)) y := by
  have ht := lt1 t
  have e : 30 - 3 * (10 - t.val) + 3 = 3 * t.val + 3 := by omega
  by_cases h : t.val % 11 = 0
  · have := ds_A (H.fits t) h (le30 t) (chB_val t) (HoldB.start0 t h) y
    rw [e] at this
    exact this
  · have := ds_B (H.fits t) h (le30 t) (chB_val t) (hs h) y
    rw [e] at this
    exact this

/-- The states' gradients a point starts with, from those the point before left. -/
theorem HoldB.next {k : ℕ} (hk : k + 1 < cfg1.N) (H : ∀ y, (outsAt1 V c k (Nat.lt_of_succ_lt hk)).2.2.2.2.2 y = stG (fun h => A.dst h (3 * k + 3)) y) (p : Fin 4) :
    StOk (fun h => A.dst h (30 - 3 * (10 - (k + 1)))) p (View.ld (outsAt1 V c k (Nat.lt_of_succ_lt hk)).2.2.2.2.2 (rSt p)) := by
  have ht := lt1 ⟨k + 1, hk⟩
  simp only at ht
  have e : 30 - 3 * (10 - (k + 1)) = 3 * k + 3 := by omega
  rw [e]
  exact stOk_ld H p

theorem HoldB.state (H : HoldB V c A) : ∀ k (hk : k < cfg1.N), ∀ y, (outsAt1 V c k hk).2.2.2.2.2 y = stG (fun h => A.dst h (3 * k + 3)) y
  | 0, hk => H.leaves ⟨0, hk⟩ fun h => absurd (Nat.zero_mod 11) h
  | k + 1, hk => H.leaves ⟨k + 1, hk⟩ fun _ p => HoldB.next hk (H.state k (Nat.lt_of_succ_lt hk)) p

theorem HoldB.start (H : HoldB V c A) (t : Fin cfg1.N) (h : ¬ t.val % 11 = 0) (p : Fin 4) :
    StOk (fun h => A.dst h (30 - 3 * (10 - t.val))) p (View.ld (before1s V c t) (rSt p)) := by
  have ht := lt1 t
  have e : 3 * (t.val - 1) + 3 = 30 - 3 * (10 - t.val) := by omega
  have := stOk_ld (H.state (t.val - 1) (Nat.lt_of_le_of_lt (Nat.sub_le _ _) t.isLt)) p
  rwa [e] at this

/-- The gain's gradient a point leaves. -/
theorem HoldB.gain_at (H : HoldB V c A) : ∀ k (hk : k < cfg1.N), ∀ y, (outsAt1 V c k hk).2.2.2.2.1 y = gnG (fun h l => gacc A h l (3 * k + 3)) y
  | 0, hk => fun y => (gn_A (t := ⟨0, hk⟩) (H.fits _) rfl gain0 y).trans
      (congrArg (fun f => gnG f y) (funext fun h => funext fun l => gacc_three h l ⟨0, hk⟩ (k := 0) rfl))
  | k + 1, hk => fun y => by
    have ht := lt1 ⟨k + 1, hk⟩
    simp only at ht
    exact (gn_B (t := ⟨k + 1, hk⟩) (H.fits _) (by show ¬ (k + 1) % 11 = 0; omega) (H.gain_at k (Nat.lt_of_succ_lt hk)) y).trans
      (congrArg (fun f => gnG f y) (funext fun h => funext fun l => gacc_three h l ⟨k + 1, hk⟩ (k := 3 * k + 3) (by show _ = 3 * (k + 1); omega)))

theorem HoldB.out_dq (H : HoldB V c A) (t : Fin cfg1.N) (y) : (outsAt1 V c t.val t.isLt).1 y = rowQ A.dq (chB t) y := by
  by_cases h : t.val % 11 = 0
  · exact dq_A (H.fits t) h y
  · exact dq_B (H.fits t) h y

theorem HoldB.out_dk (H : HoldB V c A) (t : Fin cfg1.N) (y) : (outsAt1 V c t.val t.isLt).2.1 y = rowQ A.dk (chB t) y := by
  by_cases h : t.val % 11 = 0
  · exact dk_A (H.fits t) h (le30 t) (chB_val t) (HoldB.start0 t h) y
  · exact dk_B (H.fits t) h (le30 t) (chB_val t) (H.start t h) y

theorem HoldB.out_dv (H : HoldB V c A) (t : Fin cfg1.N) (y) : (outsAt1 V c t.val t.isLt).2.2.1 y = rowG A.dv (chB t) y := by
  by_cases h : t.val % 11 = 0
  · exact dv_A (H.fits t) h (le30 t) (chB_val t) (HoldB.start0 t h) y
  · exact dv_B (H.fits t) h (le30 t) (chB_val t) (H.start t h) y

theorem HoldB.out_drg (H : HoldB V c A) (t : Fin cfg1.N) (y) : (outsAt1 V c t.val t.isLt).2.2.2.1 y = rowG A.dg (chB t) y := by
  by_cases h : t.val % 11 = 0
  · exact drg_A (H.fits t) h y
  · exact drg_B (H.fits t) h y

/-- The whole array of rows of queries or keys whose chunks are `f`'s. -/
def rowsQ (f : Fin 33 → Fin 128 → Fin 512 → EReal) : S4224x512.Idx → EReal := fun i => f (chunkOf (i 0)) (placeOf (i 0)) (i 1)

theorem rowsQ_at (f : Fin 33 → Fin 128 → Fin 512 → EReal) (n : Fin 33) (a : Fin 128) (x : Fin 512) : rowsQ f (ix2 (row n a) x) = f n a x :=
  congrArg₂ (fun u w => f u w x) (chunkOf_row n a) (placeOf_row n a)

theorem HoldB.arr_dq (H : HoldB V c A) : (dat1 V c).arrAt 18 cfg1.N = rowsQ A.dq := by
  refine (dat1 V c).arrAt_eq_of_covers 18 _ (by decide +kernel) fun t hf y => ?_
  blk_simp
  have e : ((View.whole main_v94_0).slice (win1_18.rect t)).emb y = ix2 (row (chB t (ciOf (y 0))) (plOf (y 0))) (y 1) := by
    blk_ext [idx1 t]
    show _ = (3 * (10 - t.val) + (y 0).val / 128) * 128 + (y 0).val % 128
    omega
  rw [after1_18]
  exact (H.out_dq t y).trans ((rowsQ_at A.dq (chB t (ciOf (y 0))) (plOf (y 0)) (y 1)).symm.trans (congrArg (rowsQ A.dq) e.symm))

theorem HoldB.arr_dk (H : HoldB V c A) : (dat1 V c).arrAt 19 cfg1.N = rowsQ A.dk := by
  refine (dat1 V c).arrAt_eq_of_covers 19 _ (by decide +kernel) fun t hf y => ?_
  blk_simp
  have e : ((View.whole main_v94_1).slice (win1_19.rect t)).emb y = ix2 (row (chB t (ciOf (y 0))) (plOf (y 0))) (y 1) := by
    blk_ext [idx1 t]
    show _ = (3 * (10 - t.val) + (y 0).val / 128) * 128 + (y 0).val % 128
    omega
  rw [after1_19]
  exact (H.out_dk t y).trans ((rowsQ_at A.dk (chB t (ciOf (y 0))) (plOf (y 0)) (y 1)).symm.trans (congrArg (rowsQ A.dk) e.symm))

theorem HoldB.arr_dv (H : HoldB V c A) : (dat1 V c).arrAt 20 cfg1.N = rowsA A.dv := by
  refine (dat1 V c).arrAt_eq_of_covers 20 _ (by decide +kernel) fun t hf y => ?_
  blk_simp
  have e : ((View.whole main_v94_2).slice (win1_20.rect t)).emb y = ix2 (row (chB t (ciOf (y 0))) (plOf (y 0))) (y 1) := by
    blk_ext [idx1 t]
    show _ = (3 * (10 - t.val) + (y 0).val / 128) * 128 + (y 0).val % 128
    omega
  rw [after1_20]
  exact (H.out_dv t y).trans ((rowsA_at A.dv (chB t (ciOf (y 0))) (plOf (y 0)) (y 1)).symm.trans (congrArg (rowsA A.dv) e.symm))

theorem HoldB.arr_drg (H : HoldB V c A) : (dat1 V c).arrAt 21 cfg1.N = rowsA A.dg := by
  refine (dat1 V c).arrAt_eq_of_covers 21 _ (by decide +kernel) fun t hf y => ?_
  blk_simp
  have e : ((View.whole main_v94_3).slice (win1_21.rect t)).emb y = ix2 (row (chB t (ciOf (y 0))) (plOf (y 0))) (y 1) := by
    blk_ext [idx1 t]
    show _ = (3 * (10 - t.val) + (y 0).val / 128) * 128 + (y 0).val % 128
    omega
  rw [after1_21]
  exact (H.out_drg t y).trans ((rowsA_at A.dg (chB t (ciOf (y 0))) (plOf (y 0)) (y 1)).symm.trans (congrArg (rowsA A.dg) e.symm))

abbrev last1 : Fin cfg1.N := ⟨10, (by decide : 10 < 11).trans_eq N_1.symm⟩

theorem HoldB.arr_gain (H : HoldB V c A) : (dat1 V c).arrAt 22 cfg1.N = gnG A.dgain := by
  refine (dat1 V c).arrAt_eq_of_after_last 22 last1 (by decide +kernel) _ fun j => ?_
  blk_simp
  rw [after1_22]
  exact (H.gain_at 10 last1.isLt j).trans (congrArg (fun f => gnG f j) (funext fun h => funext fun l => gacc_all h l))

end Cert.Kernel2Ideal.Ret

end
-- ==== Proof.RetArgs.lean ====
/- The retention's arrays from the call's arguments: rotated rows, decay tables, rotation tables. No program occurs here. -/
module

public import proofs.«01_k».proof.Proof.RetRows

@[expose] public section

set_option maxRecDepth 16384

noncomputable section

open Idealize.ShloMosaic Idealize.ShloMosaic.TcCoe Idealize.SL.Sem

namespace Cert.RetRows

/-- Rows behind 112 rows of zeros. -/
def pad0 {n : ℕ} (f : Fin 4112 → Fin n → EReal) (R : Fin 4224) (j : Fin n) : EReal := if h : 112 ≤ R.val then f ⟨R.val - 112, by omega⟩ j else 0

/-- A small natural number as the programs count it. -/
def num (n : ℕ) : EReal := (FloatOps.sitofp FTy.f32 (BitVec.ofNat 32 n) : Ideal FTy.f32)

theorem num_eq {n : ℕ} (h : n < 2147483648) : num n = ((n : ℝ) : EReal) := by
  show (((BitVec.ofNat 32 n).toInt : ℝ) : EReal) = _
  have e : (BitVec.ofNat 32 n).toInt = (n : ℤ) := by
    rw [BitVec.toInt_eq_toNat_of_lt] <;> simp only [BitVec.toNat_ofNat] <;> omega
  rw [e]
  simp

/-- The rotation's angle at a position. -/
def angle (p : EReal) (i : Fin 32) : EReal :=
  p * Ideal.pow (Ideal.ofBits FTy.f32 0x461C4000#32) (Ideal.div (-num i.val) (Ideal.ofBits FTy.f32 0x42000000#32))

theorem w112 : Ideal.ofBits FTy.f32 0x42E00000#32 = ((112 : ℝ) : EReal) := by
  simp [Ideal.ofBits, Ideal.ieee, -EReal.coe_mul]; norm_num

/-- Positions count from the first row behind the zeros. -/
theorem num_sub {R : ℕ} (h : 112 ≤ R) (hR : R < 4224) : num R - Ideal.ofBits FTy.f32 0x42E00000#32 = num (R - 112) := by
  rw [num_eq (by omega), num_eq (by omega), w112, ← EReal.coe_sub, Nat.cast_sub h]
  rfl

/-- One head's row, rotated. -/
def rot (x : Fin 64 → EReal) (p : EReal) (d : Fin 64) : EReal :=
  if h : d.val < 32 then x d * Ideal.cos (angle p ⟨d.val, h⟩) - x ⟨d.val + 32, by omega⟩ * Ideal.sin (angle p ⟨d.val, h⟩)
  else x ⟨d.val - 32, by omega⟩ * Ideal.sin (angle p ⟨d.val - 32, by omega⟩) + x d * Ideal.cos (angle p ⟨d.val - 32, by omega⟩)

/-- The logarithm of a head's decay. -/
def lgam (h : Fin 8) : EReal :=
  Ideal.log1p (-Ideal.exp (Ideal.ofBits FTy.f32 0x3F317218#32 * (Ideal.ofBits FTy.f32 0xC0A00000#32 - num h.val)))

def dmOf (h : Fin 8) (c m : Fin 128) : EReal :=
  if 0 ≤ num c.val - num m.val then Ideal.exp (max (num c.val - num m.val) 0 * lgam h) else 0

def qdecOf (c : Fin 128) (j : Fin 512) : EReal := Ideal.exp ((num c.val + 1) * lgam (qhead j))
def kdecOf (c : Fin 128) (j : Fin 512) : EReal := Ideal.exp ((Ideal.ofBits FTy.f32 0x42FE0000#32 - num c.val) * lgam (qhead j))

section

variable (q k : Fin 4112 → Fin 512 → EReal) (v g dy : Fin 4112 → Fin 1024 → EReal) (gain : Fin 1024 → EReal)

def rotRow (x : Fin 4112 → Fin 512 → EReal) (r : Fin 4112) (j : Fin 512) : EReal := rot (fun d => x r (qcol (qhead j) d)) (num r.val) (qlane j)

/-- The five arguments side by side behind 112 rows of zeros. -/
def joined (R : Fin 4224) (x : ℕ) (hx : x < 4096) : EReal :=
  if h : 112 ≤ R.val ∧ R.val - 112 < 4112 then
    if h1 : x < 512 then q ⟨R.val - 112, h.2⟩ ⟨x, h1⟩
    else if h2 : x - 512 < 512 then k ⟨R.val - 112, h.2⟩ ⟨x - 512, h2⟩
    else if h3 : x - 512 - 512 < 1024 then v ⟨R.val - 112, h.2⟩ ⟨x - 512 - 512, h3⟩
    else if h4 : x - 512 - 512 - 1024 < 1024 then g ⟨R.val - 112, h.2⟩ ⟨x - 512 - 512 - 1024, h4⟩
    else dy ⟨R.val - 112, h.2⟩ ⟨x - 512 - 512 - 1024 - 1024, by omega⟩
  else 0

section

variable {q k v g dy} (R : Fin 4224) {x : ℕ}

theorem pad0_pos {n : ℕ} (f : Fin 4112 → Fin n → EReal) {R : Fin 4224} (h : 112 ≤ R.val) (j : Fin n) : pad0 f R j = f ⟨R.val - 112, by omega⟩ j := dif_pos h
theorem pad0_neg {n : ℕ} (f : Fin 4112 → Fin n → EReal) {R : Fin 4224} (h : ¬ 112 ≤ R.val) (j : Fin n) : pad0 f R j = 0 := dif_neg h

theorem joined_q (h : x < 512) : joined q k v g dy R x (by omega) = pad0 q R ⟨x, h⟩ := by
  unfold joined
  by_cases hR : 112 ≤ R.val
  · rw [dif_pos ⟨hR, by omega⟩, dif_pos h, pad0_pos q hR]
  · rw [dif_neg (by omega), pad0_neg q hR]

theorem joined_k {j : Fin 512} (hx : x < 4096) (h : x = 512 + j.val) : joined q k v g dy R x hx = pad0 k R j := by
  subst h
  unfold joined
  by_cases hR : 112 ≤ R.val
  · rw [dif_pos ⟨hR, by omega⟩, dif_neg (by omega), dif_pos (by omega), pad0_pos k hR]
    exact congrArg (k _) (Fin.ext (by show 512 + j.val - 512 = _; omega))
  · rw [dif_neg (by omega), pad0_neg k hR]

theorem joined_v {j : Fin 1024} (hx : x < 4096) (h : x = 1024 + j.val) : joined q k v g dy R x hx = pad0 v R j := by
  subst h
  unfold joined
  by_cases hR : 112 ≤ R.val
  · rw [dif_pos ⟨hR, by omega⟩, dif_neg (by omega), dif_neg (by omega), dif_pos (by omega), pad0_pos v hR]
    exact congrArg (v _) (Fin.ext (by show 1024 + j.val - 512 - 512 = _; omega))
  · rw [dif_neg (by omega), pad0_neg v hR]

theorem joined_g {j : Fin 1024} (hx : x < 4096) (h : x = 2048 + j.val) : joined q k v g dy R x hx = pad0 g R j := by
  subst h
  unfold joined
  by_cases hR : 112 ≤ R.val
  · rw [dif_pos ⟨hR, by omega⟩, dif_neg (by omega), dif_neg (by omega), dif_neg (by omega), dif_pos (by omega), pad0_pos g hR]
    exact congrArg (g _) (Fin.ext (by show 2048 + j.val - 512 - 512 - 1024 = _; omega))
  · rw [dif_neg (by omega), pad0_neg g hR]

theorem joined_dy {j : Fin 1024} (hx : x < 4096) (h : x = 3072 + j.val) : joined q k v g dy R x hx = pad0 dy R j := by
  subst h
  unfold joined
  by_cases hR : 112 ≤ R.val
  · rw [dif_pos ⟨hR, by omega⟩, dif_neg (by omega), dif_neg (by omega), dif_neg (by omega), dif_neg (by omega), pad0_pos dy hR]
    exact congrArg (dy _) (Fin.ext (by show 3072 + j.val - 512 - 512 - 1024 - 1024 = _; omega))
  · rw [dif_neg (by omega), pad0_neg dy hR]

end

/-- The rotation of a padded row. -/
def rotPad (x : Fin 512 → EReal) (R : Fin 4224) (j : Fin 512) : EReal :=
  if h : j.val % 64 < 32 then
    x (qcol (qhead j) (qlane j)) * Ideal.cos (angle (num R.val - Ideal.ofBits FTy.f32 0x42E00000#32) ⟨j.val % 64, h⟩)
      - x ⟨j.val / 64 * 64 + (32 + j.val % 64), by omega⟩ * Ideal.sin (angle (num R.val - Ideal.ofBits FTy.f32 0x42E00000#32) ⟨j.val % 64, h⟩)
  else
    x ⟨j.val / 64 * 64 + (j.val % 64 - 32), by omega⟩ * Ideal.sin (angle (num R.val - Ideal.ofBits FTy.f32 0x42E00000#32) ⟨j.val % 64 - 32, by omega⟩)
      + x ⟨j.val / 64 * 64 + (32 + (j.val % 64 - 32)), by omega⟩ * Ideal.cos (angle (num R.val - Ideal.ofBits FTy.f32 0x42E00000#32) ⟨j.val % 64 - 32, by omega⟩)

/-- The same rotation of columns `n` among a wider row's. -/
def rotN (f : (x : ℕ) → x < 4096 → EReal) (R : Fin 4224) (n : ℕ) (hn : n < 1024) : EReal :=
  if h : n % 64 < 32 then
    f (n / 64 * 64 + n % 64) (by omega) * Ideal.cos (angle (num R.val - Ideal.ofBits FTy.f32 0x42E00000#32) ⟨n % 64, h⟩)
      - f (n / 64 * 64 + (32 + n % 64)) (by omega) * Ideal.sin (angle (num R.val - Ideal.ofBits FTy.f32 0x42E00000#32) ⟨n % 64, h⟩)
  else
    f (n / 64 * 64 + (n % 64 - 32)) (by omega) * Ideal.sin (angle (num R.val - Ideal.ofBits FTy.f32 0x42E00000#32) ⟨n % 64 - 32, by omega⟩)
      + f (n / 64 * 64 + (32 + (n % 64 - 32))) (by omega) * Ideal.cos (angle (num R.val - Ideal.ofBits FTy.f32 0x42E00000#32) ⟨n % 64 - 32, by omega⟩)

theorem rotN_eq (f : (x : ℕ) → x < 4096 → EReal) (g : Fin 512 → EReal) (R : Fin 4224) (j : Fin 512)
    (H : ∀ x : Fin 512, f (512 + x.val) (by omega) = g x) : rotN f R (512 + j.val) (by omega) = rotPad g R j := by
  have F : ∀ (x : ℕ) hx (y : Fin 512), x = 512 + y.val → f x hx = g y := by rintro x hx y rfl; exact H y
  have e : (512 + j.val) % 64 = j.val % 64 := by omega
  unfold rotN rotPad
  by_cases h : j.val % 64 < 32
  · rw [dif_pos (by omega), dif_pos h, F _ _ (qcol (qhead j) (qlane j)) (by simp only [qcol, qhead, qlane]; omega), F _ _ ⟨j.val / 64 * 64 + (32 + j.val % 64), by omega⟩ (by simp only; omega)]
    simp only [e]
  · rw [dif_neg (by omega), dif_neg h, F _ _ ⟨j.val / 64 * 64 + (j.val % 64 - 32), by omega⟩ (by simp only; omega), F _ _ ⟨j.val / 64 * 64 + (32 + (j.val % 64 - 32)), by omega⟩ (by simp only; omega)]
    simp only [e]

theorem rotPad_eq (x : Fin 4112 → Fin 512 → EReal) (R : Fin 4224) (j : Fin 512) : rotPad (pad0 x R) R j = pad0 (rotRow x) R j := by
  by_cases hR : 112 ≤ R.val
  · rw [pad0_pos _ hR]
    unfold rotPad rotRow rot
    rw [num_sub hR R.isLt]
    simp only [pad0_pos _ hR]
    by_cases h : j.val % 64 < 32
    · rw [dif_pos h, dif_pos (show (qlane j).val < 32 from h)]
      congr 3
      exact Fin.ext (by simp only [qcol, qhead]; simp only [qlane]; omega)
    · rw [dif_neg h, dif_neg (show ¬ (qlane j).val < 32 from h)]
      congr 3
      exact Fin.ext (by simp only [qcol, qhead, qlane]; omega)
  · rw [pad0_neg _ hR]
    unfold rotPad
    simp only [pad0_neg _ hR, zero_mul, sub_zero, add_zero, dite_eq_ite, ite_self]

theorem pad0_mul {n : ℕ} (f : Fin 4112 → Fin n → EReal) (w : EReal) (R : Fin 4224) (j : Fin n) : pad0 f R j * w = pad0 (fun r j => f r j * w) R j := by
  by_cases hR : 112 ≤ R.val
  · rw [pad0_pos _ hR, pad0_pos _ hR]
  · rw [pad0_neg _ hR, pad0_neg _ hR, zero_mul]

def arrOf : Arr where
  q := pad0 (rotRow q)
  k := pad0 fun r j => rotRow k r j * WEighth
  qd := fun R j => pad0 (rotRow q) R j * qdecOf (placeOf R) j
  kd := fun R j => pad0 (fun r j => rotRow k r j * WEighth) R j * kdecOf (placeOf R) j
  v := pad0 v
  g := pad0 g
  dy := pad0 dy
  gain := gain
  dm := dmOf
  qdec := qdecOf
  kdec := kdecOf
  gs := fun h => Ideal.exp (W128 * lgam h)
  cos := fun R l => Ideal.cos (angle (num R.val - Ideal.ofBits FTy.f32 0x42E00000#32) ⟨l.val % 32, by omega⟩)
  sin := fun R l => if l.val % 64 < 32 then -Ideal.sin (angle (num R.val - Ideal.ofBits FTy.f32 0x42E00000#32) ⟨l.val % 32, by omega⟩)
    else Ideal.sin (angle (num R.val - Ideal.ofBits FTy.f32 0x42E00000#32) ⟨l.val % 32, by omega⟩)

theorem arr_qd (R : Fin 4224) (j : Fin 512) {x w : EReal} (hx : x = (arrOf q k v g dy gain).q R j) (hw : w = qdecOf (placeOf R) j) :
    x * w = (arrOf q k v g dy gain).qd R j := by subst hx hw; rfl
theorem arr_kd (R : Fin 4224) (j : Fin 512) {x w : EReal} (hx : x = (arrOf q k v g dy gain).k R j) (hw : w = kdecOf (placeOf R) j) :
    x * w = (arrOf q k v g dy gain).kd R j := by subst hx hw; rfl

end

end Cert.RetRows

end
-- ==== Proof.RetHost.lean ====
/- The arrays the host lines prepare for the kernel's two passes, at coordinates. -/
module

public import proofs.«01_k».proof.Proof.RetArgs
public import proofs.«01_k».proof.Proof.RetPoint
public import proofs.«01_k».proof.Proof.BackRun
public import Idealize.ShloMosaic.Lib.Pointwise

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (m : (ℓ : Loc nD τ sig) → Buf (Elt Ideal) ℓ) (ρ : Dev nD → PrngReg) (c : Dev nD)

/-- The call's arguments: queries, keys, values, gate, gain, cotangent. -/
abbrev aq : Fin 4112 → Fin 512 → EReal := fun r j => (m ((c : Thread nD τ).loc main_arg0) : S1x4112x512.Idx → EReal) (ix3 0 r j)
abbrev ak : Fin 4112 → Fin 512 → EReal := fun r j => (m ((c : Thread nD τ).loc main_arg1) : S1x4112x512.Idx → EReal) (ix3 0 r j)
abbrev av : Fin 4112 → Fin 1024 → EReal := fun r j => (m ((c : Thread nD τ).loc main_arg2) : S1x4112x1024.Idx → EReal) (ix3 0 r j)
abbrev ag : Fin 4112 → Fin 1024 → EReal := fun r j => (m ((c : Thread nD τ).loc main_arg3) : S1x4112x1024.Idx → EReal) (ix3 0 r j)
abbrev again : Fin 1024 → EReal := fun j => (m ((c : Thread nD τ).loc main_arg4) : S1x1024.Idx → EReal) (ix2 0 j)
abbrev ady : Fin 4112 → Fin 1024 → EReal := fun r j => (m ((c : Thread nD τ).loc main_arg5) : S1x4112x1024.Idx → EReal) (ix3 0 r j)
abbrev arrM : Arr := arrOf (aq m c) (ak m c) (av m c) (ag m c) (ady m c) (again m c)

/-- The arguments side by side. -/
abbrev jM (R : Fin 4224) (x : ℕ) (hx : x < 4096) : EReal := joined (aq m c) (ak m c) (av m c) (ag m c) (ady m c) R x hx

theorem cmp_small : ∀ a b : Fin 2, (FloatOps.uitofp FTy.f32 (IntOp.cmpi CmpIPredicate.eq (BitVec.ofNat 32 a.val) (BitVec.ofNat 32 b.val)) : Ideal FTy.f32)
    = (if a = b then (1 : EReal) else 0 : EReal) := by
  intro a b
  show ((((IntOp.cmpi CmpIPredicate.eq (BitVec.ofNat 32 a.val) (BitVec.ofNat 32 b.val)).toNat : ℝ)) : EReal) = _
  have e : (IntOp.cmpi CmpIPredicate.eq (BitVec.ofNat 32 a.val) (BitVec.ofNat 32 b.val)).toNat = if a = b then 1 else 0 := by
    revert a b; decide
  rw [e]
  split <;> simp

/-- A choice among four tables of 32 columns. -/
theorem four {f : Fin 32 → EReal} {l : Fin 128} {x : EReal} {i : ℕ} {hi : i < 32} (h : x = f ⟨i, hi⟩) (e : l.val % 32 = i) : x = f ⟨l.val % 32, by omega⟩ := by
  subst e; exact h

theorem v47_at (h : Fin 8) : (V1 m ρ c main_v47 : S8.Idx → EReal) (ix1 h) = lgam h := by
  simp only [V1, W1, hostOps0]
  after_results_simp
  pointwise
  rfl

theorem v91_at (R : Fin 4224) (i : Fin 1024) : (V1 m ρ c main_v91 : S4224x1024.Idx → EReal) (ix2 R i) = (arrM m c).v R i := by
  simp only [V1, W1, hostOps0]
  after_results_simp
  pointwise
  after_results_simp
  show jM m c R (1024 + i.val) (by omega) = _
  exact joined_v R _ rfl

theorem v5_at (R : Fin 4224) (i : Fin 1024) : (V1 m ρ c main_v5 : S4224x1024.Idx → EReal) (ix2 R i) = (arrM m c).g R i := by
  simp only [V1, W1, hostOps0]
  after_results_simp
  pointwise
  after_results_simp
  show jM m c R (2048 + i.val) (by omega) = _
  exact joined_g R _ rfl

theorem v6_at (R : Fin 4224) (i : Fin 1024) : (V1 m ρ c main_v6 : S4224x1024.Idx → EReal) (ix2 R i) = (arrM m c).dy R i := by
  simp only [V1, W1, hostOps0]
  after_results_simp
  pointwise
  after_results_simp
  show jM m c R (3072 + i.val) (by omega) = _
  exact joined_dy R _ rfl

theorem v36_at (R : Fin 4224) (j : Fin 512) : (V1 m ρ c main_v36 : S4224x512.Idx → EReal) (ix2 R j) = (arrM m c).q R j := by
  simp only [V1, W1, hostOps0]
  after_results_simp
  pointwise
  after_results_simp
  pointwise
  after_results_simp
  refine Eq.trans ?_ (rotPad_eq (aq m c) R j)
  refine Eq.trans (b := rotPad (fun x => jM m c R x.val (by omega)) R j) rfl ?_
  exact congrArg (fun f => rotPad f R j) (funext fun x => joined_q R x.isLt)

theorem v39_at (R : Fin 4224) (j : Fin 512) : (V1 m ρ c main_v39 : S4224x512.Idx → EReal) (ix2 R j) = (arrM m c).k R j := by
  simp only [V1, W1, hostOps0]
  after_results_simp
  pointwise
  after_results_simp
  pointwise
  after_results_simp
  refine Eq.trans ?_ (pad0_mul (rotRow (ak m c)) WEighth R j)
  refine Eq.trans ?_ (congrArg (· * WEighth) (rotPad_eq (ak m c) R j))
  refine Eq.trans (b := rotN (fun x hx => jM m c R x hx) R (512 + j.val) (by omega) * WEighth) rfl ?_
  exact congrArg (· * WEighth) (rotN_eq _ _ R j fun x => joined_k R _ rfl)

theorem v56_at (h : Fin 8) (a b : Fin 128) : (V1 m ρ c main_v56 : S8x128x128.Idx → EReal) (ix3 h a b) = dmOf h a b := by
  simp only [V1, W1, hostOps0]
  after_results_simp
  pointwise
  rfl

theorem v63_at (a : Fin 128) (j : Fin 512) : (V1 m ρ c main_v63 : S128x512.Idx → EReal) (ix2 a j) = kdecOf a j := by
  simp only [V1, W1, hostOps0]
  after_results_simp
  pointwise
  rfl

theorem v66_at (a : Fin 128) (j : Fin 512) : (V1 m ρ c main_v66 : S128x512.Idx → EReal) (ix2 a j) = qdecOf a j := by
  simp only [V1, W1, hostOps0]
  after_results_simp
  pointwise
  rfl

theorem v70_at (p : Fin 4) (l : Fin 128) (x : Fin 256) : (V1 m ρ c main_v70 : S4x128x256.Idx → EReal) (ix3 p l x) = (arrM m c).gs (hd p (lhead l)) := by
  simp only [V1, W1, hostOps0]
  after_results_simp
  pointwise
  show Ideal.exp (W128 * lgam ⟨p.val * 2 + l.val / 64, by omega⟩) = Ideal.exp (W128 * lgam (hd p (lhead l)))
  exact congrArg (fun h => Ideal.exp (W128 * lgam h)) (Fin.ext (by simp only [hd, lhead]; omega))

theorem v76_at (l : Fin 128) (x : Fin 256) : (V1 m ρ c main_v76 : S128x256.Idx → EReal) (ix2 l x) = (if lhead l = xhead x then (1 : EReal) else 0 : EReal) := by
  simp only [V1, W1, hostOps0]
  after_results_simp
  pointwise
  exact cmp_small (lhead l) (xhead x)

end Cert.Kernel2Ideal.Ret

end
-- ==== Proof.RetHost2.lean ====
/- The rotation tables and the decayed queries and keys the host lines prepare, at coordinates. -/
module

public import proofs.«01_k».proof.Proof.RetHost
public import proofs.«01_k».proof.Proof.RetPoint
public import proofs.«01_k».proof.Proof.BackRun
public import Idealize.ShloMosaic.Lib.Pointwise

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (m : (ℓ : Loc nD τ sig) → Buf (Elt Ideal) ℓ) (ρ : Dev nD → PrngReg) (c : Dev nD)

theorem v20_at (R : Fin 4224) (l : Fin 128) : (V1 m ρ c main_v20 : S4224x128.Idx → EReal) (ix2 R l) = (arrM m c).cos R l := by
  simp only [V1, W1, hostOps0]
  after_results_simp
  pointwise
  after_results_simp
  pointwise
  show _ = Ideal.cos (angle (num R.val - Ideal.ofBits FTy.f32 0x42E00000#32) ⟨l.val % 32, by omega⟩)
  split
  · exact four (l := l) (hi := by omega) (f := fun i => Ideal.cos (angle (num R.val - Ideal.ofBits FTy.f32 0x42E00000#32) i)) rfl (Nat.mod_eq_of_lt ‹_›)
  split
  · exact four (l := l) (hi := by omega) (f := fun i => Ideal.cos (angle (num R.val - Ideal.ofBits FTy.f32 0x42E00000#32) i)) rfl (by omega)
  split
  · exact four (l := l) (hi := by omega) (f := fun i => Ideal.cos (angle (num R.val - Ideal.ofBits FTy.f32 0x42E00000#32) i)) rfl (by omega)
  · exact four (l := l) (hi := by omega) (f := fun i => Ideal.cos (angle (num R.val - Ideal.ofBits FTy.f32 0x42E00000#32) i)) rfl (by omega)

theorem v22_at (R : Fin 4224) (l : Fin 128) : (V1 m ρ c main_v22 : S4224x128.Idx → EReal) (ix2 R l) = (arrM m c).sin R l := by
  simp only [V1, W1, hostOps0]
  after_results_simp
  pointwise
  after_results_simp
  pointwise
  show _ = if l.val % 64 < 32 then -Ideal.sin (angle (num R.val - Ideal.ofBits FTy.f32 0x42E00000#32) ⟨l.val % 32, by omega⟩) else Ideal.sin (angle (num R.val - Ideal.ofBits FTy.f32 0x42E00000#32) ⟨l.val % 32, by omega⟩)
  split
  · rw [if_pos (show l.val % 64 < 32 by omega)]; exact four (l := l) (hi := by omega) (f := fun i => -Ideal.sin (angle (num R.val - Ideal.ofBits FTy.f32 0x42E00000#32) i)) rfl (Nat.mod_eq_of_lt ‹_›)
  split
  · rw [if_neg (show ¬ l.val % 64 < 32 by omega)]; exact four (l := l) (hi := by omega) (f := fun i => Ideal.sin (angle (num R.val - Ideal.ofBits FTy.f32 0x42E00000#32) i)) rfl (by omega)
  split
  · rw [if_pos (show l.val % 64 < 32 by omega)]; exact four (l := l) (hi := by omega) (f := fun i => -Ideal.sin (angle (num R.val - Ideal.ofBits FTy.f32 0x42E00000#32) i)) rfl (by omega)
  · rw [if_neg (show ¬ l.val % 64 < 32 by omega)]; exact four (l := l) (hi := by omega) (f := fun i => Ideal.sin (angle (num R.val - Ideal.ofBits FTy.f32 0x42E00000#32) i)) rfl (by omega)

end Cert.Kernel2Ideal.Ret

end
-- ==== Proof.RetHost3.lean ====
/- The decayed queries and keys the host lines prepare, at coordinates. -/
module

public import proofs.«01_k».proof.Proof.RetHost
public import proofs.«01_k».proof.Proof.RetPoint
public import proofs.«01_k».proof.Proof.BackRun
public import Idealize.ShloMosaic.Lib.Pointwise

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (m : (ℓ : Loc nD τ sig) → Buf (Elt Ideal) ℓ) (ρ : Dev nD → PrngReg) (c : Dev nD)

/-- Rows times a decay by the place in the chunk. -/
def decayed (x : FVec Ideal S4224x512 .f32) (w : FVec Ideal S128x512 .f32) : FVec Ideal S4224x512 .bf16 :=
  truncf .bf16 (shapeCast S4224x512 (mulf (shapeCast S33x128x512 x shapeCasts_S4224x512_S33x128x512)
    (broadcastInDim S33x128x512 ![0, 1, 2] bcast_S1x128x512_S33x128x512_0_1_2 (broadcastInDim S1x128x512 ![1, 2] bcast_S128x512_S1x128x512_1_2 w)))
    shapeCasts_S33x128x512_S4224x512) bitsLt_bf16_f32

theorem decayed_at (x : FVec Ideal S4224x512 .f32) (w : FVec Ideal S128x512 .f32) (R : Fin 4224) (j : Fin 512) :
    (decayed x w (ix2 R j) : EReal) = ((x (ix2 R j) : EReal) * (w (ix2 (placeOf R) j) : EReal) : EReal) := by
  pointwise [decayed]
  rfl

theorem v84_eq : (V1 m ρ c main_v84 : FVec Ideal S4224x512 .bf16) = decayed (V1 m ρ c main_v36) (V1 m ρ c main_v66) := by
  simp only [V1, W1, hostOps0, decayed]
  after_results_simp
  rfl

theorem v90_eq : (V1 m ρ c main_v90 : FVec Ideal S4224x512 .bf16) = decayed (V1 m ρ c main_v39) (V1 m ρ c main_v63) := by
  simp only [V1, W1, hostOps0, decayed]
  after_results_simp
  rfl

theorem v77_eq : (V1 m ρ c main_v77 : FVec Ideal S4224x512 .bf16) = (truncf .bf16 (V1 m ρ c main_v36 : FVec Ideal S4224x512 .f32) bitsLt_bf16_f32 : FVec Ideal S4224x512 .bf16) := by
  simp only [V1, W1, hostOps0]
  after_results_simp

theorem v78_eq : (V1 m ρ c main_v78 : FVec Ideal S4224x512 .bf16) = (truncf .bf16 (V1 m ρ c main_v39 : FVec Ideal S4224x512 .f32) bitsLt_bf16_f32 : FVec Ideal S4224x512 .bf16) := by
  simp only [V1, W1, hostOps0]
  after_results_simp

theorem of_decayed {X : FVec Ideal S4224x512 .f32} {Y : FVec Ideal S128x512 .f32} {Z : FVec Ideal S4224x512 .bf16} (e : Z = decayed X Y)
    {a : Fin 4224 → Fin 512 → EReal} {b : Fin 128 → Fin 512 → EReal} (hX : ∀ R j, X (ix2 R j) = a R j) (hY : ∀ r j, Y (ix2 r j) = b r j)
    (R : Fin 4224) (j : Fin 512) : Z (ix2 R j) = (a R j * b (placeOf R) j : EReal) := by
  subst e
  rw [decayed_at, hX, hY]

theorem of_trunc {X : FVec Ideal S4224x512 .f32} {Z : FVec Ideal S4224x512 .bf16} (e : Z = truncf .bf16 X bitsLt_bf16_f32)
    {a : Fin 4224 → Fin 512 → EReal} (hX : ∀ R j, X (ix2 R j) = a R j) (R : Fin 4224) (j : Fin 512) : Z (ix2 R j) = a R j := by
  subst e
  exact hX R j

theorem v77_at : ∀ (R : Fin 4224) (j : Fin 512), (V1 m ρ c main_v77 : S4224x512.Idx → EReal) (ix2 R j) = (arrM m c).q R j :=
  of_trunc (v77_eq m ρ c) (v36_at m ρ c)
theorem v78_at : ∀ (R : Fin 4224) (j : Fin 512), (V1 m ρ c main_v78 : S4224x512.Idx → EReal) (ix2 R j) = (arrM m c).k R j :=
  of_trunc (v78_eq m ρ c) (v39_at m ρ c)
theorem v84_at : ∀ (R : Fin 4224) (j : Fin 512), (V1 m ρ c main_v84 : S4224x512.Idx → EReal) (ix2 R j) = ((arrM m c).q R j * qdecOf (placeOf R) j : EReal) :=
  of_decayed (v84_eq m ρ c) (v36_at m ρ c) (v66_at m ρ c)
theorem v90_at : ∀ (R : Fin 4224) (j : Fin 512), (V1 m ρ c main_v90 : S4224x512.Idx → EReal) (ix2 R j) = ((arrM m c).k R j * kdecOf (placeOf R) j : EReal) :=
  of_decayed (v90_eq m ρ c) (v39_at m ρ c) (v63_at m ρ c)

end Cert.Kernel2Ideal.Ret

end
-- ==== Proof.RetHold.lean ====
/- What each pass finds in its arrays, and what both leave. -/
module

public import proofs.«01_k».proof.Proof.RetKernelC
public import proofs.«01_k».proof.Proof.RetHost2
public import proofs.«01_k».proof.Proof.RetHost3

@[expose] public section

set_option maxRecDepth 16384

noncomputable section

open Idealize.ShloMosaic Idealize.ShloMosaic.TcCoe Idealize.SL.Sem

namespace Cert.Kernel2Ideal.Ret

open Cert.Kernel2Ideal Cert.Kernel2Ideal.Gen Cert.RetRows

variable (m : (ℓ : Loc nD τ sig) → Buf (Elt Ideal) ℓ) (ρ : Dev nD → PrngReg) (c : Dev nD)

theorem via {ι : Type} {X Y : ι → EReal} (e : X = Y) {i : ι} {z : EReal} (h : Y i = z) : X i = z := (congrFun e i).trans h

theorem gain_at (x : Fin 1024) : (V1 m ρ c main_arg4 : S1x1024.Idx → EReal) (ix2 0 x) = (arrM m c).gain x :=
  via (Y := (m ((c : Thread nD τ).loc main_arg4) : S1x1024.Idx → EReal)) (W1_args m ρ c main_arg4 (by decide)) rfl

theorem holdF : HoldF (V1 m ρ) c (arrM m c) where
  q := v77_at m ρ c
  k := v78_at m ρ c
  qd := v84_at m ρ c
  kd := v90_at m ρ c
  v := v91_at m ρ c
  g := v5_at m ρ c
  gain := gain_at m ρ c
  dm := v56_at m ρ c
  gs := v70_at m ρ c
  bd := v76_at m ρ c

/-- What neither pass nor the line between them writes. -/
theorem keep (b : Ref sig .tc) (h1 : b ∉ hostOps1_W) (h2 : ∀ w : Fin cfg0.W, Pipeline.arrRef spec0 w = b → (cfg0.win w).isOut = false) :
    V3 m ρ c b = V1 m ρ c b := (W3_of m ρ c b h1).trans (W2_of m ρ c b h2)

theorem v93_at (h : Fin 8) (a b : Fin 128) : (V3 m ρ c main_v93 : S8x128x128.Idx → EReal) (ix3 h a b) = (arrM m c).dm h b a := by
  have e : (V3 m ρ c main_v93 : S8x128x128.Idx → EReal) (ix3 h a b) = (W2 m ρ c (Proc.devRef .tc main_v56) : S8x128x128.Idx → EReal) (ix3 h b a) := by
    simp only [V3, W3, hostOps1]
    after_results_simp
    pointwise
  exact e.trans (via (Y := (V1 m ρ c main_v56 : S8x128x128.Idx → EReal)) (W2_of m ρ c main_v56 (by decide +kernel)) (v56_at m ρ c h b a))

theorem holdB : HoldB (V3 m ρ) c (arrM m c) where
  q := fun a b => via (Y := (V1 m ρ c main_v77 : S4224x512.Idx → EReal)) (keep m ρ c main_v77 (by decide) (by decide +kernel)) (v77_at m ρ c a b)
  k := fun a b => via (Y := (V1 m ρ c main_v78 : S4224x512.Idx → EReal)) (keep m ρ c main_v78 (by decide) (by decide +kernel)) (v78_at m ρ c a b)
  qd := fun a b => via (Y := (V1 m ρ c main_v84 : S4224x512.Idx → EReal)) (keep m ρ c main_v84 (by decide) (by decide +kernel)) (v84_at m ρ c a b)
  kd := fun a b => via (Y := (V1 m ρ c main_v90 : S4224x512.Idx → EReal)) (keep m ρ c main_v90 (by decide) (by decide +kernel)) (v90_at m ρ c a b)
  v := fun a b => via (Y := (V1 m ρ c main_v91 : S4224x1024.Idx → EReal)) (keep m ρ c main_v91 (by decide) (by decide +kernel)) (v91_at m ρ c a b)
  g := fun a b => via (Y := (V1 m ρ c main_v5 : S4224x1024.Idx → EReal)) (keep m ρ c main_v5 (by decide) (by decide +kernel)) (v5_at m ρ c a b)
  gain := fun a => via (Y := (V1 m ρ c main_arg4 : S1x1024.Idx → EReal)) (keep m ρ c main_arg4 (by decide) (by decide +kernel)) (gain_at m ρ c a)
  dm := fun a b d => via (Y := (V1 m ρ c main_v56 : S8x128x128.Idx → EReal)) (keep m ρ c main_v56 (by decide) (by decide +kernel)) (v56_at m ρ c a b d)
  gs := fun a b d => via (Y := (V1 m ρ c main_v70 : S4x128x256.Idx → EReal)) (keep m ρ c main_v70 (by decide) (by decide +kernel)) (v70_at m ρ c a b d)
  bd := fun a b => via (Y := (V1 m ρ c main_v76 : S128x256.Idx → EReal)) (keep m ρ c main_v76 (by decide) (by decide +kernel)) (v76_at m ρ c a b)
  dy := fun a b => via (Y := (V1 m ρ c main_v6 : S4224x1024.Idx → EReal)) (keep m ρ c main_v6 (by decide) (by decide +kernel)) (v6_at m ρ c a b)
  cos := fun a b => via (Y := (V1 m ρ c main_v20 : S4224x128.Idx → EReal)) (keep m ρ c main_v20 (by decide) (by decide +kernel)) (v20_at m ρ c a b)
  sin := fun a b => via (Y := (V1 m ρ c main_v22 : S4224x128.Idx → EReal)) (keep m ρ c main_v22 (by decide) (by decide +kernel)) (v22_at m ρ c a b)
  qdec := fun a b => via (Y := (V1 m ρ c main_v66 : S128x512.Idx → EReal)) (keep m ρ c main_v66 (by decide) (by decide +kernel)) (v66_at m ρ c a b)
  kdec := fun a b => via (Y := (V1 m ρ c main_v63 : S128x512.Idx → EReal)) (keep m ρ c main_v63 (by decide) (by decide +kernel)) (v63_at m ρ c a b)
  dmt := v93_at m ρ c
  o := fun R x => via (Y := rowsA (arrM m c).out) ((W3_of m ρ c main_v92_0 (by decide)).trans ((W2_arr m ρ c 10).trans (holdF m ρ c).arr_o)) rfl
  r := fun n p l x => via (Y := statesA (arrM m c)) ((W3_of m ρ c main_v92_2 (by decide)).trans ((W2_arr m ρ c 12).trans (holdF m ρ c).arr_r)) rfl

theorem left_y : (W4 m ρ c (Proc.devRef .tc main_v92_1) : S4224x1024.Idx → EReal) = rowsA (arrM m c).y :=
  (W4_of m ρ c main_v92_1 (by decide +kernel)).trans ((W3_of m ρ c main_v92_1 (by decide)).trans ((W2_arr m ρ c 11).trans (holdF m ρ c).arr_y))
theorem left_dq : (W4 m ρ c (Proc.devRef .tc main_v94_0) : S4224x512.Idx → EReal) = rowsQ (arrM m c).dq :=
  (W4_arr m ρ c 18).trans (holdB m ρ c).arr_dq
theorem left_dk : (W4 m ρ c (Proc.devRef .tc main_v94_1) : S4224x512.Idx → EReal) = rowsQ (arrM m c).dk :=
  (W4_arr m ρ c 19).trans (holdB m ρ c).arr_dk
theorem left_dv : (W4 m ρ c (Proc.devRef .tc main_v94_2) : S4224x1024.Idx → EReal) = rowsA (arrM m c).dv :=
  (W4_arr m ρ c 20).trans (holdB m ρ c).arr_dv
theorem left_dg : (W4 m ρ c (Proc.devRef .tc main_v94_3) : S4224x1024.Idx → EReal) = rowsA (arrM m c).dg :=
  (W4_arr m ρ c 21).trans (holdB m ρ c).arr_drg
theorem left_dgain : (W4 m ρ c (Proc.devRef .tc main_v94_4) : S1x1024.Idx → EReal) = gnG (arrM m c).dgain :=
  (W4_arr m ρ c 22).trans (holdB m ρ c).arr_gain

end Cert.Kernel2Ideal.Ret

end
-- ==== Proof.RetRef1.lean ====
/- The rotated rows, the decays and the products within a chunk. -/
module

public import proofs.«01_k».proof.Proof.RetArgs
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.RetRef

open Cert.Reference2Ideal Cert.Reference2Ideal.Read Cert.Reference2Ideal.Gen Cert.RetRows

variable (x0 x1 : FVec Ideal S1x4112x512 .f32) (x2 x3 : FVec Ideal S1x4112x1024 .f32) (x4 : FVec Ideal S1x1024 .f32) (x5 : FVec Ideal S1x4112x1024 .f32)

/-- The arguments' arrays. -/
abbrev arrR : Arr := arrOf (fun r j => x0 (ix3 0 r j)) (fun r j => x1 (ix3 0 r j)) (fun r j => x2 (ix3 0 r j)) (fun r j => x3 (ix3 0 r j)) (fun r j => x5 (ix3 0 r j)) (fun j => x4 (ix2 0 j))

theorem v13_at (r : Fin 4112) (i : Fin 32) : val_main_v13 (F := Ideal) (ix2 r i) = angle (num r.val) i := by
  pointwise [val_main_v13, val_main_v11, val_main_v9, val_main_v8, val_main_v0, val_main_v12, val_main_v10, val_main_v7, val_main_v6, val_main_cst_0, val_main_v5, val_main_v3, val_main_v2, val_main_v4, val_main_cst, angle]
  rfl

theorem v43_at (r : Fin 4112) (i : Fin 32) : val_main_v43 (F := Ideal) (ix2 r i) = angle (num r.val) i := by
  pointwise [val_main_v43, val_main_v41, val_main_v39, val_main_v38, val_main_v0, val_main_v42, val_main_v40, val_main_v37, val_main_v36, val_main_cst_2, val_main_v35, val_main_v33, val_main_v32, val_main_v34, val_main_cst_1, angle]
  rfl

theorem v83_at (h : Fin 8) : val_main_v83 (F := Ideal) (ix1 h) = lgam h := by
  pointwise [val_main_v83, val_main_v82, val_main_v81, val_main_v80, val_main_v79, val_main_cst_11, val_main_v78, val_main_v77, val_main_cst_10, val_main_v76, lgam]
  rfl

theorem v30_at (r : Fin 4112) (h : Fin 8) (d : Fin 64) : val_main_v30 (F := Ideal) x0 (ix4 0 r h d) = rotRow (fun r j => x0 (ix3 0 r j)) r (qcol h d) := by
  pointwise [val_main_v30, val_main_v24, val_main_v21, val_main_v18, val_main_v1, val_main_v20, val_main_v15, val_main_v14, val_main_v23, val_main_v19, val_main_v22, val_main_v17, val_main_v16, val_main_v29, val_main_v26, val_main_v25, val_main_v28, val_main_v27]
  simp only [v13_at]
  unfold rotRow rot
  simp only [qlane_qcol, qhead_qcol]
  by_cases h32 : d.val < 32
  · simp only [dif_pos h32]
    rw [show qcol h ⟨d.val + 32, by omega⟩ = ⟨h.val * 64 + (32 + d.val), by omega⟩ from Fin.ext (by simp only [qcol]; omega)]
    rfl
  · simp only [dif_neg h32]
    exact congrArg₂ (· + ·) rfl (congrArg₂ (· * ·) (congrArg (fun j => x0 (ix3 0 r j)) (Fin.ext (by simp only [qcol]; omega))) rfl)

theorem v60_at (r : Fin 4112) (h : Fin 8) (d : Fin 64) : val_main_v60 (F := Ideal) x1 (ix4 0 r h d) = rotRow (fun r j => x1 (ix3 0 r j)) r (qcol h d) := by
  pointwise [val_main_v60, val_main_v54, val_main_v51, val_main_v48, val_main_v31, val_main_v50, val_main_v45, val_main_v44, val_main_v53, val_main_v49, val_main_v52, val_main_v47, val_main_v46, val_main_v59, val_main_v56, val_main_v55, val_main_v58, val_main_v57]
  simp only [v43_at]
  unfold rotRow rot
  simp only [qlane_qcol, qhead_qcol]
  by_cases h32 : d.val < 32
  · simp only [dif_pos h32]
    rw [show qcol h ⟨d.val + 32, by omega⟩ = ⟨h.val * 64 + (32 + d.val), by omega⟩ from Fin.ext (by simp only [qcol]; omega)]
    rfl
  · simp only [dif_neg h32]
    exact congrArg₂ (· + ·) rfl (congrArg₂ (· * ·) (congrArg (fun j => x1 (ix3 0 r j)) (Fin.ext (by simp only [qcol]; omega))) rfl)

theorem v73_at (n : Fin 33) (a : Fin 128) (h : Fin 8) (d : Fin 64) : val_main_v73 (F := Ideal) x0 (ix5 0 n a h d) = (arrR x0 x1 x2 x3 x4 x5).q (row n a) (qcol h d) := by
  pointwise [val_main_v73, val_main_v65, val_main_v64, val_main_cst_4]
  simp only [v30_at]
  show _ = pad0 _ _ _
  unfold pad0
  by_cases hR : 112 ≤ (row n a).val
  · rw [dif_pos hR, dif_neg (show ¬ n.val * 128 + a.val < 112 from Nat.not_lt.2 hR)]
    rfl
  · rw [dif_neg hR, dif_pos (show n.val * 128 + a.val < 112 from Nat.lt_of_not_le hR)]

theorem v74_at (n : Fin 33) (a : Fin 128) (h : Fin 8) (d : Fin 64) : val_main_v74 (F := Ideal) x1 (ix5 0 n a h d) = (arrR x0 x1 x2 x3 x4 x5).k (row n a) (qcol h d) := by
  pointwise [val_main_v74, val_main_v68, val_main_v67, val_main_cst_6, val_main_v62, val_main_v61, val_main_cst_3]
  simp only [v60_at]
  show _ = pad0 (fun r j => rotRow (fun r j => x1 (ix3 0 r j)) r j * WEighth) (row n a) (qcol h d)
  unfold pad0
  by_cases hR : 112 ≤ (row n a).val
  · rw [dif_pos hR, dif_neg (show ¬ n.val * 128 + a.val < 112 from Nat.not_lt.2 hR)]
    rfl
  · rw [dif_neg hR, dif_pos (show n.val * 128 + a.val < 112 from Nat.lt_of_not_le hR)]

theorem v75_at (n : Fin 33) (a : Fin 128) (h : Fin 8) (e : Fin 128) : val_main_v75 (F := Ideal) x2 (ix5 0 n a h e) = (arrR x0 x1 x2 x3 x4 x5).v (row n a) (vcol h e) := by
  pointwise [val_main_v75, val_main_v71, val_main_v70, val_main_cst_8, val_main_v63]
  show _ = pad0 (fun r j => x2 (ix3 0 r j)) (row n a) (vcol h e)
  unfold pad0
  by_cases hR : 112 ≤ (row n a).val
  · rw [dif_pos hR, dif_neg (show ¬ n.val * 128 + a.val < 112 from Nat.not_lt.2 hR)]
    rfl
  · rw [dif_neg hR, dif_pos (show n.val * 128 + a.val < 112 from Nat.lt_of_not_le hR)]

theorem v101_at (h : Fin 8) (a b : Fin 128) : val_main_v101 (F := Ideal) (ix3 h a b) = dmOf h a b := by
  pointwise [val_main_v101, val_main_call0_v1, val_main_v92, val_main_v90, val_main_v89, val_main_v87, val_main_v85, val_main_v84, val_main_v88, val_main_v86, val_main_v91, val_main_cst_12, val_main_v100, val_main_v99, val_main_v97, val_main_v95, val_main_v94, val_main_v93, val_main_cst_13, val_main_v98, val_main_v96, val_main_call0_v2, val_main_call0_v0, val_main_cst_14]
  simp only [v83_at]
  unfold dmOf
  refine if_congr Iff.rfl rfl ?_
  show Ideal.ofBits FTy.f32 0#32 = 0
  simp [Ideal.ofBits, Ideal.ieee]

theorem v119_at (n : Fin 33) (a : Fin 128) (h : Fin 8) (d : Fin 64) : val_main_v119 (F := Ideal) x1 (ix5 0 n a h d) = (arrR x0 x1 x2 x3 x4 x5).kd (row n a) (qcol h d) := by
  pointwise [val_main_v119, val_main_v118, val_main_v117, val_main_v116, val_main_v115, val_main_v114, val_main_v112, val_main_v110, val_main_v109, val_main_v108, val_main_cst_15, val_main_v84, val_main_v113, val_main_v111]
  simp only [v83_at]
  rw [v74_at x0 x1 x2 x3 x4 x5]
  show _ = _ * kdecOf _ _
  unfold kdecOf
  simp only [placeOf_row, qhead_qcol]
  rfl

theorem v310_at (n : Fin 33) (a : Fin 128) (h : Fin 8) (d : Fin 64) : val_main_v310 (F := Ideal) x0 (ix5 0 n a h d) = (arrR x0 x1 x2 x3 x4 x5).qd (row n a) (qcol h d) := by
  pointwise [val_main_v310, val_main_v309, val_main_v308, val_main_v307, val_main_v306, val_main_v305, val_main_v303, val_main_v301, val_main_v300, val_main_v84, val_main_v299, val_main_cst_19, val_main_v304, val_main_v302]
  simp only [v83_at]
  rw [v73_at x0 x1 x2 x3 x4 x5]
  show _ = _ * qdecOf _ _
  unfold qdecOf
  simp only [placeOf_row, qhead_qcol]
  rfl

theorem v124_at (h : Fin 8) : val_main_v124 (F := Ideal) (ix4 0 h 0 0) = (arrR x0 x1 x2 x3 x4 x5).gs h := by
  pointwise [val_main_v124, val_main_v123, val_main_v122, val_main_v121, val_main_cst_16]
  simp only [v83_at]
  rfl

theorem v102_at (n : Fin 33) (h : Fin 8) (a m : Fin 128) : val_main_v102 (F := Ideal) x0 x1 (ix5 0 n h a m)
    = ∑ d, (arrR x0 x1 x2 x3 x4 x5).q (row n a) (qcol h d) * (arrR x0 x1 x2 x3 x4 x5).k (row n m) (qcol h d) := by
  pointwise [val_main_v102]
  refine Finset.sum_congr rfl fun d _ => congrArg₂ (· * ·) ?_ ?_
  · exact v73_at x0 x1 x2 x3 x4 x5 n a h d
  · exact v74_at x0 x1 x2 x3 x4 x5 n m h d

theorem v105_at (n : Fin 33) (h : Fin 8) (a m : Fin 128) : val_main_v105 (F := Ideal) x0 x1 (ix5 0 n h a m)
    = (∑ d, (arrR x0 x1 x2 x3 x4 x5).q (row n a) (qcol h d) * (arrR x0 x1 x2 x3 x4 x5).k (row n m) (qcol h d)) * (arrR x0 x1 x2 x3 x4 x5).dm h a m := by
  pointwise [val_main_v105, val_main_v104, val_main_v103]
  rw [v102_at x0 x1 x2 x3 x4 x5, v101_at]
  rfl

theorem v107_at (n : Fin 33) (a : Fin 128) (h : Fin 8) (e : Fin 128) : val_main_v107 (F := Ideal) x0 x1 x2 (ix5 0 n a h e)
    = ∑ m, ((∑ d, (arrR x0 x1 x2 x3 x4 x5).q (row n a) (qcol h d) * (arrR x0 x1 x2 x3 x4 x5).k (row n m) (qcol h d)) * (arrR x0 x1 x2 x3 x4 x5).dm h a m)
        * (arrR x0 x1 x2 x3 x4 x5).v (row n m) (vcol h e) := by
  pointwise [val_main_v107, val_main_v106]
  refine Finset.sum_congr rfl fun m _ => (mul_comm _ _).trans (congrArg₂ (· * ·) ?_ ?_)
  · exact v105_at x0 x1 x2 x3 x4 x5 n h a m
  · exact v75_at x0 x1 x2 x3 x4 x5 n m h e

theorem v120_at (n : Fin 33) (h : Fin 8) (d : Fin 64) (e : Fin 128) : val_main_v120 (F := Ideal) x1 x2 (ix5 0 n h d e)
    = ∑ c, (arrR x0 x1 x2 x3 x4 x5).kd (row n c) (qcol h d) * (arrR x0 x1 x2 x3 x4 x5).v (row n c) (vcol h e) := by
  pointwise [val_main_v120]
  refine Finset.sum_congr rfl fun d _ => congrArg₂ (· * ·) ?_ ?_
  · exact v119_at x0 x1 x2 x3 x4 x5 n _ h _
  · exact v75_at x0 x1 x2 x3 x4 x5 n _ h e

end Cert.Reference2Ideal.RetRef

end
-- ==== Proof.RetRef2.lean ====
/- The states before each chunk. -/
module

public import proofs.«01_k».proof.Proof.RetRef1
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.RetRef

open Cert.Reference2Ideal Cert.Reference2Ideal.Read Cert.Reference2Ideal.Gen Cert.RetRows

variable (x0 x1 : FVec Ideal S1x4112x512 .f32) (x2 x3 : FVec Ideal S1x4112x1024 .f32) (x4 : FVec Ideal S1x1024 .f32) (x5 : FVec Ideal S1x4112x1024 .f32)

/-- The array holds the state before chunk `n`. -/
abbrev StIs (n : ℕ) (X : FVec Ideal S1x1x8x64x128 .f32) : Prop := ∀ (z : Fin 1) h d e, X (ix5 0 z h d e) = (arrR x0 x1 x2 x3 x4 x5).st h n d e

/-- The array holds chunk `n`'s contribution to the state. -/
abbrev KvIs (n : Fin 33) (X : FVec Ideal S1x1x8x64x128 .f32) : Prop := ∀ (z : Fin 1) h d e, X (ix5 0 z h d e) = val_main_v120 (F := Ideal) x1 x2 (ix5 0 n h d e)

theorem decay_at (z : Fin 1) (h : Fin 8) (d : Fin 64) (e : Fin 128) : val_main_v141 (F := Ideal) (ix5 0 z h d e) = (arrR x0 x1 x2 x3 x4 x5).gs h := by
  pointwise [val_main_v141, val_main_v140]
  exact v124_at x0 x1 x2 x3 x4 x5 h

variable {x0 x1 x2 x3 x4 x5} in
theorem st_step (n : Fin 33) {S K : FVec Ideal S1x1x8x64x128 .f32} (hS : StIs x0 x1 x2 x3 x4 x5 n.val S) (hK : KvIs x1 x2 n K) :
    StIs x0 x1 x2 x3 x4 x5 (n.val + 1) (addf (mulf (val_main_v141 (F := Ideal)) S) K) := fun z h d e => by
  show val_main_v141 (F := Ideal) (ix5 0 z h d e) * S (ix5 0 z h d e) + K (ix5 0 z h d e) = _
  rw [decay_at x0 x1 x2 x3 x4 x5, hS, hK, v120_at x0 x1 x2 x3 x4 x5, Arr.st_succ]

theorem v125_at : StIs x0 x1 x2 x3 x4 x5 0 (val_main_v125 (F := Ideal)) := fun z h d e => by
  pointwise [val_main_v125, val_main_cst_17]
  rfl

theorem v143_at : StIs x0 x1 x2 x3 x4 x5 1 (val_main_v143 (F := Ideal) x1 x2) :=
  st_step 0 (v125_at x0 x1 x2 x3 x4 x5) fun z h d e => by pointwise [val_main_v129, val_main_v126]
theorem v147_at : StIs x0 x1 x2 x3 x4 x5 2 (val_main_v147 (F := Ideal) x1 x2) :=
  st_step 1 (v143_at x0 x1 x2 x3 x4 x5) fun z h d e => by pointwise [val_main_v130, val_main_v126]
theorem v151_at : StIs x0 x1 x2 x3 x4 x5 3 (val_main_v151 (F := Ideal) x1 x2) :=
  st_step 2 (v147_at x0 x1 x2 x3 x4 x5) fun z h d e => by pointwise [val_main_v131, val_main_v126]
theorem v155_at : StIs x0 x1 x2 x3 x4 x5 4 (val_main_v155 (F := Ideal) x1 x2) :=
  st_step 3 (v151_at x0 x1 x2 x3 x4 x5) fun z h d e => by pointwise [val_main_v132, val_main_v126]
theorem v159_at : StIs x0 x1 x2 x3 x4 x5 5 (val_main_v159 (F := Ideal) x1 x2) :=
  st_step 4 (v155_at x0 x1 x2 x3 x4 x5) fun z h d e => by pointwise [val_main_v133, val_main_v126]
theorem v163_at : StIs x0 x1 x2 x3 x4 x5 6 (val_main_v163 (F := Ideal) x1 x2) :=
  st_step 5 (v159_at x0 x1 x2 x3 x4 x5) fun z h d e => by pointwise [val_main_v134, val_main_v126]
theorem v167_at : StIs x0 x1 x2 x3 x4 x5 7 (val_main_v167 (F := Ideal) x1 x2) :=
  st_step 6 (v163_at x0 x1 x2 x3 x4 x5) fun z h d e => by pointwise [val_main_v135, val_main_v126]
theorem v171_at : StIs x0 x1 x2 x3 x4 x5 8 (val_main_v171 (F := Ideal) x1 x2) :=
  st_step 7 (v167_at x0 x1 x2 x3 x4 x5) fun z h d e => by pointwise [val_main_v136, val_main_v126]
theorem v175_at : StIs x0 x1 x2 x3 x4 x5 9 (val_main_v175 (F := Ideal) x1 x2) :=
  st_step 8 (v171_at x0 x1 x2 x3 x4 x5) fun z h d e => by pointwise [val_main_v137, val_main_v126]
theorem v179_at : StIs x0 x1 x2 x3 x4 x5 10 (val_main_v179 (F := Ideal) x1 x2) :=
  st_step 9 (v175_at x0 x1 x2 x3 x4 x5) fun z h d e => by pointwise [val_main_v138, val_main_v126]
theorem v183_at : StIs x0 x1 x2 x3 x4 x5 11 (val_main_v183 (F := Ideal) x1 x2) :=
  st_step 10 (v179_at x0 x1 x2 x3 x4 x5) fun z h d e => by pointwise [val_main_v139, val_main_v126]
theorem v198_at : StIs x0 x1 x2 x3 x4 x5 12 (val_main_v198 (F := Ideal) x1 x2) :=
  st_step 11 (v183_at x0 x1 x2 x3 x4 x5) fun z h d e => by pointwise [val_main_v184, val_main_v127]
theorem v202_at : StIs x0 x1 x2 x3 x4 x5 13 (val_main_v202 (F := Ideal) x1 x2) :=
  st_step 12 (v198_at x0 x1 x2 x3 x4 x5) fun z h d e => by pointwise [val_main_v185, val_main_v127]
theorem v206_at : StIs x0 x1 x2 x3 x4 x5 14 (val_main_v206 (F := Ideal) x1 x2) :=
  st_step 13 (v202_at x0 x1 x2 x3 x4 x5) fun z h d e => by pointwise [val_main_v186, val_main_v127]
theorem v210_at : StIs x0 x1 x2 x3 x4 x5 15 (val_main_v210 (F := Ideal) x1 x2) :=
  st_step 14 (v206_at x0 x1 x2 x3 x4 x5) fun z h d e => by pointwise [val_main_v187, val_main_v127]
theorem v214_at : StIs x0 x1 x2 x3 x4 x5 16 (val_main_v214 (F := Ideal) x1 x2) :=
  st_step 15 (v210_at x0 x1 x2 x3 x4 x5) fun z h d e => by pointwise [val_main_v188, val_main_v127]
theorem v218_at : StIs x0 x1 x2 x3 x4 x5 17 (val_main_v218 (F := Ideal) x1 x2) :=
  st_step 16 (v214_at x0 x1 x2 x3 x4 x5) fun z h d e => by pointwise [val_main_v189, val_main_v127]
theorem v222_at : StIs x0 x1 x2 x3 x4 x5 18 (val_main_v222 (F := Ideal) x1 x2) :=
  st_step 17 (v218_at x0 x1 x2 x3 x4 x5) fun z h d e => by pointwise [val_main_v190, val_main_v127]
theorem v226_at : StIs x0 x1 x2 x3 x4 x5 19 (val_main_v226 (F := Ideal) x1 x2) :=
  st_step 18 (v222_at x0 x1 x2 x3 x4 x5) fun z h d e => by pointwise [val_main_v191, val_main_v127]
theorem v230_at : StIs x0 x1 x2 x3 x4 x5 20 (val_main_v230 (F := Ideal) x1 x2) :=
  st_step 19 (v226_at x0 x1 x2 x3 x4 x5) fun z h d e => by pointwise [val_main_v192, val_main_v127]
theorem v234_at : StIs x0 x1 x2 x3 x4 x5 21 (val_main_v234 (F := Ideal) x1 x2) :=
  st_step 20 (v230_at x0 x1 x2 x3 x4 x5) fun z h d e => by pointwise [val_main_v193, val_main_v127]
theorem v238_at : StIs x0 x1 x2 x3 x4 x5 22 (val_main_v238 (F := Ideal) x1 x2) :=
  st_step 21 (v234_at x0 x1 x2 x3 x4 x5) fun z h d e => by pointwise [val_main_v194, val_main_v127]
theorem v253_at : StIs x0 x1 x2 x3 x4 x5 23 (val_main_v253 (F := Ideal) x1 x2) :=
  st_step 22 (v238_at x0 x1 x2 x3 x4 x5) fun z h d e => by pointwise [val_main_v239, val_main_v128]
theorem v257_at : StIs x0 x1 x2 x3 x4 x5 24 (val_main_v257 (F := Ideal) x1 x2) :=
  st_step 23 (v253_at x0 x1 x2 x3 x4 x5) fun z h d e => by pointwise [val_main_v240, val_main_v128]
theorem v261_at : StIs x0 x1 x2 x3 x4 x5 25 (val_main_v261 (F := Ideal) x1 x2) :=
  st_step 24 (v257_at x0 x1 x2 x3 x4 x5) fun z h d e => by pointwise [val_main_v241, val_main_v128]
theorem v265_at : StIs x0 x1 x2 x3 x4 x5 26 (val_main_v265 (F := Ideal) x1 x2) :=
  st_step 25 (v261_at x0 x1 x2 x3 x4 x5) fun z h d e => by pointwise [val_main_v242, val_main_v128]
theorem v269_at : StIs x0 x1 x2 x3 x4 x5 27 (val_main_v269 (F := Ideal) x1 x2) :=
  st_step 26 (v265_at x0 x1 x2 x3 x4 x5) fun z h d e => by pointwise [val_main_v243, val_main_v128]
theorem v273_at : StIs x0 x1 x2 x3 x4 x5 28 (val_main_v273 (F := Ideal) x1 x2) :=
  st_step 27 (v269_at x0 x1 x2 x3 x4 x5) fun z h d e => by pointwise [val_main_v244, val_main_v128]
theorem v277_at : StIs x0 x1 x2 x3 x4 x5 29 (val_main_v277 (F := Ideal) x1 x2) :=
  st_step 28 (v273_at x0 x1 x2 x3 x4 x5) fun z h d e => by pointwise [val_main_v245, val_main_v128]
theorem v281_at : StIs x0 x1 x2 x3 x4 x5 30 (val_main_v281 (F := Ideal) x1 x2) :=
  st_step 29 (v277_at x0 x1 x2 x3 x4 x5) fun z h d e => by pointwise [val_main_v246, val_main_v128]
theorem v285_at : StIs x0 x1 x2 x3 x4 x5 31 (val_main_v285 (F := Ideal) x1 x2) :=
  st_step 30 (v281_at x0 x1 x2 x3 x4 x5) fun z h d e => by pointwise [val_main_v247, val_main_v128]
theorem v289_at : StIs x0 x1 x2 x3 x4 x5 32 (val_main_v289 (F := Ideal) x1 x2) :=
  st_step 31 (v285_at x0 x1 x2 x3 x4 x5) fun z h d e => by pointwise [val_main_v248, val_main_v128]
theorem v293_at : StIs x0 x1 x2 x3 x4 x5 33 (val_main_v293 (F := Ideal) x1 x2) :=
  st_step 32 (v289_at x0 x1 x2 x3 x4 x5) fun z h d e => by pointwise [val_main_v249, val_main_v128]

set_option maxHeartbeats 4000000 in
theorem v294_at (n : Fin 11) (h : Fin 8) (d : Fin 64) (e : Fin 128) : val_main_v294 (F := Ideal) x1 x2 (ix5 0 n h d e) = (arrR x0 x1 x2 x3 x4 x5).st h (0 + n.val) d e := by
  pointwise [val_main_v294]
  simp only [v125_at x0 x1 x2 x3 x4 x5, v143_at x0 x1 x2 x3 x4 x5, v147_at x0 x1 x2 x3 x4 x5, v151_at x0 x1 x2 x3 x4 x5, v155_at x0 x1 x2 x3 x4 x5, v159_at x0 x1 x2 x3 x4 x5, v163_at x0 x1 x2 x3 x4 x5, v167_at x0 x1 x2 x3 x4 x5, v171_at x0 x1 x2 x3 x4 x5, v175_at x0 x1 x2 x3 x4 x5, v179_at x0 x1 x2 x3 x4 x5]
  have hn := n.isLt
  repeat' split
  all_goals exact congrArg (fun k => (arrR x0 x1 x2 x3 x4 x5).st h k d e) (by omega)

set_option maxHeartbeats 4000000 in
theorem v296_at (n : Fin 11) (h : Fin 8) (d : Fin 64) (e : Fin 128) : val_main_v296 (F := Ideal) x1 x2 (ix5 0 n h d e) = (arrR x0 x1 x2 x3 x4 x5).st h (11 + n.val) d e := by
  pointwise [val_main_v296]
  simp only [v183_at x0 x1 x2 x3 x4 x5, v198_at x0 x1 x2 x3 x4 x5, v202_at x0 x1 x2 x3 x4 x5, v206_at x0 x1 x2 x3 x4 x5, v210_at x0 x1 x2 x3 x4 x5, v214_at x0 x1 x2 x3 x4 x5, v218_at x0 x1 x2 x3 x4 x5, v222_at x0 x1 x2 x3 x4 x5, v226_at x0 x1 x2 x3 x4 x5, v230_at x0 x1 x2 x3 x4 x5, v234_at x0 x1 x2 x3 x4 x5]
  have hn := n.isLt
  repeat' split
  all_goals exact congrArg (fun k => (arrR x0 x1 x2 x3 x4 x5).st h k d e) (by omega)

set_option maxHeartbeats 4000000 in
theorem v297_at (n : Fin 11) (h : Fin 8) (d : Fin 64) (e : Fin 128) : val_main_v297 (F := Ideal) x1 x2 (ix5 0 n h d e) = (arrR x0 x1 x2 x3 x4 x5).st h (22 + n.val) d e := by
  pointwise [val_main_v297]
  simp only [v238_at x0 x1 x2 x3 x4 x5, v253_at x0 x1 x2 x3 x4 x5, v257_at x0 x1 x2 x3 x4 x5, v261_at x0 x1 x2 x3 x4 x5, v265_at x0 x1 x2 x3 x4 x5, v269_at x0 x1 x2 x3 x4 x5, v273_at x0 x1 x2 x3 x4 x5, v277_at x0 x1 x2 x3 x4 x5, v281_at x0 x1 x2 x3 x4 x5, v285_at x0 x1 x2 x3 x4 x5, v289_at x0 x1 x2 x3 x4 x5]
  have hn := n.isLt
  repeat' split
  all_goals exact congrArg (fun k => (arrR x0 x1 x2 x3 x4 x5).st h k d e) (by omega)

theorem v298_at (n : Fin 33) (h : Fin 8) (d : Fin 64) (e : Fin 128) : val_main_v298 (F := Ideal) x1 x2 (ix5 0 n h d e) = (arrR x0 x1 x2 x3 x4 x5).st h n.val d e := by
  pointwise [val_main_v298]
  simp only [v294_at x0 x1 x2 x3 x4 x5, v296_at x0 x1 x2 x3 x4 x5, v297_at x0 x1 x2 x3 x4 x5]
  have hn := n.isLt
  repeat' split
  all_goals exact congrArg (fun k => (arrR x0 x1 x2 x3 x4 x5).st h k d e) (by omega)

end Cert.Reference2Ideal.RetRef

end
-- ==== Proof.RetReal.lean ====
/- The retention's arrays hold real numbers when the arguments do; the two ways of writing the norm's gradient then agree. -/
module

public import proofs.«01_k».proof.Proof.RetArgs

@[expose] public section

set_option maxRecDepth 16384

noncomputable section

open Idealize.ShloMosaic Idealize.ShloMosaic.TcCoe Idealize.SL.Sem

namespace Cert.RetRows

open Cert.Reals

/-! ## Constants and functions on real numbers -/

theorem w128 : W128 = ((128 : ℝ) : EReal) := by
  simp [Ideal.ofBits, Ideal.ieee, -EReal.coe_mul]; norm_num
theorem wEighth : WEighth = ((1 / 8 : ℝ) : EReal) := by
  simp [Ideal.ofBits, Ideal.ieee, -EReal.coe_mul]; norm_num
theorem w10000 : Ideal.ofBits FTy.f32 0x461C4000#32 = ((10000 : ℝ) : EReal) := by
  simp [Ideal.ofBits, Ideal.ieee, -EReal.coe_mul]; norm_num
theorem w32 : Ideal.ofBits FTy.f32 0x42000000#32 = ((32 : ℝ) : EReal) := by
  simp [Ideal.ofBits, Ideal.ieee, -EReal.coe_mul]; norm_num
theorem wLn2 : Ideal.ofBits FTy.f32 0x3F317218#32 = ((11629080 / 16777216 : ℝ) : EReal) := by
  simp [Ideal.ofBits, Ideal.ieee, -EReal.coe_mul]; norm_num
theorem wNeg5 : Ideal.ofBits FTy.f32 0xC0A00000#32 = ((-5 : ℝ) : EReal) := by
  simp [Ideal.ofBits, Ideal.ieee, -EReal.coe_mul]; norm_num
theorem w127 : Ideal.ofBits FTy.f32 0x42FE0000#32 = ((127 : ℝ) : EReal) := by
  simp [Ideal.ofBits, Ideal.ieee, -EReal.coe_mul]; norm_num

theorem isReal_num {n : ℕ} (h : n < 2147483648) : IsReal (num n) := ⟨_, num_eq h⟩
theorem isReal_exp {x : EReal} (h : IsReal x) : IsReal (Ideal.exp x) := by obtain ⟨r, rfl⟩ := h; exact ⟨Real.exp r, rfl⟩
theorem isReal_cos {x : EReal} (h : IsReal x) : IsReal (Ideal.cos x) := by obtain ⟨r, rfl⟩ := h; exact ⟨Real.cos r, rfl⟩
theorem isReal_sin {x : EReal} (h : IsReal x) : IsReal (Ideal.sin x) := by obtain ⟨r, rfl⟩ := h; exact ⟨Real.sin r, rfl⟩
theorem isReal_tanh {x : EReal} (h : IsReal x) : IsReal (Ideal.tanh x) := by obtain ⟨r, rfl⟩ := h; exact ⟨Real.tanh r, rfl⟩
theorem isReal_max {x y : EReal} (hx : IsReal x) (hy : IsReal y) : IsReal (max x y) := by
  rcases max_choice x y with h | h <;> rw [h] <;> assumption
theorem isReal_div128 {x : EReal} (h : IsReal x) : IsReal (Ideal.div x W128) := by
  obtain ⟨r, rfl⟩ := h
  rw [w128, div_coe_pos (by norm_num)]
  exact isReal_coe _

theorem isReal_angle {p : EReal} (hp : IsReal p) (i : Fin 32) : IsReal (angle p i) := by
  unfold angle
  refine hp.mul ?_
  obtain ⟨r, hr⟩ := isReal_num (n := i.val) (by omega)
  rw [hr, w32, w10000, ← EReal.coe_neg, div_coe_pos (by norm_num)]
  exact ⟨Real.rpow 10000 (-r / 32), rfl⟩

theorem isReal_lgam (h : Fin 8) : IsReal (lgam h) := by
  unfold lgam
  rw [num_eq (by omega), wLn2, wNeg5, ← EReal.coe_sub, ← EReal.coe_mul]
  have hh : (0 : ℝ) ≤ (h.val : ℝ) := Nat.cast_nonneg _
  have hlt : Real.exp (11629080 / 16777216 * (-5 - (h.val : ℝ))) < 1 := by
    rw [← Real.exp_zero]
    exact Real.exp_lt_exp.2 (by nlinarith)
  set t : ℝ := Real.exp (11629080 / 16777216 * (-5 - (h.val : ℝ)))
  show IsReal (Ideal.log (1 + -((t : ℝ) : EReal)))
  rw [← EReal.coe_neg, ← EReal.coe_one, ← EReal.coe_add]
  refine ⟨Real.log (1 + -t), ?_⟩
  show (if 1 + -t ≤ 0 then (⊥ : EReal) else (Real.log (1 + -t) : EReal)) = _
  rw [if_neg (by linarith)]

theorem isReal_sigm {x : EReal} (h : IsReal x) : IsReal (sigm x) := by
  unfold sigm
  have hh : IsReal WHalf := ⟨_, wHalf⟩
  exact (hh.mul (isReal_tanh (hh.mul h))).add hh

/-- The sigmoid as a reciprocal. -/
theorem sigm_eq {x : EReal} (h : IsReal x) : Ideal.div 1 (1 + Ideal.exp (-x)) = sigm x := by
  obtain ⟨r, rfl⟩ := h
  unfold sigm
  rw [wHalf, ← EReal.coe_mul, ← EReal.coe_neg]
  show Ideal.div 1 (1 + ((Real.exp (-r) : ℝ) : EReal)) = ((1 / 2 : ℝ) : EReal) * ((Real.tanh (1 / 2 * r) : ℝ) : EReal) + _
  rw [← EReal.coe_one, ← EReal.coe_add, div_coe_pos (by positivity), ← EReal.coe_mul, ← EReal.coe_add]
  congr 1
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [Real.tanh_eq_sinh_div_cosh, Real.sinh_eq, Real.cosh_eq, e1]
  have ha : 0 < Real.exp (1 / 2 * r) := Real.exp_pos _
  have hb : 0 < Real.exp (-(1 / 2 * r)) := Real.exp_pos _
  generalize Real.exp (1 / 2 * r) = a at *
  generalize Real.exp (-(1 / 2 * r)) = b at *
  have hab : a = 1 / b := by field_simp; linarith
  subst hab
  field_simp
  ring

/-! ## The norm's gradient -/

section

variable (o E : Fin 128 → EReal)

/-- The variance's gradient, as the reverse pass writes it. -/
def dvar : EReal :=
  Ideal.div ((∑ x, oc o x * E x) * (WNegHalf * Ideal.div (rstd o) (mean (fun l => oc o l * oc o l) + WEps))) W128
def dpre (l : Fin 128) : EReal := E l * rstd o + oc o l * dvar o E + dvar o E * oc o l
/-- The gradient of the norm's input for the cotangent `E` of its output, as the reverse pass writes it. -/
def doVjp (l : Fin 128) : EReal := dpre o E l + Ideal.div (∑ x, -(dpre o E x)) W128

variable {o E}

theorem doVjp_eq (ho : ∀ l, IsReal (o l)) (hE : ∀ l, IsReal (E l)) (l : Fin 128) :
    doVjp o E l = rstd o * ((E l - mean E) - xhat o l * mean (fun x => E x * xhat o x)) := by
  obtain ⟨O, rfl⟩ := exists_real ho
  obtain ⟨G, rfl⟩ := exists_real hE
  have p128 : (0 : ℝ) < 128 := by norm_num
  have hm : mean (fun x => (O x : EReal)) = (((∑ x, O x) / 128 : ℝ) : EReal) := by
    rw [mean, coe_sum, w128, div_coe_pos p128]
  have hoc : ∀ x, oc (fun x => (O x : EReal)) x = ((O x - (∑ x, O x) / 128 : ℝ) : EReal) := fun x => by
    rw [oc, hm, EReal.coe_sub]
  have hC0 : ∑ x, (O x - (∑ x, O x) / 128) = 0 := by
    rw [Finset.sum_sub_distrib, Finset.sum_const, Finset.card_univ, Fintype.card_fin, nsmul_eq_mul]
    push_cast
    ring
  generalize hC : (fun x => O x - (∑ x, O x) / 128) = C at *
  have hCx : ∀ x, O x - (∑ x, O x) / 128 = C x := fun x => congrFun hC x
  simp only [hCx] at hoc hC0
  obtain ⟨e, he, hw⟩ := wEps
  have h0 : (0 : ℝ) ≤ ∑ x, C x * C x := Finset.sum_nonneg fun x _ => mul_self_nonneg _
  have es : ∃ s : ℝ, 0 < s ∧ mean (fun l => oc (fun x => (O x : EReal)) l * oc (fun x => (O x : EReal)) l) + WEps = (s : EReal) := by
    refine ⟨(∑ x, C x * C x) / 128 + e, by positivity, ?_⟩
    simp only [hoc, mean, ← EReal.coe_mul]
    rw [show WEps = (e : EReal) from hw, w128, coe_sum, div_coe_pos p128, ← EReal.coe_add]
  obtain ⟨s, hs, es⟩ := es
  have hr : rstd (fun x => (O x : EReal)) = (((Real.sqrt s)⁻¹ : ℝ) : EReal) := by rw [rstd, es, rsqrt_coe_pos hs]
  simp only [doVjp, dpre, dvar, xhat, hr, es]
  simp only [hoc, mean]
  rw [w128, wNegHalf]
  simp only [div_coe_pos hs, div_coe_pos p128, ← EReal.coe_mul, ← EReal.coe_add, ← EReal.coe_sub, ← EReal.coe_neg, coe_sum]
  congr 1
  have hq : Real.sqrt s * Real.sqrt s = s := Real.mul_self_sqrt hs.le
  have hq0 : Real.sqrt s ≠ 0 := (Real.sqrt_pos.2 hs).ne'
  have hs2 : (∑ x, G x * (C x * (Real.sqrt s)⁻¹)) = (∑ x, C x * G x) * (Real.sqrt s)⁻¹ := by
    rw [Finset.sum_mul]; exact Finset.sum_congr rfl fun x _ => by ring
  have hs1 : ∀ D : ℝ, (∑ x, -(G x * (Real.sqrt s)⁻¹ + C x * D + D * C x)) = -((∑ x, G x) * (Real.sqrt s)⁻¹) := fun D => by
    have e1 : ∀ x, -(G x * (Real.sqrt s)⁻¹ + C x * D + D * C x) = G x * (-(Real.sqrt s)⁻¹) + C x * (-(2 * D)) := fun x => by ring
    rw [Finset.sum_congr rfl fun x _ => e1 x, Finset.sum_add_distrib, ← Finset.sum_mul, ← Finset.sum_mul, hC0]
    ring
  rw [hs1, hs2]
  generalize (∑ x, C x * G x) = S
  generalize (∑ x, G x) = T
  generalize hqq : Real.sqrt s = q at *
  subst hq
  field_simp
  ring

end

/-! ## The arrays -/

namespace Arr

/-- Every array holds real numbers. -/
structure IsR (A : Arr) : Prop where
  q : ∀ R j, IsReal (A.q R j)
  k : ∀ R j, IsReal (A.k R j)
  qd : ∀ R j, IsReal (A.qd R j)
  kd : ∀ R j, IsReal (A.kd R j)
  v : ∀ R j, IsReal (A.v R j)
  g : ∀ R j, IsReal (A.g R j)
  dy : ∀ R j, IsReal (A.dy R j)
  gain : ∀ j, IsReal (A.gain j)
  dm : ∀ h a b, IsReal (A.dm h a b)
  gs : ∀ h, IsReal (A.gs h)

variable {A : Arr}

theorem IsR.st (H : A.IsR) (h : Fin 8) : ∀ n d e, IsReal (A.st h n d e)
  | 0, _, _ => isReal_zero
  | n + 1, d, e => by
    rw [Arr.st]
    refine ((H.gs h).mul (H.st h n d e)).add ?_
    split
    · exact IsReal.sum _ fun c _ => (H.kd _ _).mul (H.v _ _)
    · exact isReal_zero

theorem IsR.out (H : A.IsR) (h : Fin 8) (n : Fin 33) (c e : Fin 128) : IsReal (A.out h n c e) := by
  unfold Arr.out
  exact (IsReal.sum _ fun m _ => ((IsReal.sum _ fun d _ => (H.q _ _).mul (H.k _ _)).mul (H.dm _ _ _)).mul (H.v _ _)).add
    (IsReal.sum _ fun d _ => (H.qd _ _).mul (H.st _ _ _ _))

theorem IsR.dxh (H : A.IsR) (h : Fin 8) (n : Fin 33) (c l : Fin 128) : IsReal (dxh (A.gR h n c) (A.dyR h n c) (A.gnR h) l) :=
  ((H.dy _ _).mul ((H.g _ _).mul (isReal_sigm (H.g _ _)))).mul (H.gain _)

theorem IsR.dO_eq (H : A.IsR) (h : Fin 8) (n : Fin 33) (c l : Fin 128) :
    doVjp (A.oR h n c) (RetRows.dxh (A.gR h n c) (A.dyR h n c) (A.gnR h)) l = A.dO h n c l :=
  doVjp_eq (H.out h n c) (H.dxh h n c) l

end Arr

section

variable {q k : Fin 4112 → Fin 512 → EReal} {v g dy : Fin 4112 → Fin 1024 → EReal} {gain : Fin 1024 → EReal}

theorem isReal_pad0 {n : ℕ} {f : Fin 4112 → Fin n → EReal} (h : ∀ r j, IsReal (f r j)) (R : Fin 4224) (j : Fin n) : IsReal (pad0 f R j) := by
  unfold pad0
  split
  · exact h _ _
  · exact isReal_zero

theorem isReal_rotRow {x : Fin 4112 → Fin 512 → EReal} (h : ∀ r j, IsReal (x r j)) (r : Fin 4112) (j : Fin 512) : IsReal (rotRow x r j) := by
  have ha := fun i => isReal_angle (isReal_num (n := r.val) (by omega)) i
  unfold rotRow rot
  split
  · exact ((h _ _).mul (isReal_cos (ha _))).sub ((h _ _).mul (isReal_sin (ha _)))
  · exact ((h _ _).mul (isReal_sin (ha _))).add ((h _ _).mul (isReal_cos (ha _)))

theorem isR_arrOf (hq : ∀ r j, IsReal (q r j)) (hk : ∀ r j, IsReal (k r j)) (hv : ∀ r j, IsReal (v r j)) (hg : ∀ r j, IsReal (g r j))
    (hy : ∀ r j, IsReal (dy r j)) (hn : ∀ j, IsReal (gain j)) : (arrOf q k v g dy gain).IsR := by
  have Q : ∀ R j, IsReal (pad0 (rotRow q) R j) := isReal_pad0 (isReal_rotRow hq)
  have K : ∀ R j, IsReal (pad0 (fun r j => rotRow k r j * WEighth) R j) := isReal_pad0 fun r j => (isReal_rotRow hk r j).mul ⟨_, wEighth⟩
  have hnum : ∀ c : Fin 128, IsReal (num c.val) := fun c => isReal_num (by omega)
  exact {
    q := Q
    k := K
    qd := fun R j => (Q R j).mul (isReal_exp (((hnum _).add isReal_one).mul (isReal_lgam _)))
    kd := fun R j => (K R j).mul (isReal_exp ((IsReal.sub ⟨_, w127⟩ (hnum _)).mul (isReal_lgam _)))
    v := isReal_pad0 hv
    g := isReal_pad0 hg
    dy := isReal_pad0 hy
    gain := hn
    dm := fun h a b => by
      show IsReal (dmOf h a b)
      unfold dmOf
      split
      · exact isReal_exp ((isReal_max ((hnum a).sub (hnum b)) isReal_zero).mul (isReal_lgam h))
      · exact isReal_zero
    gs := fun h => isReal_exp (IsReal.mul ⟨_, w128⟩ (isReal_lgam h)) }

end

/-! ## The rows of zeros in front -/

/-- Chunk `n`'s row `c` is one of the zeros in front. -/
def Front (n : Fin 33) (c : Fin 128) : Prop := ¬ 112 ≤ (row n c).val

section

variable {q k : Fin 4112 → Fin 512 → EReal} {v g dy : Fin 4112 → Fin 1024 → EReal} {gain : Fin 1024 → EReal} {n : Fin 33} {c : Fin 128}
  (H : Front n c)

include H

theorem front_q (j : Fin 512) : (arrOf q k v g dy gain).q (row n c) j = 0 := pad0_neg _ H j
theorem front_k (j : Fin 512) : (arrOf q k v g dy gain).k (row n c) j = 0 :=
  pad0_neg (fun r j => rotRow k r j * WEighth) H j
theorem front_kd (j : Fin 512) : (arrOf q k v g dy gain).kd (row n c) j = 0 := by
  show pad0 _ _ _ * _ = _
  rw [pad0_neg _ H, zero_mul]
theorem front_v (j : Fin 1024) : (arrOf q k v g dy gain).v (row n c) j = 0 := pad0_neg v H j
theorem front_g (j : Fin 1024) : (arrOf q k v g dy gain).g (row n c) j = 0 := pad0_neg g H j
theorem front_dy (j : Fin 1024) : (arrOf q k v g dy gain).dy (row n c) j = 0 := pad0_neg dy H j

theorem front_y (h : Fin 8) (l : Fin 128) : (arrOf q k v g dy gain).y h n c l = 0 := by
  simp only [Arr.y, yRow, front_g H, zero_mul, mul_zero]
theorem front_dg (h : Fin 8) (l : Fin 128) : (arrOf q k v g dy gain).dg h n c l = 0 := by
  simp only [Arr.dg, dgRow, front_dy H, zero_mul]
theorem front_dO (h : Fin 8) (l : Fin 128) : (arrOf q k v g dy gain).dO h n c l = 0 := by
  have e : dxh ((arrOf q k v g dy gain).gR h n c) ((arrOf q k v g dy gain).dyR h n c) ((arrOf q k v g dy gain).gnR h) = fun _ => 0 := funext fun l => by
    simp only [dxh, don, front_dy H, zero_mul]
  have hm : mean (fun _ => (0 : EReal)) = 0 := by
    rw [mean, Finset.sum_const_zero, w128, ← EReal.coe_zero, div_coe_pos (by norm_num), zero_div]
  simp only [Arr.dO, doRow, e, zero_mul, hm, mul_zero, sub_zero]
theorem front_dgain (h : Fin 8) (l : Fin 128) (x : EReal) :
    don ((arrOf q k v g dy gain).gR h n c) ((arrOf q k v g dy gain).dyR h n c) l * x = 0 := by
  simp only [don, front_dy H, zero_mul]
theorem front_dv (h : Fin 8) (e : Fin 128) : (arrOf q k v g dy gain).dv h n c e = 0 := by
  simp only [Arr.dv, front_kd H, front_k H, zero_mul, Finset.sum_const_zero, add_zero]
theorem front_dqp (h : Fin 8) (d : Fin 64) : (arrOf q k v g dy gain).dqp h n c d = 0 := by
  simp only [Arr.dqp, front_dO H, zero_mul, Finset.sum_const_zero, add_zero]
theorem front_dkp (h : Fin 8) (d : Fin 64) : (arrOf q k v g dy gain).dkp h n c d = 0 := by
  simp only [Arr.dkp, front_v H, zero_mul, Finset.sum_const_zero, add_zero]
theorem front_dq (j : Fin 512) : (arrOf q k v g dy gain).dq n c j = 0 := by
  simp only [Arr.dq, Arr.unrot, front_dqp H, zero_mul, add_zero]
theorem front_dk (j : Fin 512) : (arrOf q k v g dy gain).dk n c j = 0 := by
  simp only [Arr.dk, Arr.unrot, front_dkp H, zero_mul, add_zero]

end

end Cert.RetRows

end
-- ==== Proof.RetRef3.lean ====
/- The branch's rows, its results and the gradient of the retention's outputs. -/
module

public import proofs.«01_k».proof.Proof.RetRef2
public import proofs.«01_k».proof.Proof.RetReal
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.RetRef

open Cert.Reference2Ideal Cert.Reference2Ideal.Read Cert.Reference2Ideal.Gen Cert.RetRows

variable (x0 x1 : FVec Ideal S1x4112x512 .f32) (x2 x3 : FVec Ideal S1x4112x1024 .f32) (x4 : FVec Ideal S1x1024 .f32) (x5 : FVec Ideal S1x4112x1024 .f32)

/-! ## Host sums over two axes of size one -/

@[pointwise] theorem sum_rows (h : (⟨4, ![1, 4112, 8, 1]⟩ : Shape).ReducesTo [0, 3] ⟨2, ![4112, 8]⟩)
    (x : (⟨4, ![1, 4112, 8, 1]⟩ : Shape).Idx → EReal) (init : EReal) (j : (⟨2, ![4112, 8]⟩ : Shape).Idx) :
    Ideal.hostReduceAdd h x init j = init + x (ix4 0 (j 0) (j 1) 0) := by
  have hd0 : ∀ a, (h.drop a 0).val = (a 1).val := fun a => rfl
  have hd1 : ∀ a, (h.drop a 1).val = (a 2).val := fun a => rfl
  refine Cert.Reals.hostReduceAdd_fiber h x init j _ fun a => ⟨fun e => ?_, fun e => ?_⟩
  · have h1 := congrArg Fin.val (congrFun e 0)
    have h2 := congrArg Fin.val (congrFun e 1)
    rw [hd0] at h1
    rw [hd1] at h2
    have h0 : (a 0).val < 1 := (a 0).isLt
    have h3 : (a 3).val < 1 := (a 3).isLt
    funext b
    match b with
    | ⟨0, _⟩ => exact Fin.ext (Nat.lt_one_iff.1 h0)
    | ⟨1, _⟩ => exact Fin.ext h1
    | ⟨2, _⟩ => exact Fin.ext h2
    | ⟨3, _⟩ => exact Fin.ext (Nat.lt_one_iff.1 h3)
  · subst e
    funext b
    match b with
    | ⟨0, _⟩ => exact Fin.ext (hd0 _)
    | ⟨1, _⟩ => exact Fin.ext (hd1 _)

@[pointwise] theorem sum_heads (h : (⟨4, ![1, 1, 8, 128]⟩ : Shape).ReducesTo [0, 1] ⟨2, ![8, 128]⟩)
    (x : (⟨4, ![1, 1, 8, 128]⟩ : Shape).Idx → EReal) (init : EReal) (j : (⟨2, ![8, 128]⟩ : Shape).Idx) :
    Ideal.hostReduceAdd h x init j = init + x (ix4 0 0 (j 0) (j 1)) := by
  have hd0 : ∀ a, (h.drop a 0).val = (a 2).val := fun a => rfl
  have hd1 : ∀ a, (h.drop a 1).val = (a 3).val := fun a => rfl
  refine Cert.Reals.hostReduceAdd_fiber h x init j _ fun a => ⟨fun e => ?_, fun e => ?_⟩
  · have h1 := congrArg Fin.val (congrFun e 0)
    have h2 := congrArg Fin.val (congrFun e 1)
    rw [hd0] at h1
    rw [hd1] at h2
    have h0 : (a 0).val < 1 := (a 0).isLt
    have h3 : (a 1).val < 1 := (a 1).isLt
    funext b
    match b with
    | ⟨0, _⟩ => exact Fin.ext (Nat.lt_one_iff.1 h0)
    | ⟨1, _⟩ => exact Fin.ext (Nat.lt_one_iff.1 h3)
    | ⟨2, _⟩ => exact Fin.ext h1
    | ⟨3, _⟩ => exact Fin.ext h2
  · subst e
    funext b
    match b with
    | ⟨0, _⟩ => exact Fin.ext (hd0 _)
    | ⟨1, _⟩ => exact Fin.ext (hd1 _)

/-! ## Rows behind the zeros -/

/-- The chunk of a row of the arguments and its place there. -/
def cN (r : Fin 4112) : Fin 33 := ⟨(112 + r.val) / 128, by omega⟩
def cA (r : Fin 4112) : Fin 128 := ⟨(112 + r.val) % 128, by omega⟩

theorem row_c (r : Fin 4112) : row (cN r) (cA r) = ⟨112 + r.val, by omega⟩ := Fin.ext (by simp only [row, cN, cA]; omega)

theorem pad0_c {n : ℕ} (f : Fin 4112 → Fin n → EReal) (r : Fin 4112) (j : Fin n) : pad0 f (row (cN r) (cA r)) j = f r j := by
  rw [row_c, pad0_pos f (by simp only; omega)]
  exact congrArg (fun r => f r j) (Fin.ext (by simp only; omega))

theorem c_row {n : Fin 33} {c : Fin 128} (h : 112 ≤ (row n c).val) : cN ⟨(row n c).val - 112, by omega⟩ = n ∧ cA ⟨(row n c).val - 112, by omega⟩ = c := by
  simp only [row] at h ⊢
  exact ⟨Fin.ext (by simp only [cN]; omega), Fin.ext (by simp only [cA]; omega)⟩

/-! ## The outputs and the norm -/

theorem v313_at (n : Fin 33) (a : Fin 128) (h : Fin 8) (e : Fin 128) : val_main_v313 (F := Ideal) x0 x1 x2 (ix5 0 n a h e) = (arrR x0 x1 x2 x3 x4 x5).out h n a e := by
  pointwise [val_main_v313, val_main_v312, val_main_v311]
  refine congrArg₂ (· + ·) (v107_at x0 x1 x2 x3 x4 x5 n a h e) (Finset.sum_congr rfl fun d _ => (mul_comm _ _).trans (congrArg₂ (· * ·) ?_ ?_))
  · exact v310_at x0 x1 x2 x3 x4 x5 n a h d
  · exact v298_at x0 x1 x2 x3 x4 x5 n h d e

theorem v315_at (r : Fin 4112) (h : Fin 8) (e : Fin 128) : val_main_v315 (F := Ideal) x0 x1 x2 (ix4 0 r h e) = (arrR x0 x1 x2 x3 x4 x5).out h (cN r) (cA r) e := by
  pointwise [val_main_v315, val_main_v314]
  exact v313_at x0 x1 x2 x3 x4 x5 (cN r) (cA r) h e

theorem v320_at (r : Fin 4112) (h : Fin 8) : val_main_v320 (F := Ideal) x0 x1 x2 (ix4 0 r h 0) = mean ((arrR x0 x1 x2 x3 x4 x5).oR h (cN r) (cA r)) := by
  pointwise [val_main_v320, val_main_v318, val_main_v317, val_main_cst_20, val_main_v319, val_main_cst_21]
  simp only [v315_at x0 x1 x2 x3 x4 x5, zero_add]
  rfl

theorem v321_at (r : Fin 4112) (h : Fin 8) (e : Fin 128) : val_main_v321 (F := Ideal) x0 x1 x2 (ix4 0 r h e)
    = mean ((arrR x0 x1 x2 x3 x4 x5).oR h (cN r) (cA r)) := by
  pointwise [val_main_v321]
  exact v320_at x0 x1 x2 x3 x4 x5 r h

theorem v322_at (r : Fin 4112) (h : Fin 8) (e : Fin 128) : val_main_v322 (F := Ideal) x0 x1 x2 (ix4 0 r h e)
    = oc ((arrR x0 x1 x2 x3 x4 x5).oR h (cN r) (cA r)) e := by
  rw [val_main_v322_apply, v315_at x0 x1 x2 x3 x4 x5, v321_at x0 x1 x2 x3 x4 x5]
  rfl

theorem v323_at (r : Fin 4112) (h : Fin 8) (e : Fin 128) : val_main_v323 (F := Ideal) x0 x1 x2 (ix4 0 r h e)
    = oc ((arrR x0 x1 x2 x3 x4 x5).oR h (cN r) (cA r)) e * oc ((arrR x0 x1 x2 x3 x4 x5).oR h (cN r) (cA r)) e := by
  rw [val_main_v323_apply, v322_at x0 x1 x2 x3 x4 x5]
  rfl

theorem v327_at (r : Fin 4112) (h : Fin 8) : val_main_v327 (F := Ideal) x0 x1 x2 (ix4 0 r h 0)
    = mean (fun l => oc ((arrR x0 x1 x2 x3 x4 x5).oR h (cN r) (cA r)) l * oc ((arrR x0 x1 x2 x3 x4 x5).oR h (cN r) (cA r)) l) := by
  pointwise [val_main_v327, val_main_v325, val_main_v324, val_main_cst_22, val_main_v326, val_main_cst_23]
  simp only [v323_at x0 x1 x2 x3 x4 x5, zero_add]
  rfl

theorem v329_at (r : Fin 4112) (h : Fin 8) : val_main_v329 (F := Ideal) x0 x1 x2 (ix4 0 r h 0)
    = mean (fun l => oc ((arrR x0 x1 x2 x3 x4 x5).oR h (cN r) (cA r)) l * oc ((arrR x0 x1 x2 x3 x4 x5).oR h (cN r) (cA r)) l) + WEps := by
  rw [val_main_v329_apply, v327_at x0 x1 x2 x3 x4 x5]
  rfl

theorem v330_at (r : Fin 4112) (h : Fin 8) : val_main_v330 (F := Ideal) x0 x1 x2 (ix4 0 r h 0)
    = rstd ((arrR x0 x1 x2 x3 x4 x5).oR h (cN r) (cA r)) := by
  rw [val_main_v330_apply, v329_at x0 x1 x2 x3 x4 x5]
  rfl

theorem v334_at (r : Fin 4112) (h : Fin 8) (e : Fin 128) : val_main_v334 (F := Ideal) x0 x1 x2 (ix4 0 r h e)
    = rstd ((arrR x0 x1 x2 x3 x4 x5).oR h (cN r) (cA r)) := by
  pointwise [val_main_v334]
  exact v330_at x0 x1 x2 x3 x4 x5 r h

theorem v335_at (r : Fin 4112) (h : Fin 8) (e : Fin 128) : val_main_v335 (F := Ideal) x0 x1 x2 (ix4 0 r h e)
    = xhat ((arrR x0 x1 x2 x3 x4 x5).oR h (cN r) (cA r)) e := by
  rw [val_main_v335_apply, v322_at x0 x1 x2 x3 x4 x5, v334_at x0 x1 x2 x3 x4 x5]
  rfl

theorem v338_at (r : Fin 4112) (h : Fin 8) (e : Fin 128) : val_main_v338 (F := Ideal) x4 (ix4 0 r h e)
    = (arrR x0 x1 x2 x3 x4 x5).gnR h e := by
  pointwise [val_main_v338, val_main_v337, val_main_v336, val_main_v316]
  rfl

theorem v339_at (r : Fin 4112) (h : Fin 8) (e : Fin 128) : val_main_v339 (F := Ideal) x0 x1 x2 x4 (ix4 0 r h e)
    = xhat ((arrR x0 x1 x2 x3 x4 x5).oR h (cN r) (cA r)) e * (arrR x0 x1 x2 x3 x4 x5).gnR h e := by
  rw [val_main_v339_apply, v335_at x0 x1 x2 x3 x4 x5, v338_at x0 x1 x2 x3 x4 x5]
  rfl

theorem v340_at (r : Fin 4112) (h : Fin 8) (e : Fin 128) : val_main_v340 (F := Ideal) x0 x1 x2 x4 (ix3 0 r (vcol h e))
    = xhat ((arrR x0 x1 x2 x3 x4 x5).oR h (cN r) (cA r)) e * (arrR x0 x1 x2 x3 x4 x5).gnR h e := by
  have e1 : vcol h e = ⟨h.val * 128 + e.val, by omega⟩ := rfl
  rw [e1]
  pointwise [val_main_v340]
  exact v339_at x0 x1 x2 x3 x4 x5 r h e

/-! ## The gate -/

theorem v341s_at {x3 : FVec Ideal S1x4112x1024 .f32} (hg : ∀ i, Cert.Reals.IsReal (x3 i)) (i) : val_main_v341_2 (F := Ideal) x3 i = sigm (x3 i) := by
  rw [← sigm_eq (hg i)]
  pointwise [val_main_v341_2, val_main_call1_v4, val_main_call1_cst_0, val_main_call1_v3, val_main_call1_v2, val_main_call1_cst, val_main_call1_v1, val_main_call1_v0]

end Cert.Reference2Ideal.RetRef

end
-- ==== Proof.RetReal2.lean ====
/- The norm's rows are real; a sum over the rows behind the zeros. -/
module

public import proofs.«01_k».proof.Proof.RetReal

@[expose] public section

noncomputable section

open Idealize.ShloMosaic Idealize.ShloMosaic.TcCoe

namespace Cert.RetRows

open Cert.Reals

theorem isReal_xhat {o : Fin 128 → EReal} (ho : ∀ l, IsReal (o l)) (l : Fin 128) : IsReal (xhat o l) := by
  have hm : IsReal (mean o) := isReal_div128 (IsReal.sum _ fun l _ => ho l)
  have h1 : ∀ l, IsReal (oc o l) := fun l => (ho l).sub hm
  obtain ⟨C, hC⟩ := exists_real h1
  obtain ⟨e, he, hw⟩ := wEps
  have h0 : (0 : ℝ) ≤ ∑ x, C x * C x := Finset.sum_nonneg fun x _ => mul_self_nonneg _
  have es : mean (fun l => oc o l * oc o l) + WEps = (((∑ x, C x * C x) / 128 + e : ℝ) : EReal) := by
    simp only [hC, mean, ← EReal.coe_mul]
    rw [show WEps = (e : EReal) from hw, w128, coe_sum, div_coe_pos (by norm_num), ← EReal.coe_add]
  have hr : IsReal (rstd o) := by
    rw [rstd, es, rsqrt_coe_pos (by positivity)]
    exact isReal_coe _
  exact (h1 l).mul hr

/-- The gate's gradient as the reverse pass writes it. -/
theorem dgRow_eq {x n y g : EReal} (hx : IsReal x) (hn : IsReal n) (hy : IsReal y) (hg : IsReal g) :
    ((x * n) * y) * sigm g + (g * ((x * n) * y)) * (sigm g * (1 - sigm g)) = (y * (x * n)) * (sigm g * (1 + g * (1 - sigm g))) := by
  obtain ⟨s, hs⟩ := isReal_sigm hg
  rw [hs]
  obtain ⟨a, rfl⟩ := hx
  obtain ⟨b, rfl⟩ := hn
  obtain ⟨c, rfl⟩ := hy
  obtain ⟨d, rfl⟩ := hg
  rw [← EReal.coe_one]
  simp only [← EReal.coe_mul, ← EReal.coe_add, ← EReal.coe_sub]
  congr 1
  ring

theorem sum_chunks (F : Fin 33 → Fin 128 → EReal) : ∑ n, ∑ c, F n c = ∑ R : Fin 4224, F (chunkOf R) (placeOf R) :=
  (Fintype.sum_prod_type' F).symm.trans (Finset.sum_bij' (fun p _ => row p.1 p.2) (fun R _ => (chunkOf R, placeOf R))
    (fun _ _ => Finset.mem_univ _) (fun _ _ => Finset.mem_univ _) (fun p _ => by simp) (fun R _ => row_of R) (fun p _ => by simp))

/-- A sum over the padded rows of what is 0 on the zeros in front. -/
theorem sum_behind (F : Fin 33 → Fin 128 → EReal) (f : Fin 4112 → EReal) (h0 : ∀ n c, Front n c → F n c = 0)
    (h1 : ∀ r : Fin 4112, F ⟨(112 + r.val) / 128, by omega⟩ ⟨(112 + r.val) % 128, by omega⟩ = f r) : ∑ n, ∑ c, F n c = ∑ r, f r := by
  rw [sum_chunks, show ∑ R : Fin 4224, F (chunkOf R) (placeOf R) = ∑ R : Fin (112 + 4112), F (chunkOf R) (placeOf R) from rfl, Fin.sum_univ_add,
    Finset.sum_eq_zero (s := Finset.univ) (f := fun i : Fin 112 => F (chunkOf (Fin.castAdd 4112 i)) (placeOf (Fin.castAdd 4112 i))), zero_add]
  · exact Finset.sum_congr rfl fun r _ => h1 r
  · intro i _
    refine h0 _ _ ?_
    rw [Front, row_of]
    have hi := i.isLt
    show ¬ 112 ≤ i.val
    omega

end Cert.RetRows

end
-- ==== Proof.RetRef5.lean ====
/- The gradients of the states after each chunk. -/
module

public import proofs.«01_k».proof.Proof.RetRef2
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.RetRef

open Cert.Reference2Ideal Cert.Reference2Ideal.Read Cert.Reference2Ideal.Gen Cert.RetRows

variable (x0 x1 : FVec Ideal S1x4112x512 .f32) (x2 x3 : FVec Ideal S1x4112x1024 .f32) (x4 : FVec Ideal S1x1024 .f32) (x5 : FVec Ideal S1x4112x1024 .f32)

/-- The gradient of the retention's outputs. -/
abbrev OutGrad : Prop := ∀ (n : Fin 33) (a : Fin 128) (h : Fin 8) (e : Fin 128), val_main_v380 (F := Ideal) x0 x1 x2 x3 x4 x5 (ix5 0 n a h e) = (arrR x0 x1 x2 x3 x4 x5).dO h n a e

theorem Arr.dst_succ (A : Arr) (h : Fin 8) (j : ℕ) (hj : j < 33) (d : Fin 64) (e : Fin 128) : A.dst h (j + 1) d e
    = A.gs h * A.dst h j d e + ∑ c, A.qd (row ⟨32 - j, by omega⟩ c) (qcol h d) * A.dO h ⟨32 - j, by omega⟩ c e := by
  rw [Arr.dst, dif_pos hj]

variable {x0 x1 x2 x3 x4 x5} (HD : OutGrad x0 x1 x2 x3 x4 x5)

/-- The array holds the gradient of the state after the chunk `j` before the last. -/
abbrev DsIs (A : Arr) (j : ℕ) (X : FVec Ideal S1x1x8x64x128 .f32) : Prop := ∀ (z : Fin 1) h d e, X (ix5 0 z h d e) = A.dst h j d e

/-- The array holds chunk `n`'s contribution to that gradient. -/
abbrev QoIs (A : Arr) (n : ℕ) (X : FVec Ideal S1x1x8x64x128 .f32) : Prop :=
  ∀ (hn : n < 33) (z : Fin 1) h d e, X (ix5 0 z h d e) = ∑ c, A.qd (row ⟨n, hn⟩ c) (qcol h d) * A.dO h ⟨n, hn⟩ c e

include HD in
theorem v385_at (n : Fin 33) (h : Fin 8) (d : Fin 64) (e : Fin 128) : val_main_v385 (F := Ideal) x0 x1 x2 x3 x4 x5 (ix5 0 n h d e)
    = ∑ c, (arrR x0 x1 x2 x3 x4 x5).qd (row n c) (qcol h d) * (arrR x0 x1 x2 x3 x4 x5).dO h n c e := by
  pointwise [val_main_v385, val_main_v384, val_main_v381]
  refine Finset.sum_congr rfl fun c _ => (mul_comm _ _).trans (congrArg₂ (· * ·) ?_ ?_)
  · exact v310_at x0 x1 x2 x3 x4 x5 n c h d
  · exact HD n c h e

theorem ds_step (j : ℕ) (hj : j < 33) {S K : FVec Ideal S1x1x8x64x128 .f32} (hS : DsIs (arrR x0 x1 x2 x3 x4 x5) j S) (hK : QoIs (arrR x0 x1 x2 x3 x4 x5) (32 - j) K) :
    DsIs (arrR x0 x1 x2 x3 x4 x5) (j + 1) (addf K (mulf (val_main_v141 (F := Ideal)) S)) := fun z h d e => by
  show K (ix5 0 z h d e) + val_main_v141 (F := Ideal) (ix5 0 z h d e) * S (ix5 0 z h d e) = _
  rw [decay_at x0 x1 x2 x3 x4 x5, hS, hK (by omega), Arr.dst_succ _ _ _ hj, add_comm]

theorem v454_at : DsIs (arrR x0 x1 x2 x3 x4 x5) 0 (val_main_v454 (F := Ideal)) := fun z h d e => by
  pointwise [val_main_v454, val_main_cst_35]
  rfl

include HD in
theorem v401_at : DsIs (arrR x0 x1 x2 x3 x4 x5) 1 (val_main_v401 (F := Ideal) x0 x1 x2 x3 x4 x5) := fun z h d e => by
  rw [Arr.dst_succ _ _ 0 (by omega)]
  pointwise [val_main_v401, val_main_v390]
  rw [v385_at HD]
  show _ = _ * (0 : EReal) + _
  rw [mul_zero, zero_add]

include HD in
theorem v426_at : DsIs (arrR x0 x1 x2 x3 x4 x5) 2 (val_main_v426 (F := Ideal) x0 x1 x2 x3 x4 x5) :=
  ds_step 1 (by omega) (v401_at HD) fun _ z h d e => by pointwise [val_main_v400, val_main_v390]; exact v385_at HD 31 h d e
include HD in
theorem v429_at : DsIs (arrR x0 x1 x2 x3 x4 x5) 3 (val_main_v429 (F := Ideal) x0 x1 x2 x3 x4 x5) :=
  ds_step 2 (by omega) (v426_at HD) fun _ z h d e => by pointwise [val_main_v399, val_main_v390]; exact v385_at HD 30 h d e
include HD in
theorem v432_at : DsIs (arrR x0 x1 x2 x3 x4 x5) 4 (val_main_v432 (F := Ideal) x0 x1 x2 x3 x4 x5) :=
  ds_step 3 (by omega) (v429_at HD) fun _ z h d e => by pointwise [val_main_v398, val_main_v390]; exact v385_at HD 29 h d e
include HD in
theorem v435_at : DsIs (arrR x0 x1 x2 x3 x4 x5) 5 (val_main_v435 (F := Ideal) x0 x1 x2 x3 x4 x5) :=
  ds_step 4 (by omega) (v432_at HD) fun _ z h d e => by pointwise [val_main_v397, val_main_v390]; exact v385_at HD 28 h d e
include HD in
theorem v438_at : DsIs (arrR x0 x1 x2 x3 x4 x5) 6 (val_main_v438 (F := Ideal) x0 x1 x2 x3 x4 x5) :=
  ds_step 5 (by omega) (v435_at HD) fun _ z h d e => by pointwise [val_main_v396, val_main_v390]; exact v385_at HD 27 h d e
include HD in
theorem v441_at : DsIs (arrR x0 x1 x2 x3 x4 x5) 7 (val_main_v441 (F := Ideal) x0 x1 x2 x3 x4 x5) :=
  ds_step 6 (by omega) (v438_at HD) fun _ z h d e => by pointwise [val_main_v395, val_main_v390]; exact v385_at HD 26 h d e
include HD in
theorem v444_at : DsIs (arrR x0 x1 x2 x3 x4 x5) 8 (val_main_v444 (F := Ideal) x0 x1 x2 x3 x4 x5) :=
  ds_step 7 (by omega) (v441_at HD) fun _ z h d e => by pointwise [val_main_v394, val_main_v390]; exact v385_at HD 25 h d e
include HD in
theorem v447_at : DsIs (arrR x0 x1 x2 x3 x4 x5) 9 (val_main_v447 (F := Ideal) x0 x1 x2 x3 x4 x5) :=
  ds_step 8 (by omega) (v444_at HD) fun _ z h d e => by pointwise [val_main_v393, val_main_v390]; exact v385_at HD 24 h d e
include HD in
theorem v450_at : DsIs (arrR x0 x1 x2 x3 x4 x5) 10 (val_main_v450 (F := Ideal) x0 x1 x2 x3 x4 x5) :=
  ds_step 9 (by omega) (v447_at HD) fun _ z h d e => by pointwise [val_main_v392, val_main_v390]; exact v385_at HD 23 h d e
include HD in
theorem v453_at : DsIs (arrR x0 x1 x2 x3 x4 x5) 11 (val_main_v453 (F := Ideal) x0 x1 x2 x3 x4 x5) :=
  ds_step 10 (by omega) (v450_at HD) fun _ z h d e => by pointwise [val_main_v391, val_main_v390]; exact v385_at HD 22 h d e
include HD in
theorem v458_at : DsIs (arrR x0 x1 x2 x3 x4 x5) 12 (val_main_v458 (F := Ideal) x0 x1 x2 x3 x4 x5) :=
  ds_step 11 (by omega) (v453_at HD) fun _ z h d e => by pointwise [val_main_v412, val_main_v389]; exact v385_at HD 21 h d e
include HD in
theorem v461_at : DsIs (arrR x0 x1 x2 x3 x4 x5) 13 (val_main_v461 (F := Ideal) x0 x1 x2 x3 x4 x5) :=
  ds_step 12 (by omega) (v458_at HD) fun _ z h d e => by pointwise [val_main_v411, val_main_v389]; exact v385_at HD 20 h d e
include HD in
theorem v464_at : DsIs (arrR x0 x1 x2 x3 x4 x5) 14 (val_main_v464 (F := Ideal) x0 x1 x2 x3 x4 x5) :=
  ds_step 13 (by omega) (v461_at HD) fun _ z h d e => by pointwise [val_main_v410, val_main_v389]; exact v385_at HD 19 h d e
include HD in
theorem v467_at : DsIs (arrR x0 x1 x2 x3 x4 x5) 15 (val_main_v467 (F := Ideal) x0 x1 x2 x3 x4 x5) :=
  ds_step 14 (by omega) (v464_at HD) fun _ z h d e => by pointwise [val_main_v409, val_main_v389]; exact v385_at HD 18 h d e
include HD in
theorem v470_at : DsIs (arrR x0 x1 x2 x3 x4 x5) 16 (val_main_v470 (F := Ideal) x0 x1 x2 x3 x4 x5) :=
  ds_step 15 (by omega) (v467_at HD) fun _ z h d e => by pointwise [val_main_v408, val_main_v389]; exact v385_at HD 17 h d e
include HD in
theorem v473_at : DsIs (arrR x0 x1 x2 x3 x4 x5) 17 (val_main_v473 (F := Ideal) x0 x1 x2 x3 x4 x5) :=
  ds_step 16 (by omega) (v470_at HD) fun _ z h d e => by pointwise [val_main_v407, val_main_v389]; exact v385_at HD 16 h d e
include HD in
theorem v476_at : DsIs (arrR x0 x1 x2 x3 x4 x5) 18 (val_main_v476 (F := Ideal) x0 x1 x2 x3 x4 x5) :=
  ds_step 17 (by omega) (v473_at HD) fun _ z h d e => by pointwise [val_main_v406, val_main_v389]; exact v385_at HD 15 h d e
include HD in
theorem v479_at : DsIs (arrR x0 x1 x2 x3 x4 x5) 19 (val_main_v479 (F := Ideal) x0 x1 x2 x3 x4 x5) :=
  ds_step 18 (by omega) (v476_at HD) fun _ z h d e => by pointwise [val_main_v405, val_main_v389]; exact v385_at HD 14 h d e
include HD in
theorem v482_at : DsIs (arrR x0 x1 x2 x3 x4 x5) 20 (val_main_v482 (F := Ideal) x0 x1 x2 x3 x4 x5) :=
  ds_step 19 (by omega) (v479_at HD) fun _ z h d e => by pointwise [val_main_v404, val_main_v389]; exact v385_at HD 13 h d e
include HD in
theorem v485_at : DsIs (arrR x0 x1 x2 x3 x4 x5) 21 (val_main_v485 (F := Ideal) x0 x1 x2 x3 x4 x5) :=
  ds_step 20 (by omega) (v482_at HD) fun _ z h d e => by pointwise [val_main_v403, val_main_v389]; exact v385_at HD 12 h d e
include HD in
theorem v488_at : DsIs (arrR x0 x1 x2 x3 x4 x5) 22 (val_main_v488 (F := Ideal) x0 x1 x2 x3 x4 x5) :=
  ds_step 21 (by omega) (v485_at HD) fun _ z h d e => by pointwise [val_main_v402, val_main_v389]; exact v385_at HD 11 h d e
include HD in
theorem v492_at : DsIs (arrR x0 x1 x2 x3 x4 x5) 23 (val_main_v492 (F := Ideal) x0 x1 x2 x3 x4 x5) :=
  ds_step 22 (by omega) (v488_at HD) fun _ z h d e => by pointwise [val_main_v423, val_main_v388]; exact v385_at HD 10 h d e
include HD in
theorem v495_at : DsIs (arrR x0 x1 x2 x3 x4 x5) 24 (val_main_v495 (F := Ideal) x0 x1 x2 x3 x4 x5) :=
  ds_step 23 (by omega) (v492_at HD) fun _ z h d e => by pointwise [val_main_v422, val_main_v388]; exact v385_at HD 9 h d e
include HD in
theorem v498_at : DsIs (arrR x0 x1 x2 x3 x4 x5) 25 (val_main_v498 (F := Ideal) x0 x1 x2 x3 x4 x5) :=
  ds_step 24 (by omega) (v495_at HD) fun _ z h d e => by pointwise [val_main_v421, val_main_v388]; exact v385_at HD 8 h d e
include HD in
theorem v501_at : DsIs (arrR x0 x1 x2 x3 x4 x5) 26 (val_main_v501 (F := Ideal) x0 x1 x2 x3 x4 x5) :=
  ds_step 25 (by omega) (v498_at HD) fun _ z h d e => by pointwise [val_main_v420, val_main_v388]; exact v385_at HD 7 h d e
include HD in
theorem v504_at : DsIs (arrR x0 x1 x2 x3 x4 x5) 27 (val_main_v504 (F := Ideal) x0 x1 x2 x3 x4 x5) :=
  ds_step 26 (by omega) (v501_at HD) fun _ z h d e => by pointwise [val_main_v419, val_main_v388]; exact v385_at HD 6 h d e
include HD in
theorem v507_at : DsIs (arrR x0 x1 x2 x3 x4 x5) 28 (val_main_v507 (F := Ideal) x0 x1 x2 x3 x4 x5) :=
  ds_step 27 (by omega) (v504_at HD) fun _ z h d e => by pointwise [val_main_v418, val_main_v388]; exact v385_at HD 5 h d e
include HD in
theorem v510_at : DsIs (arrR x0 x1 x2 x3 x4 x5) 29 (val_main_v510 (F := Ideal) x0 x1 x2 x3 x4 x5) :=
  ds_step 28 (by omega) (v507_at HD) fun _ z h d e => by pointwise [val_main_v417, val_main_v388]; exact v385_at HD 4 h d e
include HD in
theorem v513_at : DsIs (arrR x0 x1 x2 x3 x4 x5) 30 (val_main_v513 (F := Ideal) x0 x1 x2 x3 x4 x5) :=
  ds_step 29 (by omega) (v510_at HD) fun _ z h d e => by pointwise [val_main_v416, val_main_v388]; exact v385_at HD 3 h d e
include HD in
theorem v516_at : DsIs (arrR x0 x1 x2 x3 x4 x5) 31 (val_main_v516 (F := Ideal) x0 x1 x2 x3 x4 x5) :=
  ds_step 30 (by omega) (v513_at HD) fun _ z h d e => by pointwise [val_main_v415, val_main_v388]; exact v385_at HD 2 h d e
include HD in
theorem v519_at : DsIs (arrR x0 x1 x2 x3 x4 x5) 32 (val_main_v519 (F := Ideal) x0 x1 x2 x3 x4 x5) :=
  ds_step 31 (by omega) (v516_at HD) fun _ z h d e => by pointwise [val_main_v414, val_main_v388]; exact v385_at HD 1 h d e

set_option maxHeartbeats 4000000 in
include HD in
theorem v520_at (n : Fin 11) (h : Fin 8) (d : Fin 64) (e : Fin 128) : val_main_v520 (F := Ideal) x0 x1 x2 x3 x4 x5 (ix5 0 n h d e) = (arrR x0 x1 x2 x3 x4 x5).dst h (32 - (0 + n.val)) d e := by
  pointwise [val_main_v520]
  simp only [v519_at HD, v516_at HD, v513_at HD, v510_at HD, v507_at HD, v504_at HD, v501_at HD, v498_at HD, v495_at HD, v492_at HD, v488_at HD]
  have hn := n.isLt
  repeat' split
  all_goals exact congrArg (fun k => (arrR x0 x1 x2 x3 x4 x5).dst h k d e) (by omega)

set_option maxHeartbeats 4000000 in
include HD in
theorem v489_at (n : Fin 11) (h : Fin 8) (d : Fin 64) (e : Fin 128) : val_main_v489 (F := Ideal) x0 x1 x2 x3 x4 x5 (ix5 0 n h d e) = (arrR x0 x1 x2 x3 x4 x5).dst h (32 - (11 + n.val)) d e := by
  pointwise [val_main_v489]
  simp only [v485_at HD, v482_at HD, v479_at HD, v476_at HD, v473_at HD, v470_at HD, v467_at HD, v464_at HD, v461_at HD, v458_at HD, v453_at HD]
  have hn := n.isLt
  repeat' split
  all_goals exact congrArg (fun k => (arrR x0 x1 x2 x3 x4 x5).dst h k d e) (by omega)

set_option maxHeartbeats 4000000 in
include HD in
theorem v455_at (n : Fin 11) (h : Fin 8) (d : Fin 64) (e : Fin 128) : val_main_v455 (F := Ideal) x0 x1 x2 x3 x4 x5 (ix5 0 n h d e) = (arrR x0 x1 x2 x3 x4 x5).dst h (32 - (22 + n.val)) d e := by
  pointwise [val_main_v455]
  simp only [v450_at HD, v447_at HD, v444_at HD, v441_at HD, v438_at HD, v435_at HD, v432_at HD, v429_at HD, v426_at HD, v401_at HD, v454_at (x0 := x0) (x1 := x1) (x2 := x2) (x3 := x3) (x4 := x4) (x5 := x5)]
  have hn := n.isLt
  repeat' split
  all_goals exact congrArg (fun k => (arrR x0 x1 x2 x3 x4 x5).dst h k d e) (by omega)

include HD in
theorem v521_at (n : Fin 33) (h : Fin 8) (d : Fin 64) (e : Fin 128) : val_main_v521 (F := Ideal) x0 x1 x2 x3 x4 x5 (ix5 0 n h d e) = (arrR x0 x1 x2 x3 x4 x5).dst h (32 - n.val) d e := by
  pointwise [val_main_v521]
  simp only [v520_at HD, v489_at HD, v455_at HD]
  have hn := n.isLt
  repeat' split
  all_goals exact congrArg (fun k => (arrR x0 x1 x2 x3 x4 x5).dst h k d e) (by omega)

end Cert.Reference2Ideal.RetRef

end
-- ==== Proof.RetRef4.lean ====
/- The branch's result and the gradients of the gate, of the gain and of the retention's outputs. -/
module

public import proofs.«01_k».proof.Proof.RetRef3
public import proofs.«01_k».proof.Proof.RetReal2
public import proofs.«01_k».proof.Proof.RetRef5
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.RetRef

open Cert.Reference2Ideal Cert.Reference2Ideal.Read Cert.Reference2Ideal.Gen Cert.RetRows

variable (x0 x1 : FVec Ideal S1x4112x512 .f32) (x2 x3 : FVec Ideal S1x4112x1024 .f32) (x4 : FVec Ideal S1x1024 .f32) (x5 : FVec Ideal S1x4112x1024 .f32)

open Cert.Reals

variable {x0 x1 : FVec Ideal S1x4112x512 .f32} {x2 x3 : FVec Ideal S1x4112x1024 .f32} {x4 : FVec Ideal S1x1024 .f32} {x5 : FVec Ideal S1x4112x1024 .f32}

theorem g_c (r : Fin 4112) (h : Fin 8) (e : Fin 128) : x3 (ix3 0 r (vcol h e)) = (arrR x0 x1 x2 x3 x4 x5).gR h (cN r) (cA r) e :=
  (pad0_c (fun r j => x3 (ix3 0 r j)) r _).symm
theorem dy_c (r : Fin 4112) (h : Fin 8) (e : Fin 128) : x5 (ix3 0 r (vcol h e)) = (arrR x0 x1 x2 x3 x4 x5).dyR h (cN r) (cA r) e :=
  (pad0_c (fun r j => x5 (ix3 0 r j)) r _).symm

/-- Every argument holds real numbers. -/
structure ArgsReal (x0 x1 : FVec Ideal S1x4112x512 .f32) (x2 x3 : FVec Ideal S1x4112x1024 .f32) (x4 : FVec Ideal S1x1024 .f32)
    (x5 : FVec Ideal S1x4112x1024 .f32) : Prop where
  q : ∀ i, IsReal (x0 i)
  k : ∀ i, IsReal (x1 i)
  v : ∀ i, IsReal (x2 i)
  g : ∀ i, IsReal (x3 i)
  gain : ∀ i, IsReal (x4 i)
  dy : ∀ i, IsReal (x5 i)

variable (H : ArgsReal x0 x1 x2 x3 x4 x5)

include H

theorem isR : (arrR x0 x1 x2 x3 x4 x5).IsR :=
  isR_arrOf (fun _ _ => H.q _) (fun _ _ => H.k _) (fun _ _ => H.v _) (fun _ _ => H.g _) (fun _ _ => H.dy _) (fun _ => H.gain _)

theorem v341g_at (r : Fin 4112) (h : Fin 8) (e : Fin 128) : val_main_v341_0 (F := Ideal) x3 (ix3 0 r (vcol h e))
    = ((arrR x0 x1 x2 x3 x4 x5).gR h (cN r) (cA r) e) * sigm ((arrR x0 x1 x2 x3 x4 x5).gR h (cN r) (cA r) e) := by
  rw [val_main_v341_0_apply, v341s_at H.g, g_c (x0 := x0) (x1 := x1) (x2 := x2) (x3 := x3) (x4 := x4) (x5 := x5)]
  rfl

theorem v342_at (r : Fin 4112) (h : Fin 8) (e : Fin 128) : val_main_v342 (F := Ideal) x0 x1 x2 x3 x4 (ix3 0 r (vcol h e))
    = (arrR x0 x1 x2 x3 x4 x5).y h (cN r) (cA r) e := by
  rw [val_main_v342_apply, v340_at x0 x1 x2 x3 x4 x5, v341g_at H]
  rfl

omit H in
theorem v343_at (r : Fin 4112) (h : Fin 8) (e : Fin 128) : val_main_v343 (F := Ideal) x0 x1 x2 x4 x5 (ix3 0 r (vcol h e))
    = (xhat ((arrR x0 x1 x2 x3 x4 x5).oR h (cN r) (cA r)) e * ((arrR x0 x1 x2 x3 x4 x5).gnR h e)) * ((arrR x0 x1 x2 x3 x4 x5).dyR h (cN r) (cA r) e) := by
  rw [val_main_v343_apply, v340_at x0 x1 x2 x3 x4 x5, dy_c (x0 := x0) (x1 := x1) (x2 := x2) (x3 := x3) (x4 := x4) (x5 := x5)]
  rfl

theorem v344_at (r : Fin 4112) (h : Fin 8) (e : Fin 128) : val_main_v344 (F := Ideal) x3 x5 (ix3 0 r (vcol h e))
    = don ((arrR x0 x1 x2 x3 x4 x5).gR h (cN r) (cA r)) ((arrR x0 x1 x2 x3 x4 x5).dyR h (cN r) (cA r)) e := by
  rw [val_main_v344_apply, dy_c (x0 := x0) (x1 := x1) (x2 := x2) (x3 := x3) (x4 := x4) (x5 := x5), v341g_at H]
  rfl

theorem call1v7_at (r : Fin 4112) (h : Fin 8) (e : Fin 128) : val_main_call1_v7 (F := Ideal) x3 (ix3 0 r (vcol h e))
    = 1 - sigm ((arrR x0 x1 x2 x3 x4 x5).gR h (cN r) (cA r) e) := by
  rw [val_main_call1_v7_apply, v341s_at H.g, g_c (x0 := x0) (x1 := x1) (x2 := x2) (x3 := x3) (x4 := x4) (x5 := x5)]
  refine congrArg (· - _) ?_
  pointwise [val_main_call1_v6, val_main_call1_cst_1]

theorem v341d_at (r : Fin 4112) (h : Fin 8) (e : Fin 128) : val_main_v341_1 (F := Ideal) x3 (ix3 0 r (vcol h e))
    = sigm ((arrR x0 x1 x2 x3 x4 x5).gR h (cN r) (cA r) e) * (1 - sigm ((arrR x0 x1 x2 x3 x4 x5).gR h (cN r) (cA r) e)) := by
  rw [val_main_v341_1_apply, v341s_at H.g, call1v7_at H, g_c (x0 := x0) (x1 := x1) (x2 := x2) (x3 := x3) (x4 := x4) (x5 := x5)]
  rfl

theorem v345_at (r : Fin 4112) (h : Fin 8) (e : Fin 128) : val_main_v345 (F := Ideal) x0 x1 x2 x3 x4 x5 (ix3 0 r (vcol h e))
    = (arrR x0 x1 x2 x3 x4 x5).dg h (cN r) (cA r) e := by
  rw [val_main_v345_apply, val_main_call2_v1_apply, val_main_call2_v2_apply, val_main_call2_v0_apply, v343_at, v341s_at H.g, v341d_at H, g_c (x0 := x0) (x1 := x1) (x2 := x2) (x3 := x3) (x4 := x4) (x5 := x5)]
  have R := isR H
  exact dgRow_eq (isReal_xhat (R.out h (cN r) (cA r)) e) (R.gain _) (R.dy _ _) (R.g _ _)

theorem v346_at (r : Fin 4112) (h : Fin 8) (e : Fin 128) : val_main_v346 (F := Ideal) x3 x5 (ix4 0 r h e)
    = don ((arrR x0 x1 x2 x3 x4 x5).gR h (cN r) (cA r)) ((arrR x0 x1 x2 x3 x4 x5).dyR h (cN r) (cA r)) e := by
  pointwise [val_main_v346]
  exact v344_at H r h e

theorem v347_at (r : Fin 4112) (h : Fin 8) (e : Fin 128) : val_main_v347 (F := Ideal) x0 x1 x2 x3 x5 (ix4 0 r h e)
    = don ((arrR x0 x1 x2 x3 x4 x5).gR h (cN r) (cA r)) ((arrR x0 x1 x2 x3 x4 x5).dyR h (cN r) (cA r)) e * xhat ((arrR x0 x1 x2 x3 x4 x5).oR h (cN r) (cA r)) e := by
  rw [val_main_v347_apply, v335_at x0 x1 x2 x3 x4 x5, v346_at H]
  exact mul_comm _ _

theorem v378_at (h : Fin 8) (e : Fin 128) : val_main_v378 (F := Ideal) x0 x1 x2 x3 x5 (ix2 0 (vcol h e)) = (arrR x0 x1 x2 x3 x4 x5).dgain h e := by
  have e1 : vcol h e = ⟨h.val * 128 + e.val, by omega⟩ := rfl
  rw [e1]
  pointwise [val_main_v378, val_main_v353, val_main_v352, val_main_cst_27, val_main_v349, val_main_v348, val_main_cst_26]
  refine Eq.trans (Finset.sum_congr rfl fun r _ => ?_) (sum_behind (fun n c => don ((arrR x0 x1 x2 x3 x4 x5).gR h n c) ((arrR x0 x1 x2 x3 x4 x5).dyR h n c) e * xhat ((arrR x0 x1 x2 x3 x4 x5).oR h n c) e)
    (fun r => don ((arrR x0 x1 x2 x3 x4 x5).gR h (cN r) (cA r)) ((arrR x0 x1 x2 x3 x4 x5).dyR h (cN r) (cA r)) e * xhat ((arrR x0 x1 x2 x3 x4 x5).oR h (cN r) (cA r)) e) (fun n c hF => front_dgain hF h e _) fun r => rfl).symm
  exact v347_at H r h e

omit H in
theorem v350_at (r : Fin 4112) (h : Fin 8) (e : Fin 128) : val_main_v350 (F := Ideal) x4 (ix4 0 r h e)
    = ((arrR x0 x1 x2 x3 x4 x5).gnR h e) := by
  pointwise [val_main_v350, val_main_v337, val_main_v336, val_main_v316]
  rfl

theorem v351_at (r : Fin 4112) (h : Fin 8) (e : Fin 128) : val_main_v351 (F := Ideal) x3 x4 x5 (ix4 0 r h e)
    = (dxh ((arrR x0 x1 x2 x3 x4 x5).gR h (cN r) (cA r)) ((arrR x0 x1 x2 x3 x4 x5).dyR h (cN r) (cA r)) ((arrR x0 x1 x2 x3 x4 x5).gnR h)) e := by
  rw [val_main_v351_apply, v346_at H, v350_at (x0 := x0) (x1 := x1) (x2 := x2) (x3 := x3) (x5 := x5)]
  rfl

theorem v354_at (r : Fin 4112) (h : Fin 8) (e : Fin 128) : val_main_v354 (F := Ideal) x0 x1 x2 x3 x4 x5 (ix4 0 r h e)
    = oc ((arrR x0 x1 x2 x3 x4 x5).oR h (cN r) (cA r)) e * (dxh ((arrR x0 x1 x2 x3 x4 x5).gR h (cN r) (cA r)) ((arrR x0 x1 x2 x3 x4 x5).dyR h (cN r) (cA r)) ((arrR x0 x1 x2 x3 x4 x5).gnR h)) e := by
  rw [val_main_v354_apply, v322_at x0 x1 x2 x3 x4 x5, v351_at H]
  rfl

theorem v356_at (r : Fin 4112) (h : Fin 8) : val_main_v356 (F := Ideal) x0 x1 x2 x3 x4 x5 (ix4 0 r h 0)
    = ∑ e, oc ((arrR x0 x1 x2 x3 x4 x5).oR h (cN r) (cA r)) e * (dxh ((arrR x0 x1 x2 x3 x4 x5).gR h (cN r) (cA r)) ((arrR x0 x1 x2 x3 x4 x5).dyR h (cN r) (cA r)) ((arrR x0 x1 x2 x3 x4 x5).gnR h)) e := by
  pointwise [val_main_v356, val_main_v355, val_main_cst_28]
  simp only [v354_at H, zero_add]

omit H in
theorem v333_at (r : Fin 4112) (h : Fin 8) : val_main_v333 (F := Ideal) x0 x1 x2 (ix4 0 r h 0)
    = WNegHalf * Ideal.div (rstd ((arrR x0 x1 x2 x3 x4 x5).oR h (cN r) (cA r))) (mean (fun l => oc ((arrR x0 x1 x2 x3 x4 x5).oR h (cN r) (cA r)) l * oc ((arrR x0 x1 x2 x3 x4 x5).oR h (cN r) (cA r)) l) + RetRows.WEps) := by
  rw [val_main_v333_apply, val_main_v331_apply, v330_at x0 x1 x2 x3 x4 x5, v329_at x0 x1 x2 x3 x4 x5]
  rfl

theorem v359_at (r : Fin 4112) (h : Fin 8) : val_main_v359 (F := Ideal) x0 x1 x2 x3 x4 x5 (ix4 0 r h 0)
    = (∑ e, oc ((arrR x0 x1 x2 x3 x4 x5).oR h (cN r) (cA r)) e * (dxh ((arrR x0 x1 x2 x3 x4 x5).gR h (cN r) (cA r)) ((arrR x0 x1 x2 x3 x4 x5).dyR h (cN r) (cA r)) ((arrR x0 x1 x2 x3 x4 x5).gnR h)) e) * (WNegHalf * Ideal.div (rstd ((arrR x0 x1 x2 x3 x4 x5).oR h (cN r) (cA r))) (mean (fun l => oc ((arrR x0 x1 x2 x3 x4 x5).oR h (cN r) (cA r)) l * oc ((arrR x0 x1 x2 x3 x4 x5).oR h (cN r) (cA r)) l) + RetRows.WEps)) := by
  rw [val_main_v359_apply, v356_at H, v333_at]
  rfl

theorem v361_at (r : Fin 4112) (h : Fin 8) : val_main_v361 (F := Ideal) x0 x1 x2 x3 x4 x5 (ix4 0 r h 0)
    = dvar ((arrR x0 x1 x2 x3 x4 x5).oR h (cN r) (cA r)) (dxh ((arrR x0 x1 x2 x3 x4 x5).gR h (cN r) (cA r)) ((arrR x0 x1 x2 x3 x4 x5).dyR h (cN r) (cA r)) ((arrR x0 x1 x2 x3 x4 x5).gnR h)) := by
  rw [val_main_v361_apply, v359_at H]
  rfl

theorem v364_at (r : Fin 4112) (h : Fin 8) (e : Fin 128) : val_main_v364 (F := Ideal) x0 x1 x2 x3 x4 x5 (ix4 0 r h e)
    = dvar ((arrR x0 x1 x2 x3 x4 x5).oR h (cN r) (cA r)) (dxh ((arrR x0 x1 x2 x3 x4 x5).gR h (cN r) (cA r)) ((arrR x0 x1 x2 x3 x4 x5).dyR h (cN r) (cA r)) ((arrR x0 x1 x2 x3 x4 x5).gnR h)) := by
  pointwise [val_main_v364, val_main_v363, val_main_v362, val_main_cst_30]
  rw [v361_at H]

omit H in
theorem v357_at (r : Fin 4112) (h : Fin 8) (e : Fin 128) : val_main_v357 (F := Ideal) x0 x1 x2 (ix4 0 r h e)
    = rstd ((arrR x0 x1 x2 x3 x4 x5).oR h (cN r) (cA r)) := by
  pointwise [val_main_v357]
  exact v330_at x0 x1 x2 x3 x4 x5 r h

theorem v368_at (r : Fin 4112) (h : Fin 8) (e : Fin 128) : val_main_v368 (F := Ideal) x0 x1 x2 x3 x4 x5 (ix4 0 r h e)
    = dpre ((arrR x0 x1 x2 x3 x4 x5).oR h (cN r) (cA r)) (dxh ((arrR x0 x1 x2 x3 x4 x5).gR h (cN r) (cA r)) ((arrR x0 x1 x2 x3 x4 x5).dyR h (cN r) (cA r)) ((arrR x0 x1 x2 x3 x4 x5).gnR h)) e := by
  rw [val_main_v368_apply, val_main_v366_apply, val_main_v367_apply, val_main_v365_apply, val_main_v358_apply, v351_at H, v357_at (x3 := x3) (x4 := x4) (x5 := x5), v322_at x0 x1 x2 x3 x4 x5, v364_at H]
  rfl

theorem v369_at (r : Fin 4112) (h : Fin 8) (e : Fin 128) : val_main_v369 (F := Ideal) x0 x1 x2 x3 x4 x5 (ix4 0 r h e)
    = -(dpre ((arrR x0 x1 x2 x3 x4 x5).oR h (cN r) (cA r)) (dxh ((arrR x0 x1 x2 x3 x4 x5).gR h (cN r) (cA r)) ((arrR x0 x1 x2 x3 x4 x5).dyR h (cN r) (cA r)) ((arrR x0 x1 x2 x3 x4 x5).gnR h)) e) := by
  rw [val_main_v369_apply, v368_at H]
  rfl

theorem v373_at (r : Fin 4112) (h : Fin 8) : val_main_v373 (F := Ideal) x0 x1 x2 x3 x4 x5 (ix4 0 r h 0)
    = Ideal.div (∑ e, -(dpre ((arrR x0 x1 x2 x3 x4 x5).oR h (cN r) (cA r)) (dxh ((arrR x0 x1 x2 x3 x4 x5).gR h (cN r) (cA r)) ((arrR x0 x1 x2 x3 x4 x5).dyR h (cN r) (cA r)) ((arrR x0 x1 x2 x3 x4 x5).gnR h)) e)) W128 := by
  pointwise [val_main_v373, val_main_v371, val_main_v370, val_main_cst_31, val_main_v372, val_main_cst_32]
  simp only [v369_at H, zero_add]

theorem v376_at (r : Fin 4112) (h : Fin 8) (e : Fin 128) : val_main_v376 (F := Ideal) x0 x1 x2 x3 x4 x5 (ix4 0 r h e)
    = Ideal.div (∑ e, -(dpre ((arrR x0 x1 x2 x3 x4 x5).oR h (cN r) (cA r)) (dxh ((arrR x0 x1 x2 x3 x4 x5).gR h (cN r) (cA r)) ((arrR x0 x1 x2 x3 x4 x5).dyR h (cN r) (cA r)) ((arrR x0 x1 x2 x3 x4 x5).gnR h)) e)) W128 := by
  pointwise [val_main_v376, val_main_v375, val_main_v374, val_main_cst_33]
  rw [v373_at H]

theorem v377_at (r : Fin 4112) (h : Fin 8) (e : Fin 128) : val_main_v377 (F := Ideal) x0 x1 x2 x3 x4 x5 (ix4 0 r h e)
    = (arrR x0 x1 x2 x3 x4 x5).dO h (cN r) (cA r) e := by
  rw [val_main_v377_apply, v368_at H, v376_at H]
  exact (isR H).dO_eq h (cN r) (cA r) e

theorem outGrad : OutGrad x0 x1 x2 x3 x4 x5 := fun n a h e => by
  have e1 : val_main_v380 (F := Ideal) x0 x1 x2 x3 x4 x5 (ix5 0 n a h e) = pad0 (fun r (j : Fin 128) => val_main_v377 (F := Ideal) x0 x1 x2 x3 x4 x5 (ix4 0 r h j)) (row n a) e := by
    pointwise [val_main_v380, val_main_v379, val_main_cst_34]
    unfold pad0
    by_cases hR : 112 ≤ (row n a).val
    · rw [dif_pos hR]
      have hR' : 112 ≤ n.val * 128 + a.val := hR
      exact dif_pos ⟨hR', by omega⟩
    · rw [dif_neg hR]
      exact dif_neg fun hh => hR hh.1
  rw [e1]
  by_cases hF : 112 ≤ (row n a).val
  · rw [pad0_pos _ hF, v377_at H, (c_row hF).1, (c_row hF).2]
  · rw [pad0_neg _ hF, front_dO hF]

end Cert.Reference2Ideal.RetRef

end
-- ==== Proof.RetRef6.lean ====
/- The gradients of the values and of the rotated queries and keys. -/
module

public import proofs.«01_k».proof.Proof.RetRef5
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.RetRef

open Cert.Reference2Ideal Cert.Reference2Ideal.Read Cert.Reference2Ideal.Gen Cert.RetRows

variable (x0 x1 : FVec Ideal S1x4112x512 .f32) (x2 x3 : FVec Ideal S1x4112x1024 .f32) (x4 : FVec Ideal S1x1024 .f32) (x5 : FVec Ideal S1x4112x1024 .f32)

variable {x0 x1 x2 x3 x4 x5} (HD : OutGrad x0 x1 x2 x3 x4 x5)

theorem v526_at (n : Fin 33) (a : Fin 128) (h : Fin 8) (d : Fin 64) : val_main_v526 (F := Ideal)  (ix5 0 n a h d) = (arrR x0 x1 x2 x3 x4 x5).kdec a (qcol h d) := by
  pointwise [val_main_v526, val_main_v117, val_main_v116, val_main_v115, val_main_v114, val_main_v112, val_main_v110, val_main_v109, val_main_v108, val_main_cst_15, val_main_v84, val_main_v113, val_main_v111]
  simp only [v83_at]
  show _ = kdecOf _ _
  unfold kdecOf
  simp only [qhead_qcol]
  rfl

theorem v386_at (n : Fin 33) (a : Fin 128) (h : Fin 8) (d : Fin 64) : val_main_v386 (F := Ideal)  (ix5 0 n a h d) = (arrR x0 x1 x2 x3 x4 x5).qdec a (qcol h d) := by
  pointwise [val_main_v386, val_main_v308, val_main_v307, val_main_v306, val_main_v305, val_main_v303, val_main_v301, val_main_v300, val_main_v84, val_main_v299, val_main_cst_19, val_main_v304, val_main_v302]
  simp only [v83_at]
  show _ = qdecOf _ _
  unfold qdecOf
  simp only [qhead_qcol]
  rfl

include HD

theorem v534_at (n : Fin 33) (h : Fin 8) (c m : Fin 128) : val_main_v534 (F := Ideal) x0 x1 x2 x3 x4 x5 (ix5 0 n h c m)
    = (∑ e, (arrR x0 x1 x2 x3 x4 x5).dO h n c e * (arrR x0 x1 x2 x3 x4 x5).v (row n m) (vcol h e)) * (arrR x0 x1 x2 x3 x4 x5).dm h c m := by
  pointwise [val_main_v534, val_main_v533, val_main_v529, val_main_v528, val_main_v103]
  refine congrArg₂ (· * ·) (Finset.sum_congr rfl fun e _ => congrArg₂ (· * ·) ?_ ?_) (v101_at h c m)
  · exact HD n c h e
  · exact v75_at x0 x1 x2 x3 x4 x5 n m h e

theorem v532_at (n : Fin 33) (c : Fin 128) (h : Fin 8) (e : Fin 128) : val_main_v532 (F := Ideal) x0 x1 x2 x3 x4 x5 (ix5 0 n c h e) = (arrR x0 x1 x2 x3 x4 x5).dv h n c e := by
  pointwise [val_main_v532, val_main_v531, val_main_v530, val_main_v528, val_main_v523, val_main_v522]
  refine congrArg₂ (· + ·) (Finset.sum_congr rfl fun d _ => (mul_comm _ _).trans (congrArg₂ (· * ·) ?_ ?_))
    (Finset.sum_congr rfl fun m _ => (mul_comm _ _).trans (congrArg₂ (· * ·) ?_ ?_))
  · exact v119_at x0 x1 x2 x3 x4 x5 n c h d
  · exact v521_at HD n h d e
  · refine (v105_at x0 x1 x2 x3 x4 x5 n h m c).trans (congrArg (· * _) (Finset.sum_congr rfl fun d _ => mul_comm _ _))
  · exact HD n m h e

theorem v387_at (n : Fin 33) (c : Fin 128) (h : Fin 8) (d : Fin 64) : val_main_v387 (F := Ideal) x0 x1 x2 x3 x4 x5 (ix5 0 n c h d)
    = (∑ e, (arrR x0 x1 x2 x3 x4 x5).dO h n c e * (arrR x0 x1 x2 x3 x4 x5).st h n.val d e) * (arrR x0 x1 x2 x3 x4 x5).qdec c (qcol h d) := by
  pointwise [val_main_v387, val_main_v383, val_main_v382, val_main_v381]
  refine congrArg₂ (· * ·) (Finset.sum_congr rfl fun e _ => congrArg₂ (· * ·) ?_ ?_) (v386_at n c h d)
  · exact HD n c h e
  · exact v298_at x0 x1 x2 x3 x4 x5 n h d e

theorem v540_at (n : Fin 33) (c : Fin 128) (h : Fin 8) (d : Fin 64) : val_main_v540 (F := Ideal) x0 x1 x2 x3 x4 x5 (ix5 0 n c h d) = (arrR x0 x1 x2 x3 x4 x5).dqp h n c d := by
  pointwise [val_main_v540, val_main_v539, val_main_v538]
  refine congrArg₂ (· + ·) (v387_at HD n c h d) (Finset.sum_congr rfl fun m _ => congrArg₂ (· * ·) ?_ ?_)
  · exact v534_at HD n h c m
  · exact v74_at x0 x1 x2 x3 x4 x5 n m h d

theorem v527_at (n : Fin 33) (c : Fin 128) (h : Fin 8) (d : Fin 64) : val_main_v527 (F := Ideal) x0 x1 x2 x3 x4 x5 (ix5 0 n c h d)
    = (∑ e, (arrR x0 x1 x2 x3 x4 x5).v (row n c) (vcol h e) * (arrR x0 x1 x2 x3 x4 x5).dst h (32 - n.val) d e) * (arrR x0 x1 x2 x3 x4 x5).kdec c (qcol h d) := by
  pointwise [val_main_v527, val_main_v525, val_main_v524]
  refine congrArg₂ (· * ·) (Finset.sum_congr rfl fun e _ => (mul_comm _ _).trans (congrArg₂ (· * ·) ?_ ?_)) (v526_at n c h d)
  · exact v75_at x0 x1 x2 x3 x4 x5 n c h e
  · exact v521_at HD n h d e

theorem v537_at (n : Fin 33) (c : Fin 128) (h : Fin 8) (d : Fin 64) : val_main_v537 (F := Ideal) x0 x1 x2 x3 x4 x5 (ix5 0 n c h d) = (arrR x0 x1 x2 x3 x4 x5).dkp h n c d := by
  pointwise [val_main_v537, val_main_v536, val_main_v535]
  refine congrArg₂ (· + ·) (v527_at HD n c h d) (Finset.sum_congr rfl fun m _ => congrArg₂ (· * ·) ?_ ?_)
  · exact (v534_at HD n h m c).trans (congrArg (· * _) (Finset.sum_congr rfl fun e _ => mul_comm _ _))
  · exact v73_at x0 x1 x2 x3 x4 x5 n m h d

end Cert.Reference2Ideal.RetRef

end
-- ==== Proof.RetRef7.lean ====
/- The reference's results, entry by entry. -/
module

public import proofs.«01_k».proof.Proof.RetRef4
public import proofs.«01_k».proof.Proof.RetRef6
public import proofs.«01_k».proof.Proof.Gen.Reference2Ideal.Read
public import Idealize.ShloMosaic.Lib.Pointwise

@[expose] public section

set_option maxRecDepth 16384

noncomputable section

open Idealize.ShloMosaic Idealize.ShloMosaic.TcCoe Idealize.SL.Sem

namespace Cert.Reference2Ideal.RetRef

open Cert.Reference2Ideal Cert.Reference2Ideal.Read Cert.Reference2Ideal.Gen Cert.RetRows

variable (x0 x1 : FVec Ideal S1x4112x512 .f32) (x2 x3 : FVec Ideal S1x4112x1024 .f32) (x4 : FVec Ideal S1x1024 .f32) (x5 : FVec Ideal S1x4112x1024 .f32)

open Cert.Reals Cert.RetRows.Arr

variable {x0 x1 : FVec Ideal S1x4112x512 .f32} {x2 x3 : FVec Ideal S1x4112x1024 .f32} {x4 : FVec Ideal S1x1024 .f32} {x5 : FVec Ideal S1x4112x1024 .f32}

/-! ## A rotation undone -/

theorem unrot_lo {x : Fin 512 → EReal} {f : Fin 64 → EReal} (h : Fin 8) (hx : ∀ d, x (qcol h d) = f d) (cs sn : Fin 128 → EReal) (d : Fin 64)
    (hd : d.val < 32) : unrot x cs sn (qcol h d)
    = f d * cs (tcol (qcol h d)) + f ⟨d.val + 32, by omega⟩ * sn (tcol (qcol h ⟨d.val + 32, by omega⟩)) := by
  have e : mate (qcol h d) = qcol h ⟨d.val + 32, by omega⟩ := by
    rw [mate, dif_pos (show (qcol h d).val % 64 < 32 by simp only [qcol]; omega)]
    exact Fin.ext (by simp only [qcol]; omega)
  rw [unrot, e, hx, hx]

theorem unrot_hi {x : Fin 512 → EReal} {f : Fin 64 → EReal} (h : Fin 8) (hx : ∀ d, x (qcol h d) = f d) (cs sn : Fin 128 → EReal) (d : Fin 64)
    (hd : ¬ d.val < 32) : unrot x cs sn (qcol h d)
    = f d * cs (tcol (qcol h d)) + f ⟨d.val - 32, by omega⟩ * sn (tcol (qcol h ⟨d.val - 32, by omega⟩)) := by
  have e : mate (qcol h d) = qcol h ⟨d.val - 32, by omega⟩ := by
    rw [mate, dif_neg (show ¬ (qcol h d).val % 64 < 32 by simp only [qcol]; omega)]
    exact Fin.ext (by simp only [qcol]; omega)
  rw [unrot, e, hx, hx]

theorem angle_c (r : Fin 4112) : num (row (cN r) (cA r)).val - Ideal.ofBits FTy.f32 0x42E00000#32 = num r.val := by
  have e : (row (cN r) (cA r)).val = 112 + r.val := congrArg Fin.val (row_c r)
  rw [num_sub (by omega) (by omega), e]
  exact congrArg num (by omega)

theorem cos_c (r : Fin 4112) (h : Fin 8) (d : Fin 64) (i : Fin 32) (hi : i.val = d.val % 32) :
    (arrR x0 x1 x2 x3 x4 x5).cos (row (cN r) (cA r)) (tcol (qcol h d)) = Ideal.cos (angle (num r.val) i) := by
  show Ideal.cos (angle (num (row (cN r) (cA r)).val - Ideal.ofBits FTy.f32 0x42E00000#32) ⟨(tcol (qcol h d)).val % 32, _⟩) = _
  rw [angle_c]
  exact congrArg (fun i => Ideal.cos (angle (num r.val) i)) (Fin.ext (by simp only [tcol, qcol]; omega))

theorem sin_lo (r : Fin 4112) (h : Fin 8) (d : Fin 64) (i : Fin 32) (hi : i.val = d.val % 32) (hd : d.val < 32) :
    (arrR x0 x1 x2 x3 x4 x5).sin (row (cN r) (cA r)) (tcol (qcol h d)) = -Ideal.sin (angle (num r.val) i) := by
  refine (if_pos (show (tcol (qcol h d)).val % 64 < 32 by simp only [tcol, qcol]; omega)).trans ?_
  rw [angle_c]
  exact congrArg (fun i => -Ideal.sin (angle (num r.val) i)) (Fin.ext (by simp only [tcol, qcol]; omega))

theorem sin_hi (r : Fin 4112) (h : Fin 8) (d : Fin 64) (i : Fin 32) (hi : i.val = d.val % 32) (hd : ¬ d.val < 32) :
    (arrR x0 x1 x2 x3 x4 x5).sin (row (cN r) (cA r)) (tcol (qcol h d)) = Ideal.sin (angle (num r.val) i) := by
  refine (if_neg (show ¬ (tcol (qcol h d)).val % 64 < 32 by simp only [tcol, qcol]; omega)).trans ?_
  rw [angle_c]
  exact congrArg (fun i => Ideal.sin (angle (num r.val) i)) (Fin.ext (by simp only [tcol, qcol]; omega))

/-- A rotation undone on a head's row, in the two halves of the row. -/
theorem unrot_c (x : Fin 512 → EReal) (f : Fin 64 → EReal) (r : Fin 4112) (h : Fin 8) (hx : ∀ d, x (qcol h d) = f d) (d : Fin 64) :
    unrot x ((arrR x0 x1 x2 x3 x4 x5).cos (row (cN r) (cA r))) ((arrR x0 x1 x2 x3 x4 x5).sin (row (cN r) (cA r))) (qcol h d)
    = if hd : d.val < 32 then f ⟨d.val + 32, by omega⟩ * Ideal.sin (angle (num r.val) ⟨d.val, hd⟩) + f d * Ideal.cos (angle (num r.val) ⟨d.val, hd⟩)
      else f d * Ideal.cos (angle (num r.val) ⟨d.val - 32, by omega⟩) + -(f ⟨d.val - 32, by omega⟩) * Ideal.sin (angle (num r.val) ⟨d.val - 32, by omega⟩) := by
  by_cases hd : d.val < 32
  · rw [dif_pos hd, unrot_lo h hx _ _ d hd, cos_c r h d ⟨d.val, hd⟩ (by simp only; omega),
      sin_hi r h ⟨d.val + 32, by omega⟩ ⟨d.val, hd⟩ (by simp only; omega) (by simp only; omega), add_comm]
  · rw [dif_neg hd, unrot_hi h hx _ _ d hd, cos_c r h d ⟨d.val - 32, by omega⟩ (by simp only; omega),
      sin_lo r h ⟨d.val - 32, by omega⟩ ⟨d.val - 32, by omega⟩ (by simp only; omega) (by simp only; omega), neg_mul, mul_neg]

variable (H : ArgsReal x0 x1 x2 x3 x4 x5)

include H

/-! ## The gradients of the arguments -/

theorem v545_at (r : Fin 4112) (h : Fin 8) (e : Fin 128) : val_main_v545 (F := Ideal) x0 x1 x2 x3 x4 x5 (ix4 0 r h e)
    = (arrR x0 x1 x2 x3 x4 x5).dv h (cN r) (cA r) e := by
  pointwise [val_main_v545, val_main_v541]
  exact v532_at (outGrad H) (cN r) (cA r) h e

theorem v550_at (r : Fin 4112) (h : Fin 8) (e : Fin 128) : val_main_v550 (F := Ideal) x0 x1 x2 x3 x4 x5 (ix3 0 r (vcol h e))
    = (arrR x0 x1 x2 x3 x4 x5).dv h (cN r) (cA r) e := by
  have e1 : vcol h e = ⟨h.val * 128 + e.val, by omega⟩ := rfl
  rw [e1]
  pointwise [val_main_v550]
  exact v545_at H r h e

theorem v547_at (r : Fin 4112) (h : Fin 8) (d : Fin 64) : val_main_v547 (F := Ideal) x0 x1 x2 x3 x4 x5 (ix4 0 r h d)
    = (arrR x0 x1 x2 x3 x4 x5).dkp h (cN r) (cA r) d := by
  pointwise [val_main_v547, val_main_v542]
  exact v537_at (outGrad H) (cN r) (cA r) h d

theorem v549_at (r : Fin 4112) (h : Fin 8) (d : Fin 64) : val_main_v549 (F := Ideal) x0 x1 x2 x3 x4 x5 (ix4 0 r h d)
    = (arrR x0 x1 x2 x3 x4 x5).dqp h (cN r) (cA r) d := by
  pointwise [val_main_v549, val_main_v543]
  exact v540_at (outGrad H) (cN r) (cA r) h d

theorem v552_at (r : Fin 4112) (h : Fin 8) (d : Fin 64) : val_main_v552 (F := Ideal) x0 x1 x2 x3 x4 x5 (ix4 0 r h d)
    = (arrR x0 x1 x2 x3 x4 x5).dkp h (cN r) (cA r) d * WEighth := by
  rw [val_main_v552_apply, v547_at H]
  refine congrArg (fun w : EReal => (arrR x0 x1 x2 x3 x4 x5).dkp h (cN r) (cA r) d * w) ?_
  pointwise [val_main_v551, val_main_cst_36]

theorem v553_at (r : Fin 4112) (h : Fin 8) (d : Fin 32) : val_main_v553 (F := Ideal) x0 x1 x2 x3 x4 x5 (ix4 0 r h d)
    = (arrR x0 x1 x2 x3 x4 x5).dkp h (cN r) (cA r) ⟨d.val, by omega⟩ * WEighth := by
  pointwise [val_main_v553]
  exact v552_at H r h _

theorem v554_at (r : Fin 4112) (h : Fin 8) (d : Fin 32) : val_main_v554 (F := Ideal) x0 x1 x2 x3 x4 x5 (ix4 0 r h d)
    = (arrR x0 x1 x2 x3 x4 x5).dkp h (cN r) (cA r) ⟨32 + d.val, by omega⟩ * WEighth := by
  pointwise [val_main_v554]
  exact v552_at H r h _

omit H in
theorem v555_at (r : Fin 4112) (h : Fin 8) (d : Fin 32) : val_main_v555 (F := Ideal)  (ix4 0 r h d)
    = Ideal.cos (angle (num r.val) d) := by
  pointwise [val_main_v555, val_main_v45, val_main_v44]
  exact congrArg _ (v43_at r d)

omit H in
theorem v563_at (r : Fin 4112) (h : Fin 8) (d : Fin 32) : val_main_v563 (F := Ideal)  (ix4 0 r h d)
    = Ideal.cos (angle (num r.val) d) := by
  pointwise [val_main_v563, val_main_v45, val_main_v44]
  exact congrArg _ (v43_at r d)

omit H in
theorem v557_at (r : Fin 4112) (h : Fin 8) (d : Fin 32) : val_main_v557 (F := Ideal)  (ix4 0 r h d)
    = Ideal.sin (angle (num r.val) d) := by
  pointwise [val_main_v557, val_main_v47, val_main_v46]
  exact congrArg _ (v43_at r d)

omit H in
theorem v560_at (r : Fin 4112) (h : Fin 8) (d : Fin 32) : val_main_v560 (F := Ideal)  (ix4 0 r h d)
    = Ideal.sin (angle (num r.val) d) := by
  pointwise [val_main_v560, val_main_v47, val_main_v46]
  exact congrArg _ (v43_at r d)

theorem v562_at (r : Fin 4112) (h : Fin 8) (d : Fin 32) : val_main_v562 (F := Ideal) x0 x1 x2 x3 x4 x5 (ix4 0 r h d)
    = (arrR x0 x1 x2 x3 x4 x5).dkp h (cN r) (cA r) ⟨32 + d.val, by omega⟩ * WEighth * Ideal.cos (angle (num r.val) d) + -((arrR x0 x1 x2 x3 x4 x5).dkp h (cN r) (cA r) ⟨d.val, by omega⟩ * WEighth) * Ideal.sin (angle (num r.val) d) := by
  rw [val_main_v562_apply, val_main_v556_apply, val_main_v561_apply, val_main_v559_apply, v554_at H, v553_at H, v555_at, v560_at]
  rfl

theorem v565_at (r : Fin 4112) (h : Fin 8) (d : Fin 32) : val_main_v565 (F := Ideal) x0 x1 x2 x3 x4 x5 (ix4 0 r h d)
    = (arrR x0 x1 x2 x3 x4 x5).dkp h (cN r) (cA r) ⟨32 + d.val, by omega⟩ * WEighth * Ideal.sin (angle (num r.val) d) + (arrR x0 x1 x2 x3 x4 x5).dkp h (cN r) (cA r) ⟨d.val, by omega⟩ * WEighth * Ideal.cos (angle (num r.val) d) := by
  rw [val_main_v565_apply, val_main_v558_apply, val_main_v564_apply, v554_at H, v553_at H, v563_at, v557_at]
  rfl

omit H in
theorem v566_at (r : Fin 4112) (h : Fin 8) (d : Fin 64) : val_main_v566 (F := Ideal) x0 x1 x2 x3 x4 x5 (ix4 0 r h d)
    = if hd : d.val < 32 then 0 else val_main_v562 (F := Ideal) x0 x1 x2 x3 x4 x5 (ix4 0 r h ⟨d.val - 32, by omega⟩) := by
  pointwise [val_main_v566, val_main_cst_37]
  by_cases hd : d.val < 32
  · rw [dif_pos hd]
    exact dif_neg fun hh => absurd hh.1 (by omega)
  · rw [dif_neg hd]
    exact dif_pos ⟨by omega, by omega⟩

omit H in
theorem v567_at (r : Fin 4112) (h : Fin 8) (d : Fin 64) : val_main_v567 (F := Ideal) x0 x1 x2 x3 x4 x5 (ix4 0 r h d)
    = if hd : d.val < 32 then val_main_v565 (F := Ideal) x0 x1 x2 x3 x4 x5 (ix4 0 r h ⟨d.val, hd⟩) else 0 := by
  pointwise [val_main_v567, val_main_cst_38]

theorem v568_at (r : Fin 4112) (h : Fin 8) (d : Fin 64) : val_main_v568 (F := Ideal) x0 x1 x2 x3 x4 x5 (ix4 0 r h d)
    = (arrR x0 x1 x2 x3 x4 x5).dk (cN r) (cA r) (qcol h d) := by
  rw [val_main_v568_apply, v566_at, v567_at, Arr.dk, unrot_c _ (fun d => (arrR x0 x1 x2 x3 x4 x5).dkp h (cN r) (cA r) d * WEighth) r h (fun d => by simp only [qhead_qcol, qlane_qcol]) d]
  by_cases hd : d.val < 32
  · rw [dif_pos hd, dif_pos hd, dif_pos hd, v565_at H]
    refine (zero_add (M := EReal) _).trans (congrArg₂ (· + ·) (congrArg (· * _) ?_) rfl)
    exact congrArg (fun d => (arrR x0 x1 x2 x3 x4 x5).dkp h (cN r) (cA r) d * WEighth) (Fin.ext (Nat.add_comm _ _))
  · rw [dif_neg hd, dif_neg hd, dif_neg hd, v562_at H]
    refine (add_zero (M := EReal) _).trans (congrArg₂ (· + ·) (congrArg (· * _) ?_) rfl)
    exact congrArg (fun d => (arrR x0 x1 x2 x3 x4 x5).dkp h (cN r) (cA r) d * WEighth) (Fin.ext (by simp only; omega))

theorem v569_at (r : Fin 4112) (h : Fin 8) (d : Fin 64) : val_main_v569 (F := Ideal) x0 x1 x2 x3 x4 x5 (ix3 0 r (qcol h d))
    = (arrR x0 x1 x2 x3 x4 x5).dk (cN r) (cA r) (qcol h d) := by
  have e1 : val_main_v569 (F := Ideal) x0 x1 x2 x3 x4 x5 (ix3 0 r ⟨h.val * 64 + d.val, by omega⟩) = val_main_v568 (F := Ideal) x0 x1 x2 x3 x4 x5 (ix4 0 r h d) := by pointwise [val_main_v569]
  exact e1.trans (v568_at H r h d)

theorem v570_at (r : Fin 4112) (h : Fin 8) (d : Fin 32) : val_main_v570 (F := Ideal) x0 x1 x2 x3 x4 x5 (ix4 0 r h d)
    = (arrR x0 x1 x2 x3 x4 x5).dqp h (cN r) (cA r) ⟨d.val, by omega⟩ := by
  pointwise [val_main_v570]
  exact v549_at H r h _

theorem v571_at (r : Fin 4112) (h : Fin 8) (d : Fin 32) : val_main_v571 (F := Ideal) x0 x1 x2 x3 x4 x5 (ix4 0 r h d)
    = (arrR x0 x1 x2 x3 x4 x5).dqp h (cN r) (cA r) ⟨32 + d.val, by omega⟩ := by
  pointwise [val_main_v571]
  exact v549_at H r h _

omit H in
theorem v572_at (r : Fin 4112) (h : Fin 8) (d : Fin 32) : val_main_v572 (F := Ideal)  (ix4 0 r h d)
    = Ideal.cos (angle (num r.val) d) := by
  pointwise [val_main_v572, val_main_v15, val_main_v14]
  exact congrArg _ (v13_at r d)

omit H in
theorem v580_at (r : Fin 4112) (h : Fin 8) (d : Fin 32) : val_main_v580 (F := Ideal)  (ix4 0 r h d)
    = Ideal.cos (angle (num r.val) d) := by
  pointwise [val_main_v580, val_main_v15, val_main_v14]
  exact congrArg _ (v13_at r d)

omit H in
theorem v574_at (r : Fin 4112) (h : Fin 8) (d : Fin 32) : val_main_v574 (F := Ideal)  (ix4 0 r h d)
    = Ideal.sin (angle (num r.val) d) := by
  pointwise [val_main_v574, val_main_v17, val_main_v16]
  exact congrArg _ (v13_at r d)

omit H in
theorem v577_at (r : Fin 4112) (h : Fin 8) (d : Fin 32) : val_main_v577 (F := Ideal)  (ix4 0 r h d)
    = Ideal.sin (angle (num r.val) d) := by
  pointwise [val_main_v577, val_main_v17, val_main_v16]
  exact congrArg _ (v13_at r d)

theorem v579_at (r : Fin 4112) (h : Fin 8) (d : Fin 32) : val_main_v579 (F := Ideal) x0 x1 x2 x3 x4 x5 (ix4 0 r h d)
    = (arrR x0 x1 x2 x3 x4 x5).dqp h (cN r) (cA r) ⟨32 + d.val, by omega⟩ * Ideal.cos (angle (num r.val) d) + -((arrR x0 x1 x2 x3 x4 x5).dqp h (cN r) (cA r) ⟨d.val, by omega⟩) * Ideal.sin (angle (num r.val) d) := by
  rw [val_main_v579_apply, val_main_v573_apply, val_main_v578_apply, val_main_v576_apply, v571_at H, v570_at H, v572_at, v577_at]
  rfl

theorem v582_at (r : Fin 4112) (h : Fin 8) (d : Fin 32) : val_main_v582 (F := Ideal) x0 x1 x2 x3 x4 x5 (ix4 0 r h d)
    = (arrR x0 x1 x2 x3 x4 x5).dqp h (cN r) (cA r) ⟨32 + d.val, by omega⟩ * Ideal.sin (angle (num r.val) d) + (arrR x0 x1 x2 x3 x4 x5).dqp h (cN r) (cA r) ⟨d.val, by omega⟩ * Ideal.cos (angle (num r.val) d) := by
  rw [val_main_v582_apply, val_main_v575_apply, val_main_v581_apply, v571_at H, v570_at H, v580_at, v574_at]
  rfl

omit H in
theorem v583_at (r : Fin 4112) (h : Fin 8) (d : Fin 64) : val_main_v583 (F := Ideal) x0 x1 x2 x3 x4 x5 (ix4 0 r h d)
    = if hd : d.val < 32 then 0 else val_main_v579 (F := Ideal) x0 x1 x2 x3 x4 x5 (ix4 0 r h ⟨d.val - 32, by omega⟩) := by
  pointwise [val_main_v583, val_main_cst_39]
  by_cases hd : d.val < 32
  · rw [dif_pos hd]
    exact dif_neg fun hh => absurd hh.1 (by omega)
  · rw [dif_neg hd]
    exact dif_pos ⟨by omega, by omega⟩

omit H in
theorem v584_at (r : Fin 4112) (h : Fin 8) (d : Fin 64) : val_main_v584 (F := Ideal) x0 x1 x2 x3 x4 x5 (ix4 0 r h d)
    = if hd : d.val < 32 then val_main_v582 (F := Ideal) x0 x1 x2 x3 x4 x5 (ix4 0 r h ⟨d.val, hd⟩) else 0 := by
  pointwise [val_main_v584, val_main_cst_40]

theorem v585_at (r : Fin 4112) (h : Fin 8) (d : Fin 64) : val_main_v585 (F := Ideal) x0 x1 x2 x3 x4 x5 (ix4 0 r h d)
    = (arrR x0 x1 x2 x3 x4 x5).dq (cN r) (cA r) (qcol h d) := by
  rw [val_main_v585_apply, v583_at, v584_at, Arr.dq, unrot_c _ (fun d => (arrR x0 x1 x2 x3 x4 x5).dqp h (cN r) (cA r) d) r h (fun d => by simp only [qhead_qcol, qlane_qcol]) d]
  by_cases hd : d.val < 32
  · rw [dif_pos hd, dif_pos hd, dif_pos hd, v582_at H]
    refine (zero_add (M := EReal) _).trans (congrArg₂ (· + ·) (congrArg (· * _) ?_) rfl)
    exact congrArg (fun d => (arrR x0 x1 x2 x3 x4 x5).dqp h (cN r) (cA r) d) (Fin.ext (Nat.add_comm _ _))
  · rw [dif_neg hd, dif_neg hd, dif_neg hd, v579_at H]
    refine (add_zero (M := EReal) _).trans (congrArg₂ (· + ·) (congrArg (· * _) ?_) rfl)
    exact congrArg (fun d => (arrR x0 x1 x2 x3 x4 x5).dqp h (cN r) (cA r) d) (Fin.ext (by simp only; omega))

theorem v586_at (r : Fin 4112) (h : Fin 8) (d : Fin 64) : val_main_v586 (F := Ideal) x0 x1 x2 x3 x4 x5 (ix3 0 r (qcol h d))
    = (arrR x0 x1 x2 x3 x4 x5).dq (cN r) (cA r) (qcol h d) := by
  have e1 : val_main_v586 (F := Ideal) x0 x1 x2 x3 x4 x5 (ix3 0 r ⟨h.val * 64 + d.val, by omega⟩) = val_main_v585 (F := Ideal) x0 x1 x2 x3 x4 x5 (ix4 0 r h d) := by pointwise [val_main_v586]
  exact e1.trans (v585_at H r h d)

/-! ## Behind the zeros -/

omit H
theorem num0 : (FloatOps.sitofp FTy.f32 (0#32) : Ideal FTy.f32) = (0 : EReal) := by
  show (((0#32 : BitVec 32).toInt : ℝ) : EReal) = 0
  simp

theorem padded1024 {X : FVec Ideal S4224x1024 .bf16} {Y : FVec Ideal S1x4112x1024 .f32} {f : Fin 8 → Fin 33 → Fin 128 → Fin 128 → EReal}
    (hX : ∀ R j, X (ix2 R j) = pad0 (fun r j => Y (ix3 0 r j)) R j) (hY : ∀ r h e, Y (ix3 0 r (vcol h e)) = f h (cN r) (cA r) e)
    (h0 : ∀ n c, Front n c → ∀ h e, f h n c e = 0) (i : S4224x1024.Idx) : X i = f (vhead (i 1)) (chunkOf (i 0)) (placeOf (i 0)) (vlane (i 1)) := by
  obtain ⟨R, j, rfl⟩ : ∃ R j, i = ix2 R j := ⟨i 0, i 1, eq_ix2 i⟩
  rw [ix2_0, ix2_1, hX]
  generalize hn : chunkOf R = n
  generalize hc : placeOf R = c
  generalize hh : vhead j = h
  generalize he : vlane j = e
  have eR : R = row n c := by rw [← hn, ← hc, row_of]
  have ej : j = vcol h e := by rw [← hh, ← he, vcol_of]
  rw [eR, ej]
  by_cases hF : 112 ≤ (row n c).val
  · rw [pad0_pos _ hF, hY, (c_row hF).1, (c_row hF).2]
  · rw [pad0_neg _ hF, h0 n c hF]

theorem padded512 {X : FVec Ideal S4224x512 .bf16} {Y : FVec Ideal S1x4112x512 .f32} {f : Fin 33 → Fin 128 → Fin 512 → EReal}
    (hX : ∀ R j, X (ix2 R j) = pad0 (fun r j => Y (ix3 0 r j)) R j) (hY : ∀ r h d, Y (ix3 0 r (qcol h d)) = f (cN r) (cA r) (qcol h d))
    (h0 : ∀ n c, Front n c → ∀ j, f n c j = 0) (i : S4224x512.Idx) : X i = f (chunkOf (i 0)) (placeOf (i 0)) (i 1) := by
  obtain ⟨R, j, rfl⟩ : ∃ R j, i = ix2 R j := ⟨i 0, i 1, eq_ix2 i⟩
  rw [ix2_0, ix2_1, hX]
  generalize hn : chunkOf R = n
  generalize hc : placeOf R = c
  have eR : R = row n c := by rw [← hn, ← hc, row_of]
  rw [eR, ← qcol_of j]
  by_cases hF : 112 ≤ (row n c).val
  · rw [pad0_pos _ hF, hY, (c_row hF).1, (c_row hF).2]
  · rw [pad0_neg _ hF, h0 n c hF]

theorem v589_pad (R : Fin 4224) (j : Fin 1024) : val_main_v589 (F := Ideal) x0 x1 x2 x3 x4 (ix2 R j) = pad0 (fun r j => val_main_v342 (F := Ideal) x0 x1 x2 x3 x4 (ix3 0 r j)) R j := by
  pointwise [val_main_v589, val_main_v588, val_main_v587, val_main_call3_v0, val_main_c]
  unfold pad0
  by_cases hR : 112 ≤ R.val
  · rw [dif_pos hR]
    exact dif_pos ⟨hR, by omega⟩
  · rw [dif_neg hR]
    exact (dif_neg fun hh => hR hh.1).trans num0

theorem v592_pad (R : Fin 4224) (j : Fin 512) : val_main_v592 (F := Ideal) x0 x1 x2 x3 x4 x5 (ix2 R j) = pad0 (fun r j => val_main_v586 (F := Ideal) x0 x1 x2 x3 x4 x5 (ix3 0 r j)) R j := by
  pointwise [val_main_v592, val_main_v591, val_main_v590, val_main_call4_v0, val_main_c_41]
  unfold pad0
  by_cases hR : 112 ≤ R.val
  · rw [dif_pos hR]
    exact dif_pos ⟨hR, by omega⟩
  · rw [dif_neg hR]
    exact (dif_neg fun hh => hR hh.1).trans num0

theorem v595_pad (R : Fin 4224) (j : Fin 512) : val_main_v595 (F := Ideal) x0 x1 x2 x3 x4 x5 (ix2 R j) = pad0 (fun r j => val_main_v569 (F := Ideal) x0 x1 x2 x3 x4 x5 (ix3 0 r j)) R j := by
  pointwise [val_main_v595, val_main_v594, val_main_v593, val_main_call5_v0, val_main_c_42]
  unfold pad0
  by_cases hR : 112 ≤ R.val
  · rw [dif_pos hR]
    exact dif_pos ⟨hR, by omega⟩
  · rw [dif_neg hR]
    exact (dif_neg fun hh => hR hh.1).trans num0

theorem v598_pad (R : Fin 4224) (j : Fin 1024) : val_main_v598 (F := Ideal) x0 x1 x2 x3 x4 x5 (ix2 R j) = pad0 (fun r j => val_main_v550 (F := Ideal) x0 x1 x2 x3 x4 x5 (ix3 0 r j)) R j := by
  pointwise [val_main_v598, val_main_v597, val_main_v596, val_main_call6_v0, val_main_c_43]
  unfold pad0
  by_cases hR : 112 ≤ R.val
  · rw [dif_pos hR]
    exact dif_pos ⟨hR, by omega⟩
  · rw [dif_neg hR]
    exact (dif_neg fun hh => hR hh.1).trans num0

theorem v601_pad (R : Fin 4224) (j : Fin 1024) : val_main_v601 (F := Ideal) x0 x1 x2 x3 x4 x5 (ix2 R j) = pad0 (fun r j => val_main_v345 (F := Ideal) x0 x1 x2 x3 x4 x5 (ix3 0 r j)) R j := by
  pointwise [val_main_v601, val_main_v600, val_main_v599, val_main_call7_v0, val_main_c_44]
  unfold pad0
  by_cases hR : 112 ≤ R.val
  · rw [dif_pos hR]
    exact dif_pos ⟨hR, by omega⟩
  · rw [dif_neg hR]
    exact (dif_neg fun hh => hR hh.1).trans num0

include H

theorem y_at (i : S4224x1024.Idx) : val_main_v589 (F := Ideal) x0 x1 x2 x3 x4 i = (arrR x0 x1 x2 x3 x4 x5).y (vhead (i 1)) (chunkOf (i 0)) (placeOf (i 0)) (vlane (i 1)) :=
  padded1024 v589_pad (v342_at H) (fun n c hF h e => front_y hF h e) i

theorem dq_at (i : S4224x512.Idx) : val_main_v592 (F := Ideal) x0 x1 x2 x3 x4 x5 i = (arrR x0 x1 x2 x3 x4 x5).dq (chunkOf (i 0)) (placeOf (i 0)) (i 1) :=
  padded512 v592_pad (v586_at H) (fun n c hF j => front_dq hF j) i

theorem dk_at (i : S4224x512.Idx) : val_main_v595 (F := Ideal) x0 x1 x2 x3 x4 x5 i = (arrR x0 x1 x2 x3 x4 x5).dk (chunkOf (i 0)) (placeOf (i 0)) (i 1) :=
  padded512 v595_pad (v569_at H) (fun n c hF j => front_dk hF j) i

theorem dv_at (i : S4224x1024.Idx) : val_main_v598 (F := Ideal) x0 x1 x2 x3 x4 x5 i = (arrR x0 x1 x2 x3 x4 x5).dv (vhead (i 1)) (chunkOf (i 0)) (placeOf (i 0)) (vlane (i 1)) :=
  padded1024 v598_pad (v550_at H) (fun n c hF h e => front_dv hF h e) i

theorem dg_at (i : S4224x1024.Idx) : val_main_v601 (F := Ideal) x0 x1 x2 x3 x4 x5 i = (arrR x0 x1 x2 x3 x4 x5).dg (vhead (i 1)) (chunkOf (i 0)) (placeOf (i 0)) (vlane (i 1)) :=
  padded1024 v601_pad (v345_at H) (fun n c hF h e => front_dg hF h e) i

theorem dgain_at (i : S1x1024.Idx) : val_main_v378 (F := Ideal) x0 x1 x2 x3 x5 i = (arrR x0 x1 x2 x3 x4 x5).dgain (vhead (i 1)) (vlane (i 1)) := by
  obtain ⟨z, j, rfl⟩ : ∃ z j, i = ix2 z j := ⟨i 0, i 1, eq_ix2 i⟩
  obtain rfl : z = 0 := Subsingleton.elim _ _
  rw [ix2_1]
  exact (congrArg (fun j => val_main_v378 (F := Ideal) x0 x1 x2 x3 x5 (ix2 0 j)) (vcol_of j).symm).trans (v378_at H (vhead j) (vlane j))

end Cert.Reference2Ideal.RetRef

end
-- ==== Proof.RetFinite.lean ====
/- The finiteness condition on the arguments of the retention's gradients, read as: every element is a real number. -/
module

public import proofs.«01_k».proof.Proof.Finite
public import proofs.«01_k».proof.Proof.RetRef4
public import proofs.«01_k».proof.Pre_finite2

@[expose] public section

noncomputable section

open Idealize.ShloMosaic Idealize.ShloMosaic.TcCoe Idealize.SL.Sem

namespace Cert.RetAgree

open Cert.Reals Cert.Pre_finite2 Cert.Reference2Ideal.RetRef

variable [Cert.Pre_finite2.Facts]

theorem argsReal_of_finite {x0 x1 : FVec Ideal S1x4112x512 .f32} {x2 x3 : FVec Ideal S1x4112x1024 .f32} {x4 : FVec Ideal S1x1024 .f32}
    {x5 : FVec Ideal S1x4112x1024 .f32} (h : Cert.Pre_finite2.fn (F := Ideal) x0 x1 x2 x3 x4 x5 = fun _ => 1#1) :
    ArgsReal x0 x1 x2 x3 x4 x5 := by
  have h5 := and_eq_one (congrFun h fun a => a.elim0)
  have h4 := and_eq_one h5.1
  have h3 := and_eq_one h4.1
  have h2 := and_eq_one h3.1
  have h1 := and_eq_one h2.1
  exact ⟨isReal_of_all (fun _ => rfl) h1.1, isReal_of_all (fun _ => rfl) h1.2, isReal_of_all (fun _ => rfl) h2.2,
    isReal_of_all (fun _ => rfl) h3.2, isReal_of_all (fun _ => rfl) h4.2, isReal_of_all (fun _ => rfl) h5.2⟩

end Cert.RetAgree

end
-- ==== Proof.RetAgree.lean ====
/- The kernel's six results are the reference's. -/
module

public import proofs.«01_k».proof.Defs
public import proofs.«01_k».proof.Proof.RetHold
public import proofs.«01_k».proof.Proof.RetRef7
public import proofs.«01_k».proof.Proof.RetFinite
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel2Ideal
public import proofs.«01_k».proof.Proof.Gen.Pre_finite2

@[expose] public section

set_option maxRecDepth 16384

noncomputable section

open Idealize.ShloMosaic Idealize.ShloMosaic.TcCoe Idealize.SL.Sem

namespace Cert.RetAgree

open Cert.Reference2Ideal.Read Cert.Reference2Ideal.RetRef Cert.Kernel2Ideal.Ret

theorem congr5 {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  rw [ha, hb, hc, hd, he]

theorem congr6 {A B C D E G R : Type} (f : A → B → C → D → E → G → R) {a a' : A} {b b' : B} {c c' : C} {d d' : D} {e e' : E}
    {g g' : G} (ha : a = a') (hb : b = b') (hc : c = c') (hd : d = d') (he : e = e') (hg : g = g') :
    f a b c d e g = f a' b' c' d' e' g' := by
  rw [ha, hb, hc, hd, he, hg]

variable (m : (ℓ : Loc Cert.Kernel2Ideal.nD Cert.Kernel2Ideal.τ Cert.Kernel2Ideal.sig) → Buf (Elt Ideal) ℓ)
  (ρ : Dev Cert.Kernel2Ideal.nD → PrngReg) (c : Dev Cert.Kernel2Ideal.nD)

abbrev a0 : FVec Ideal Cert.Reference2Ideal.S1x4112x512 .f32 := m ((c.tc : Thread Cert.Kernel2Ideal.nD Cert.Kernel2Ideal.τ).loc Cert.Kernel2Ideal.main_arg0)
abbrev a1 : FVec Ideal Cert.Reference2Ideal.S1x4112x512 .f32 := m ((c.tc : Thread Cert.Kernel2Ideal.nD Cert.Kernel2Ideal.τ).loc Cert.Kernel2Ideal.main_arg1)
abbrev a2 : FVec Ideal Cert.Reference2Ideal.S1x4112x1024 .f32 := m ((c.tc : Thread Cert.Kernel2Ideal.nD Cert.Kernel2Ideal.τ).loc Cert.Kernel2Ideal.main_arg2)
abbrev a3 : FVec Ideal Cert.Reference2Ideal.S1x4112x1024 .f32 := m ((c.tc : Thread Cert.Kernel2Ideal.nD Cert.Kernel2Ideal.τ).loc Cert.Kernel2Ideal.main_arg3)
abbrev a4 : FVec Ideal Cert.Reference2Ideal.S1x1024 .f32 := m ((c.tc : Thread Cert.Kernel2Ideal.nD Cert.Kernel2Ideal.τ).loc Cert.Kernel2Ideal.main_arg4)
abbrev a5 : FVec Ideal Cert.Reference2Ideal.S1x4112x1024 .f32 := m ((c.tc : Thread Cert.Kernel2Ideal.nD Cert.Kernel2Ideal.τ).loc Cert.Kernel2Ideal.main_arg5)

variable (m' : (ℓ : Loc Cert.Reference2Ideal.nD Cert.Reference2Ideal.τ Cert.Reference2Ideal.sig) → Buf (Elt Ideal) ℓ)

abbrev b0 (c : Dev Cert.Reference2Ideal.nD) : FVec Ideal Cert.Reference2Ideal.S1x4112x512 .f32 := m' ((c.tc : Thread Cert.Reference2Ideal.nD Cert.Reference2Ideal.τ).loc Cert.Reference2Ideal.main_arg0)
abbrev b1 (c : Dev Cert.Reference2Ideal.nD) : FVec Ideal Cert.Reference2Ideal.S1x4112x512 .f32 := m' ((c.tc : Thread Cert.Reference2Ideal.nD Cert.Reference2Ideal.τ).loc Cert.Reference2Ideal.main_arg1)
abbrev b2 (c : Dev Cert.Reference2Ideal.nD) : FVec Ideal Cert.Reference2Ideal.S1x4112x1024 .f32 := m' ((c.tc : Thread Cert.Reference2Ideal.nD Cert.Reference2Ideal.τ).loc Cert.Reference2Ideal.main_arg2)
abbrev b3 (c : Dev Cert.Reference2Ideal.nD) : FVec Ideal Cert.Reference2Ideal.S1x4112x1024 .f32 := m' ((c.tc : Thread Cert.Reference2Ideal.nD Cert.Reference2Ideal.τ).loc Cert.Reference2Ideal.main_arg3)
abbrev b4 (c : Dev Cert.Reference2Ideal.nD) : FVec Ideal Cert.Reference2Ideal.S1x1024 .f32 := m' ((c.tc : Thread Cert.Reference2Ideal.nD Cert.Reference2Ideal.τ).loc Cert.Reference2Ideal.main_arg4)
abbrev b5 (c : Dev Cert.Reference2Ideal.nD) : FVec Ideal Cert.Reference2Ideal.S1x4112x1024 .f32 := m' ((c.tc : Thread Cert.Reference2Ideal.nD Cert.Reference2Ideal.τ).loc Cert.Reference2Ideal.main_arg5)

/-- The arguments are finite. -/
abbrev Real : Prop := ArgsReal (a0 m c) (a1 m c) (a2 m c) (a3 m c) (a4 m c) (a5 m c)

variable {m c}

theorem result0 (hx : Real m c) : (Cert.Kernel2Ideal.Gen.W4 m ρ c (Proc.devRef .tc Cert.Kernel2Ideal.main_v92_1) : Cert.Kernel2Ideal.S4224x1024.Idx → EReal)
    = val_main_v589 (F := Ideal) (a0 m c) (a1 m c) (a2 m c) (a3 m c) (a4 m c) :=
  (left_y m ρ c).trans (funext fun i => (y_at hx i).symm)

theorem result1 (hx : Real m c) : (Cert.Kernel2Ideal.Gen.W4 m ρ c (Proc.devRef .tc Cert.Kernel2Ideal.main_v94_0) : Cert.Kernel2Ideal.S4224x512.Idx → EReal)
    = val_main_v592 (F := Ideal) (a0 m c) (a1 m c) (a2 m c) (a3 m c) (a4 m c) (a5 m c) :=
  (left_dq m ρ c).trans (funext fun i => (dq_at hx i).symm)

theorem result2 (hx : Real m c) : (Cert.Kernel2Ideal.Gen.W4 m ρ c (Proc.devRef .tc Cert.Kernel2Ideal.main_v94_1) : Cert.Kernel2Ideal.S4224x512.Idx → EReal)
    = val_main_v595 (F := Ideal) (a0 m c) (a1 m c) (a2 m c) (a3 m c) (a4 m c) (a5 m c) :=
  (left_dk m ρ c).trans (funext fun i => (dk_at hx i).symm)

theorem result3 (hx : Real m c) : (Cert.Kernel2Ideal.Gen.W4 m ρ c (Proc.devRef .tc Cert.Kernel2Ideal.main_v94_2) : Cert.Kernel2Ideal.S4224x1024.Idx → EReal)
    = val_main_v598 (F := Ideal) (a0 m c) (a1 m c) (a2 m c) (a3 m c) (a4 m c) (a5 m c) :=
  (left_dv m ρ c).trans (funext fun i => (dv_at hx i).symm)

theorem result4 (hx : Real m c) : (Cert.Kernel2Ideal.Gen.W4 m ρ c (Proc.devRef .tc Cert.Kernel2Ideal.main_v94_3) : Cert.Kernel2Ideal.S4224x1024.Idx → EReal)
    = val_main_v601 (F := Ideal) (a0 m c) (a1 m c) (a2 m c) (a3 m c) (a4 m c) (a5 m c) :=
  (left_dg m ρ c).trans (funext fun i => (dg_at hx i).symm)

theorem result5 (hx : Real m c) : (Cert.Kernel2Ideal.Gen.W4 m ρ c (Proc.devRef .tc Cert.Kernel2Ideal.main_v94_4) : Cert.Kernel2Ideal.S1x1024.Idx → EReal)
    = val_main_v378 (F := Ideal) (a0 m c) (a1 m c) (a2 m c) (a3 m c) (a5 m c) :=
  (left_dgain m ρ c).trans (funext fun i => (dgain_at hx i).symm)

theorem agree : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp ha
  have hx : ∀ c, Real m c := fun c => argsReal_of_finite (hp c)
  have e0 : ∀ c, val_main_v589 (F := Ideal) (b0 m' c) (b1 m' c) (b2 m' c) (b3 m' c) (b4 m' c)
      = val_main_v589 (F := Ideal) (a0 m c) (a1 m c) (a2 m c) (a3 m c) (a4 m c) := fun c => by
    obtain ⟨h0, h1, h2, h3, h4, h5⟩ := ha c
    exact congr5 (val_main_v589 (F := Ideal)) h0 h1 h2 h3 h4
  have e1 : ∀ c, val_main_v592 (F := Ideal) (b0 m' c) (b1 m' c) (b2 m' c) (b3 m' c) (b4 m' c) (b5 m' c)
      = val_main_v592 (F := Ideal) (a0 m c) (a1 m c) (a2 m c) (a3 m c) (a4 m c) (a5 m c) := fun c => by
    obtain ⟨h0, h1, h2, h3, h4, h5⟩ := ha c
    exact congr6 (val_main_v592 (F := Ideal)) h0 h1 h2 h3 h4 h5
  have e2 : ∀ c, val_main_v595 (F := Ideal) (b0 m' c) (b1 m' c) (b2 m' c) (b3 m' c) (b4 m' c) (b5 m' c)
      = val_main_v595 (F := Ideal) (a0 m c) (a1 m c) (a2 m c) (a3 m c) (a4 m c) (a5 m c) := fun c => by
    obtain ⟨h0, h1, h2, h3, h4, h5⟩ := ha c
    exact congr6 (val_main_v595 (F := Ideal)) h0 h1 h2 h3 h4 h5
  have e3 : ∀ c, val_main_v598 (F := Ideal) (b0 m' c) (b1 m' c) (b2 m' c) (b3 m' c) (b4 m' c) (b5 m' c)
      = val_main_v598 (F := Ideal) (a0 m c) (a1 m c) (a2 m c) (a3 m c) (a4 m c) (a5 m c) := fun c => by
    obtain ⟨h0, h1, h2, h3, h4, h5⟩ := ha c
    exact congr6 (val_main_v598 (F := Ideal)) h0 h1 h2 h3 h4 h5
  have e4 : ∀ c, val_main_v601 (F := Ideal) (b0 m' c) (b1 m' c) (b2 m' c) (b3 m' c) (b4 m' c) (b5 m' c)
      = val_main_v601 (F := Ideal) (a0 m c) (a1 m c) (a2 m c) (a3 m c) (a4 m c) (a5 m c) := fun c => by
    obtain ⟨h0, h1, h2, h3, h4, h5⟩ := ha c
    exact congr6 (val_main_v601 (F := Ideal)) h0 h1 h2 h3 h4 h5
  have e5 : ∀ c, val_main_v378 (F := Ideal) (b0 m' c) (b1 m' c) (b2 m' c) (b3 m' c) (b5 m' c)
      = val_main_v378 (F := Ideal) (a0 m c) (a1 m c) (a2 m c) (a3 m c) (a5 m c) := fun c => by
    obtain ⟨h0, h1, h2, h3, h4, h5⟩ := ha c
    exact congr5 (val_main_v378 (F := Ideal)) h0 h1 h2 h3 h5
  refine ⟨fun c => val_main_v589 (F := Ideal) (a0 m c) (a1 m c) (a2 m c) (a3 m c) (a4 m c), fun c => val_main_v592 (F := Ideal) (a0 m c) (a1 m c) (a2 m c) (a3 m c) (a4 m c) (a5 m c), fun c => val_main_v595 (F := Ideal) (a0 m c) (a1 m c) (a2 m c) (a3 m c) (a4 m c) (a5 m c), fun c => val_main_v598 (F := Ideal) (a0 m c) (a1 m c) (a2 m c) (a3 m c) (a4 m c) (a5 m c), fun c => val_main_v601 (F := Ideal) (a0 m c) (a1 m c) (a2 m c) (a3 m c) (a4 m c) (a5 m c), fun c => val_main_v378 (F := Ideal) (a0 m c) (a1 m c) (a2 m c) (a3 m c) (a5 m c),
    (θ_run Cert.Kernel2Ideal.defs _ _).mono (fun r h c => ?_) (Cert.Kernel2Ideal.Gen.run m g),
    (θ_run Cert.Reference2Ideal.defs _ _).mono (fun r h c => ?_) (Cert.Reference2Ideal.Value.run m' g')⟩
  · have k : ∀ b : Ref Cert.Kernel2Ideal.sig .tc, ¬ (Proc.devRef .tc b : DevRef Cert.Kernel2Ideal.τ Cert.Kernel2Ideal.sig).isScoped →
        r.2.mem ((c.tc : Thread Cert.Kernel2Ideal.nD Cert.Kernel2Ideal.τ).loc b) = Cert.Kernel2Ideal.Gen.W4 m g c (Proc.devRef .tc b) :=
      fun b hb => h.1 c _ (Cert.Kernel2Ideal.Gen.mem_uc b hb)
    have ka : ∀ a ∈ Cert.Kernel2Ideal.Gen.argRefs, ¬ (Proc.devRef .tc a : DevRef Cert.Kernel2Ideal.τ Cert.Kernel2Ideal.sig).isScoped →
        r.2.mem ((c.tc : Thread Cert.Kernel2Ideal.nD Cert.Kernel2Ideal.τ).loc a) = m ((c.tc : Thread Cert.Kernel2Ideal.nD Cert.Kernel2Ideal.τ).loc a) :=
      fun a ha hb => (k a hb).trans (Cert.Kernel2Ideal.Gen.W4_args m g c a ha)
    exact ⟨(k Cert.Kernel2Ideal.main_v92_1 (by decide)).trans (result0 g (hx c)), (k Cert.Kernel2Ideal.main_v94_0 (by decide)).trans (result1 g (hx c)), (k Cert.Kernel2Ideal.main_v94_1 (by decide)).trans (result2 g (hx c)), (k Cert.Kernel2Ideal.main_v94_2 (by decide)).trans (result3 g (hx c)), (k Cert.Kernel2Ideal.main_v94_3 (by decide)).trans (result4 g (hx c)), (k Cert.Kernel2Ideal.main_v94_4 (by decide)).trans (result5 g (hx c)),
      ka Cert.Kernel2Ideal.main_arg0 (by decide) (by decide), ka Cert.Kernel2Ideal.main_arg1 (by decide) (by decide), ka Cert.Kernel2Ideal.main_arg2 (by decide) (by decide), ka Cert.Kernel2Ideal.main_arg3 (by decide) (by decide), ka Cert.Kernel2Ideal.main_arg4 (by decide) (by decide), ka Cert.Kernel2Ideal.main_arg5 (by decide) (by decide)⟩
  · obtain ⟨r0, r1, r2, r3, r4, r5, k⟩ := h c
    exact ⟨r0.trans ((val_main_v589_eq (StableHlo.launchContents m' c)).trans (e0 c)), r1.trans ((val_main_v592_eq (StableHlo.launchContents m' c)).trans (e1 c)), r2.trans ((val_main_v595_eq (StableHlo.launchContents m' c)).trans (e2 c)), r3.trans ((val_main_v598_eq (StableHlo.launchContents m' c)).trans (e3 c)), r4.trans ((val_main_v601_eq (StableHlo.launchContents m' c)).trans (e4 c)), r5.trans ((val_main_v378_eq (StableHlo.launchContents m' c)).trans (e5 c)), k⟩

end Cert.RetAgree

end
-- ==== Proof.ProjRows.lean ====
/- The residual stream, its norm's projection, and the rotation of a projected row by tables: no program occurs here. -/
module

public import proofs.«01_k».proof.Proof.RetArgs
public import proofs.«01_k».proof.Proof.LossRows

@[expose] public section

set_option maxRecDepth 16384

noncomputable section

open Idealize.ShloMosaic Idealize.ShloMosaic.TcCoe Idealize.SL.Sem

namespace Cert.ProjRows

open Cert.RetRows

variable (x : Fin 4096 → Fin 1024 → EReal) (e : Fin 16 → Fin 1024 → EReal) (g : Fin 1024 → EReal) (w : Fin 1024 → Fin 5120 → EReal)

/-- The residual stream: the learned rows, then the sequence's. -/
def stream (r : Fin 4112) (d : Fin 1024) : EReal := if h : r.val < 16 then e ⟨r.val, h⟩ d else x ⟨r.val - 16, by omega⟩ d

/-- A row, normalized and scaled. -/
def unit (h : Fin 1024 → EReal) (d : Fin 1024) : EReal := LossRows.nrm h d * g d

/-- A row's projection. -/
def proj (r : Fin 4112) (j : Fin 5120) : EReal := ∑ d, unit g (stream x e r) d * w d j

/-- The projection's parts: the recurrence's input and gate, queries, keys, values, the retention's gate. -/
abbrev lx (r : Fin 4112) (j : Fin 1024) : EReal := proj x e g w r ⟨j.val, by omega⟩
abbrev lg (r : Fin 4112) (j : Fin 1024) : EReal := proj x e g w r ⟨1024 + j.val, by omega⟩
abbrev pq (r : Fin 4112) (j : Fin 512) : EReal := proj x e g w r ⟨2048 + j.val, by omega⟩
abbrev pk (r : Fin 4112) (j : Fin 512) : EReal := proj x e g w r ⟨2560 + j.val, by omega⟩
abbrev pv (r : Fin 4112) (j : Fin 1024) : EReal := proj x e g w r ⟨3072 + j.val, by omega⟩
abbrev rg (r : Fin 4112) (j : Fin 1024) : EReal := proj x e g w r ⟨4096 + j.val, by omega⟩
/-- The rotated queries, the rotated and scaled keys. -/
abbrev rq : Fin 4112 → Fin 512 → EReal := rotRow (pq x e g w)
abbrev rk (r : Fin 4112) (j : Fin 512) : EReal := rotRow (pk x e g w) r j * WEighth

/-- A row of zeros projects to zeros. -/
theorem sum_unit {n : ℕ} (c : Fin n → Fin 5120) (R : Fin 4224) (j : Fin n) :
    ∑ d, unit g (pad0 (stream x e) R) d * w d (c j) = pad0 (fun r j => proj x e g w r (c j)) R j := by
  by_cases h : 112 ≤ R.val
  · rw [pad0_pos _ h, show pad0 (stream x e) R = stream x e ⟨R.val - 112, by omega⟩ from funext fun d => pad0_pos _ h d]
    rfl
  · rw [pad0_neg _ h, show pad0 (stream x e) R = fun _ => 0 from funext fun d => pad0_neg _ h d]
    simp only [unit, LossRows.nrm, zero_mul, Finset.sum_const_zero]

/-- The tables of the rotation's cosines and signed sines. -/
def cosT (R : Fin 4224) (l : Fin 128) : EReal := Ideal.cos (angle (num R.val - Ideal.ofBits FTy.f32 0x42E00000#32) ⟨l.val % 32, by omega⟩)
def sinT (R : Fin 4224) (l : Fin 128) : EReal := if l.val % 64 < 32 then -Ideal.sin (angle (num R.val - Ideal.ofBits FTy.f32 0x42E00000#32) ⟨l.val % 32, by omega⟩)
  else Ideal.sin (angle (num R.val - Ideal.ofBits FTy.f32 0x42E00000#32) ⟨l.val % 32, by omega⟩)

/-- A row turned by the tables: itself times the cosines, its mate times the signed sines. -/
def turn (y : Fin 512 → EReal) (cs sn : Fin 128 → EReal) (j : Fin 512) : EReal :=
  y j * cs (Arr.tcol j) + y (Arr.mate j) * sn (Arr.tcol j)

theorem turn_eq (y : Fin 4112 → Fin 512 → EReal) (R : Fin 4224) (j : Fin 512) :
    turn (pad0 y R) (cosT R) (sinT R) j = pad0 (rotRow y) R j := by
  refine Eq.trans ?_ (rotPad_eq y R j)
  have hj := j.isLt
  unfold turn rotPad cosT sinT
  have ej : qcol (qhead j) (qlane j) = j := qcol_of j
  by_cases h : j.val % 64 < 32
  · have e1 : (⟨(Arr.tcol j).val % 32, by omega⟩ : Fin 32) = ⟨j.val % 64, h⟩ := Fin.ext (by simp only [Arr.tcol]; omega)
    have e2 : Arr.mate j = ⟨j.val / 64 * 64 + (32 + j.val % 64), by omega⟩ := by
      unfold Arr.mate; rw [dif_pos h]; exact Fin.ext (by simp only []; omega)
    rw [dif_pos h, if_pos (show (Arr.tcol j).val % 64 < 32 by simp only [Arr.tcol]; omega), e1, e2, ej, mul_neg]
    exact (sub_eq_add_neg _ _).symm
  · have e1 : (⟨(Arr.tcol j).val % 32, by omega⟩ : Fin 32) = ⟨j.val % 64 - 32, by omega⟩ := Fin.ext (by simp only [Arr.tcol]; omega)
    have e2 : Arr.mate j = ⟨j.val / 64 * 64 + (j.val % 64 - 32), by omega⟩ := by
      unfold Arr.mate; rw [dif_neg h]; exact Fin.ext (by simp only []; omega)
    have e3 : (⟨j.val / 64 * 64 + (32 + (j.val % 64 - 32)), by omega⟩ : Fin 512) = j := Fin.ext (by simp only []; omega)
    rw [dif_neg h, if_neg (show ¬ (Arr.tcol j).val % 64 < 32 by simp only [Arr.tcol]; omega), e1, e2, e3, add_comm]

end Cert.ProjRows

end
-- ==== Proof.ProjHost.lean ====
/- The arrays the host lines prepare for the projection's call, and the blocks a grid point reads, at coordinates. -/
module

public import proofs.«01_k».proof.Proof.ProjRows
public import proofs.«01_k».proof.Proof.Gen.Kernel3Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel3Ideal.Proj

open Cert.Kernel3Ideal Cert.Kernel3Ideal.Gen Cert.RetRows Cert.ProjRows

variable (m : (ℓ : Loc nD τ sig) → Buf (Elt Ideal) ℓ) (c : Dev nD)

/-- The call's arguments: the sequence, the learned rows, the gain, the projection. -/
abbrev ax : Fin 4096 → Fin 1024 → EReal := fun r d => (m ((c : Thread nD τ).loc main_arg0) : S1x4096x1024.Idx → EReal) (ix3 0 r d)
abbrev ae : Fin 16 → Fin 1024 → EReal := fun r d => (m ((c : Thread nD τ).loc main_arg1) : S16x1024.Idx → EReal) (ix2 r d)
abbrev ag : Fin 1024 → EReal := fun d => (m ((c : Thread nD τ).loc main_arg2) : S1x1024.Idx → EReal) (ix2 0 d)
abbrev aw : Fin 1024 → Fin 5120 → EReal := fun d j => (m ((c : Thread nD τ).loc main_arg3) : S1x1024x5120.Idx → EReal) (ix3 0 d j)

/-- A choice among four tables of 32 columns. -/
theorem four {f : Fin 32 → EReal} {l : Fin 128} {x : EReal} {i : ℕ} {hi : i < 32} (h : x = f ⟨i, hi⟩) (e : l.val % 32 = i) : x = f ⟨l.val % 32, by omega⟩ := by
  subst e; exact h

theorem V_v57 (r : Fin 4096) (d : Fin 1024) : (V m c main_v57 : S4096x1024.Idx → EReal) (ix2 r d) = ax m c r d := by
  simp only [V, hostOps0]
  after_results_simp
  pointwise

theorem V_v56 (q : Fin 4) (d : Fin 1024) (j : Fin 1280) : (V m c main_v56 : S4x1024x1280.Idx → EReal) (ix3 q d j) = aw m c d ⟨q.val * 1280 + j.val, by omega⟩ := by
  simp only [V, hostOps0]
  after_results_simp
  pointwise

theorem V_v39 (a : Fin 128) (j : Fin 512) : (V m c main_v39 : S128x512.Idx → EReal) (ix2 a j) = kdecOf a j := by
  simp only [V, hostOps0]
  after_results_simp
  pointwise
  rfl

theorem V_v42 (a : Fin 128) (j : Fin 512) : (V m c main_v42 : S128x512.Idx → EReal) (ix2 a j) = qdecOf a j := by
  simp only [V, hostOps0]
  after_results_simp
  pointwise
  rfl

theorem V_v13 (R : Fin 4224) (l : Fin 128) : (V m c main_v13 : S4224x128.Idx → EReal) (ix2 R l) = cosT R l := by
  simp only [V, hostOps0]
  after_results_simp
  pointwise
  after_results_simp
  pointwise
  show _ = Ideal.cos (angle (num R.val - Ideal.ofBits FTy.f32 0x42E00000#32) ⟨l.val % 32, by omega⟩)
  split
  · exact four (l := l) (hi := by omega) (f := fun i => Ideal.cos (angle (num R.val - Ideal.ofBits FTy.f32 0x42E00000#32) i)) rfl (Nat.mod_eq_of_lt ‹_›)
  split
  · exact four (l := l) (hi := by omega) (f := fun i => Ideal.cos (angle (num R.val - Ideal.ofBits FTy.f32 0x42E00000#32) i)) rfl (by omega)
  split
  · exact four (l := l) (hi := by omega) (f := fun i => Ideal.cos (angle (num R.val - Ideal.ofBits FTy.f32 0x42E00000#32) i)) rfl (by omega)
  · exact four (l := l) (hi := by omega) (f := fun i => Ideal.cos (angle (num R.val - Ideal.ofBits FTy.f32 0x42E00000#32) i)) rfl (by omega)

theorem V_v15 (R : Fin 4224) (l : Fin 128) : (V m c main_v15 : S4224x128.Idx → EReal) (ix2 R l) = sinT R l := by
  simp only [V, hostOps0]
  after_results_simp
  pointwise
  after_results_simp
  pointwise
  show _ = if l.val % 64 < 32 then -Ideal.sin (angle (num R.val - Ideal.ofBits FTy.f32 0x42E00000#32) ⟨l.val % 32, by omega⟩) else Ideal.sin (angle (num R.val - Ideal.ofBits FTy.f32 0x42E00000#32) ⟨l.val % 32, by omega⟩)
  split
  · rw [if_pos (show l.val % 64 < 32 by omega)]; exact four (l := l) (hi := by omega) (f := fun i => -Ideal.sin (angle (num R.val - Ideal.ofBits FTy.f32 0x42E00000#32) i)) rfl (Nat.mod_eq_of_lt ‹_›)
  split
  · rw [if_neg (show ¬ l.val % 64 < 32 by omega)]; exact four (l := l) (hi := by omega) (f := fun i => Ideal.sin (angle (num R.val - Ideal.ofBits FTy.f32 0x42E00000#32) i)) rfl (by omega)
  split
  · rw [if_pos (show l.val % 64 < 32 by omega)]; exact four (l := l) (hi := by omega) (f := fun i => -Ideal.sin (angle (num R.val - Ideal.ofBits FTy.f32 0x42E00000#32) i)) rfl (by omega)
  · rw [if_neg (show ¬ l.val % 64 < 32 by omega)]; exact four (l := l) (hi := by omega) (f := fun i => Ideal.sin (angle (num R.val - Ideal.ofBits FTy.f32 0x42E00000#32) i)) rfl (by omega)

/-! ## The blocks -/

/-- Every window's block index at a grid point. -/
theorem idx : ∀ t : Fin cfg0.N, win0_0.index t = ![3 * t.val - 1, 0] ∧ win0_1.index t = ![3 * t.val, 0] ∧ win0_2.index t = ![3 * t.val + 1, 0]
    ∧ win0_3.index t = ![0, 0] ∧ win0_4.index t = ![0, 0] ∧ win0_5.index t = ![0, 0, 0]
    ∧ win0_6.index t = ![t.val, 0] ∧ win0_7.index t = ![t.val, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0] ∧ (grid0.coords t 0).val = t.val ∧ t.val < 11 :=
  (by decide +kernel : ∀ t : Fin grid0.N, _)

theorem lt11 (t : Fin cfg0.N) : t.val < 11 := by obtain ⟨_, _, _, _, _, _, _, _, _, _, _, _, _, _, _, _, _, _, _, _, h⟩ := idx t; exact h
theorem coord (t : Fin cfg0.N) : (grid0.coords t 0).val = t.val := by obtain ⟨_, _, _, _, _, _, _, _, _, _, _, _, _, _, _, _, _, _, _, h, _⟩ := idx t; exact h

/-- The padded row at row `y` of point `t`'s block. -/
def rowOf (t : Fin cfg0.N) (y : Fin 384) : Fin 4224 := ⟨t.val * 384 + y.val, by have := lt11 t; omega⟩

theorem blk0_at (t : Fin cfg0.N) (y : Fin 128) (d : Fin 1024) : (iblk m c 0 t : S128x1024.Idx → EReal) (ix2 y d)
    = ax m c ⟨(3 * t.val - 1) * 128 + y.val, by have := lt11 t; omega⟩ d := by
  refine Eq.trans ?_ (V_v57 m c _ d)
  refine congrArg (V m c main_v57 : S4096x1024.Idx → EReal) ?_
  blk_ext [idx t]

theorem blk1_at (t : Fin cfg0.N) (y : Fin 128) (d : Fin 1024) : (iblk m c 1 t : S128x1024.Idx → EReal) (ix2 y d)
    = ax m c ⟨(3 * t.val) * 128 + y.val, by have := lt11 t; omega⟩ d := by
  refine Eq.trans ?_ (V_v57 m c _ d)
  refine congrArg (V m c main_v57 : S4096x1024.Idx → EReal) ?_
  blk_ext [idx t]

theorem blk2_at (t : Fin cfg0.N) (y : Fin 128) (d : Fin 1024) : (iblk m c 2 t : S128x1024.Idx → EReal) (ix2 y d)
    = ax m c ⟨(3 * t.val + 1) * 128 + y.val, by have := lt11 t; omega⟩ d := by
  refine Eq.trans ?_ (V_v57 m c _ d)
  refine congrArg (V m c main_v57 : S4096x1024.Idx → EReal) ?_
  blk_ext [idx t]

theorem blk3_at (t : Fin cfg0.N) (y : Fin 16) (d : Fin 1024) : (iblk m c 3 t : S16x1024.Idx → EReal) (ix2 y d) = ae m c y d := by
  have e : (V m c main_arg1 : S16x1024.Idx → EReal) = m ((c : Thread nD τ).loc main_arg1) := V_main_arg1 m c
  refine Eq.trans ?_ (congrFun e (ix2 y d))
  refine congrArg (V m c main_arg1 : S16x1024.Idx → EReal) ?_
  blk_ext [idx t]

theorem blk4_at (t : Fin cfg0.N) (d : Fin 1024) : (iblk m c 4 t : S1x1024.Idx → EReal) (ix2 0 d) = ag m c d := by
  have e : (V m c main_arg2 : S1x1024.Idx → EReal) = m ((c : Thread nD τ).loc main_arg2) := V_main_arg2 m c
  refine Eq.trans ?_ (congrFun e (ix2 0 d))
  refine congrArg (V m c main_arg2 : S1x1024.Idx → EReal) ?_
  blk_ext [idx t]

theorem blk5_at (t : Fin cfg0.N) (q : Fin 4) (d : Fin 1024) (j : Fin 1280) : (iblk m c 5 t : S4x1024x1280.Idx → EReal) (ix3 q d j)
    = aw m c d ⟨q.val * 1280 + j.val, by omega⟩ := by
  refine Eq.trans ?_ (V_v56 m c q d j)
  refine congrArg (V m c main_v56 : S4x1024x1280.Idx → EReal) ?_
  blk_ext [idx t]

theorem blk6_at (t : Fin cfg0.N) (y : Fin 384) (l : Fin 128) : (iblk m c 6 t : S384x128.Idx → EReal) (ix2 y l) = cosT (rowOf t y) l := by
  refine Eq.trans ?_ (V_v13 m c _ l)
  refine congrArg (V m c main_v13 : S4224x128.Idx → EReal) ?_
  blk_ext [idx t]
  rfl

theorem blk7_at (t : Fin cfg0.N) (y : Fin 384) (l : Fin 128) : (iblk m c 7 t : S384x128.Idx → EReal) (ix2 y l) = sinT (rowOf t y) l := by
  refine Eq.trans ?_ (V_v15 m c _ l)
  refine congrArg (V m c main_v15 : S4224x128.Idx → EReal) ?_
  blk_ext [idx t]
  rfl

theorem blk8_at (t : Fin cfg0.N) (a : Fin 128) (j : Fin 512) : (iblk m c 8 t : S128x512.Idx → EReal) (ix2 a j) = qdecOf a j := by
  refine Eq.trans ?_ (V_v42 m c a j)
  refine congrArg (V m c main_v42 : S128x512.Idx → EReal) ?_
  blk_ext [idx t]

theorem blk9_at (t : Fin cfg0.N) (a : Fin 128) (j : Fin 512) : (iblk m c 9 t : S128x512.Idx → EReal) (ix2 a j) = kdecOf a j := by
  refine Eq.trans ?_ (V_v39 m c a j)
  refine congrArg (V m c main_v39 : S128x512.Idx → EReal) ?_
  blk_ext [idx t]

end Cert.Kernel3Ideal.Proj

end
-- ==== Proof.ProjPoint.lean ====
/- What a grid point computes, at coordinates: its rows, their norm, their projections and the rotated ones. -/
module

public import proofs.«01_k».proof.Proof.ProjHost
public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel3Ideal.Proj

open Cert.Kernel3Ideal Cert.Kernel3Ideal.Gen Cert.RetRows Cert.ProjRows

variable (m : (ℓ : Loc nD τ sig) → Buf (Elt Ideal) ℓ) (c : Dev nD)

/-! ## The rows a point reads -/

theorem pay3_at (i : grid0.Coords) (v0 v2 v4 : FVec Ideal S128x1024 .f32) (v7 : FVec Ideal S16x1024 .f32) (y : Fin 384) (d : Fin 1024) :
    k0_pay3 (F := Ideal) i v0 v2 v4 v7 (ix2 y d) = if h : y.val < 128 then
      (if (i 0).val = 0 then (if h' : y.val < 112 then 0 else v7 (ix2 ⟨y.val - 112, by omega⟩ d)) else v0 (ix2 ⟨y.val, h⟩ d))
      else if h2 : y.val < 256 then v2 (ix2 ⟨y.val - 128, by omega⟩ d) else v4 (ix2 ⟨y.val - 256, by omega⟩ d) := by
  have hi : (i 0).val < 11 := (i 0).isLt
  have e0 : Scalar.cmpi .eq (BitVec.ofNat 32 (i 0).val) 0#32 = if (i 0).val = 0 then 1#1 else 0#1 :=
    (by decide +kernel : ∀ n : Fin 11, Scalar.cmpi .eq (BitVec.ofNat 32 n.val) 0#32 = if n.val = 0 then 1#1 else 0#1) ⟨_, hi⟩
  by_cases h0 : (i 0).val = 0
  · simp only [if_pos h0] at e0 ⊢
    pointwise [k0_pay3, e0, Scalar.select]
    by_cases h1 : y.val < 128
    · simp only [dif_pos h1]
      refine (congrFun (if_pos (show (1#1 : BitVec 1) = 1 from rfl)) _).trans ?_
      pointwise
    · simp only [dif_neg h1]
      by_cases h2 : y.val < 256
      · rw [dif_pos (show y.val - 128 < 128 by omega), dif_pos h2]
      · rw [dif_neg (show ¬ y.val - 128 < 128 by omega), dif_neg h2]
        exact congrArg (fun r => v4 (ix2 r d)) (Fin.ext (by simp only []; omega))
  · simp only [if_neg h0] at e0 ⊢
    pointwise [k0_pay3, e0, Scalar.select]
    by_cases h1 : y.val < 128
    · simp only [dif_pos h1]
      exact congrFun (if_neg (show ¬ (0#1 : BitVec 1) = 1 by decide)) _
    · simp only [dif_neg h1]
      by_cases h2 : y.val < 256
      · rw [dif_pos (show y.val - 128 < 128 by omega), dif_pos h2]
      · rw [dif_neg (show ¬ y.val - 128 < 128 by omega), dif_neg h2]
        exact congrArg (fun r => v4 (ix2 r d)) (Fin.ext (by simp only []; omega))

theorem h_at (t : Fin cfg0.N) (y : Fin 384) (d : Fin 1024) :
    k0_pay3 (F := Ideal) (grid0.coords t) (iblk m c 0 t) (iblk m c 1 t) (iblk m c 2 t) (iblk m c 3 t) (ix2 y d)
    = pad0 (stream (ax m c) (ae m c)) (rowOf t y) d := by
  have ht := lt11 t
  have hy := y.isLt
  refine (pay3_at _ _ _ _ _ y d).trans ?_
  rw [coord]
  unfold pad0 stream rowOf
  by_cases h0 : t.val = 0
  · simp only [if_pos h0]
    by_cases h1 : y.val < 112
    · rw [dif_pos (show y.val < 128 by omega), dif_pos h1, dif_neg (by first | omega | (simp only [h0]; omega))]
    rw [dif_pos (show 112 ≤ t.val * 384 + y.val by omega)]
    by_cases h2 : y.val < 128
    · rw [dif_pos h2, dif_neg h1, dif_pos (by first | omega | (simp only []; omega)), blk3_at]
      exact congrArg (fun r => ae m c r d) (Fin.ext (by first | omega | (simp only []; omega)))
    rw [dif_neg h2, dif_neg (show ¬ t.val * 384 + y.val - 112 < 16 by omega)]
    by_cases h3 : y.val < 256
    · rw [dif_pos h3, blk1_at]
      exact congrArg (fun r => ax m c r d) (Fin.ext (by first | omega | (simp only []; omega)))
    · rw [dif_neg h3, blk2_at]
      exact congrArg (fun r => ax m c r d) (Fin.ext (by first | omega | (simp only []; omega)))
  · simp only [if_neg h0]
    rw [dif_pos (show 112 ≤ t.val * 384 + y.val by omega), dif_neg (show ¬ t.val * 384 + y.val - 112 < 16 by omega)]
    by_cases h2 : y.val < 128
    · rw [dif_pos h2, blk0_at]
      exact congrArg (fun r => ax m c r d) (Fin.ext (by first | omega | (simp only []; omega)))
    rw [dif_neg h2]
    by_cases h3 : y.val < 256
    · rw [dif_pos h3, blk1_at]
      exact congrArg (fun r => ax m c r d) (Fin.ext (by first | omega | (simp only []; omega)))
    · rw [dif_neg h3, blk2_at]
      exact congrArg (fun r => ax m c r d) (Fin.ext (by first | omega | (simp only []; omega)))

/-- Their norm, scaled. -/
theorem pay4_at (i : grid0.Coords) (v0 v2 v4 : FVec Ideal S128x1024 .f32) (v7 : FVec Ideal S16x1024 .f32) (v23 : FVec Ideal S1x1024 .f32)
    (y : Fin 384) (d : Fin 1024) (A G : Fin 1024 → EReal) (hA : ∀ d, k0_pay3 (F := Ideal) i v0 v2 v4 v7 (ix2 y d) = A d) (hG : ∀ d, v23 (ix2 0 d) = G d) :
    k0_pay4 (F := Ideal) i v0 v2 v4 v7 v23 (ix2 y d) = unit G A d := by
  pointwise [k0_pay4]
  simp only [hA, hG]
  rfl

/-- The normalized rows, by name. -/
abbrev uV (t : Fin cfg0.N) : FVec Ideal S384x1024 .bf16 :=
  k0_pay4 (grid0.coords t) (iblk m c 0 t) (iblk m c 1 t) (iblk m c 2 t) (iblk m c 3 t) (iblk m c 4 t)

theorem u_at (t : Fin cfg0.N) (y : Fin 384) (d : Fin 1024) :
    uV m c t (ix2 y d) = unit (ag m c) (pad0 (stream (ax m c) (ae m c)) (rowOf t y)) d :=
  pay4_at _ _ _ _ _ _ y d _ _ (h_at m c t y) (blk4_at m c t)

/-! ## The projections -/

/-- A part of the weights. -/
theorem ld5_at (t : Fin cfg0.N) {n : ℕ} (q : Fin 4) (o : ℕ) (inb : ∀ a, ![q.val, 0, o] a + ![1, 1024, n] a ≤ S4x1024x1280.size a)
    (d : Fin 1024) (j : Fin n) (p : Fin 5120) (hn : o + n ≤ 1280) (hp : p.val = q.val * 1280 + (o + j.val)) :
    (View.ld (iblk m c 5 t : S4x1024x1280.Idx → EReal) (Rect.unit ![q.val, 0, o] ![1, 1024, n] inb) : (⟨3, ![1, 1024, n]⟩ : Shape).Idx → EReal) (ix3 0 d j)
    = aw m c d p := by
  refine Eq.trans ?_ ((blk5_at m c t q d ⟨o + j.val, by omega⟩).trans (congrArg (aw m c d) (Fin.ext hp.symm)))
  show (iblk m c 5 t : S4x1024x1280.Idx → EReal) _ = _
  refine congrArg (iblk m c 5 t : S4x1024x1280.Idx → EReal) ?_
  funext a
  apply Fin.ext
  fin_cases a
  · show q.val + 1 * 0 = q.val; omega
  · show 0 + 1 * d.val = d.val; omega
  · show o + 1 * j.val = o + j.val; omega

theorem pay6_at (u : FVec Ideal S384x1024 .bf16) (w : FVec Ideal S1x1024x256 .bf16) (y : Fin 384) (j : Fin 256) (U W : Fin 1024 → EReal)
    (hU : ∀ d, u (ix2 y d) = U d) (hW : ∀ d, w (ix3 0 d j) = W d) : k0_pay6 (F := Ideal) u w (ix2 y j) = ∑ d, U d * W d := by
  pointwise [k0_pay6]
  simp only [hU, hW]

theorem pay7_at (u : FVec Ideal S384x1024 .bf16) (w : FVec Ideal S1x1024x768 .bf16) (y : Fin 384) (j : Fin 768) (U W : Fin 1024 → EReal)
    (hU : ∀ d, u (ix2 y d) = U d) (hW : ∀ d, w (ix3 0 d j) = W d) : k0_pay7 (F := Ideal) u w (ix2 y j) = ∑ d, U d * W d := by
  pointwise [k0_pay7]
  simp only [hU, hW]

theorem pay8_at (u : FVec Ideal S384x1024 .bf16) (w : FVec Ideal S1x1024x512 .bf16) (y : Fin 384) (j : Fin 512) (U W : Fin 1024 → EReal)
    (hU : ∀ d, u (ix2 y d) = U d) (hW : ∀ d, w (ix3 0 d j) = W d) : k0_pay8 (F := Ideal) u w (ix2 y j) = ∑ d, U d * W d := by
  pointwise [k0_pay8]
  simp only [hU, hW]

theorem pay9_at (u : FVec Ideal S384x1024 .bf16) (w : FVec Ideal S1x1024x512 .bf16) (y : Fin 384) (j : Fin 512) (U W : Fin 1024 → EReal)
    (hU : ∀ d, u (ix2 y d) = U d) (hW : ∀ d, w (ix3 0 d j) = W d) : k0_pay9 (F := Ideal) u w (ix2 y j) = ∑ d, U d * W d := by
  pointwise [k0_pay9]
  simp only [hU, hW]

theorem pay10_at (u : FVec Ideal S384x1024 .bf16) (w : FVec Ideal S1x1024x768 .bf16) (y : Fin 384) (j : Fin 768) (U W : Fin 1024 → EReal)
    (hU : ∀ d, u (ix2 y d) = U d) (hW : ∀ d, w (ix3 0 d j) = W d) : k0_pay10 (F := Ideal) u w (ix2 y j) = ∑ d, U d * W d := by
  pointwise [k0_pay10]
  simp only [hU, hW]

theorem pay11_at (u : FVec Ideal S384x1024 .bf16) (w : FVec Ideal S1x1024x256 .bf16) (y : Fin 384) (j : Fin 256) (U W : Fin 1024 → EReal)
    (hU : ∀ d, u (ix2 y d) = U d) (hW : ∀ d, w (ix3 0 d j) = W d) : k0_pay11 (F := Ideal) u w (ix2 y j) = ∑ d, U d * W d := by
  pointwise [k0_pay11]
  simp only [hU, hW]

theorem pay12_at (u : FVec Ideal S384x1024 .bf16) (w : FVec Ideal S1x1024x1024 .bf16) (y : Fin 384) (j : Fin 1024) (U W : Fin 1024 → EReal)
    (hU : ∀ d, u (ix2 y d) = U d) (hW : ∀ d, w (ix3 0 d j) = W d) : k0_pay12 (F := Ideal) u w (ix2 y j) = ∑ d, U d * W d := by
  pointwise [k0_pay12]
  simp only [hU, hW]

theorem pay5_at (i : grid0.Coords) (v0 v2 v4 : FVec Ideal S128x1024 .f32) (v7 : FVec Ideal S16x1024 .f32) (v23 : FVec Ideal S1x1024 .f32)
    (w : FVec Ideal S1x1024x1024 .bf16) (y : Fin 384) (j : Fin 1024) (U W : Fin 1024 → EReal)
    (hU : ∀ d, k0_pay4 (F := Ideal) i v0 v2 v4 v7 v23 (ix2 y d) = U d) (hW : ∀ d, w (ix3 0 d j) = W d) :
    k0_pay5 (F := Ideal) i v0 v2 v4 v7 v23 w (ix2 y j) = ∑ d, U d * W d := by
  pointwise [k0_pay5]
  simp only [hU, hW]

/-! ## The rotation -/

theorem firstHalf_at : ∀ j : Fin 512, k0_pay16 (ix2 0 j) = if j.val % 64 < 32 then 1#1 else 0#1 := by
  decide +kernel

theorem cos_at (a : FVec Ideal S384x128 .f32) (y : Fin 384) (j : Fin 512) : k0_pay13 (F := Ideal) a (ix2 y j) = a (ix2 y (Arr.tcol j)) := by
  have hj := j.isLt
  pointwise [k0_pay13]
  split_ifs <;> exact congrArg (fun x => a (ix2 y x)) (Fin.ext (by simp only [Arr.tcol]; omega))

theorem sin_at (a : FVec Ideal S384x128 .f32) (y : Fin 384) (j : Fin 512) : k0_pay14 (F := Ideal) a (ix2 y j) = a (ix2 y (Arr.tcol j)) := by
  have hj := j.isLt
  pointwise [k0_pay14]
  split_ifs <;> exact congrArg (fun x => a (ix2 y x)) (Fin.ext (by simp only [Arr.tcol]; omega))

theorem pay17_at (a b : FVec Ideal S384x128 .f32) (x : FVec Ideal S384x512 .f32) (y : Fin 384) (j : Fin 512) (Y : Fin 512 → EReal) (C S : Fin 128 → EReal)
    (hY : ∀ j, x (ix2 y j) = Y j) (hC : ∀ l, a (ix2 y l) = C l) (hS : ∀ l, b (ix2 y l) = S l) :
    k0_pay17 (F := Ideal) (k0_pay14 b) x (k0_pay15 a x) k0_pay16 (ix2 y j) = turn Y C S j := by
  have h : k0_pay16 (ix2 y j) = if j.val % 64 < 32 then 1#1 else 0#1 := firstHalf_at j
  pointwise [k0_pay17, k0_pay15]
  rw [h]
  simp only [cos_at, sin_at, hY, hC, hS]
  have hj := j.isLt
  unfold turn
  by_cases hl : j.val % 64 < 32
  · have e : (⟨(j.val + 512 - 480) % 512, by omega⟩ : Fin 512) = Arr.mate j := by
      unfold Arr.mate; rw [dif_pos hl]; exact Fin.ext (by simp only []; omega)
    rw [if_pos hl, ← e]
    rfl
  · have e : (⟨(j.val + 512 - 32) % 512, by omega⟩ : Fin 512) = Arr.mate j := by
      unfold Arr.mate; rw [dif_neg hl]; exact Fin.ext (by simp only []; omega)
    rw [if_neg hl, ← e]
    rfl

/-- The keys are rotated as the queries are, and scaled. -/
theorem pay18_eq (a b : FVec Ideal S384x128 .f32) (x : FVec Ideal S384x512 .f32) (y : Fin 384) (j : Fin 512) :
    k0_pay18 (F := Ideal) (k0_pay13 a) (k0_pay14 b) x (ix2 y j) = k0_pay17 (F := Ideal) (k0_pay14 b) x (k0_pay15 a x) k0_pay16 (ix2 y j) * WEighth := rfl

theorem pay1_at (q : FVec Ideal S384x512 .f32) (d : FVec Ideal S128x512 .f32) (y : Fin 384) (j : Fin 512) :
    k0_pay1 (F := Ideal) q d (ix2 y j) = q (ix2 y j) * d (ix2 ⟨y.val % 128, by omega⟩ j) := by
  have hy := y.isLt
  pointwise [k0_pay1]
  split_ifs <;> exact congrArg (fun x => q (ix2 y j) * d (ix2 x j)) (Fin.ext (by simp only []; omega))

theorem pay2_at (q : FVec Ideal S384x512 .f32) (d : FVec Ideal S128x512 .f32) (y : Fin 384) (j : Fin 512) :
    k0_pay2 (F := Ideal) q d (ix2 y j) = q (ix2 y j) * d (ix2 ⟨y.val % 128, by omega⟩ j) := by
  have hy := y.isLt
  pointwise [k0_pay2]
  split_ifs <;> exact congrArg (fun x => q (ix2 y j) * d (ix2 x j)) (Fin.ext (by simp only []; omega))

end Cert.Kernel3Ideal.Proj

end
-- ==== Proof.ProjValue.lean ====
/- What the projection's call leaves in its nine results. -/
module

public import proofs.«01_k».proof.Proof.ProjPoint
public import proofs.«01_k».proof.Proof.Gen.Kernel3Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Kernel3Ideal.Proj

open Cert.Kernel3Ideal Cert.Kernel3Ideal.Gen Cert.RetRows Cert.ProjRows

variable (m : (ℓ : Loc nD τ sig) → Buf (Elt Ideal) ℓ) (c : Dev nD)

/-! ## The parts of a point's projection -/

theorem sum_at (t : Fin cfg0.N) (y : Fin 384) {n : ℕ} (f : Fin n → Fin 5120) (j : Fin n) :
    ∑ d, unit (ag m c) (pad0 (stream (ax m c) (ae m c)) (rowOf t y)) d * aw m c d (f j) = pad0 (fun r j => proj (ax m c) (ae m c) (ag m c) (aw m c) r (f j)) (rowOf t y) j :=
  sum_unit _ _ _ _ f (rowOf t y) j

abbrev qV (t : Fin cfg0.N) : FVec Ideal S384x512 .f32 :=
  k0_pay8 (uV m c t) (View.ld (iblk m c 5 t) (Rect.unit ![1, 0, 768] ![1, 1024, 512] inb_S4x1024x1280_S1x1024x512_1_0_768))
abbrev kV (t : Fin cfg0.N) : FVec Ideal S384x512 .f32 :=
  k0_pay9 (uV m c t) (View.ld (iblk m c 5 t) (Rect.unit ![2, 0, 0] ![1, 1024, 512] inb_S4x1024x1280_S1x1024x512_2_0_0))

theorem q_at (t : Fin cfg0.N) (y : Fin 384) (j : Fin 512) : qV m c t (ix2 y j) = pad0 (pq (ax m c) (ae m c) (ag m c) (aw m c)) (rowOf t y) j :=
  (pay8_at _ _ y j _ (fun d => aw m c d ⟨2048 + j.val, by omega⟩) (u_at m c t y)
    fun d => ld5_at m c t 1 768 inb_S4x1024x1280_S1x1024x512_1_0_768 d j _ (by decide) (by simp only [Fin.val_one]; omega)).trans
    (sum_at m c t y (fun j : Fin 512 => ⟨2048 + j.val, by omega⟩) j)

theorem k_at (t : Fin cfg0.N) (y : Fin 384) (j : Fin 512) : kV m c t (ix2 y j) = pad0 (pk (ax m c) (ae m c) (ag m c) (aw m c)) (rowOf t y) j :=
  (pay9_at _ _ y j _ (fun d => aw m c d ⟨2560 + j.val, by omega⟩) (u_at m c t y)
    fun d => ld5_at m c t 2 0 inb_S4x1024x1280_S1x1024x512_2_0_0 d j _ (by decide) (by simp only [Fin.val_two]; omega)).trans
    (sum_at m c t y (fun j : Fin 512 => ⟨2560 + j.val, by omega⟩) j)

/-- The rotated queries and keys, by name. -/
abbrev rqV (t : Fin cfg0.N) : FVec Ideal S384x512 .f32 := k0_pay17 (k0_pay14 (iblk m c 7 t)) (qV m c t) (k0_pay15 (iblk m c 6 t) (qV m c t)) k0_pay16
abbrev rkV (t : Fin cfg0.N) : FVec Ideal S384x512 .f32 := k0_pay18 (k0_pay13 (iblk m c 6 t)) (k0_pay14 (iblk m c 7 t)) (kV m c t)

theorem rq_at (t : Fin cfg0.N) (y : Fin 384) (j : Fin 512) : rqV m c t (ix2 y j) = pad0 (rq (ax m c) (ae m c) (ag m c) (aw m c)) (rowOf t y) j :=
  (pay17_at _ _ _ y j _ _ _ (q_at m c t y) (blk6_at m c t y) (blk7_at m c t y)).trans (turn_eq _ _ _)

theorem rk_at (t : Fin cfg0.N) (y : Fin 384) (j : Fin 512) : rkV m c t (ix2 y j) = pad0 (rk (ax m c) (ae m c) (ag m c) (aw m c)) (rowOf t y) j :=
  (pay18_eq _ _ _ y j).trans ((congrArg (· * WEighth) ((pay17_at _ _ _ y j _ _ _ (k_at m c t y) (blk6_at m c t y) (blk7_at m c t y)).trans (turn_eq _ _ _))).trans
    (pad0_mul _ _ _ _))

theorem place_at (t : Fin cfg0.N) (y : Fin 384) : (⟨y.val % 128, by omega⟩ : Fin 128) = placeOf (rowOf t y) :=
  Fin.ext (by simp only [placeOf, rowOf]; omega)

/-! ## Two stores of some columns each -/

theorem canon_lg (P : S384x256.Idx → EReal) (Q : S384x768.Idx → EReal) (L : List (View.Piece (Elt Ideal) S384x1024 .f32)) (y : Fin 384) (j : Fin 1024) :
    View.canon ((⟨Rect.unit ![0, 256] ![384, 768] inb_S384x1024_S384x768_0_256, Q⟩ : View.Piece (Elt Ideal) S384x1024 .f32)
      :: ⟨Rect.unit ![0, 0] ![384, 256] inb_S384x1024_S384x256_0_0, P⟩ :: L) (ix2 y j)
    = if h : j.val < 256 then P (ix2 y ⟨j.val, h⟩) else Q (ix2 y ⟨j.val - 256, by omega⟩) := by
  by_cases h : j.val < 256
  · have e : (Rect.unit ![0, 0] ![384, 256] inb_S384x1024_S384x256_0_0 : Rect S384x1024).emb (ix2 y ⟨j.val, h⟩) = ix2 y j := by
      funext a
      apply Fin.ext
      fin_cases a
      · show 0 + 1 * y.val = y.val; omega
      · show 0 + 1 * j.val = j.val; omega
    rw [dif_pos h, View.canon_cons_of_not_mem _ _ (fun hm => by
      have := ((Rect.mem_set_unit (inb := inb_S384x1024_S384x768_0_256)).mp hm 1).1
      change 256 ≤ j.val at this
      omega)]
    exact (congrArg _ e.symm).trans (View.canon_cons_emb (Val := Elt Ideal) (s := S384x1024) (e := .f32) (Rect.unit ![0, 0] ![384, 256] inb_S384x1024_S384x256_0_0) P L _)
  · have e : (Rect.unit ![0, 256] ![384, 768] inb_S384x1024_S384x768_0_256 : Rect S384x1024).emb (ix2 y ⟨j.val - 256, by omega⟩) = ix2 y j := by
      funext a
      apply Fin.ext
      fin_cases a
      · show 0 + 1 * y.val = y.val; omega
      · show 256 + 1 * (j.val - 256) = j.val; omega
    rw [dif_neg h]
    exact (congrArg _ e.symm).trans (View.canon_cons_emb (Val := Elt Ideal) (s := S384x1024) (e := .f32) (Rect.unit ![0, 256] ![384, 768] inb_S384x1024_S384x768_0_256) Q _ _)

theorem canon_v (P : S384x768.Idx → EReal) (Q : S384x256.Idx → EReal) (L : List (View.Piece (Elt Ideal) S384x1024 .bf16)) (y : Fin 384) (j : Fin 1024) :
    View.canon ((⟨Rect.unit ![0, 768] ![384, 256] inb_S384x1024_S384x256_0_768, Q⟩ : View.Piece (Elt Ideal) S384x1024 .bf16)
      :: ⟨Rect.unit ![0, 0] ![384, 768] inb_S384x1024_S384x768_0_0, P⟩ :: L) (ix2 y j)
    = if h : j.val < 768 then P (ix2 y ⟨j.val, h⟩) else Q (ix2 y ⟨j.val - 768, by omega⟩) := by
  by_cases h : j.val < 768
  · have e : (Rect.unit ![0, 0] ![384, 768] inb_S384x1024_S384x768_0_0 : Rect S384x1024).emb (ix2 y ⟨j.val, h⟩) = ix2 y j := by
      funext a
      apply Fin.ext
      fin_cases a
      · show 0 + 1 * y.val = y.val; omega
      · show 0 + 1 * j.val = j.val; omega
    rw [dif_pos h, View.canon_cons_of_not_mem _ _ (fun hm => by
      have := ((Rect.mem_set_unit (inb := inb_S384x1024_S384x256_0_768)).mp hm 1).1
      change 768 ≤ j.val at this
      omega)]
    exact (congrArg _ e.symm).trans (View.canon_cons_emb (Val := Elt Ideal) (s := S384x1024) (e := .bf16) (Rect.unit ![0, 0] ![384, 768] inb_S384x1024_S384x768_0_0) P L _)
  · have e : (Rect.unit ![0, 768] ![384, 256] inb_S384x1024_S384x256_0_768 : Rect S384x1024).emb (ix2 y ⟨j.val - 768, by omega⟩) = ix2 y j := by
      funext a
      apply Fin.ext
      fin_cases a
      · show 0 + 1 * y.val = y.val; omega
      · show 768 + 1 * (j.val - 768) = j.val; omega
    rw [dif_neg h]
    exact (congrArg _ e.symm).trans (View.canon_cons_emb (Val := Elt Ideal) (s := S384x1024) (e := .bf16) (Rect.unit ![0, 768] ![384, 256] inb_S384x1024_S384x256_0_768) Q _ _)

/-! ## The results -/

theorem out10_at (t : Fin cfg0.N) (y : Fin 384) (j : Fin 1024) : (outsAt0 m c t).1 (ix2 y j) = pad0 (stream (ax m c) (ae m c)) (rowOf t y) j := by
  simp only [outsAt0]
  frame_out
  exact h_at m c t y j
theorem final10 (x : S4224x1024.Idx → EReal) (hx : ∀ R j, x (ix2 R j) = pad0 (stream (ax m c) (ae m c)) R j) : (dats m 0 c).arrAt 10 cfg0.N = x := by
  refine (dats m 0 c).arrAt_eq_of_covers 10 _ (by decide +kernel) fun t hf y => ?_
  blk_simp
  have e : ((View.whole main_v58_0).slice (win0_10.rect t)).emb y = ix2 (rowOf t (y 0)) (y 1) := by blk_ext [idx t]; rfl
  rw [after0_10]
  exact (congrArg _ (eq_ix2 (n0 := 384) (n1 := 1024) y)).trans ((out10_at m c t (y 0) (y 1)).trans ((hx _ _).symm.trans (congrArg x e.symm)))

theorem out11_at (t : Fin cfg0.N) (y : Fin 384) (j : Fin 1024) : (outsAt0 m c t).2.1 (ix2 y j) = pad0 (lx (ax m c) (ae m c) (ag m c) (aw m c)) (rowOf t y) j := by
  simp only [outsAt0]
  frame_out
  exact (pay5_at _ _ _ _ _ _ _ y j _ (fun d => aw m c d ⟨j.val, by omega⟩) (u_at m c t y)
    fun d => ld5_at m c t 0 0 inb_S4x1024x1280_S1x1024x1024_0_0_0 d j _ (by decide) (by simp only [Fin.val_zero]; omega)).trans
    (sum_at m c t y (fun j : Fin 1024 => ⟨j.val, by omega⟩) j)
theorem final11 (x : S4224x1024.Idx → EReal) (hx : ∀ R j, x (ix2 R j) = pad0 (lx (ax m c) (ae m c) (ag m c) (aw m c)) R j) : (dats m 0 c).arrAt 11 cfg0.N = x := by
  refine (dats m 0 c).arrAt_eq_of_covers 11 _ (by decide +kernel) fun t hf y => ?_
  blk_simp
  have e : ((View.whole main_v58_1).slice (win0_11.rect t)).emb y = ix2 (rowOf t (y 0)) (y 1) := by blk_ext [idx t]; rfl
  rw [after0_11]
  exact (congrArg _ (eq_ix2 (n0 := 384) (n1 := 1024) y)).trans ((out11_at m c t (y 0) (y 1)).trans ((hx _ _).symm.trans (congrArg x e.symm)))

theorem out12_at (t : Fin cfg0.N) (y : Fin 384) (j : Fin 1024) : (outsAt0 m c t).2.2.1 (ix2 y j) = pad0 (lg (ax m c) (ae m c) (ag m c) (aw m c)) (rowOf t y) j := by
  simp only [outsAt0]
  frame_out
  refine (canon_lg _ _ _ y j).trans ?_
  refine Eq.trans ?_ (sum_at m c t y (fun j : Fin 1024 => ⟨1024 + j.val, by omega⟩) j)
  by_cases h : j.val < 256
  · rw [dif_pos h]
    exact pay6_at _ _ y ⟨j.val, h⟩ _ (fun d => aw m c d ⟨1024 + j.val, by omega⟩) (u_at m c t y)
      fun d => ld5_at m c t 0 1024 inb_S4x1024x1280_S1x1024x256_0_0_1024 d ⟨j.val, h⟩ _ (by decide) (by simp only [Fin.val_zero]; omega)
  · rw [dif_neg h]
    exact pay7_at _ _ y ⟨j.val - 256, by omega⟩ _ (fun d => aw m c d ⟨1024 + j.val, by omega⟩) (u_at m c t y)
      fun d => ld5_at m c t 1 0 inb_S4x1024x1280_S1x1024x768_1_0_0 d ⟨j.val - 256, by omega⟩ _ (by decide) (by simp only [Fin.val_one]; omega)
theorem final12 (x : S4224x1024.Idx → EReal) (hx : ∀ R j, x (ix2 R j) = pad0 (lg (ax m c) (ae m c) (ag m c) (aw m c)) R j) : (dats m 0 c).arrAt 12 cfg0.N = x := by
  refine (dats m 0 c).arrAt_eq_of_covers 12 _ (by decide +kernel) fun t hf y => ?_
  blk_simp
  have e : ((View.whole main_v58_2).slice (win0_12.rect t)).emb y = ix2 (rowOf t (y 0)) (y 1) := by blk_ext [idx t]; rfl
  rw [after0_12]
  exact (congrArg _ (eq_ix2 (n0 := 384) (n1 := 1024) y)).trans ((out12_at m c t (y 0) (y 1)).trans ((hx _ _).symm.trans (congrArg x e.symm)))

theorem out13_at (t : Fin cfg0.N) (y : Fin 384) (j : Fin 512) : (outsAt0 m c t).2.2.2.1 (ix2 y j) = pad0 (rq (ax m c) (ae m c) (ag m c) (aw m c)) (rowOf t y) j := by
  simp only [outsAt0]
  frame_out
  exact rq_at m c t y j
theorem final13 (x : S4224x512.Idx → EReal) (hx : ∀ R j, x (ix2 R j) = pad0 (rq (ax m c) (ae m c) (ag m c) (aw m c)) R j) : (dats m 0 c).arrAt 13 cfg0.N = x := by
  refine (dats m 0 c).arrAt_eq_of_covers 13 _ (by decide +kernel) fun t hf y => ?_
  blk_simp
  have e : ((View.whole main_v58_3).slice (win0_13.rect t)).emb y = ix2 (rowOf t (y 0)) (y 1) := by blk_ext [idx t]; rfl
  rw [after0_13]
  exact (congrArg _ (eq_ix2 (n0 := 384) (n1 := 512) y)).trans ((out13_at m c t (y 0) (y 1)).trans ((hx _ _).symm.trans (congrArg x e.symm)))

theorem out14_at (t : Fin cfg0.N) (y : Fin 384) (j : Fin 512) : (outsAt0 m c t).2.2.2.2.1 (ix2 y j) = pad0 (rk (ax m c) (ae m c) (ag m c) (aw m c)) (rowOf t y) j := by
  simp only [outsAt0]
  frame_out
  exact rk_at m c t y j
theorem final14 (x : S4224x512.Idx → EReal) (hx : ∀ R j, x (ix2 R j) = pad0 (rk (ax m c) (ae m c) (ag m c) (aw m c)) R j) : (dats m 0 c).arrAt 14 cfg0.N = x := by
  refine (dats m 0 c).arrAt_eq_of_covers 14 _ (by decide +kernel) fun t hf y => ?_
  blk_simp
  have e : ((View.whole main_v58_4).slice (win0_14.rect t)).emb y = ix2 (rowOf t (y 0)) (y 1) := by blk_ext [idx t]; rfl
  rw [after0_14]
  exact (congrArg _ (eq_ix2 (n0 := 384) (n1 := 512) y)).trans ((out14_at m c t (y 0) (y 1)).trans ((hx _ _).symm.trans (congrArg x e.symm)))

theorem out15_at (t : Fin cfg0.N) (y : Fin 384) (j : Fin 512) : (outsAt0 m c t).2.2.2.2.2.1 (ix2 y j) = pad0 (rq (ax m c) (ae m c) (ag m c) (aw m c)) (rowOf t y) j * qdecOf (placeOf (rowOf t y)) j := by
  simp only [outsAt0]
  frame_out
  refine (pay1_at _ _ y j).trans (congrArg₂ (· * ·) (rq_at m c t y j) ?_)
  exact (blk8_at m c t _ j).trans (congrArg (fun a => qdecOf a j) (place_at t y))
theorem final15 (x : S4224x512.Idx → EReal) (hx : ∀ R j, x (ix2 R j) = pad0 (rq (ax m c) (ae m c) (ag m c) (aw m c)) R j * qdecOf (placeOf R) j) : (dats m 0 c).arrAt 15 cfg0.N = x := by
  refine (dats m 0 c).arrAt_eq_of_covers 15 _ (by decide +kernel) fun t hf y => ?_
  blk_simp
  have e : ((View.whole main_v58_5).slice (win0_15.rect t)).emb y = ix2 (rowOf t (y 0)) (y 1) := by blk_ext [idx t]; rfl
  rw [after0_15]
  exact (congrArg _ (eq_ix2 (n0 := 384) (n1 := 512) y)).trans ((out15_at m c t (y 0) (y 1)).trans ((hx _ _).symm.trans (congrArg x e.symm)))

theorem out16_at (t : Fin cfg0.N) (y : Fin 384) (j : Fin 512) : (outsAt0 m c t).2.2.2.2.2.2.1 (ix2 y j) = pad0 (rk (ax m c) (ae m c) (ag m c) (aw m c)) (rowOf t y) j * kdecOf (placeOf (rowOf t y)) j := by
  simp only [outsAt0]
  frame_out
  refine (pay2_at _ _ y j).trans (congrArg₂ (· * ·) (rk_at m c t y j) ?_)
  exact (blk9_at m c t _ j).trans (congrArg (fun a => kdecOf a j) (place_at t y))
theorem final16 (x : S4224x512.Idx → EReal) (hx : ∀ R j, x (ix2 R j) = pad0 (rk (ax m c) (ae m c) (ag m c) (aw m c)) R j * kdecOf (placeOf R) j) : (dats m 0 c).arrAt 16 cfg0.N = x := by
  refine (dats m 0 c).arrAt_eq_of_covers 16 _ (by decide +kernel) fun t hf y => ?_
  blk_simp
  have e : ((View.whole main_v58_6).slice (win0_16.rect t)).emb y = ix2 (rowOf t (y 0)) (y 1) := by blk_ext [idx t]; rfl
  rw [after0_16]
  exact (congrArg _ (eq_ix2 (n0 := 384) (n1 := 512) y)).trans ((out16_at m c t (y 0) (y 1)).trans ((hx _ _).symm.trans (congrArg x e.symm)))

theorem out17_at (t : Fin cfg0.N) (y : Fin 384) (j : Fin 1024) : (outsAt0 m c t).2.2.2.2.2.2.2.1 (ix2 y j) = pad0 (pv (ax m c) (ae m c) (ag m c) (aw m c)) (rowOf t y) j := by
  simp only [outsAt0]
  frame_out
  refine (canon_v _ _ _ y j).trans ?_
  refine Eq.trans ?_ (sum_at m c t y (fun j : Fin 1024 => ⟨3072 + j.val, by omega⟩) j)
  by_cases h : j.val < 768
  · rw [dif_pos h]
    exact pay10_at _ _ y ⟨j.val, h⟩ _ (fun d => aw m c d ⟨3072 + j.val, by omega⟩) (u_at m c t y)
      fun d => ld5_at m c t 2 512 inb_S4x1024x1280_S1x1024x768_2_0_512 d ⟨j.val, h⟩ _ (by decide) (by simp only [Fin.val_two]; omega)
  · rw [dif_neg h]
    exact pay11_at _ _ y ⟨j.val - 768, by omega⟩ _ (fun d => aw m c d ⟨3072 + j.val, by omega⟩) (u_at m c t y)
      fun d => ld5_at m c t 3 0 inb_S4x1024x1280_S1x1024x256_3_0_0 d ⟨j.val - 768, by omega⟩ _ (by decide) (by show 3072 + j.val = 3 * 1280 + (0 + (j.val - 768)); omega)
theorem final17 (x : S4224x1024.Idx → EReal) (hx : ∀ R j, x (ix2 R j) = pad0 (pv (ax m c) (ae m c) (ag m c) (aw m c)) R j) : (dats m 0 c).arrAt 17 cfg0.N = x := by
  refine (dats m 0 c).arrAt_eq_of_covers 17 _ (by decide +kernel) fun t hf y => ?_
  blk_simp
  have e : ((View.whole main_v58_7).slice (win0_17.rect t)).emb y = ix2 (rowOf t (y 0)) (y 1) := by blk_ext [idx t]; rfl
  rw [after0_17]
  exact (congrArg _ (eq_ix2 (n0 := 384) (n1 := 1024) y)).trans ((out17_at m c t (y 0) (y 1)).trans ((hx _ _).symm.trans (congrArg x e.symm)))

theorem out18_at (t : Fin cfg0.N) (y : Fin 384) (j : Fin 1024) : (outsAt0 m c t).2.2.2.2.2.2.2.2 (ix2 y j) = pad0 (rg (ax m c) (ae m c) (ag m c) (aw m c)) (rowOf t y) j := by
  simp only [outsAt0]
  frame_out
  exact (pay12_at _ _ y j _ (fun d => aw m c d ⟨4096 + j.val, by omega⟩) (u_at m c t y)
    fun d => ld5_at m c t 3 256 inb_S4x1024x1280_S1x1024x1024_3_0_256 d j _ (by decide) (by show 4096 + j.val = 3 * 1280 + (256 + j.val); omega)).trans
    (sum_at m c t y (fun j : Fin 1024 => ⟨4096 + j.val, by omega⟩) j)
theorem final18 (x : S4224x1024.Idx → EReal) (hx : ∀ R j, x (ix2 R j) = pad0 (rg (ax m c) (ae m c) (ag m c) (aw m c)) R j) : (dats m 0 c).arrAt 18 cfg0.N = x := by
  refine (dats m 0 c).arrAt_eq_of_covers 18 _ (by decide +kernel) fun t hf y => ?_
  blk_simp
  have e : ((View.whole main_v58_8).slice (win0_18.rect t)).emb y = ix2 (rowOf t (y 0)) (y 1) := by blk_ext [idx t]; rfl
  rw [after0_18]
  exact (congrArg _ (eq_ix2 (n0 := 384) (n1 := 1024) y)).trans ((out18_at m c t (y 0) (y 1)).trans ((hx _ _).symm.trans (congrArg x e.symm)))

end Cert.Kernel3Ideal.Proj

end
-- ==== Proof.ProjRef.lean ====
/- The reference's results, read at coordinates. -/
module

public import proofs.«01_k».proof.Proof.ProjRows
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.Reference3Ideal.ProjRef

open Cert.Reference3Ideal Cert.Reference3Ideal.Read Cert.Reference3Ideal.Gen Cert.RetRows Cert.ProjRows

variable (x0 : FVec Ideal S1x4096x1024 .f32) (x1 : FVec Ideal S16x1024 .f32) (x2 : FVec Ideal S1x1024 .f32) (x3 : FVec Ideal S1x1024x5120 .f32)

/-- The arguments at coordinates. -/
abbrev X : Fin 4096 → Fin 1024 → EReal := fun r d => x0 (ix3 0 r d)
abbrev E : Fin 16 → Fin 1024 → EReal := fun r d => x1 (ix2 r d)
abbrev G : Fin 1024 → EReal := fun d => x2 (ix2 0 d)
abbrev W : Fin 1024 → Fin 5120 → EReal := fun d j => x3 (ix3 0 d j)

theorem sitofp_zero : FloatOps.sitofp (F := Ideal) .f32 (0#32) = (0 : EReal) := by
  show (((0#32 : BitVec 32).toInt : ℝ) : EReal) = 0
  simp

theorem v1_at (r : Fin 4112) (d : Fin 1024) : val_main_v1 (F := Ideal) x0 x1 (ix3 0 r d) = stream (X x0) (E x1) r d := by
  pointwise [val_main_v1, val_main_v0]
  rfl

theorem v10_at (r : Fin 4112) : val_main_v10 (F := Ideal) x0 x1 (ix3 0 r 0) = LossRows.rms (stream (X x0) (E x1) r) := by
  pointwise [val_main_v10, val_main_v9, val_main_v8, val_main_v7, val_main_v6, val_main_v5, val_main_v4, val_main_v3, val_main_cst, val_main_cst_0, val_main_cst_1]
  simp only [v1_at]
  rfl

theorem v15_at (r : Fin 4112) (d : Fin 1024) : val_main_v15 (F := Ideal) x0 x1 x2 (ix3 0 r d) = unit (G x2) (stream (X x0) (E x1) r) d := by
  pointwise [val_main_v15, val_main_v14, val_main_v13, val_main_v12, val_main_v11, val_main_v2]
  rw [v1_at, v10_at]
  rfl

theorem v17_at (r : Fin 4112) (j : Fin 5120) : val_main_v17 (F := Ideal) x0 x1 x2 x3 (ix3 0 r j) = proj (X x0) (E x1) (G x2) (W x3) r j := by
  pointwise [val_main_v17, val_main_v16]
  simp only [v15_at]
  rfl

theorem v37_at (r : Fin 4112) (i : Fin 32) : val_main_v37 (F := Ideal) (ix2 r i) = angle (num r.val) i := by
  pointwise [val_main_v37, val_main_v36, val_main_v35, val_main_v34, val_main_v33, val_main_v32, val_main_v31, val_main_v30, val_main_v29, val_main_v28, val_main_v27, val_main_v26, val_main_v24, val_main_cst_2, val_main_cst_3, angle]
  rfl

theorem v67_at (r : Fin 4112) (i : Fin 32) : val_main_v67 (F := Ideal) (ix2 r i) = angle (num r.val) i := by
  pointwise [val_main_v67, val_main_v66, val_main_v65, val_main_v64, val_main_v63, val_main_v62, val_main_v61, val_main_v60, val_main_v59, val_main_v58, val_main_v57, val_main_v56, val_main_v24, val_main_cst_4, val_main_cst_5, angle]
  rfl

theorem v94_at (h : Fin 8) : val_main_v94 (F := Ideal) (ix1 h) = lgam h := by
  pointwise [val_main_v94, val_main_v93, val_main_v92, val_main_v91, val_main_v90, val_main_v89, val_main_v88, val_main_v87, val_main_cst_7, val_main_cst_8, lgam]
  rfl

theorem v54_at (r : Fin 4112) (h : Fin 8) (d : Fin 64) : val_main_v54 (F := Ideal) x0 x1 x2 x3 (ix4 0 r h d) = rq (X x0) (E x1) (G x2) (W x3) r (qcol h d) := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v25, val_main_v20]
  simp only [v37_at, v17_at]
  unfold rq rotRow rot
  simp only [qlane_qcol, qhead_qcol]
  by_cases h32 : d.val < 32
  · simp only [dif_pos h32]
    rw [show qcol h ⟨d.val + 32, by omega⟩ = ⟨h.val * 64 + (32 + d.val), by omega⟩ from Fin.ext (by simp only [qcol]; omega)]
    rfl
  · simp only [dif_neg h32]
    have e : (⟨2048 + (h.val * 64 + (32 + (d.val - 32))), by omega⟩ : Fin 5120) = ⟨2048 + (qcol h d).val, by simp only [qcol]; omega⟩ :=
      Fin.ext (by simp only [qcol]; omega)
    exact congrArg (fun z => _ + proj (X x0) (E x1) (G x2) (W x3) r z * _) e

theorem v84_at (r : Fin 4112) (h : Fin 8) (d : Fin 64) : val_main_v84 (F := Ideal) x0 x1 x2 x3 (ix4 0 r h d) = rotRow (pk (X x0) (E x1) (G x2) (W x3)) r (qcol h d) := by
  pointwise [val_main_v84, val_main_v83, val_main_v82, val_main_v81, val_main_v80, val_main_v79, val_main_v78, val_main_v77, val_main_v76, val_main_v75, val_main_v74, val_main_v73, val_main_v72, val_main_v71, val_main_v70, val_main_v69, val_main_v68, val_main_v55, val_main_v21]
  simp only [v67_at, v17_at]
  unfold rotRow rot
  simp only [qlane_qcol, qhead_qcol]
  by_cases h32 : d.val < 32
  · simp only [dif_pos h32]
    rw [show qcol h ⟨d.val + 32, by omega⟩ = ⟨h.val * 64 + (32 + d.val), by omega⟩ from Fin.ext (by simp only [qcol]; omega)]
    rfl
  · simp only [dif_neg h32]
    have e : (⟨2560 + (h.val * 64 + (32 + (d.val - 32))), by omega⟩ : Fin 5120) = ⟨2560 + (qcol h d).val, by simp only [qcol]; omega⟩ :=
      Fin.ext (by simp only [qcol]; omega)
    exact congrArg (fun z => _ + proj (X x0) (E x1) (G x2) (W x3) r z * _) e

theorem v86_at (r : Fin 4112) (h : Fin 8) (d : Fin 64) : val_main_v86 (F := Ideal) x0 x1 x2 x3 (ix4 0 r h d) = rk (X x0) (E x1) (G x2) (W x3) r (qcol h d) := by
  pointwise [val_main_v86, val_main_v85, val_main_cst_6]
  rw [v84_at]

/-! ## The results -/

theorem v127_at (R : Fin 4224) (j : Fin 1024) : val_main_v127 (F := Ideal) x0 x1 (ix2 R j) = pad0 (stream (X x0) (E x1)) R j := by
  pointwise [val_main_v127, val_main_v126, val_main_call2_v0, val_main_c_12]
  unfold pad0
  by_cases h : 112 ≤ R.val
  · rw [dif_pos h]
    refine (dif_pos ⟨h, by omega⟩).trans ?_
    exact v1_at x0 x1 _ _
  · rw [dif_neg h]
    exact (dif_neg fun h' => h h'.1).trans sitofp_zero

theorem v129_at (R : Fin 4224) (j : Fin 1024) : val_main_v129 (F := Ideal) x0 x1 x2 x3 (ix2 R j) = pad0 (lx (X x0) (E x1) (G x2) (W x3)) R j := by
  pointwise [val_main_v129, val_main_v128, val_main_call3_v0, val_main_c_13, val_main_v18]
  unfold pad0
  by_cases h : 112 ≤ R.val
  · rw [dif_pos h]
    refine (dif_pos ⟨h, by omega⟩).trans ?_
    exact v17_at x0 x1 x2 x3 _ _
  · rw [dif_neg h]
    exact (dif_neg fun h' => h h'.1).trans sitofp_zero

theorem v131_at (R : Fin 4224) (j : Fin 1024) : val_main_v131 (F := Ideal) x0 x1 x2 x3 (ix2 R j) = pad0 (lg (X x0) (E x1) (G x2) (W x3)) R j := by
  pointwise [val_main_v131, val_main_v130, val_main_call4_v0, val_main_c_14, val_main_v19]
  unfold pad0
  by_cases h : 112 ≤ R.val
  · rw [dif_pos h]
    refine (dif_pos ⟨h, by omega⟩).trans ?_
    exact v17_at x0 x1 x2 x3 _ _
  · rw [dif_neg h]
    exact (dif_neg fun h' => h h'.1).trans sitofp_zero

theorem v144_at (R : Fin 4224) (j : Fin 1024) : val_main_v144 (F := Ideal) x0 x1 x2 x3 (ix2 R j) = pad0 (pv (X x0) (E x1) (G x2) (W x3)) R j := by
  pointwise [val_main_v144, val_main_v143, val_main_v142, val_main_call7_v0, val_main_c_17, val_main_v22]
  unfold pad0
  by_cases h : 112 ≤ R.val
  · rw [dif_pos h]
    refine (dif_pos ⟨h, by omega⟩).trans ?_
    exact v17_at x0 x1 x2 x3 _ _
  · rw [dif_neg h]
    exact (dif_neg fun h' => h h'.1).trans sitofp_zero

theorem v146_at (R : Fin 4224) (j : Fin 1024) : val_main_v146 (F := Ideal) x0 x1 x2 x3 (ix2 R j) = pad0 (rg (X x0) (E x1) (G x2) (W x3)) R j := by
  pointwise [val_main_v146, val_main_v145, val_main_call8_v0, val_main_c_18, val_main_v23]
  unfold pad0
  by_cases h : 112 ≤ R.val
  · rw [dif_pos h]
    refine (dif_pos ⟨h, by omega⟩).trans ?_
    exact v17_at x0 x1 x2 x3 _ _
  · rw [dif_neg h]
    exact (dif_neg fun h' => h h'.1).trans sitofp_zero

theorem v134_at (R : Fin 4224) (j : Fin 512) : val_main_v134 (F := Ideal) x0 x1 x2 x3 (ix2 R j) = pad0 (rq (X x0) (E x1) (G x2) (W x3)) R j := by
  pointwise [val_main_v134, val_main_v133, val_main_v132, val_main_call5_v0, val_main_c_15]
  unfold pad0
  by_cases h : 112 ≤ R.val
  · rw [dif_pos h]
    refine (dif_pos ⟨h, by omega⟩).trans ?_
    exact (v54_at x0 x1 x2 x3 _ (qhead j) (qlane j)).trans (congrArg (rq (X x0) (E x1) (G x2) (W x3) _) (qcol_of j))
  · rw [dif_neg h]
    exact (dif_neg fun h' => h h'.1).trans sitofp_zero

theorem v137_at (R : Fin 4224) (j : Fin 512) : val_main_v137 (F := Ideal) x0 x1 x2 x3 (ix2 R j) = pad0 (rk (X x0) (E x1) (G x2) (W x3)) R j := by
  pointwise [val_main_v137, val_main_v136, val_main_v135, val_main_call6_v0, val_main_c_16]
  unfold pad0
  by_cases h : 112 ≤ R.val
  · rw [dif_pos h]
    refine (dif_pos ⟨h, by omega⟩).trans ?_
    exact (v86_at x0 x1 x2 x3 _ (qhead j) (qlane j)).trans (congrArg (rk (X x0) (E x1) (G x2) (W x3) _) (qcol_of j))
  · rw [dif_neg h]
    exact (dif_neg fun h' => h h'.1).trans sitofp_zero

theorem v98_at (n : Fin 33) (a : Fin 128) (h : Fin 8) (d : Fin 64) : val_main_v98 (F := Ideal) x0 x1 x2 x3 (ix4 n a h d) = pad0 (rq (X x0) (E x1) (G x2) (W x3)) (row n a) (qcol h d) := by
  pointwise [val_main_v98, val_main_v97, val_main_v96, val_main_call0_v0, val_main_c]
  unfold pad0
  by_cases hR : 112 ≤ (row n a).val
  · rw [dif_pos hR]
    refine (dif_pos ⟨hR, by omega⟩).trans ?_
    exact v54_at x0 x1 x2 x3 _ h d
  · rw [dif_neg hR]
    exact (dif_neg fun h' => hR h'.1).trans sitofp_zero

theorem v113_at (n : Fin 33) (a : Fin 128) (h : Fin 8) (d : Fin 64) : val_main_v113 (F := Ideal) x0 x1 x2 x3 (ix4 n a h d) = pad0 (rk (X x0) (E x1) (G x2) (W x3)) (row n a) (qcol h d) := by
  pointwise [val_main_v113, val_main_v112, val_main_v111, val_main_call1_v0, val_main_c_10]
  unfold pad0
  by_cases hR : 112 ≤ (row n a).val
  · rw [dif_pos hR]
    refine (dif_pos ⟨hR, by omega⟩).trans ?_
    exact v86_at x0 x1 x2 x3 _ h d
  · rw [dif_neg hR]
    exact (dif_neg fun h' => hR h'.1).trans sitofp_zero

theorem v110_at (n : Fin 33) (a : Fin 128) (h : Fin 8) (d : Fin 64) : val_main_v110 (F := Ideal) x0 x1 x2 x3 (ix4 n a h d)
    = pad0 (rq (X x0) (E x1) (G x2) (W x3)) (row n a) (qcol h d) * qdecOf a (qcol h d) := by
  pointwise [val_main_v110, val_main_v109, val_main_v108, val_main_v107, val_main_v106, val_main_v105, val_main_v104, val_main_v103, val_main_v102, val_main_v101, val_main_v100, val_main_v99, val_main_cst_9, val_main_v95]
  rw [v98_at, v94_at]
  unfold qdecOf
  simp only [qhead_qcol]
  rfl

theorem v125_at (n : Fin 33) (a : Fin 128) (h : Fin 8) (d : Fin 64) : val_main_v125 (F := Ideal) x0 x1 x2 x3 (ix4 n a h d)
    = pad0 (rk (X x0) (E x1) (G x2) (W x3)) (row n a) (qcol h d) * kdecOf a (qcol h d) := by
  pointwise [val_main_v125, val_main_v124, val_main_v123, val_main_v122, val_main_v121, val_main_v120, val_main_v119, val_main_v118, val_main_v117, val_main_v116, val_main_v115, val_main_v114, val_main_cst_11, val_main_v95]
  rw [v113_at, v94_at]
  unfold kdecOf
  simp only [qhead_qcol]
  rfl

theorem v139_at (R : Fin 4224) (j : Fin 512) : val_main_v139 (F := Ideal) x0 x1 x2 x3 (ix2 R j)
    = pad0 (rq (X x0) (E x1) (G x2) (W x3)) R j * qdecOf (placeOf R) j := by
  pointwise [val_main_v139, val_main_v138]
  refine (v110_at x0 x1 x2 x3 (chunkOf R) (placeOf R) (qhead j) (qlane j)).trans ?_
  rw [row_of, qcol_of]

theorem v141_at (R : Fin 4224) (j : Fin 512) : val_main_v141 (F := Ideal) x0 x1 x2 x3 (ix2 R j)
    = pad0 (rk (X x0) (E x1) (G x2) (W x3)) R j * kdecOf (placeOf R) j := by
  pointwise [val_main_v141, val_main_v140]
  refine (v125_at x0 x1 x2 x3 (chunkOf R) (placeOf R) (qhead j) (qlane j)).trans ?_
  rw [row_of, qcol_of]

end Cert.Reference3Ideal.ProjRef

end
-- ==== Proof.ProjAgree.lean ====
/- The projection's nine results are the reference's. -/
module

public import proofs.«01_k».proof.Defs
public import proofs.«01_k».proof.Proof.ProjValue
public import proofs.«01_k».proof.Proof.ProjRef
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel3Ideal

@[expose] public section

set_option maxRecDepth 16384

noncomputable section

open Idealize.ShloMosaic Idealize.ShloMosaic.TcCoe Idealize.SL.Sem

namespace Cert.ProjAgree

open Cert.Reference3Ideal.Read Cert.Reference3Ideal.ProjRef Cert.Kernel3Ideal.Proj

variable (m : (ℓ : Loc Cert.Kernel3Ideal.nD Cert.Kernel3Ideal.τ Cert.Kernel3Ideal.sig) → Buf (Elt Ideal) ℓ) (c : Dev Cert.Kernel3Ideal.nD)

abbrev a0 : FVec Ideal Cert.Reference3Ideal.S1x4096x1024 .f32 := m ((c.tc : Thread Cert.Kernel3Ideal.nD Cert.Kernel3Ideal.τ).loc Cert.Kernel3Ideal.main_arg0)
abbrev a1 : FVec Ideal Cert.Reference3Ideal.S16x1024 .f32 := m ((c.tc : Thread Cert.Kernel3Ideal.nD Cert.Kernel3Ideal.τ).loc Cert.Kernel3Ideal.main_arg1)
abbrev a2 : FVec Ideal Cert.Reference3Ideal.S1x1024 .f32 := m ((c.tc : Thread Cert.Kernel3Ideal.nD Cert.Kernel3Ideal.τ).loc Cert.Kernel3Ideal.main_arg2)
abbrev a3 : FVec Ideal Cert.Reference3Ideal.S1x1024x5120 .f32 := m ((c.tc : Thread Cert.Kernel3Ideal.nD Cert.Kernel3Ideal.τ).loc Cert.Kernel3Ideal.main_arg3)

theorem result0 : (Cert.Kernel3Ideal.Gen.dats m 0 c).arrAt 10 Cert.Kernel3Ideal.cfg0.N = val_main_v127 (F := Ideal) (a0 m c) (a1 m c) :=
  final10 m c _ (v127_at (a0 m c) (a1 m c))

theorem result1 : (Cert.Kernel3Ideal.Gen.dats m 0 c).arrAt 11 Cert.Kernel3Ideal.cfg0.N = val_main_v129 (F := Ideal) (a0 m c) (a1 m c) (a2 m c) (a3 m c) :=
  final11 m c _ (v129_at (a0 m c) (a1 m c) (a2 m c) (a3 m c))

theorem result2 : (Cert.Kernel3Ideal.Gen.dats m 0 c).arrAt 12 Cert.Kernel3Ideal.cfg0.N = val_main_v131 (F := Ideal) (a0 m c) (a1 m c) (a2 m c) (a3 m c) :=
  final12 m c _ (v131_at (a0 m c) (a1 m c) (a2 m c) (a3 m c))

theorem result3 : (Cert.Kernel3Ideal.Gen.dats m 0 c).arrAt 13 Cert.Kernel3Ideal.cfg0.N = val_main_v134 (F := Ideal) (a0 m c) (a1 m c) (a2 m c) (a3 m c) :=
  final13 m c _ (v134_at (a0 m c) (a1 m c) (a2 m c) (a3 m c))

theorem result4 : (Cert.Kernel3Ideal.Gen.dats m 0 c).arrAt 14 Cert.Kernel3Ideal.cfg0.N = val_main_v137 (F := Ideal) (a0 m c) (a1 m c) (a2 m c) (a3 m c) :=
  final14 m c _ (v137_at (a0 m c) (a1 m c) (a2 m c) (a3 m c))

theorem result5 : (Cert.Kernel3Ideal.Gen.dats m 0 c).arrAt 15 Cert.Kernel3Ideal.cfg0.N = val_main_v139 (F := Ideal) (a0 m c) (a1 m c) (a2 m c) (a3 m c) :=
  final15 m c _ (v139_at (a0 m c) (a1 m c) (a2 m c) (a3 m c))

theorem result6 : (Cert.Kernel3Ideal.Gen.dats m 0 c).arrAt 16 Cert.Kernel3Ideal.cfg0.N = val_main_v141 (F := Ideal) (a0 m c) (a1 m c) (a2 m c) (a3 m c) :=
  final16 m c _ (v141_at (a0 m c) (a1 m c) (a2 m c) (a3 m c))

theorem result7 : (Cert.Kernel3Ideal.Gen.dats m 0 c).arrAt 17 Cert.Kernel3Ideal.cfg0.N = val_main_v144 (F := Ideal) (a0 m c) (a1 m c) (a2 m c) (a3 m c) :=
  final17 m c _ (v144_at (a0 m c) (a1 m c) (a2 m c) (a3 m c))

theorem result8 : (Cert.Kernel3Ideal.Gen.dats m 0 c).arrAt 18 Cert.Kernel3Ideal.cfg0.N = val_main_v146 (F := Ideal) (a0 m c) (a1 m c) (a2 m c) (a3 m c) :=
  final18 m c _ (v146_at (a0 m c) (a1 m c) (a2 m c) (a3 m c))

theorem agree : Cert.algebraic_Kernel3Ideal_Reference3Ideal (hKernel3Ideal := Cert.Kernel3Ideal.Gen.facts) (hReference3Ideal := Cert.Reference3Ideal.Gen.facts) := by
  intro m g m' g' _ ha
  have e3 : ∀ c, Cert.Reference3Ideal.Value.res_main_v134 m' c = val_main_v134 (F := Ideal) (a0 m c) (a1 m c) (a2 m c) (a3 m c) := fun c => by
    obtain ⟨h0, h1, h2, h3⟩ := ha c
    rw [val_main_v134_eq, h0, h1, h2, h3]
  have e4 : ∀ c, Cert.Reference3Ideal.Value.res_main_v137 m' c = val_main_v137 (F := Ideal) (a0 m c) (a1 m c) (a2 m c) (a3 m c) := fun c => by
    obtain ⟨h0, h1, h2, h3⟩ := ha c
    rw [val_main_v137_eq, h0, h1, h2, h3]
  have e5 : ∀ c, Cert.Reference3Ideal.Value.res_main_v139 m' c = val_main_v139 (F := Ideal) (a0 m c) (a1 m c) (a2 m c) (a3 m c) := fun c => by
    obtain ⟨h0, h1, h2, h3⟩ := ha c
    rw [val_main_v139_eq, h0, h1, h2, h3]
  have e6 : ∀ c, Cert.Reference3Ideal.Value.res_main_v141 m' c = val_main_v141 (F := Ideal) (a0 m c) (a1 m c) (a2 m c) (a3 m c) := fun c => by
    obtain ⟨h0, h1, h2, h3⟩ := ha c
    rw [val_main_v141_eq, h0, h1, h2, h3]
  refine ⟨fun c => val_main_v127 (F := Ideal) (a0 m c) (a1 m c), fun c => val_main_v129 (F := Ideal) (a0 m c) (a1 m c) (a2 m c) (a3 m c), fun c => val_main_v131 (F := Ideal) (a0 m c) (a1 m c) (a2 m c) (a3 m c), fun c => val_main_v134 (F := Ideal) (a0 m c) (a1 m c) (a2 m c) (a3 m c), fun c => val_main_v137 (F := Ideal) (a0 m c) (a1 m c) (a2 m c) (a3 m c), fun c => val_main_v139 (F := Ideal) (a0 m c) (a1 m c) (a2 m c) (a3 m c), fun c => val_main_v141 (F := Ideal) (a0 m c) (a1 m c) (a2 m c) (a3 m c), fun c => val_main_v144 (F := Ideal) (a0 m c) (a1 m c) (a2 m c) (a3 m c), fun c => val_main_v146 (F := Ideal) (a0 m c) (a1 m c) (a2 m c) (a3 m c),
    (θ_run Cert.Kernel3Ideal.defs _ _).mono (fun r h c => ?_) (Cert.Kernel3Ideal.Value.run_blocks m g),
    (θ_run Cert.Reference3Ideal.defs _ _).mono (fun r h c => ?_) (Cert.Reference3Ideal.Value.run m' g')⟩
  · obtain ⟨r0, r1, r2, r3, r4, r5, r6, r7, r8, k⟩ := h c
    exact ⟨r0.trans (result0 m c), r1.trans (result1 m c), r2.trans (result2 m c), r3.trans (result3 m c), r4.trans (result4 m c), r5.trans (result5 m c), r6.trans (result6 m c), r7.trans (result7 m c), r8.trans (result8 m c), k⟩
  · obtain ⟨r0, r1, r2, r3, r4, r5, r6, r7, r8, k⟩ := h c
    obtain ⟨h0, h1, h2, h3⟩ := ha c
    refine ⟨r0.trans ((val_main_v127_eq _ _).trans ?_), r1.trans ((val_main_v129_eq _ _ _ _).trans ?_), r2.trans ((val_main_v131_eq _ _ _ _).trans ?_), r3.trans (e3 c), r4.trans (e4 c), r5.trans (e5 c), r6.trans (e6 c), r7.trans ((val_main_v144_eq _ _ _ _).trans ?_), r8.trans ((val_main_v146_eq _ _ _ _).trans ?_), k⟩
    · rw [h0, h1]
    · rw [h0, h1, h2, h3]
    · rw [h0, h1, h2, h3]
    · rw [h0, h1, h2, h3]
    · rw [h0, h1, h2, h3]

end Cert.ProjAgree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.LossAgree
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Hosts0
public import proofs.«01_k».proof.Proof.Gen.Kernel2Ideal.Frame.Region0
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.RetFrame
public import proofs.«01_k».proof.Proof.RetAgree
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.ProjAgree
public import Idealize.ShloMosaic.Adequacy
public import Idealize.ShloMosaic.Init

@[expose] public section

noncomputable section

namespace Cert.Proof

open Idealize.ShloMosaic Idealize.SL.Sem

/-- The reference leaves its arguments and declares no semaphore. -/
theorem frame_reference : Cert.quiescent_ReferenceIdeal (hReferenceIdeal := Cert.ReferenceIdeal.Gen.facts) :=
  fun m ρ _ => (θ_run Cert.ReferenceIdeal.defs _ _).mono
    (fun r h => ⟨fun c => by obtain ⟨_, _, _, _, _, _, k⟩ := h c; exact k, sem_eq_zero_of_no_sems (by decide) r.2⟩)
    (Cert.ReferenceIdeal.Value.run m ρ)

/-- The retention's reference leaves its arguments and declares no semaphore. -/
theorem frame_reference2 : Cert.quiescent_Reference2Ideal (hReference2Ideal := Cert.Reference2Ideal.Gen.facts) :=
  fun m ρ _ => (θ_run Cert.Reference2Ideal.defs _ _).mono
    (fun r h => ⟨fun c => by obtain ⟨_, _, _, _, _, _, k⟩ := h c; exact k, sem_eq_zero_of_no_sems (by decide) r.2⟩)
    (Cert.Reference2Ideal.Value.run m ρ)

/-- The input projection's reference leaves its arguments and declares no semaphore. -/
theorem frame_reference3 : Cert.quiescent_Reference3Ideal (hReference3Ideal := Cert.Reference3Ideal.Gen.facts) :=
  fun m ρ _ => (θ_run Cert.Reference3Ideal.defs _ _).mono
    (fun r h => ⟨fun c => by obtain ⟨_, _, _, _, _, _, _, _, _, k⟩ := h c; exact k, sem_eq_zero_of_no_sems (by decide) r.2⟩)
    (Cert.Reference3Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite.Gen.facts, Cert.Pre_finite2.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.RetFrame.words m ρ, fun m ρ _ => Cert.Kernel2Ideal.Gen.frame_ideal m ρ,
    fun m ρ _ => Cert.Kernel2Ideal.Gen.frame_ideal m ρ, frame_reference2, fun m ρ _ => frame_reference2 m ρ trivial,
    fun m ρ _ => Cert.Kernel3.Gen.frame m ρ, fun m ρ _ => Cert.Kernel3Ideal.Gen.frame m ρ, frame_reference3, trivial,
    Cert.LossRows.agree, trivial, Cert.RetAgree.agree, trivial, Cert.ProjAgree.agree⟩

end Cert.Proof

end
